-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v24) = v0 c
          ∧ r.2.mem ((c.tc : Thread Cert.Reference4Ideal.nD Cert.Reference4Ideal.τ).loc Cert.Reference4Ideal.main_v40) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v37)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v37) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v69) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v37)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v37) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v74) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v22) = v0 c
          ∧ r.2.mem ((c.tc : Thread Cert.Reference7Ideal.nD Cert.Reference7Ideal.τ).loc Cert.Reference7Ideal.main_v38) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v37)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v37) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v140) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v21) = v0 c
          ∧ r.2.mem ((c.tc : Thread Cert.Reference9Ideal.nD Cert.Reference9Ideal.τ).loc Cert.Reference9Ideal.main_v37) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v15) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v50) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v50) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  IdealRules.named_const.Statement Cert.Kernel14Ideal.κ "mask" .f32 0xF149F2CA#32 ⊥
  ∧ IdealRules.named_const.Statement Cert.Kernel14Ideal.κ "half_mask" .f32 0xF0C9F2CA#32 ⊥

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v28_0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v28_0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v46) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Kernel.lean ====
abbrev S8192x6144 : Shape := ⟨2, ![8192, 6144]⟩
abbrev S8 : Shape := ⟨1, ![8]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S8x1 : Shape := ⟨2, ![8, 1]⟩
abbrev S8x128 : Shape := ⟨2, ![8, 128]⟩
abbrev S8x128x1 : Shape := ⟨3, ![8, 128, 1]⟩
abbrev S8x128x256 : Shape := ⟨3, ![8, 128, 256]⟩
abbrev S8x1x256 : Shape := ⟨3, ![8, 1, 256]⟩
abbrev S8192x2048 : Shape := ⟨2, ![8192, 2048]⟩
abbrev S128x6144 : Shape := ⟨2, ![128, 6144]⟩
abbrev S128x2048 : Shape := ⟨2, ![128, 2048]⟩
abbrev S128x256 : Shape := ⟨2, ![128, 256]⟩
abbrev S1x128x256 : Shape := ⟨3, ![1, 128, 256]⟩
abbrev S1x1x256 : Shape := ⟨3, ![1, 1, 256]⟩
abbrev S1x256 : Shape := ⟨2, ![1, 256]⟩

abbrev nBuf : Space → Nat
  | .hbm => 69
  | .vmem => 9
  | .smem => 0
  | _ => 0

abbrev bufTy : (tb : Table) → Fin (tcTables nBuf tb) → BufTy
  | .hbm, ⟨0, _⟩ => ⟨S8192x6144, .bf16⟩
  | .hbm, ⟨1, _⟩ => ⟨S8, .f32⟩
  | .hbm, ⟨2, _⟩ => ⟨S_, .f32⟩
  | .hbm, ⟨3, _⟩ => ⟨S8, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S128, .f32⟩
  | .hbm, ⟨11, _⟩ => ⟨S128x1, .f32⟩
  | .hbm, ⟨12, _⟩ => ⟨S1x128, .f32⟩
  | .hbm, ⟨13, _⟩ => ⟨S128x128, .f32⟩
  | .hbm, ⟨14, _⟩ => ⟨S128x128, .f32⟩
  | .hbm, ⟨15, _⟩ => ⟨S128x128, .f32⟩
  | .hbm, ⟨16, _⟩ => ⟨S1x128x128, .f32⟩
  | .hbm, ⟨17, _⟩ => ⟨S_, .f32⟩
  | .hbm, ⟨18, _⟩ => ⟨S1x128x128, .f32⟩
  | .hbm, ⟨19, _⟩ => ⟨S1x128x128, .i1⟩
  | .hbm, ⟨20, _⟩ => ⟨S8x1x1, .f32⟩
  | .hbm, ⟨21, _⟩ => ⟨S_, .f32⟩
  | .hbm, ⟨22, _⟩ => ⟨S128x128, .f32⟩
  | .hbm, ⟨23, _⟩ => ⟨S128x128, .f32⟩
  | .hbm, ⟨24, _⟩ => ⟨S1x128x128, .f32⟩
  | .hbm, ⟨25, _⟩ => ⟨S8x128x128, .f32⟩
  | .hbm, ⟨26, _⟩ => ⟨S8x128x128, .f32⟩
  | .hbm, ⟨27, _⟩ => ⟨S8x128x128, .f32⟩
  | .hbm, ⟨28, _⟩ => ⟨S8x128x128, .f32⟩
  | .hbm, ⟨29, _⟩ => ⟨S_, .f32⟩
  | .hbm, ⟨30, _⟩ => ⟨S_, .f32⟩
  | .hbm, ⟨31, _⟩ => ⟨S8x128x128, .i1⟩
  | .hbm, ⟨32, _⟩ => ⟨S8x128x128, .f32⟩
  | .hbm, ⟨33, _⟩ => ⟨S8x128x128, .f32⟩
  | .hbm, ⟨34, _⟩ => ⟨S8x1, .f32⟩
  | .hbm, ⟨35, _⟩ => ⟨S_, .f32⟩
  | .hbm, ⟨36, _⟩ => ⟨S128, .f32⟩
  | .hbm, ⟨37, _⟩ => ⟨S128, .f32⟩
  | .hbm, ⟨38, _⟩ => ⟨S1x128, .f32⟩
  | .hbm, ⟨39, _⟩ => ⟨S8x128, .f32⟩
  | .hbm, ⟨40, _⟩ => ⟨S8x128, .f32⟩
  | .hbm, ⟨41, _⟩ => ⟨S8x128, .f32⟩
  | .hbm, ⟨42, _⟩ => ⟨S8x128, .f32⟩
  | .hbm, ⟨43, _⟩ => ⟨S8x1, .f32⟩
  | .hbm, ⟨44, _⟩ => ⟨S_, .f32⟩
  | .hbm, ⟨45, _⟩ => ⟨S128, .f32⟩
  | .hbm, ⟨46, _⟩ => ⟨S128, .f32⟩
  | .hbm, ⟨47, _⟩ => ⟨S1x128, .f32⟩
  | .hbm, ⟨48, _⟩ => ⟨S8x128, .f32⟩
  | .hbm, ⟨49, _⟩ => ⟨S8x128, .f32⟩
  | .hbm, ⟨50, _⟩ => ⟨S8x128, .f32⟩
  | .hbm, ⟨51, _⟩ => ⟨S8x128, .f32⟩
  | .hbm, ⟨52, _⟩ => ⟨S_, .f32⟩
  | .hbm, ⟨53, _⟩ => ⟨S8, .f32⟩
  | .hbm, ⟨54, _⟩ => ⟨S8, .f32⟩
  | .hbm, ⟨55, _⟩ => ⟨S8, .f32⟩
  | .hbm, ⟨56, _⟩ => ⟨S_, .f32⟩
  | .hbm, ⟨57, _⟩ => ⟨S8x128x128, .f32⟩
  | .hbm, ⟨58, _⟩ => ⟨S8x128x128, .f32⟩
  | .hbm, ⟨59, _⟩ => ⟨S_, .f32⟩
  | .hbm, ⟨60, _⟩ => ⟨S8x128, .f32⟩
  | .hbm, ⟨61, _⟩ => ⟨S8x128, .f32⟩
  | .hbm, ⟨62, _⟩ => ⟨S8x128x1, .f32⟩
  | .hbm, ⟨63, _⟩ => ⟨S8x128x256, .f32⟩
  | .hbm, ⟨64, _⟩ => ⟨S8x128x1, .f32⟩
  | .hbm, ⟨65, _⟩ => ⟨S8x128x256, .f32⟩
  | .hbm, ⟨66, _⟩ => ⟨S8x1x1, .f32⟩
  | .hbm, ⟨67, _⟩ => ⟨S8x1x256, .f32⟩
  | .hbm, ⟨68, _⟩ => ⟨S8192x2048, .bf16⟩
  | .local _ .vmem, ⟨0, _⟩ => ⟨S128x6144, .bf16⟩
  | .local _ .vmem, ⟨1, _⟩ => ⟨S128x6144, .bf16⟩
  | .local _ .vmem, ⟨2, _⟩ => ⟨S8x128x128, .f32⟩
  | .local _ .vmem, ⟨3, _⟩ => ⟨S8x128x256, .f32⟩
  | .local _ .vmem, ⟨4, _⟩ => ⟨S8x128x256, .f32⟩
  | .local _ .vmem, ⟨5, _⟩ => ⟨S8x1x256, .f32⟩
  | .local _ .vmem, ⟨6, _⟩ => ⟨S128x2048, .bf16⟩
  | .local _ .vmem, ⟨7, _⟩ => ⟨S128x2048, .bf16⟩
  | .local _ .vmem, ⟨8, _⟩ => ⟨S8x128x256, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_2 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_6 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_7 : Ref sig .tc := ⟨.hbm, 56, rfl⟩
abbrev main_v44 : Ref sig .tc := ⟨.hbm, 57, rfl⟩
abbrev main_v45 : Ref sig .tc := ⟨.hbm, 58, rfl⟩
abbrev main_cst_8 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8192x6144 : Shape := ⟨2, ![8192, 6144]⟩
abbrev S1x8192x6144 : Shape := ⟨3, ![1, 8192, 6144]⟩
abbrev S1x8192x1024 : Shape := ⟨3, ![1, 8192, 1024]⟩
abbrev S1x8192x8x128 : Shape := ⟨4, ![1, 8192, 8, 128]⟩
abbrev S1x8192x2048 : Shape := ⟨3, ![1, 8192, 2048]⟩
abbrev S1x8192x8x256 : Shape := ⟨4, ![1, 8192, 8, 256]⟩
abbrev S8 : Shape := ⟨1, ![8]⟩
abbrev S_ : Shape := ⟨0, ![]⟩
abbrev S128 : Shape := ⟨1, ![128]⟩
abbrev S1x64x128x8x128 : Shape := ⟨5, ![1, 64, 128, 8, 128]⟩
abbrev S1x64x128x8x256 : Shape := ⟨5, ![1, 64, 128, 8, 256]⟩
abbrev S8x1 : Shape := ⟨2, ![8, 1]⟩
abbrev S1x128 : Shape := ⟨2, ![1, 128]⟩
abbrev S8x128 : Shape := ⟨2, ![8, 128]⟩
abbrev S128x8 : Shape := ⟨2, ![128, 8]⟩
abbrev S1x1x128x8x1 : Shape := ⟨5, ![1, 1, 128, 8, 1]⟩
abbrev S1x64x8x128x256 : Shape := ⟨5, ![1, 64, 8, 128, 256]⟩
abbrev S1x8x1x1 : Shape := ⟨4, ![1, 8, 1, 1]⟩
abbrev S1x8x128x256 : Shape := ⟨4, ![1, 8, 128, 256]⟩
abbrev S64x1x8x128x256 : Shape := ⟨5, ![64, 1, 8, 128, 256]⟩
abbrev S1x1x8x128x256 : Shape := ⟨5, ![1, 1, 8, 128, 256]⟩
abbrev S128x1 : Shape := ⟨2, ![128, 1]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S1x64x8x128x128 : Shape := ⟨5, ![1, 64, 8, 128, 128]⟩
abbrev S1x1x8x128x128 : Shape := ⟨5, ![1, 1, 8, 128, 128]⟩
abbrev S1x64x8x256x128 : Shape := ⟨5, ![1, 64, 8, 256, 128]⟩
abbrev S1x8192x8 : Shape := ⟨3, ![1, 8192, 8]⟩
abbrev S1x8192x8x1 : Shape := ⟨4, ![1, 8192, 8, 1]⟩
abbrev S8192x2048 : Shape := ⟨2, ![8192, 2048]⟩

abbrev nBuf : Space → Nat
  | .hbm => 193
  | .vmem => 0
  | .smem => 0
  | _ => 0

abbrev hbmTy0_0 (i : Nat) : BufTy := match i % 128 with
  | 0 => ⟨S8192x6144, .bf16⟩
  | 1 => ⟨S1x8192x6144, .bf16⟩
  | 2 => ⟨S1x8192x1024, .bf16⟩
  | 3 => ⟨S1x8192x8x128, .bf16⟩
  | 4 => ⟨S1x8192x1024, .bf16⟩
  | 5 => ⟨S1x8192x8x128, .bf16⟩
  | 6 => ⟨S1x8192x2048, .bf16⟩
  | 7 => ⟨S1x8192x8x256, .bf16⟩
  | 8 => ⟨S1x8192x2048, .bf16⟩
  | 9 => ⟨S1x8192x8x256, .bf16⟩
  | 10 => ⟨S8, .f32⟩
  | 11 => ⟨S_, .f32⟩
  | 12 => ⟨S8, .f32⟩
  | 13 => ⟨S8, .f32⟩
  | 14 => ⟨S_, .f32⟩
  | 15 => ⟨S8, .f32⟩
  | 16 => ⟨S8, .f32⟩
  | 17 => ⟨S8, .f32⟩
  | 18 => ⟨S8, .f32⟩
  | 19 => ⟨S128, .f32⟩
  | 20 => ⟨S1x64x128x8x128, .bf16⟩
  | 21 => ⟨S1x64x128x8x128, .f32⟩
  | 22 => ⟨S1x8192x8x128, .f32⟩
  | 23 => ⟨S_, .f32⟩
  | 24 => ⟨S1x8192x8x128, .f32⟩
  | 25 => ⟨S1x8192x8x128, .f32⟩
  | 26 => ⟨S1x64x128x8x128, .f32⟩
  | 27 => ⟨S1x64x128x8x256, .bf16⟩
  | 28 => ⟨S1x64x128x8x256, .f32⟩
  | 29 => ⟨S8x1, .f32⟩
  | 30 => ⟨S_, .f32⟩
  | 31 => ⟨S128, .f32⟩
  | 32 => ⟨S128, .f32⟩
  | 33 => ⟨S1x128, .f32⟩
  | 34 => ⟨S8x128, .f32⟩
  | 35 => ⟨S8x128, .f32⟩
  | 36 => ⟨S8x128, .f32⟩
  | 37 => ⟨S8x128, .f32⟩
  | 38 => ⟨S128x8, .f32⟩
  | 39 => ⟨S1x1x128x8x1, .f32⟩
  | 40 => ⟨S1x64x128x8x256, .f32⟩
  | 41 => ⟨S1x64x128x8x256, .f32⟩
  | 42 => ⟨S1x64x8x128x256, .f32⟩
  | 43 => ⟨S_, .f32⟩
  | 44 => ⟨S8, .f32⟩
  | 45 => ⟨S8, .f32⟩
  | 46 => ⟨S8, .f32⟩
  | 47 => ⟨S1x8x1x1, .f32⟩
  | 48 => ⟨S_, .f32⟩
  | 49 => ⟨S1x8x128x256, .f32⟩
  | 50 => ⟨S64x1x8x128x256, .f32⟩
  | 51 => ⟨S_, .f32⟩
  | 52 => ⟨S64x1x8x128x256, .f32⟩
  | 53 => ⟨S_, .i32⟩
  | 54 => ⟨S64x1x8x128x256, .f32⟩
  | 55 => ⟨S1x8x1x1, .f32⟩
  | 56 => ⟨S_, .i32⟩
  | 57 => ⟨S1x8x128x256, .f32⟩
  | 58 => ⟨S64x1x8x128x256, .f32⟩
  | 59 => ⟨S_, .i32⟩
  | 60 => ⟨S_, .i1⟩
  | 61 => ⟨S_, .i32⟩
  | 62 => ⟨S_, .i32⟩
  | 63 => ⟨S_, .i32⟩
  | 64 => ⟨S_, .i32⟩
  | 65 => ⟨S1x1x8x128x256, .f32⟩
  | 66 => ⟨S1x8x128x256, .f32⟩
  | 67 => ⟨S1x8x128x256, .f32⟩
  | 68 => ⟨S1x8x128x256, .f32⟩
  | 69 => ⟨S1x8x128x256, .f32⟩
  | 70 => ⟨S1x1x8x128x256, .f32⟩
  | 71 => ⟨S_, .i32⟩
  | 72 => ⟨S_, .i32⟩
  | 73 => ⟨S_, .i32⟩
  | 74 => ⟨S_, .i32⟩
  | 75 => ⟨S64x1x8x128x256, .f32⟩
  | 76 => ⟨S_, .i32⟩
  | 77 => ⟨S_, .i32⟩
  | 78 => ⟨S1x64x8x128x256, .f32⟩
  | 79 => ⟨S1x8192x6144, .bf16⟩
  | 80 => ⟨S1x8192x1024, .bf16⟩
  | 81 => ⟨S1x8192x8x128, .bf16⟩
  | 82 => ⟨S1x8192x1024, .bf16⟩
  | 83 => ⟨S1x8192x8x128, .bf16⟩
  | 84 => ⟨S1x8192x2048, .bf16⟩
  | 85 => ⟨S1x8192x8x256, .bf16⟩
  | 86 => ⟨S1x8192x2048, .bf16⟩
  | 87 => ⟨S1x8192x8x256, .bf16⟩
  | 88 => ⟨S8, .f32⟩
  | 89 => ⟨S_, .f32⟩
  | 90 => ⟨S8, .f32⟩
  | 91 => ⟨S8, .f32⟩
  | 92 => ⟨S_, .f32⟩
  | 93 => ⟨S8, .f32⟩
  | 94 => ⟨S8, .f32⟩
  | 95 => ⟨S8, .f32⟩
  | 96 => ⟨S8, .f32⟩
  | 97 => ⟨S128, .f32⟩
  | 98 => ⟨S1x64x128x8x128, .bf16⟩
  | 99 => ⟨S1x64x128x8x128, .f32⟩
  | 100 => ⟨S1x8192x8x128, .f32⟩
  | 101 => ⟨S_, .f32⟩
  | 102 => ⟨S1x8192x8x128, .f32⟩
  | 103 => ⟨S1x8192x8x128, .f32⟩
  | 104 => ⟨S1x64x128x8x128, .f32⟩
  | 105 => ⟨S1x64x128x8x256, .bf16⟩
  | 106 => ⟨S1x64x128x8x256, .f32⟩
  | 107 => ⟨S128x1, .f32⟩
  | 108 => ⟨S1x128, .f32⟩
  | 109 => ⟨S128x128, .f32⟩
  | 110 => ⟨S128x128, .f32⟩
  | 111 => ⟨S128x128, .f32⟩
  | 112 => ⟨S128, .i32⟩
  | 113 => ⟨S128x1, .i32⟩
  | 114 => ⟨S128, .i32⟩
  | 115 => ⟨S1x128, .i32⟩
  | 116 => ⟨S128x128, .i32⟩
  | 117 => ⟨S128x128, .i32⟩
  | 118 => ⟨S128x128, .i1⟩
  | 119 => ⟨S1x128x128, .i1⟩
  | 120 => ⟨S8x1x1, .f32⟩
  | 121 => ⟨S_, .f32⟩
  | 122 => ⟨S128x128, .f32⟩
  | 123 => ⟨S128x128, .f32⟩
  | 124 => ⟨S1x128x128, .f32⟩
  | 125 => ⟨S8x128x128, .f32⟩
  | 126 => ⟨S8x128x128, .f32⟩
  | 127 => ⟨S8x128x128, .f32⟩
  | _ => ⟨S8192x6144, .bf16⟩

abbrev hbmTy0_1 (i : Nat) : BufTy := match i % 128 with
  | 0 => ⟨S8x128x128, .f32⟩
  | 1 => ⟨S_, .f32⟩
  | 2 => ⟨S_, .f32⟩
  | 3 => ⟨S8x128x128, .i1⟩
  | 4 => ⟨S8x128x128, .f32⟩
  | 5 => ⟨S8x128x128, .f32⟩
  | 6 => ⟨S1x64x8x128x128, .f32⟩
  | 7 => ⟨S1x1x8x128x128, .f32⟩
  | 8 => ⟨S1x64x8x128x128, .f32⟩
  | 9 => ⟨S1x64x8x128x128, .f32⟩
  | 10 => ⟨S1x64x8x256x128, .f32⟩
  | 11 => ⟨S1x64x128x8x256, .f32⟩
  | 12 => ⟨S8x1, .f32⟩
  | 13 => ⟨S_, .f32⟩
  | 14 => ⟨S128, .f32⟩
  | 15 => ⟨S128, .f32⟩
  | 16 => ⟨S1x128, .f32⟩
  | 17 => ⟨S8x128, .f32⟩
  | 18 => ⟨S8x128, .f32⟩
  | 19 => ⟨S8x128, .f32⟩
  | 20 => ⟨S8x128, .f32⟩
  | 21 => ⟨S1x64x8x256x128, .f32⟩
  | 22 => ⟨S1x64x128x8x256, .f32⟩
  | 23 => ⟨S128x8, .f32⟩
  | 24 => ⟨S1x1x128x8x1, .f32⟩
  | 25 => ⟨S1x64x128x8x256, .f32⟩
  | 26 => ⟨S1x64x128x8x256, .f32⟩
  | 27 => ⟨S1x64x128x8x256, .f32⟩
  | 28 => ⟨S1x8192x8x256, .f32⟩
  | 29 => ⟨S_, .f32⟩
  | 30 => ⟨S1x8192x8, .f32⟩
  | 31 => ⟨S1x8192x8x1, .f32⟩
  | 32 => ⟨S_, .f32⟩
  | 33 => ⟨S1x8192x8x1, .f32⟩
  | 34 => ⟨S1x8192x8x1, .f32⟩
  | 35 => ⟨S1x8192x8x256, .f32⟩
  | 36 => ⟨S1x8192x8x256, .f32⟩
  | 37 => ⟨S1x8192x8x256, .f32⟩
  | 38 => ⟨S_, .f32⟩
  | 39 => ⟨S1x8192x8, .f32⟩
  | 40 => ⟨S1x8192x8x1, .f32⟩
  | 41 => ⟨S_, .f32⟩
  | 42 => ⟨S1x8192x8x1, .f32⟩
  | 43 => ⟨S1x8192x8x1, .f32⟩
  | 44 => ⟨S1x8192x8x256, .f32⟩
  | 45 => ⟨S1x8192x8x256, .f32⟩
  | 46 => ⟨S_, .f32⟩
  | 47 => ⟨S1x8192x8x1, .f32⟩
  | 48 => ⟨S1x8192x8x1, .f32⟩
  | 49 => ⟨S1x8192x8x1, .f32⟩
  | 50 => ⟨S1x8192x8x256, .f32⟩
  | 51 => ⟨S1x8192x8x256, .f32⟩
  | 52 => ⟨S1x8192x8x256, .f32⟩
  | 53 => ⟨S1x8192x8x256, .f32⟩
  | 54 => ⟨S1x8192x8x256, .f32⟩
  | 55 => ⟨S_, .f32⟩
  | 56 => ⟨S1x8192x8x256, .f32⟩
  | 57 => ⟨S1x8192x8x256, .f32⟩
  | 58 => ⟨S_, .f32⟩
  | 59 => ⟨S1x8192x8x256, .f32⟩
  | 60 => ⟨S1x8192x8x256, .f32⟩
  | 61 => ⟨S1x8192x8x256, .f32⟩
  | 62 => ⟨S1x8192x8x256, .f32⟩
  | 63 => ⟨S8192x2048, .f32⟩
  | 64 => ⟨S8192x2048, .bf16⟩
  | _ => ⟨S8192x6144, .bf16⟩

abbrev hbmTy (i : Nat) : BufTy := match i / 128 with
  | 0 => hbmTy0_0 i
  | 1 => hbmTy0_1 i
  | _ => ⟨S8192x6144, .bf16⟩

abbrev bufTy : (tb : Table) → Fin (tcTables nBuf tb) → BufTy
  | .hbm, ⟨i, _⟩ => hbmTy i
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_cst_0 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst_1 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_2 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_cst_3 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_cst_4 : Ref sig .tc := ⟨.hbm, 48, rfl⟩
abbrev main_v42 : Ref sig .tc := ⟨.hbm, 49, rfl⟩
abbrev main_v43 : Ref sig .tc := ⟨.hbm, 50, rfl⟩
abbrev main_cst_5 : Ref sig .tc := ⟨.hbm, 51, rfl⟩
abbrev main_v44 : Ref sig .tc := ⟨.hbm, 52, rfl⟩
abbrev main_c : Ref sig .tc := ⟨.hbm, 53, rfl⟩
abbrev main_v45_0 : Ref sig .tc := ⟨.hbm, 54, rfl⟩
abbrev main_v45_1 : Ref sig .tc := ⟨.hbm, 55, rfl⟩
abbrev main_v45_2 : Ref sig .tc := ⟨.hbm, 56, rfl⟩
abbrev main_v45_3 : Ref sig .tc := ⟨.hbm, 57, rfl⟩
abbrev main_v45_4 : Ref sig .tc := ⟨.hbm, 58, rfl⟩
abbrev main_while0c_c_21 : Ref sig .tc := ⟨.hbm, 59, rfl⟩
abbrev main_while0c_v139 : Ref sig .tc := ⟨.hbm, 60, rfl⟩
abbrev main_while0b_call0_c : Ref sig .tc := ⟨.hbm, 61, rfl⟩
abbrev main_while0b_call0_c_0 : Ref sig .tc := ⟨.hbm, 62, rfl⟩
abbrev main_while0b_call0_c_1 : Ref sig .tc := ⟨.hbm, 63, rfl⟩
abbrev main_while0b_call0_c_2 : Ref sig .tc := ⟨.hbm, 64, rfl⟩
abbrev main_while0b_call0_v0 : Ref sig .tc := ⟨.hbm, 65, rfl⟩
abbrev main_while0b_v139 : Ref sig .tc := ⟨.hbm, 66, rfl⟩
abbrev main_while0b_v140 : Ref sig .tc := ⟨.hbm, 67, rfl⟩
abbrev main_while0b_v141 : Ref sig .tc := ⟨.hbm, 68, rfl⟩
abbrev main_while0b_v142 : Ref sig .tc := ⟨.hbm, 69, rfl⟩
abbrev main_while0b_call1_v0 : Ref sig .tc := ⟨.hbm, 70, rfl⟩
abbrev main_while0b_call1_c : Ref sig .tc := ⟨.hbm, 71, rfl⟩
abbrev main_while0b_call1_c_0 : Ref sig .tc := ⟨.hbm, 72, rfl⟩
abbrev main_while0b_call1_c_1 : Ref sig .tc := ⟨.hbm, 73, rfl⟩
abbrev main_while0b_call1_c_2 : Ref sig .tc := ⟨.hbm, 74, rfl⟩
abbrev main_while0b_v143 : Ref sig .tc := ⟨.hbm, 75, rfl⟩
abbrev main_while0b_c_21 : Ref sig .tc := ⟨.hbm, 76, rfl⟩
abbrev main_while0b_v144 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_6 : Ref sig .tc := ⟨.hbm, 89, rfl⟩
abbrev main_v57 : Ref sig .tc := ⟨.hbm, 90, rfl⟩
abbrev main_v58 : Ref sig .tc := ⟨.hbm, 91, rfl⟩
abbrev main_cst_7 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_8 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_9 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_10 : Ref sig .tc := ⟨.hbm, 129, rfl⟩
abbrev main_call2_v0 : Ref sig .tc := ⟨.hbm, 130, rfl⟩
abbrev main_call2_v1 : Ref sig .tc := ⟨.hbm, 131, rfl⟩
abbrev main_call2_v2 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_cst_11 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_cst_12 : Ref sig .tc := ⟨.hbm, 157, rfl⟩
abbrev main_v116 : Ref sig .tc := ⟨.hbm, 158, rfl⟩
abbrev main_v117 : Ref sig .tc := ⟨.hbm, 159, rfl⟩
abbrev main_cst_13 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_cst_14 : Ref sig .tc := ⟨.hbm, 166, rfl⟩
abbrev main_v123 : Ref sig .tc := ⟨.hbm, 167, rfl⟩
abbrev main_v124 : Ref sig .tc := ⟨.hbm, 168, rfl⟩
abbrev main_cst_15 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_cst_16 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_call3_v0 : Ref sig .tc := ⟨.hbm, 181, rfl⟩
abbrev main_call3_v1 : Ref sig .tc := ⟨.hbm, 182, rfl⟩
abbrev main_call3_cst : Ref sig .tc := ⟨.hbm, 183, rfl⟩
abbrev main_call3_v2 : Ref sig .tc := ⟨.hbm, 184, rfl⟩
abbrev main_call3_v3 : Ref sig .tc := ⟨.hbm, 185, rfl⟩
abbrev main_call3_cst_0 : Ref sig .tc := ⟨.hbm, 186, rfl⟩
abbrev main_call3_v4 : Ref sig .tc := ⟨.hbm, 187, rfl⟩
abbrev main_call3_v5 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S8192x2048 : Shape := ⟨2, ![8192, 2048]⟩
abbrev S4x2x2048x5504 : Shape := ⟨4, ![4, 2, 2048, 5504]⟩
abbrev S8192x5376 : Shape := ⟨2, ![8192, 5376]⟩
abbrev S1024x2048 : Shape := ⟨2, ![1024, 2048]⟩
abbrev S1x1x2048x768 : Shape := ⟨4, ![1, 1, 2048, 768]⟩
abbrev S1024x768 : Shape := ⟨2, ![1024, 768]⟩
abbrev S2048x768 : Shape := ⟨2, ![2048, 768]⟩

abbrev nBuf : Space → Nat
  | .hbm => 4
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S4x2x2048x5504, .f32⟩
  | .hbm, ⟨2, _⟩ => ⟨S4x2x2048x5504, .f32⟩
  | .hbm, ⟨3, _⟩ => ⟨S8192x5376, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x2048x768, .f32⟩
  | .local _ .vmem, ⟨3, _⟩ => ⟨S1x1x2048x768, .f32⟩
  | .local _ .vmem, ⟨4, _⟩ => ⟨S1x1x2048x768, .f32⟩
  | .local _ .vmem, ⟨5, _⟩ => ⟨S1x1x2048x768, .f32⟩
  | .local _ .vmem, ⟨6, _⟩ => ⟨S1024x768, .bf16⟩
  | .local _ .vmem, ⟨7, _⟩ => ⟨S1024x768, .bf16⟩
  | .local _ .vmem, ⟨8, _⟩ => ⟨S2048x768, .bf16⟩
  | .local _ .vmem, ⟨9, _⟩ => ⟨S2048x768, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![7, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  let c0_i32_3 : BitVec 32 := 0#32
  ![c0_i32_0.toNat, c0_i32_1.toNat, c0_i32_2.toNat, v0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  let c0_i32_3 : BitVec 32 := 0#32
  ![c0_i32_0.toNat, c0_i32_1.toNat, c0_i32_2.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8192x2048 : Shape := ⟨2, ![8192, 2048]⟩
abbrev S4x2x2048x5504 : Shape := ⟨4, ![4, 2, 2048, 5504]⟩
abbrev S1x1x2048x5504 : Shape := ⟨4, ![1, 1, 2048, 5504]⟩
abbrev S2048x5504 : Shape := ⟨2, ![2048, 5504]⟩
abbrev S8192x5504 : Shape := ⟨2, ![8192, 5504]⟩
abbrev S_ : Shape := ⟨0, ![]⟩
abbrev S8192x5376 : Shape := ⟨2, ![8192, 5376]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2x2048x5504, .f32⟩
  | .hbm, ⟨2, _⟩ => ⟨S4x2x2048x5504, .f32⟩
  | .hbm, ⟨3, _⟩ => ⟨S8192x2048, .f32⟩
  | .hbm, ⟨4, _⟩ => ⟨S1x1x2048x5504, .f32⟩
  | .hbm, ⟨5, _⟩ => ⟨S2048x5504, .f32⟩
  | .hbm, ⟨6, _⟩ => ⟨S1x1x2048x5504, .f32⟩
  | .hbm, ⟨7, _⟩ => ⟨S2048x5504, .f32⟩
  | .hbm, ⟨8, _⟩ => ⟨S8192x5504, .f32⟩
  | .hbm, ⟨9, _⟩ => ⟨S8192x5504, .f32⟩
  | .hbm, ⟨10, _⟩ => ⟨S8192x5504, .f32⟩
  | .hbm, ⟨11, _⟩ => ⟨S_, .f32⟩
  | .hbm, ⟨12, _⟩ => ⟨S8192x5504, .f32⟩
  | .hbm, ⟨13, _⟩ => ⟨S8192x5504, .f32⟩
  | .hbm, ⟨14, _⟩ => ⟨S_, .f32⟩
  | .hbm, ⟨15, _⟩ => ⟨S8192x5504, .f32⟩
  | .hbm, ⟨16, _⟩ => ⟨S8192x5504, .f32⟩
  | .hbm, ⟨17, _⟩ => ⟨S8192x5504, .f32⟩
  | .hbm, ⟨18, _⟩ => ⟨S8192x5504, .f32⟩
  | .hbm, ⟨19, _⟩ => ⟨S8192x5504, .f32⟩
  | .hbm, ⟨20, _⟩ => ⟨S8192x5376, .f32⟩
  | .hbm, ⟨21, _⟩ => ⟨S8192x5376, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]
-- ==== Kernel3.lean ====
abbrev S8192x2048 : Shape := ⟨2, ![8192, 2048]⟩
abbrev S4x2x2048x5504 : Shape := ⟨4, ![4, 2, 2048, 5504]⟩
abbrev S8192x128 : Shape := ⟨2, ![8192, 128]⟩
abbrev S1024x2048 : Shape := ⟨2, ![1024, 2048]⟩
abbrev S1x1x2048x128 : Shape := ⟨4, ![1, 1, 2048, 128]⟩
abbrev S1024x128 : Shape := ⟨2, ![1024, 128]⟩
abbrev S2048x128 : Shape := ⟨2, ![2048, 128]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S4x2x2048x5504, .f32⟩
  | .hbm, ⟨2, _⟩ => ⟨S4x2x2048x5504, .f32⟩
  | .hbm, ⟨3, _⟩ => ⟨S8192x128, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x2048x128, .f32⟩
  | .local _ .vmem, ⟨3, _⟩ => ⟨S1x1x2048x128, .f32⟩
  | .local _ .vmem, ⟨4, _⟩ => ⟨S1024x128, .bf16⟩
  | .local _ .vmem, ⟨5, _⟩ => ⟨S1024x128, .bf16⟩
  | .local _ .vmem, ⟨6, _⟩ => ⟨S2048x128, .bf16⟩
  | .local _ .vmem, ⟨7, _⟩ => ⟨S2048x128, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c42_i32 : BitVec 32 := 42#32
  let v0 : BitVec 32 := Scalar.addi c42_i32 arg0
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, v0.toNat]

def cc0_transform_2 (i : grid0.Coords) : Fin 4 → Nat :=
  let arg0 : BitVec 32 := BitVec.ofNat 32 (i 0).val
  let arg1 : BitVec 32 := BitVec.ofNat 32 (i 1).val
  let c42_i32 : BitVec 32 := 42#32
  let v0 : BitVec 32 := Scalar.addi c42_i32 arg0
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1x2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1x2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8192x2048 : Shape := ⟨2, ![8192, 2048]⟩
abbrev S4x2x2048x5504 : Shape := ⟨4, ![4, 2, 2048, 5504]⟩
abbrev S1x1x2048x5504 : Shape := ⟨4, ![1, 1, 2048, 5504]⟩
abbrev S2048x5504 : Shape := ⟨2, ![2048, 5504]⟩
abbrev S8192x5504 : Shape := ⟨2, ![8192, 5504]⟩
abbrev S_ : Shape := ⟨0, ![]⟩
abbrev S8192x128 : Shape := ⟨2, ![8192, 128]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2x2048x5504, .f32⟩
  | .hbm, ⟨2, _⟩ => ⟨S4x2x2048x5504, .f32⟩
  | .hbm, ⟨3, _⟩ => ⟨S8192x2048, .f32⟩
  | .hbm, ⟨4, _⟩ => ⟨S1x1x2048x5504, .f32⟩
  | .hbm, ⟨5, _⟩ => ⟨S2048x5504, .f32⟩
  | .hbm, ⟨6, _⟩ => ⟨S1x1x2048x5504, .f32⟩
  | .hbm, ⟨7, _⟩ => ⟨S2048x5504, .f32⟩
  | .hbm, ⟨8, _⟩ => ⟨S8192x5504, .f32⟩
  | .hbm, ⟨9, _⟩ => ⟨S8192x5504, .f32⟩
  | .hbm, ⟨10, _⟩ => ⟨S8192x5504, .f32⟩
  | .hbm, ⟨11, _⟩ => ⟨S_, .f32⟩
  | .hbm, ⟨12, _⟩ => ⟨S8192x5504, .f32⟩
  | .hbm, ⟨13, _⟩ => ⟨S8192x5504, .f32⟩
  | .hbm, ⟨14, _⟩ => ⟨S_, .f32⟩
  | .hbm, ⟨15, _⟩ => ⟨S8192x5504, .f32⟩
  | .hbm, ⟨16, _⟩ => ⟨S8192x5504, .f32⟩
  | .hbm, ⟨17, _⟩ => ⟨S8192x5504, .f32⟩
  | .hbm, ⟨18, _⟩ => ⟨S8192x5504, .f32⟩
  | .hbm, ⟨19, _⟩ => ⟨S8192x5504, .f32⟩
  | .hbm, ⟨20, _⟩ => ⟨S8192x128, .f32⟩
  | .hbm, ⟨21, _⟩ => ⟨S8192x128, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]
-- ==== Kernel4.lean ====
abbrev S8192x5376 : Shape := ⟨2, ![8192, 5376]⟩
abbrev S8192x128 : Shape := ⟨2, ![8192, 128]⟩
abbrev S4x2x5504x2048 : Shape := ⟨4, ![4, 2, 5504, 2048]⟩
abbrev S8192x2048 : Shape := ⟨2, ![8192, 2048]⟩
abbrev S4x6x2048 : Shape := ⟨3, ![4, 6, 2048]⟩
abbrev S512x1792 : Shape := ⟨2, ![512, 1792]⟩
abbrev S1x1x1792x2048 : Shape := ⟨4, ![1, 1, 1792, 2048]⟩
abbrev S512x128 : Shape := ⟨2, ![512, 128]⟩
abbrev S1x1x128x2048 : Shape := ⟨4, ![1, 1, 128, 2048]⟩
abbrev S512x2048 : Shape := ⟨2, ![512, 2048]⟩
abbrev S1x6x2048 : Shape := ⟨3, ![1, 6, 2048]⟩
abbrev S128x2048 : Shape := ⟨2, ![128, 2048]⟩
abbrev S1792x2048 : Shape := ⟨2, ![1792, 2048]⟩
abbrev S256x2048 : Shape := ⟨2, ![256, 2048]⟩
abbrev S256x1792 : Shape := ⟨2, ![256, 1792]⟩
abbrev S1x1x2048 : Shape := ⟨3, ![1, 1, 2048]⟩
abbrev S1x2048 : Shape := ⟨2, ![1, 2048]⟩
abbrev S256 : Shape := ⟨1, ![256]⟩
abbrev S256x1 : Shape := ⟨2, ![256, 1]⟩

abbrev nBuf : Space → Nat
  | .hbm => 8
  | .vmem => 16
  | .smem => 0
  | _ => 0

abbrev bufTy : (tb : Table) → Fin (tcTables nBuf tb) → BufTy
  | .hbm, ⟨0, _⟩ => ⟨S8192x5376, .bf16⟩
  | .hbm, ⟨1, _⟩ => ⟨S8192x128, .bf16⟩
  | .hbm, ⟨2, _⟩ => ⟨S4x2x5504x2048, .f32⟩
  | .hbm, ⟨3, _⟩ => ⟨S8192x2048, .f32⟩
  | .hbm, ⟨4, _⟩ => ⟨S4x6x2048, .f32⟩
  | .hbm, ⟨5, _⟩ => ⟨S4x2x5504x2048, .bf16⟩
  | .hbm, ⟨6, _⟩ => ⟨S8192x2048, .f32⟩
  | .hbm, ⟨7, _⟩ => ⟨S8192x2048, .bf16⟩
  | .local _ .vmem, ⟨0, _⟩ => ⟨S512x1792, .bf16⟩
  | .local _ .vmem, ⟨1, _⟩ => ⟨S512x1792, .bf16⟩
  | .local _ .vmem, ⟨2, _⟩ => ⟨S1x1x1792x2048, .bf16⟩
  | .local _ .vmem, ⟨3, _⟩ => ⟨S1x1x1792x2048, .bf16⟩
  | .local _ .vmem, ⟨4, _⟩ => ⟨S512x128, .bf16⟩
  | .local _ .vmem, ⟨5, _⟩ => ⟨S512x128, .bf16⟩
  | .local _ .vmem, ⟨6, _⟩ => ⟨S1x1x128x2048, .bf16⟩
  | .local _ .vmem, ⟨7, _⟩ => ⟨S512x2048, .f32⟩
  | .local _ .vmem, ⟨8, _⟩ => ⟨S512x2048, .f32⟩
  | .local _ .vmem, ⟨9, _⟩ => ⟨S1x6x2048, .f32⟩
  | .local _ .vmem, ⟨10, _⟩ => ⟨S1x6x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .bf16⟩
  | .local _ .vmem, ⟨15, _⟩ => ⟨S512x2048, .f32⟩
  | _, _ => ⟨S8192x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 3], ![false, false]⟩

def k0_cond3 (i : grid0.Coords) : BitVec 1 :=
  let arg1 : BitVec 32 := BitVec.ofNat 32 (i 1).val
  let c2_i32_2 : BitVec 32 := 2#32
  let v6 : BitVec 1 := Scalar.cmpi .eq arg1 c2_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c42_i32 : BitVec 32 := 42#32
  let c0_i32_1 : BitVec 32 := 0#32
  let c0_i32_2 : BitVec 32 := 0#32
  ![c0_i32.toNat, c0_i32_0.toNat, c42_i32.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1792x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1x128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x6x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x6x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference4Ideal.lean ====
abbrev S8192x5376 : Shape := ⟨2, ![8192, 5376]⟩
abbrev S8192x128 : Shape := ⟨2, ![8192, 128]⟩
abbrev S4x2x5504x2048 : Shape := ⟨4, ![4, 2, 5504, 2048]⟩
abbrev S8192x2048 : Shape := ⟨2, ![8192, 2048]⟩
abbrev S4x6x2048 : Shape := ⟨3, ![4, 6, 2048]⟩
abbrev S1x6x2048 : Shape := ⟨3, ![1, 6, 2048]⟩
abbrev S6x2048 : Shape := ⟨2, ![6, 2048]⟩
abbrev S8192x5504 : Shape := ⟨2, ![8192, 5504]⟩
abbrev S1x1x5504x2048 : Shape := ⟨4, ![1, 1, 5504, 2048]⟩
abbrev S5504x2048 : Shape := ⟨2, ![5504, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 53
  | .vmem => 0
  | .smem => 0
  | _ => 0

abbrev bufTy : (tb : Table) → Fin (tcTables nBuf tb) → BufTy
  | .hbm, ⟨0, _⟩ => ⟨S8192x5376, .bf16⟩
  | .hbm, ⟨1, _⟩ => ⟨S8192x128, .bf16⟩
  | .hbm, ⟨2, _⟩ => ⟨S4x2x5504x2048, .f32⟩
  | .hbm, ⟨3, _⟩ => ⟨S8192x2048, .f32⟩
  | .hbm, ⟨4, _⟩ => ⟨S4x6x2048, .f32⟩
  | .hbm, ⟨5, _⟩ => ⟨S1x6x2048, .f32⟩
  | .hbm, ⟨6, _⟩ => ⟨S6x2048, .f32⟩
  | .hbm, ⟨7, _⟩ => ⟨S8192x5504, .bf16⟩
  | .hbm, ⟨8, _⟩ => ⟨S8192x5504, .f32⟩
  | .hbm, ⟨9, _⟩ => ⟨S1x1x5504x2048, .f32⟩
  | .hbm, ⟨10, _⟩ => ⟨S5504x2048, .f32⟩
  | .hbm, ⟨11, _⟩ => ⟨S8192x2048, .f32⟩
  | .hbm, ⟨12, _⟩ => ⟨S1x2048, .f32⟩
  | .hbm, ⟨13, _⟩ => ⟨S2048, .f32⟩
  | .hbm, ⟨14, _⟩ => ⟨S8192x2048, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x2048, .f32⟩
  | .hbm, ⟨26, _⟩ => ⟨S8192x2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S1x2048, .f32⟩
  | .hbm, ⟨35, _⟩ => ⟨S2048, .f32⟩
  | .hbm, ⟨36, _⟩ => ⟨S8192x2048, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x2048, .f32⟩
  | .hbm, ⟨48, _⟩ => ⟨S8192x2048, .f32⟩
  | .hbm, ⟨49, _⟩ => ⟨S1x2048, .f32⟩
  | .hbm, ⟨50, _⟩ => ⟨S8192x2048, .f32⟩
  | .hbm, ⟨51, _⟩ => ⟨S8192x2048, .f32⟩
  | .hbm, ⟨52, _⟩ => ⟨S8192x2048, .bf16⟩
  | _, _ => ⟨S8192x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== Kernel5.lean ====
abbrev S8192x2048 : Shape := ⟨2, ![8192, 2048]⟩
abbrev S1x8192 : Shape := ⟨2, ![1, 8192]⟩
abbrev S2x2048x9216 : Shape := ⟨3, ![2, 2048, 9216]⟩
abbrev S8192 : Shape := ⟨1, ![8192]⟩
abbrev S8192x1 : Shape := ⟨2, ![8192, 1]⟩
abbrev S64 : Shape := ⟨1, ![64]⟩
abbrev S_ : Shape := ⟨0, ![]⟩
abbrev S1x64 : Shape := ⟨2, ![1, 64]⟩
abbrev S8192x64 : Shape := ⟨2, ![8192, 64]⟩
abbrev S8192x128 : Shape := ⟨2, ![8192, 128]⟩
abbrev S16 : Shape := ⟨1, ![16]⟩
abbrev S1x16 : Shape := ⟨2, ![1, 16]⟩
abbrev S8192x16 : Shape := ⟨2, ![8192, 16]⟩
abbrev S8192x96 : Shape := ⟨2, ![8192, 96]⟩
abbrev S8192x6144 : Shape := ⟨2, ![8192, 6144]⟩
abbrev S1024x2048 : Shape := ⟨2, ![1024, 2048]⟩
abbrev S1x2048x1024 : Shape := ⟨3, ![1, 2048, 1024]⟩
abbrev S1024x128 : Shape := ⟨2, ![1024, 128]⟩
abbrev S1024x1024 : Shape := ⟨2, ![1024, 1024]⟩
abbrev S2048x1024 : Shape := ⟨2, ![2048, 1024]⟩

abbrev nBuf : Space → Nat
  | .hbm => 48
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S1x8192, .i32⟩
  | .hbm, ⟨2, _⟩ => ⟨S2x2048x9216, .f32⟩
  | .hbm, ⟨3, _⟩ => ⟨S8192, .i32⟩
  | .hbm, ⟨4, _⟩ => ⟨S8192, .f32⟩
  | .hbm, ⟨5, _⟩ => ⟨S8192x1, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S1x64, .f32⟩
  | .hbm, ⟨15, _⟩ => ⟨S8192x64, .f32⟩
  | .hbm, ⟨16, _⟩ => ⟨S8192x64, .f32⟩
  | .hbm, ⟨17, _⟩ => ⟨S8192x64, .f32⟩
  | .hbm, ⟨18, _⟩ => ⟨S8192x64, .f32⟩
  | .hbm, ⟨19, _⟩ => ⟨S8192x64, .f32⟩
  | .hbm, ⟨20, _⟩ => ⟨S8192x128, .f32⟩
  | .hbm, ⟨21, _⟩ => ⟨S8192x64, .f32⟩
  | .hbm, ⟨22, _⟩ => ⟨S8192x128, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S1x16, .f32⟩
  | .hbm, ⟨32, _⟩ => ⟨S8192x16, .f32⟩
  | .hbm, ⟨33, _⟩ => ⟨S8192x16, .f32⟩
  | .hbm, ⟨34, _⟩ => ⟨S8192x16, .f32⟩
  | .hbm, ⟨35, _⟩ => ⟨S8192x16, .f32⟩
  | .hbm, ⟨36, _⟩ => ⟨S8192x16, .f32⟩
  | .hbm, ⟨37, _⟩ => ⟨S_, .f32⟩
  | .hbm, ⟨38, _⟩ => ⟨S8192x96, .f32⟩
  | .hbm, ⟨39, _⟩ => ⟨S_, .f32⟩
  | .hbm, ⟨40, _⟩ => ⟨S8192x96, .f32⟩
  | .hbm, ⟨41, _⟩ => ⟨S_, .f32⟩
  | .hbm, ⟨42, _⟩ => ⟨S8192x16, .f32⟩
  | .hbm, ⟨43, _⟩ => ⟨S8192x128, .f32⟩
  | .hbm, ⟨44, _⟩ => ⟨S8192x128, .f32⟩
  | .hbm, ⟨45, _⟩ => ⟨S8192x16, .f32⟩
  | .hbm, ⟨46, _⟩ => ⟨S8192x128, .f32⟩
  | .hbm, ⟨47, _⟩ => ⟨S8192x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1024, .bf16⟩
  | .local _ .vmem, ⟨9, _⟩ => ⟨S1024x1024, .bf16⟩
  | .local _ .vmem, ⟨10, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S8192x2048 : Shape := ⟨2, ![8192, 2048]⟩
abbrev S1x8192 : Shape := ⟨2, ![1, 8192]⟩
abbrev S2x2048x9216 : Shape := ⟨3, ![2, 2048, 9216]⟩
abbrev S1x2048x9216 : Shape := ⟨3, ![1, 2048, 9216]⟩
abbrev S2048x9216 : Shape := ⟨2, ![2048, 9216]⟩
abbrev S8192x9216 : Shape := ⟨2, ![8192, 9216]⟩
abbrev S1x8192x9216 : Shape := ⟨3, ![1, 8192, 9216]⟩
abbrev S1x8192x1024 : Shape := ⟨3, ![1, 8192, 1024]⟩
abbrev S1x8192x2048 : Shape := ⟨3, ![1, 8192, 2048]⟩
abbrev S1x8192x8x128 : Shape := ⟨4, ![1, 8192, 8, 128]⟩
abbrev S64 : Shape := ⟨1, ![64]⟩
abbrev S_ : Shape := ⟨0, ![]⟩
abbrev S1x8192x1x1 : Shape := ⟨4, ![1, 8192, 1, 1]⟩
abbrev S1x1x1x64 : Shape := ⟨4, ![1, 1, 1, 64]⟩
abbrev S1x8192x1x64 : Shape := ⟨4, ![1, 8192, 1, 64]⟩
abbrev S1x8192x8x64 : Shape := ⟨4, ![1, 8192, 8, 64]⟩
abbrev S1x8192x6144 : Shape := ⟨3, ![1, 8192, 6144]⟩
abbrev S8192x6144 : Shape := ⟨2, ![8192, 6144]⟩

abbrev nBuf : Space → Nat
  | .hbm => 77
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x8192, .i32⟩
  | .hbm, ⟨2, _⟩ => ⟨S2x2048x9216, .f32⟩
  | .hbm, ⟨3, _⟩ => ⟨S8192x2048, .f32⟩
  | .hbm, ⟨4, _⟩ => ⟨S1x2048x9216, .f32⟩
  | .hbm, ⟨5, _⟩ => ⟨S2048x9216, .f32⟩
  | .hbm, ⟨6, _⟩ => ⟨S8192x9216, .f32⟩
  | .hbm, ⟨7, _⟩ => ⟨S1x8192x9216, .f32⟩
  | .hbm, ⟨8, _⟩ => ⟨S1x8192x1024, .f32⟩
  | .hbm, ⟨9, _⟩ => ⟨S1x8192x1024, .f32⟩
  | .hbm, ⟨10, _⟩ => ⟨S1x8192x2048, .f32⟩
  | .hbm, ⟨11, _⟩ => ⟨S1x8192x2048, .f32⟩
  | .hbm, ⟨12, _⟩ => ⟨S1x8192x8x128, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S1x8192, .f32⟩
  | .hbm, ⟨22, _⟩ => ⟨S1x8192x1x1, .f32⟩
  | .hbm, ⟨23, _⟩ => ⟨S1x1x1x64, .f32⟩
  | .hbm, ⟨24, _⟩ => ⟨S1x8192x1x64, .f32⟩
  | .hbm, ⟨25, _⟩ => ⟨S1x8192x1x64, .f32⟩
  | .hbm, ⟨26, _⟩ => ⟨S1x8192x1x64, .f32⟩
  | .hbm, ⟨27, _⟩ => ⟨S1x8192x1x64, .f32⟩
  | .hbm, ⟨28, _⟩ => ⟨S1x8192x1x64, .f32⟩
  | .hbm, ⟨29, _⟩ => ⟨S1x8192x8x64, .f32⟩
  | .hbm, ⟨30, _⟩ => ⟨S1x8192x8x64, .f32⟩
  | .hbm, ⟨31, _⟩ => ⟨S1x8192x8x64, .f32⟩
  | .hbm, ⟨32, _⟩ => ⟨S1x8192x8x64, .f32⟩
  | .hbm, ⟨33, _⟩ => ⟨S1x8192x8x64, .f32⟩
  | .hbm, ⟨34, _⟩ => ⟨S1x8192x8x64, .f32⟩
  | .hbm, ⟨35, _⟩ => ⟨S1x8192x8x64, .f32⟩
  | .hbm, ⟨36, _⟩ => ⟨S1x8192x8x64, .f32⟩
  | .hbm, ⟨37, _⟩ => ⟨S1x8192x8x64, .f32⟩
  | .hbm, ⟨38, _⟩ => ⟨S1x8192x8x64, .f32⟩
  | .hbm, ⟨39, _⟩ => ⟨S1x8192x8x64, .f32⟩
  | .hbm, ⟨40, _⟩ => ⟨S1x8192x8x64, .f32⟩
  | .hbm, ⟨41, _⟩ => ⟨S1x8192x8x128, .f32⟩
  | .hbm, ⟨42, _⟩ => ⟨S1x8192x8x128, .f32⟩
  | .hbm, ⟨43, _⟩ => ⟨S64, .f32⟩
  | .hbm, ⟨44, _⟩ => ⟨S64, .f32⟩
  | .hbm, ⟨45, _⟩ => ⟨S_, .f32⟩
  | .hbm, ⟨46, _⟩ => ⟨S64, .f32⟩
  | .hbm, ⟨47, _⟩ => ⟨S64, .f32⟩
  | .hbm, ⟨48, _⟩ => ⟨S_, .f32⟩
  | .hbm, ⟨49, _⟩ => ⟨S64, .f32⟩
  | .hbm, ⟨50, _⟩ => ⟨S64, .f32⟩
  | .hbm, ⟨51, _⟩ => ⟨S1x8192, .f32⟩
  | .hbm, ⟨52, _⟩ => ⟨S1x8192x1x1, .f32⟩
  | .hbm, ⟨53, _⟩ => ⟨S1x1x1x64, .f32⟩
  | .hbm, ⟨54, _⟩ => ⟨S1x8192x1x64, .f32⟩
  | .hbm, ⟨55, _⟩ => ⟨S1x8192x1x64, .f32⟩
  | .hbm, ⟨56, _⟩ => ⟨S1x8192x1x64, .f32⟩
  | .hbm, ⟨57, _⟩ => ⟨S1x8192x1x64, .f32⟩
  | .hbm, ⟨58, _⟩ => ⟨S1x8192x1x64, .f32⟩
  | .hbm, ⟨59, _⟩ => ⟨S1x8192x8x64, .f32⟩
  | .hbm, ⟨60, _⟩ => ⟨S1x8192x8x64, .f32⟩
  | .hbm, ⟨61, _⟩ => ⟨S1x8192x8x64, .f32⟩
  | .hbm, ⟨62, _⟩ => ⟨S1x8192x8x64, .f32⟩
  | .hbm, ⟨63, _⟩ => ⟨S1x8192x8x64, .f32⟩
  | .hbm, ⟨64, _⟩ => ⟨S1x8192x8x64, .f32⟩
  | .hbm, ⟨65, _⟩ => ⟨S1x8192x8x64, .f32⟩
  | .hbm, ⟨66, _⟩ => ⟨S1x8192x8x64, .f32⟩
  | .hbm, ⟨67, _⟩ => ⟨S1x8192x8x64, .f32⟩
  | .hbm, ⟨68, _⟩ => ⟨S1x8192x8x64, .f32⟩
  | .hbm, ⟨69, _⟩ => ⟨S1x8192x8x64, .f32⟩
  | .hbm, ⟨70, _⟩ => ⟨S1x8192x8x64, .f32⟩
  | .hbm, ⟨71, _⟩ => ⟨S1x8192x8x128, .f32⟩
  | .hbm, ⟨72, _⟩ => ⟨S1x8192x1024, .f32⟩
  | .hbm, ⟨73, _⟩ => ⟨S1x8192x1024, .f32⟩
  | .hbm, ⟨74, _⟩ => ⟨S1x8192x6144, .f32⟩
  | .hbm, ⟨75, _⟩ => ⟨S8192x6144, .f32⟩
  | .hbm, ⟨76, _⟩ => ⟨S8192x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_cst_1 : Ref sig .tc := ⟨.hbm, 45, rfl⟩
abbrev main_v40 : Ref sig .tc := ⟨.hbm, 46, rfl⟩
abbrev main_v41 : Ref sig .tc := ⟨.hbm, 47, rfl⟩
abbrev main_cst_2 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩

abbrev nD : Nat := 1
abbrev τ : Topo := Topo.v7x

variable {F : FTy → Type} [FloatOps F]
-- ==== Kernel6.lean ====
abbrev S8192x2048 : Shape := ⟨2, ![8192, 2048]⟩
abbrev S1x8192 : Shape := ⟨2, ![1, 8192]⟩
abbrev S2x2048x9216 : Shape := ⟨3, ![2, 2048, 9216]⟩
abbrev S8192 : Shape := ⟨1, ![8192]⟩
abbrev S8192x1 : Shape := ⟨2, ![8192, 1]⟩
abbrev S64 : Shape := ⟨1, ![64]⟩
abbrev S_ : Shape := ⟨0, ![]⟩
abbrev S1x64 : Shape := ⟨2, ![1, 64]⟩
abbrev S8192x64 : Shape := ⟨2, ![8192, 64]⟩
abbrev S8192x128 : Shape := ⟨2, ![8192, 128]⟩
abbrev S16 : Shape := ⟨1, ![16]⟩
abbrev S1x16 : Shape := ⟨2, ![1, 16]⟩
abbrev S8192x16 : Shape := ⟨2, ![8192, 16]⟩
abbrev S8192x96 : Shape := ⟨2, ![8192, 96]⟩
abbrev S8192x3072 : Shape := ⟨2, ![8192, 3072]⟩
abbrev S1024x2048 : Shape := ⟨2, ![1024, 2048]⟩
abbrev S1x2048x1024 : Shape := ⟨3, ![1, 2048, 1024]⟩
abbrev S1024x128 : Shape := ⟨2, ![1024, 128]⟩
abbrev S1024x1024 : Shape := ⟨2, ![1024, 1024]⟩
abbrev S2048x1024 : Shape := ⟨2, ![2048, 1024]⟩

abbrev nBuf : Space → Nat
  | .hbm => 48
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S1x8192, .i32⟩
  | .hbm, ⟨2, _⟩ => ⟨S2x2048x9216, .f32⟩
  | .hbm, ⟨3, _⟩ => ⟨S8192, .i32⟩
  | .hbm, ⟨4, _⟩ => ⟨S8192, .f32⟩
  | .hbm, ⟨5, _⟩ => ⟨S8192x1, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S1x64, .f32⟩
  | .hbm, ⟨15, _⟩ => ⟨S8192x64, .f32⟩
  | .hbm, ⟨16, _⟩ => ⟨S8192x64, .f32⟩
  | .hbm, ⟨17, _⟩ => ⟨S8192x64, .f32⟩
  | .hbm, ⟨18, _⟩ => ⟨S8192x64, .f32⟩
  | .hbm, ⟨19, _⟩ => ⟨S8192x64, .f32⟩
  | .hbm, ⟨20, _⟩ => ⟨S8192x128, .f32⟩
  | .hbm, ⟨21, _⟩ => ⟨S8192x64, .f32⟩
  | .hbm, ⟨22, _⟩ => ⟨S8192x128, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S1x16, .f32⟩
  | .hbm, ⟨32, _⟩ => ⟨S8192x16, .f32⟩
  | .hbm, ⟨33, _⟩ => ⟨S8192x16, .f32⟩
  | .hbm, ⟨34, _⟩ => ⟨S8192x16, .f32⟩
  | .hbm, ⟨35, _⟩ => ⟨S8192x16, .f32⟩
  | .hbm, ⟨36, _⟩ => ⟨S8192x16, .f32⟩
  | .hbm, ⟨37, _⟩ => ⟨S_, .f32⟩
  | .hbm, ⟨38, _⟩ => ⟨S8192x96, .f32⟩
  | .hbm, ⟨39, _⟩ => ⟨S_, .f32⟩
  | .hbm, ⟨40, _⟩ => ⟨S8192x96, .f32⟩
  | .hbm, ⟨41, _⟩ => ⟨S_, .f32⟩
  | .hbm, ⟨42, _⟩ => ⟨S8192x16, .f32⟩
  | .hbm, ⟨43, _⟩ => ⟨S8192x128, .f32⟩
  | .hbm, ⟨44, _⟩ => ⟨S8192x128, .f32⟩
  | .hbm, ⟨45, _⟩ => ⟨S8192x16, .f32⟩
  | .hbm, ⟨46, _⟩ => ⟨S8192x128, .f32⟩
  | .hbm, ⟨47, _⟩ => ⟨S8192x3072, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | .local _ .vmem, ⟨11, _⟩ => ⟨S1024x1024, .bf16⟩
  | .local _ .vmem, ⟨12, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S8192x2048 : Shape := ⟨2, ![8192, 2048]⟩
abbrev S1x8192 : Shape := ⟨2, ![1, 8192]⟩
abbrev S2x2048x9216 : Shape := ⟨3, ![2, 2048, 9216]⟩
abbrev S1x2048x9216 : Shape := ⟨3, ![1, 2048, 9216]⟩
abbrev S2048x9216 : Shape := ⟨2, ![2048, 9216]⟩
abbrev S8192x9216 : Shape := ⟨2, ![8192, 9216]⟩
abbrev S1x8192x9216 : Shape := ⟨3, ![1, 8192, 9216]⟩
abbrev S1x8192x1024 : Shape := ⟨3, ![1, 8192, 1024]⟩
abbrev S1x8192x8x128 : Shape := ⟨4, ![1, 8192, 8, 128]⟩
abbrev S16 : Shape := ⟨1, ![16]⟩
abbrev S_ : Shape := ⟨0, ![]⟩
abbrev S1x8192x1x1 : Shape := ⟨4, ![1, 8192, 1, 1]⟩
abbrev S1x1x1x16 : Shape := ⟨4, ![1, 1, 1, 16]⟩
abbrev S1x8192x1x16 : Shape := ⟨4, ![1, 8192, 1, 16]⟩
abbrev S1x8192x8x16 : Shape := ⟨4, ![1, 8192, 8, 16]⟩
abbrev S1x8192x8x32 : Shape := ⟨4, ![1, 8192, 8, 32]⟩
abbrev S1x8192x8x96 : Shape := ⟨4, ![1, 8192, 8, 96]⟩
abbrev S1x8192x3072 : Shape := ⟨3, ![1, 8192, 3072]⟩
abbrev S8192x3072 : Shape := ⟨2, ![8192, 3072]⟩

abbrev nBuf : Space → Nat
  | .hbm => 83
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x8192, .i32⟩
  | .hbm, ⟨2, _⟩ => ⟨S2x2048x9216, .f32⟩
  | .hbm, ⟨3, _⟩ => ⟨S8192x2048, .f32⟩
  | .hbm, ⟨4, _⟩ => ⟨S1x2048x9216, .f32⟩
  | .hbm, ⟨5, _⟩ => ⟨S2048x9216, .f32⟩
  | .hbm, ⟨6, _⟩ => ⟨S8192x9216, .f32⟩
  | .hbm, ⟨7, _⟩ => ⟨S1x8192x9216, .f32⟩
  | .hbm, ⟨8, _⟩ => ⟨S1x8192x1024, .f32⟩
  | .hbm, ⟨9, _⟩ => ⟨S1x8192x1024, .f32⟩
  | .hbm, ⟨10, _⟩ => ⟨S1x8192x1024, .f32⟩
  | .hbm, ⟨11, _⟩ => ⟨S1x8192x8x128, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S1x8192, .f32⟩
  | .hbm, ⟨21, _⟩ => ⟨S1x8192x1x1, .f32⟩
  | .hbm, ⟨22, _⟩ => ⟨S1x1x1x16, .f32⟩
  | .hbm, ⟨23, _⟩ => ⟨S1x8192x1x16, .f32⟩
  | .hbm, ⟨24, _⟩ => ⟨S1x8192x1x16, .f32⟩
  | .hbm, ⟨25, _⟩ => ⟨S1x8192x1x16, .f32⟩
  | .hbm, ⟨26, _⟩ => ⟨S1x8192x1x16, .f32⟩
  | .hbm, ⟨27, _⟩ => ⟨S1x8192x1x16, .f32⟩
  | .hbm, ⟨28, _⟩ => ⟨S1x8192x8x16, .f32⟩
  | .hbm, ⟨29, _⟩ => ⟨S1x8192x8x16, .f32⟩
  | .hbm, ⟨30, _⟩ => ⟨S1x8192x8x16, .f32⟩
  | .hbm, ⟨31, _⟩ => ⟨S1x8192x8x16, .f32⟩
  | .hbm, ⟨32, _⟩ => ⟨S1x8192x8x16, .f32⟩
  | .hbm, ⟨33, _⟩ => ⟨S1x8192x8x16, .f32⟩
  | .hbm, ⟨34, _⟩ => ⟨S1x8192x8x16, .f32⟩
  | .hbm, ⟨35, _⟩ => ⟨S1x8192x8x16, .f32⟩
  | .hbm, ⟨36, _⟩ => ⟨S1x8192x8x16, .f32⟩
  | .hbm, ⟨37, _⟩ => ⟨S1x8192x8x16, .f32⟩
  | .hbm, ⟨38, _⟩ => ⟨S1x8192x8x16, .f32⟩
  | .hbm, ⟨39, _⟩ => ⟨S1x8192x8x16, .f32⟩
  | .hbm, ⟨40, _⟩ => ⟨S1x8192x8x32, .f32⟩
  | .hbm, ⟨41, _⟩ => ⟨S1x8192x8x96, .f32⟩
  | .hbm, ⟨42, _⟩ => ⟨S1x8192x8x128, .f32⟩
  | .hbm, ⟨43, _⟩ => ⟨S_, .f32⟩
  | .hbm, ⟨44, _⟩ => ⟨S1x8192x8x128, .f32⟩
  | .hbm, ⟨45, _⟩ => ⟨S1x8192x8x128, .f32⟩
  | .hbm, ⟨46, _⟩ => ⟨S1x8192x8x128, .f32⟩
  | .hbm, ⟨47, _⟩ => ⟨S16, .f32⟩
  | .hbm, ⟨48, _⟩ => ⟨S16, .f32⟩
  | .hbm, ⟨49, _⟩ => ⟨S_, .f32⟩
  | .hbm, ⟨50, _⟩ => ⟨S16, .f32⟩
  | .hbm, ⟨51, _⟩ => ⟨S16, .f32⟩
  | .hbm, ⟨52, _⟩ => ⟨S_, .f32⟩
  | .hbm, ⟨53, _⟩ => ⟨S16, .f32⟩
  | .hbm, ⟨54, _⟩ => ⟨S16, .f32⟩
  | .hbm, ⟨55, _⟩ => ⟨S1x8192, .f32⟩
  | .hbm, ⟨56, _⟩ => ⟨S1x8192x1x1, .f32⟩
  | .hbm, ⟨57, _⟩ => ⟨S1x1x1x16, .f32⟩
  | .hbm, ⟨58, _⟩ => ⟨S1x8192x1x16, .f32⟩
  | .hbm, ⟨59, _⟩ => ⟨S1x8192x1x16, .f32⟩
  | .hbm, ⟨60, _⟩ => ⟨S1x8192x1x16, .f32⟩
  | .hbm, ⟨61, _⟩ => ⟨S1x8192x1x16, .f32⟩
  | .hbm, ⟨62, _⟩ => ⟨S1x8192x1x16, .f32⟩
  | .hbm, ⟨63, _⟩ => ⟨S1x8192x8x16, .f32⟩
  | .hbm, ⟨64, _⟩ => ⟨S1x8192x8x16, .f32⟩
  | .hbm, ⟨65, _⟩ => ⟨S1x8192x8x16, .f32⟩
  | .hbm, ⟨66, _⟩ => ⟨S1x8192x8x16, .f32⟩
  | .hbm, ⟨67, _⟩ => ⟨S1x8192x8x16, .f32⟩
  | .hbm, ⟨68, _⟩ => ⟨S1x8192x8x16, .f32⟩
  | .hbm, ⟨69, _⟩ => ⟨S1x8192x8x16, .f32⟩
  | .hbm, ⟨70, _⟩ => ⟨S1x8192x8x16, .f32⟩
  | .hbm, ⟨71, _⟩ => ⟨S1x8192x8x16, .f32⟩
  | .hbm, ⟨72, _⟩ => ⟨S1x8192x8x16, .f32⟩
  | .hbm, ⟨73, _⟩ => ⟨S1x8192x8x16, .f32⟩
  | .hbm, ⟨74, _⟩ => ⟨S1x8192x8x16, .f32⟩
  | .hbm, ⟨75, _⟩ => ⟨S1x8192x8x32, .f32⟩
  | .hbm, ⟨76, _⟩ => ⟨S1x8192x8x96, .f32⟩
  | .hbm, ⟨77, _⟩ => ⟨S1x8192x8x128, .f32⟩
  | .hbm, ⟨78, _⟩ => ⟨S1x8192x1024, .f32⟩
  | .hbm, ⟨79, _⟩ => ⟨S1x8192x1024, .f32⟩
  | .hbm, ⟨80, _⟩ => ⟨S1x8192x3072, .f32⟩
  | .hbm, ⟨81, _⟩ => ⟨S8192x3072, .f32⟩
  | .hbm, ⟨82, _⟩ => ⟨S8192x3072, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_cst_1 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_cst_2 : Ref sig .tc := ⟨.hbm, 49, rfl⟩
abbrev main_v43 : Ref sig .tc := ⟨.hbm, 50, rfl⟩
abbrev main_v44 : Ref sig .tc := ⟨.hbm, 51, rfl⟩
abbrev main_cst_3 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩

abbrev nD : Nat := 1
abbrev τ : Topo := Topo.v7x

variable {F : FTy → Type} [FloatOps F]
-- ==== Kernel7.lean ====
abbrev S8192x2048 : Shape := ⟨2, ![8192, 2048]⟩
abbrev S8192x1024 : Shape := ⟨2, ![8192, 1024]⟩
abbrev S2x3072x2048 : Shape := ⟨3, ![2, 3072, 2048]⟩
abbrev S4x6x2048 : Shape := ⟨3, ![4, 6, 2048]⟩
abbrev S512x1024 : Shape := ⟨2, ![512, 1024]⟩
abbrev S1x1024x2048 : Shape := ⟨3, ![1, 1024, 2048]⟩
abbrev S512x2048 : Shape := ⟨2, ![512, 2048]⟩
abbrev S1x6x2048 : Shape := ⟨3, ![1, 6, 2048]⟩
abbrev S1024x2048 : Shape := ⟨2, ![1024, 2048]⟩
abbrev S256x2048 : Shape := ⟨2, ![256, 2048]⟩
abbrev S256x1024 : Shape := ⟨2, ![256, 1024]⟩
abbrev S1x1x2048 : Shape := ⟨3, ![1, 1, 2048]⟩
abbrev S1x2048 : Shape := ⟨2, ![1, 2048]⟩
abbrev S256 : Shape := ⟨1, ![256]⟩
abbrev S256x1 : Shape := ⟨2, ![256, 1]⟩

abbrev nBuf : Space → Nat
  | .hbm => 8
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2x3072x2048, .f32⟩
  | .hbm, ⟨3, _⟩ => ⟨S8192x2048, .f32⟩
  | .hbm, ⟨4, _⟩ => ⟨S4x6x2048, .f32⟩
  | .hbm, ⟨5, _⟩ => ⟨S2x3072x2048, .bf16⟩
  | .hbm, ⟨6, _⟩ => ⟨S8192x2048, .f32⟩
  | .hbm, ⟨7, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S512x1024, .bf16⟩
  | .local _ .vmem, ⟨5, _⟩ => ⟨S512x1024, .bf16⟩
  | .local _ .vmem, ⟨6, _⟩ => ⟨S1x1024x2048, .bf16⟩
  | .local _ .vmem, ⟨7, _⟩ => ⟨S512x2048, .f32⟩
  | .local _ .vmem, ⟨8, _⟩ => ⟨S512x2048, .f32⟩
  | .local _ .vmem, ⟨9, _⟩ => ⟨S1x6x2048, .f32⟩
  | .local _ .vmem, ⟨10, _⟩ => ⟨S1x6x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .bf16⟩
  | .local _ .vmem, ⟨15, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 2], ![false, false]⟩

def k0_cond3 (i : grid0.Coords) : BitVec 1 :=
  let arg1 : BitVec 32 := BitVec.ofNat 32 (i 1).val
  let c1_i32_2 : BitVec 32 := 1#32
  let v6 : BitVec 1 := Scalar.cmpi .eq arg1 c1_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x6x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x6x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference7Ideal.lean ====
abbrev S8192x2048 : Shape := ⟨2, ![8192, 2048]⟩
abbrev S8192x1024 : Shape := ⟨2, ![8192, 1024]⟩
abbrev S2x3072x2048 : Shape := ⟨3, ![2, 3072, 2048]⟩
abbrev S4x6x2048 : Shape := ⟨3, ![4, 6, 2048]⟩
abbrev S1x6x2048 : Shape := ⟨3, ![1, 6, 2048]⟩
abbrev S6x2048 : Shape := ⟨2, ![6, 2048]⟩
abbrev S8192x3072 : Shape := ⟨2, ![8192, 3072]⟩
abbrev S1x3072x2048 : Shape := ⟨3, ![1, 3072, 2048]⟩
abbrev S3072x2048 : Shape := ⟨2, ![3072, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 50
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2x3072x2048, .f32⟩
  | .hbm, ⟨3, _⟩ => ⟨S8192x2048, .f32⟩
  | .hbm, ⟨4, _⟩ => ⟨S4x6x2048, .f32⟩
  | .hbm, ⟨5, _⟩ => ⟨S1x6x2048, .f32⟩
  | .hbm, ⟨6, _⟩ => ⟨S6x2048, .f32⟩
  | .hbm, ⟨7, _⟩ => ⟨S8192x3072, .bf16⟩
  | .hbm, ⟨8, _⟩ => ⟨S8192x3072, .f32⟩
  | .hbm, ⟨9, _⟩ => ⟨S1x3072x2048, .f32⟩
  | .hbm, ⟨10, _⟩ => ⟨S3072x2048, .f32⟩
  | .hbm, ⟨11, _⟩ => ⟨S8192x2048, .f32⟩
  | .hbm, ⟨12, _⟩ => ⟨S1x2048, .f32⟩
  | .hbm, ⟨13, _⟩ => ⟨S2048, .f32⟩
  | .hbm, ⟨14, _⟩ => ⟨S8192x2048, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x2048, .f32⟩
  | .hbm, ⟨26, _⟩ => ⟨S8192x2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S1x2048, .f32⟩
  | .hbm, ⟨32, _⟩ => ⟨S2048, .f32⟩
  | .hbm, ⟨33, _⟩ => ⟨S8192x2048, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S8192x2048, .f32⟩
  | .hbm, ⟨45, _⟩ => ⟨S8192x2048, .f32⟩
  | .hbm, ⟨46, _⟩ => ⟨S1x2048, .f32⟩
  | .hbm, ⟨47, _⟩ => ⟨S8192x2048, .f32⟩
  | .hbm, ⟨48, _⟩ => ⟨S8192x2048, .f32⟩
  | .hbm, ⟨49, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Kernel8.lean ====
abbrev S8192x2048 : Shape := ⟨2, ![8192, 2048]⟩
abbrev S1x8192 : Shape := ⟨2, ![1, 8192]⟩
abbrev S2x2048x5168 : Shape := ⟨3, ![2, 2048, 5168]⟩
abbrev S8192 : Shape := ⟨1, ![8192]⟩
abbrev S8192x1 : Shape := ⟨2, ![8192, 1]⟩
abbrev S64 : Shape := ⟨1, ![64]⟩
abbrev S_ : Shape := ⟨0, ![]⟩
abbrev S1x64 : Shape := ⟨2, ![1, 64]⟩
abbrev S8192x64 : Shape := ⟨2, ![8192, 64]⟩
abbrev S8192x128 : Shape := ⟨2, ![8192, 128]⟩
abbrev S16 : Shape := ⟨1, ![16]⟩
abbrev S1x16 : Shape := ⟨2, ![1, 16]⟩
abbrev S8192x16 : Shape := ⟨2, ![8192, 16]⟩
abbrev S8192x96 : Shape := ⟨2, ![8192, 96]⟩
abbrev S8192x5120 : Shape := ⟨2, ![8192, 5120]⟩
abbrev S1024x2048 : Shape := ⟨2, ![1024, 2048]⟩
abbrev S1x2048x1024 : Shape := ⟨3, ![1, 2048, 1024]⟩
abbrev S1024x128 : Shape := ⟨2, ![1024, 128]⟩
abbrev S1024x1024 : Shape := ⟨2, ![1024, 1024]⟩
abbrev S2048x1024 : Shape := ⟨2, ![2048, 1024]⟩

abbrev nBuf : Space → Nat
  | .hbm => 48
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S1x8192, .i32⟩
  | .hbm, ⟨2, _⟩ => ⟨S2x2048x5168, .f32⟩
  | .hbm, ⟨3, _⟩ => ⟨S8192, .i32⟩
  | .hbm, ⟨4, _⟩ => ⟨S8192, .f32⟩
  | .hbm, ⟨5, _⟩ => ⟨S8192x1, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S1x64, .f32⟩
  | .hbm, ⟨15, _⟩ => ⟨S8192x64, .f32⟩
  | .hbm, ⟨16, _⟩ => ⟨S8192x64, .f32⟩
  | .hbm, ⟨17, _⟩ => ⟨S8192x64, .f32⟩
  | .hbm, ⟨18, _⟩ => ⟨S8192x64, .f32⟩
  | .hbm, ⟨19, _⟩ => ⟨S8192x64, .f32⟩
  | .hbm, ⟨20, _⟩ => ⟨S8192x128, .f32⟩
  | .hbm, ⟨21, _⟩ => ⟨S8192x64, .f32⟩
  | .hbm, ⟨22, _⟩ => ⟨S8192x128, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S1x16, .f32⟩
  | .hbm, ⟨32, _⟩ => ⟨S8192x16, .f32⟩
  | .hbm, ⟨33, _⟩ => ⟨S8192x16, .f32⟩
  | .hbm, ⟨34, _⟩ => ⟨S8192x16, .f32⟩
  | .hbm, ⟨35, _⟩ => ⟨S8192x16, .f32⟩
  | .hbm, ⟨36, _⟩ => ⟨S8192x16, .f32⟩
  | .hbm, ⟨37, _⟩ => ⟨S_, .f32⟩
  | .hbm, ⟨38, _⟩ => ⟨S8192x96, .f32⟩
  | .hbm, ⟨39, _⟩ => ⟨S_, .f32⟩
  | .hbm, ⟨40, _⟩ => ⟨S8192x96, .f32⟩
  | .hbm, ⟨41, _⟩ => ⟨S_, .f32⟩
  | .hbm, ⟨42, _⟩ => ⟨S8192x16, .f32⟩
  | .hbm, ⟨43, _⟩ => ⟨S8192x128, .f32⟩
  | .hbm, ⟨44, _⟩ => ⟨S8192x128, .f32⟩
  | .hbm, ⟨45, _⟩ => ⟨S8192x16, .f32⟩
  | .hbm, ⟨46, _⟩ => ⟨S8192x128, .f32⟩
  | .hbm, ⟨47, _⟩ => ⟨S8192x5120, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | .local _ .vmem, ⟨11, _⟩ => ⟨S1024x1024, .bf16⟩
  | .local _ .vmem, ⟨12, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![5, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference8Ideal.lean ====
abbrev S8192x2048 : Shape := ⟨2, ![8192, 2048]⟩
abbrev S1x8192 : Shape := ⟨2, ![1, 8192]⟩
abbrev S2x2048x5168 : Shape := ⟨3, ![2, 2048, 5168]⟩
abbrev S1x2048x5168 : Shape := ⟨3, ![1, 2048, 5168]⟩
abbrev S2048x5168 : Shape := ⟨2, ![2048, 5168]⟩
abbrev S8192x5168 : Shape := ⟨2, ![8192, 5168]⟩
abbrev S1x8192x5168 : Shape := ⟨3, ![1, 8192, 5168]⟩
abbrev S1x8192x2048 : Shape := ⟨3, ![1, 8192, 2048]⟩
abbrev S1x8192x512 : Shape := ⟨3, ![1, 8192, 512]⟩
abbrev S1x8192x16x128 : Shape := ⟨4, ![1, 8192, 16, 128]⟩
abbrev S16 : Shape := ⟨1, ![16]⟩
abbrev S_ : Shape := ⟨0, ![]⟩
abbrev S1x8192x1x1 : Shape := ⟨4, ![1, 8192, 1, 1]⟩
abbrev S1x1x1x16 : Shape := ⟨4, ![1, 1, 1, 16]⟩
abbrev S1x8192x1x16 : Shape := ⟨4, ![1, 8192, 1, 16]⟩
abbrev S1x8192x16x16 : Shape := ⟨4, ![1, 8192, 16, 16]⟩
abbrev S1x8192x16x32 : Shape := ⟨4, ![1, 8192, 16, 32]⟩
abbrev S1x8192x16x96 : Shape := ⟨4, ![1, 8192, 16, 96]⟩
abbrev S1x8192x4x128 : Shape := ⟨4, ![1, 8192, 4, 128]⟩
abbrev S1x8192x4x16 : Shape := ⟨4, ![1, 8192, 4, 16]⟩
abbrev S1x8192x4x32 : Shape := ⟨4, ![1, 8192, 4, 32]⟩
abbrev S1x8192x4x96 : Shape := ⟨4, ![1, 8192, 4, 96]⟩
abbrev S1x8192x5120 : Shape := ⟨3, ![1, 8192, 5120]⟩
abbrev S8192x5120 : Shape := ⟨2, ![8192, 5120]⟩

abbrev nBuf : Space → Nat
  | .hbm => 153
  | .vmem => 0
  | .smem => 0
  | _ => 0

abbrev hbmTy0_0 (i : Nat) : BufTy := match i % 128 with
  | 0 => ⟨S8192x2048, .bf16⟩
  | 1 => ⟨S1x8192, .i32⟩
  | 2 => ⟨S2x2048x5168, .f32⟩
  | 3 => ⟨S8192x2048, .f32⟩
  | 4 => ⟨S1x2048x5168, .f32⟩
  | 5 => ⟨S2048x5168, .f32⟩
  | 6 => ⟨S8192x5168, .f32⟩
  | 7 => ⟨S1x8192x5168, .f32⟩
  | 8 => ⟨S1x8192x2048, .f32⟩
  | 9 => ⟨S1x8192x512, .f32⟩
  | 10 => ⟨S1x8192x512, .f32⟩
  | 11 => ⟨S1x8192x512, .f32⟩
  | 12 => ⟨S1x8192x512, .f32⟩
  | 13 => ⟨S1x8192x512, .f32⟩
  | 14 => ⟨S1x8192x512, .f32⟩
  | 15 => ⟨S1x8192x16x128, .f32⟩
  | 16 => ⟨S16, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S1x8192, .f32⟩
  | 25 => ⟨S1x8192x1x1, .f32⟩
  | 26 => ⟨S1x1x1x16, .f32⟩
  | 27 => ⟨S1x8192x1x16, .f32⟩
  | 28 => ⟨S1x8192x1x16, .f32⟩
  | 29 => ⟨S1x8192x1x16, .f32⟩
  | 30 => ⟨S1x8192x1x16, .f32⟩
  | 31 => ⟨S1x8192x1x16, .f32⟩
  | 32 => ⟨S1x8192x16x16, .f32⟩
  | 33 => ⟨S1x8192x16x16, .f32⟩
  | 34 => ⟨S1x8192x16x16, .f32⟩
  | 35 => ⟨S1x8192x16x16, .f32⟩
  | 36 => ⟨S1x8192x16x16, .f32⟩
  | 37 => ⟨S1x8192x16x16, .f32⟩
  | 38 => ⟨S1x8192x16x16, .f32⟩
  | 39 => ⟨S1x8192x16x16, .f32⟩
  | 40 => ⟨S1x8192x16x16, .f32⟩
  | 41 => ⟨S1x8192x16x16, .f32⟩
  | 42 => ⟨S1x8192x16x16, .f32⟩
  | 43 => ⟨S1x8192x16x16, .f32⟩
  | 44 => ⟨S1x8192x16x32, .f32⟩
  | 45 => ⟨S1x8192x16x96, .f32⟩
  | 46 => ⟨S1x8192x16x128, .f32⟩
  | 47 => ⟨S_, .f32⟩
  | 48 => ⟨S1x8192x16x128, .f32⟩
  | 49 => ⟨S1x8192x16x128, .f32⟩
  | 50 => ⟨S1x8192x4x128, .f32⟩
  | 51 => ⟨S16, .f32⟩
  | 52 => ⟨S16, .f32⟩
  | 53 => ⟨S_, .f32⟩
  | 54 => ⟨S16, .f32⟩
  | 55 => ⟨S16, .f32⟩
  | 56 => ⟨S_, .f32⟩
  | 57 => ⟨S16, .f32⟩
  | 58 => ⟨S16, .f32⟩
  | 59 => ⟨S1x8192, .f32⟩
  | 60 => ⟨S1x8192x1x1, .f32⟩
  | 61 => ⟨S1x1x1x16, .f32⟩
  | 62 => ⟨S1x8192x1x16, .f32⟩
  | 63 => ⟨S1x8192x1x16, .f32⟩
  | 64 => ⟨S1x8192x1x16, .f32⟩
  | 65 => ⟨S1x8192x1x16, .f32⟩
  | 66 => ⟨S1x8192x1x16, .f32⟩
  | 67 => ⟨S1x8192x4x16, .f32⟩
  | 68 => ⟨S1x8192x4x16, .f32⟩
  | 69 => ⟨S1x8192x4x16, .f32⟩
  | 70 => ⟨S1x8192x4x16, .f32⟩
  | 71 => ⟨S1x8192x4x16, .f32⟩
  | 72 => ⟨S1x8192x4x16, .f32⟩
  | 73 => ⟨S1x8192x4x16, .f32⟩
  | 74 => ⟨S1x8192x4x16, .f32⟩
  | 75 => ⟨S1x8192x4x16, .f32⟩
  | 76 => ⟨S1x8192x4x16, .f32⟩
  | 77 => ⟨S1x8192x4x16, .f32⟩
  | 78 => ⟨S1x8192x4x16, .f32⟩
  | 79 => ⟨S1x8192x4x32, .f32⟩
  | 80 => ⟨S1x8192x4x96, .f32⟩
  | 81 => ⟨S1x8192x4x128, .f32⟩
  | 82 => ⟨S1x8192x4x128, .f32⟩
  | 83 => ⟨S16, .f32⟩
  | 84 => ⟨S16, .f32⟩
  | 85 => ⟨S_, .f32⟩
  | 86 => ⟨S16, .f32⟩
  | 87 => ⟨S16, .f32⟩
  | 88 => ⟨S_, .f32⟩
  | 89 => ⟨S16, .f32⟩
  | 90 => ⟨S16, .f32⟩
  | 91 => ⟨S1x8192, .f32⟩
  | 92 => ⟨S1x8192x1x1, .f32⟩
  | 93 => ⟨S1x1x1x16, .f32⟩
  | 94 => ⟨S1x8192x1x16, .f32⟩
  | 95 => ⟨S1x8192x1x16, .f32⟩
  | 96 => ⟨S1x8192x1x16, .f32⟩
  | 97 => ⟨S1x8192x1x16, .f32⟩
  | 98 => ⟨S1x8192x1x16, .f32⟩
  | 99 => ⟨S1x8192x4x16, .f32⟩
  | 100 => ⟨S1x8192x4x16, .f32⟩
  | 101 => ⟨S1x8192x4x16, .f32⟩
  | 102 => ⟨S1x8192x4x16, .f32⟩
  | 103 => ⟨S1x8192x4x16, .f32⟩
  | 104 => ⟨S1x8192x4x16, .f32⟩
  | 105 => ⟨S1x8192x4x16, .f32⟩
  | 106 => ⟨S1x8192x4x16, .f32⟩
  | 107 => ⟨S1x8192x4x16, .f32⟩
  | 108 => ⟨S1x8192x4x16, .f32⟩
  | 109 => ⟨S1x8192x4x16, .f32⟩
  | 110 => ⟨S1x8192x4x16, .f32⟩
  | 111 => ⟨S1x8192x4x32, .f32⟩
  | 112 => ⟨S1x8192x4x96, .f32⟩
  | 113 => ⟨S1x8192x4x128, .f32⟩
  | 114 => ⟨S1x8192x4x128, .f32⟩
  | 115 => ⟨S16, .f32⟩
  | 116 => ⟨S16, .f32⟩
  | 117 => ⟨S_, .f32⟩
  | 118 => ⟨S16, .f32⟩
  | 119 => ⟨S16, .f32⟩
  | 120 => ⟨S_, .f32⟩
  | 121 => ⟨S16, .f32⟩
  | 122 => ⟨S16, .f32⟩
  | 123 => ⟨S1x8192, .f32⟩
  | 124 => ⟨S1x8192x1x1, .f32⟩
  | 125 => ⟨S1x1x1x16, .f32⟩
  | 126 => ⟨S1x8192x1x16, .f32⟩
  | 127 => ⟨S1x8192x1x16, .f32⟩
  | _ => ⟨S8192x2048, .bf16⟩

abbrev hbmTy0_1 (i : Nat) : BufTy := match i % 128 with
  | 0 => ⟨S1x8192x1x16, .f32⟩
  | 1 => ⟨S1x8192x1x16, .f32⟩
  | 2 => ⟨S1x8192x1x16, .f32⟩
  | 3 => ⟨S1x8192x4x16, .f32⟩
  | 4 => ⟨S1x8192x4x16, .f32⟩
  | 5 => ⟨S1x8192x4x16, .f32⟩
  | 6 => ⟨S1x8192x4x16, .f32⟩
  | 7 => ⟨S1x8192x4x16, .f32⟩
  | 8 => ⟨S1x8192x4x16, .f32⟩
  | 9 => ⟨S1x8192x4x16, .f32⟩
  | 10 => ⟨S1x8192x4x16, .f32⟩
  | 11 => ⟨S1x8192x4x16, .f32⟩
  | 12 => ⟨S1x8192x4x16, .f32⟩
  | 13 => ⟨S1x8192x4x16, .f32⟩
  | 14 => ⟨S1x8192x4x16, .f32⟩
  | 15 => ⟨S1x8192x4x32, .f32⟩
  | 16 => ⟨S1x8192x4x96, .f32⟩
  | 17 => ⟨S1x8192x4x128, .f32⟩
  | 18 => ⟨S1x8192x2048, .f32⟩
  | 19 => ⟨S1x8192x512, .f32⟩
  | 20 => ⟨S1x8192x512, .f32⟩
  | 21 => ⟨S1x8192x512, .f32⟩
  | 22 => ⟨S1x8192x5120, .f32⟩
  | 23 => ⟨S8192x5120, .f32⟩
  | 24 => ⟨S8192x5120, .bf16⟩
  | _ => ⟨S8192x2048, .bf16⟩

abbrev hbmTy (i : Nat) : BufTy := match i / 128 with
  | 0 => hbmTy0_0 i
  | 1 => hbmTy0_1 i
  | _ => ⟨S8192x2048, .bf16⟩

abbrev bufTy : (tb : Table) → Fin (tcTables nBuf tb) → BufTy
  | .hbm, ⟨i, _⟩ => hbmTy i
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_cst_1 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_cst_2 : Ref sig .tc := ⟨.hbm, 53, rfl⟩
abbrev main_v47 : Ref sig .tc := ⟨.hbm, 54, rfl⟩
abbrev main_v48 : Ref sig .tc := ⟨.hbm, 55, rfl⟩
abbrev main_cst_3 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_cst_4 : Ref sig .tc := ⟨.hbm, 85, rfl⟩
abbrev main_v77 : Ref sig .tc := ⟨.hbm, 86, rfl⟩
abbrev main_v78 : Ref sig .tc := ⟨.hbm, 87, rfl⟩
abbrev main_cst_5 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_cst_6 : Ref sig .tc := ⟨.hbm, 117, rfl⟩
abbrev main_v107 : Ref sig .tc := ⟨.hbm, 118, rfl⟩
abbrev main_v108 : Ref sig .tc := ⟨.hbm, 119, rfl⟩
abbrev main_cst_7 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩

abbrev nD : Nat := 1
abbrev τ : Topo := Topo.v7x

variable {F : FTy → Type} [FloatOps F]
-- ==== Kernel9.lean ====
abbrev S8192x2048 : Shape := ⟨2, ![8192, 2048]⟩
abbrev S2x2048x2048 : Shape := ⟨3, ![2, 2048, 2048]⟩
abbrev S4x6x2048 : Shape := ⟨3, ![4, 6, 2048]⟩
abbrev S512x2048 : Shape := ⟨2, ![512, 2048]⟩
abbrev S1x2048x2048 : Shape := ⟨3, ![1, 2048, 2048]⟩
abbrev S1x6x2048 : Shape := ⟨3, ![1, 6, 2048]⟩
abbrev S256x2048 : Shape := ⟨2, ![256, 2048]⟩
abbrev S2048x2048 : Shape := ⟨2, ![2048, 2048]⟩
abbrev S1x1x2048 : Shape := ⟨3, ![1, 1, 2048]⟩
abbrev S1x2048 : Shape := ⟨2, ![1, 2048]⟩
abbrev S256 : Shape := ⟨1, ![256]⟩
abbrev S256x1 : Shape := ⟨2, ![256, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S4x6x2048, .f32⟩
  | .hbm, ⟨4, _⟩ => ⟨S2x2048x2048, .bf16⟩
  | .hbm, ⟨5, _⟩ => ⟨S8192x2048, .f32⟩
  | .hbm, ⟨6, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S1x6x2048, .f32⟩
  | .local _ .vmem, ⟨6, _⟩ => ⟨S1x6x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x6x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x6x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference9Ideal.lean ====
abbrev S8192x2048 : Shape := ⟨2, ![8192, 2048]⟩
abbrev S2x2048x2048 : Shape := ⟨3, ![2, 2048, 2048]⟩
abbrev S4x6x2048 : Shape := ⟨3, ![4, 6, 2048]⟩
abbrev S1x6x2048 : Shape := ⟨3, ![1, 6, 2048]⟩
abbrev S6x2048 : Shape := ⟨2, ![6, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 48
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S4x6x2048, .f32⟩
  | .hbm, ⟨4, _⟩ => ⟨S1x6x2048, .f32⟩
  | .hbm, ⟨5, _⟩ => ⟨S6x2048, .f32⟩
  | .hbm, ⟨6, _⟩ => ⟨S8192x2048, .f32⟩
  | .hbm, ⟨7, _⟩ => ⟨S1x2048x2048, .f32⟩
  | .hbm, ⟨8, _⟩ => ⟨S2048x2048, .f32⟩
  | .hbm, ⟨9, _⟩ => ⟨S8192x2048, .f32⟩
  | .hbm, ⟨10, _⟩ => ⟨S1x2048, .f32⟩
  | .hbm, ⟨11, _⟩ => ⟨S2048, .f32⟩
  | .hbm, ⟨12, _⟩ => ⟨S8192x2048, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S1x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S1x2048, .f32⟩
  | .hbm, ⟨30, _⟩ => ⟨S2048, .f32⟩
  | .hbm, ⟨31, _⟩ => ⟨S8192x2048, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S8192x2048, .f32⟩
  | .hbm, ⟨43, _⟩ => ⟨S8192x2048, .f32⟩
  | .hbm, ⟨44, _⟩ => ⟨S1x2048, .f32⟩
  | .hbm, ⟨45, _⟩ => ⟨S8192x2048, .f32⟩
  | .hbm, ⟨46, _⟩ => ⟨S8192x2048, .f32⟩
  | .hbm, ⟨47, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== Kernel10.lean ====
abbrev S8192x2048 : Shape := ⟨2, ![8192, 2048]⟩
abbrev S4x6x2048 : Shape := ⟨3, ![4, 6, 2048]⟩
abbrev S512x2048 : Shape := ⟨2, ![512, 2048]⟩
abbrev S1x6x2048 : Shape := ⟨3, ![1, 6, 2048]⟩
abbrev S1x1x2048 : Shape := ⟨3, ![1, 1, 2048]⟩
abbrev S1x2048 : Shape := ⟨2, ![1, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S4x6x2048, .f32⟩
  | .hbm, ⟨2, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x6x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S8192x2048 : Shape := ⟨2, ![8192, 2048]⟩
abbrev S4x6x2048 : Shape := ⟨3, ![4, 6, 2048]⟩
abbrev S1x1x2048 : Shape := ⟨3, ![1, 1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x6x2048, .f32⟩
  | .hbm, ⟨2, _⟩ => ⟨S1x1x2048, .f32⟩
  | .hbm, ⟨3, _⟩ => ⟨S2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel11.lean ====
abbrev S8192x2048 : Shape := ⟨2, ![8192, 2048]⟩
abbrev S2x2048x5168 : Shape := ⟨3, ![2, 2048, 5168]⟩
abbrev S2x2048x48 : Shape := ⟨3, ![2, 2048, 48]⟩
abbrev S_ : Shape := ⟨0, ![]⟩
abbrev S2x2048x128 : Shape := ⟨3, ![2, 2048, 128]⟩
abbrev S8192x128 : Shape := ⟨2, ![8192, 128]⟩
abbrev S1024x2048 : Shape := ⟨2, ![1024, 2048]⟩
abbrev S1x2048x128 : Shape := ⟨3, ![1, 2048, 128]⟩
abbrev S1024x128 : Shape := ⟨2, ![1024, 128]⟩
abbrev S2048x128 : Shape := ⟨2, ![2048, 128]⟩

abbrev nBuf : Space → Nat
  | .hbm => 7
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2x2048x5168, .f32⟩
  | .hbm, ⟨2, _⟩ => ⟨S2x2048x48, .f32⟩
  | .hbm, ⟨3, _⟩ => ⟨S_, .i32⟩
  | .hbm, ⟨4, _⟩ => ⟨S_, .f32⟩
  | .hbm, ⟨5, _⟩ => ⟨S2x2048x128, .f32⟩
  | .hbm, ⟨6, _⟩ => ⟨S8192x128, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x128, .f32⟩
  | .local _ .vmem, ⟨3, _⟩ => ⟨S1024x128, .f32⟩
  | .local _ .vmem, ⟨4, _⟩ => ⟨S1024x128, .f32⟩
  | .local _ .vmem, ⟨5, _⟩ => ⟨S2048x128, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S8192x2048 : Shape := ⟨2, ![8192, 2048]⟩
abbrev S2x2048x5168 : Shape := ⟨3, ![2, 2048, 5168]⟩
abbrev S1x2048x5168 : Shape := ⟨3, ![1, 2048, 5168]⟩
abbrev S2048x5168 : Shape := ⟨2, ![2048, 5168]⟩
abbrev S8192x5168 : Shape := ⟨2, ![8192, 5168]⟩
abbrev S8192x48 : Shape := ⟨2, ![8192, 48]⟩
abbrev S_ : Shape := ⟨0, ![]⟩
abbrev S8192x80 : Shape := ⟨2, ![8192, 80]⟩
abbrev S8192x128 : Shape := ⟨2, ![8192, 128]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x5168, .f32⟩
  | .hbm, ⟨2, _⟩ => ⟨S8192x2048, .f32⟩
  | .hbm, ⟨3, _⟩ => ⟨S1x2048x5168, .f32⟩
  | .hbm, ⟨4, _⟩ => ⟨S2048x5168, .f32⟩
  | .hbm, ⟨5, _⟩ => ⟨S8192x5168, .f32⟩
  | .hbm, ⟨6, _⟩ => ⟨S8192x48, .f32⟩
  | .hbm, ⟨7, _⟩ => ⟨S_, .f32⟩
  | .hbm, ⟨8, _⟩ => ⟨S8192x80, .f32⟩
  | .hbm, ⟨9, _⟩ => ⟨S8192x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S8192x5120 : Shape := ⟨2, ![8192, 5120]⟩
abbrev S2x32x128 : Shape := ⟨3, ![2, 32, 128]⟩
abbrev S2x4096x256 : Shape := ⟨3, ![2, 4096, 256]⟩
abbrev S2x256x128 : Shape := ⟨3, ![2, 256, 128]⟩
abbrev S8192x1024 : Shape := ⟨2, ![8192, 1024]⟩
abbrev S512x16x2x4x128 : Shape := ⟨5, ![512, 16, 2, 4, 128]⟩
abbrev S2x4x16x512x128 : Shape := ⟨5, ![2, 4, 16, 512, 128]⟩
abbrev S4x512x128 : Shape := ⟨3, ![4, 512, 128]⟩
abbrev S1x1x16x512x128 : Shape := ⟨5, ![1, 1, 16, 512, 128]⟩
abbrev S1x32x128 : Shape := ⟨3, ![1, 32, 128]⟩
abbrev S1x4096x256 : Shape := ⟨3, ![1, 4096, 256]⟩
abbrev S1x256x128 : Shape := ⟨3, ![1, 256, 128]⟩
abbrev S1x512x128 : Shape := ⟨3, ![1, 512, 128]⟩
abbrev S512x256 : Shape := ⟨2, ![512, 256]⟩
abbrev S1x1x1x512x128 : Shape := ⟨5, ![1, 1, 1, 512, 128]⟩
abbrev S512x128 : Shape := ⟨2, ![512, 128]⟩
abbrev S1x1x128 : Shape := ⟨3, ![1, 1, 128]⟩
abbrev S1x128 : Shape := ⟨2, ![1, 128]⟩
abbrev S1x128x256 : Shape := ⟨3, ![1, 128, 256]⟩
abbrev S128x256 : Shape := ⟨2, ![128, 256]⟩
abbrev S256x128 : Shape := ⟨2, ![256, 128]⟩

abbrev nBuf : Space → Nat
  | .hbm => 8
  | .vmem => 7
  | .smem => 0
  | _ => 0

abbrev bufTy : (tb : Table) → Fin (tcTables nBuf tb) → BufTy
  | .hbm, ⟨0, _⟩ => ⟨S8192x5120, .bf16⟩
  | .hbm, ⟨1, _⟩ => ⟨S2x32x128, .f32⟩
  | .hbm, ⟨2, _⟩ => ⟨S2x4096x256, .f32⟩
  | .hbm, ⟨3, _⟩ => ⟨S2x256x128, .f32⟩
  | .hbm, ⟨4, _⟩ => ⟨S8192x1024, .bf16⟩
  | .hbm, ⟨5, _⟩ => ⟨S512x16x2x4x128, .bf16⟩
  | .hbm, ⟨6, _⟩ => ⟨S2x4x16x512x128, .bf16⟩
  | .hbm, ⟨7, _⟩ => ⟨S4x512x128, .bf16⟩
  | .local _ .vmem, ⟨0, _⟩ => ⟨S1x1x16x512x128, .bf16⟩
  | .local _ .vmem, ⟨1, _⟩ => ⟨S1x1x16x512x128, .bf16⟩
  | .local _ .vmem, ⟨2, _⟩ => ⟨S1x32x128, .f32⟩
  | .local _ .vmem, ⟨3, _⟩ => ⟨S1x4096x256, .f32⟩
  | .local _ .vmem, ⟨4, _⟩ => ⟨S1x256x128, .f32⟩
  | .local _ .vmem, ⟨5, _⟩ => ⟨S1x512x128, .bf16⟩
  | .local _ .vmem, ⟨6, _⟩ => ⟨S1x512x128, .bf16⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x16x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference12Ideal.lean ====
abbrev S8192x5120 : Shape := ⟨2, ![8192, 5120]⟩
abbrev S2x32x128 : Shape := ⟨3, ![2, 32, 128]⟩
abbrev S2x4096x256 : Shape := ⟨3, ![2, 4096, 256]⟩
abbrev S2x256x128 : Shape := ⟨3, ![2, 256, 128]⟩
abbrev S512 : Shape := ⟨1, ![512]⟩
abbrev S_ : Shape := ⟨0, ![]⟩
abbrev S512x1 : Shape := ⟨2, ![512, 1]⟩
abbrev S32 : Shape := ⟨1, ![32]⟩
abbrev S1x32 : Shape := ⟨2, ![1, 32]⟩
abbrev S512x32 : Shape := ⟨2, ![512, 32]⟩
abbrev S8192x512 : Shape := ⟨2, ![8192, 512]⟩
abbrev S1x8192x4x128 : Shape := ⟨4, ![1, 8192, 4, 128]⟩
abbrev S1x16x4x128 : Shape := ⟨4, ![1, 16, 4, 128]⟩
abbrev S1x8208x4x128 : Shape := ⟨4, ![1, 8208, 4, 128]⟩
abbrev S1x32x128 : Shape := ⟨3, ![1, 32, 128]⟩
abbrev S32x128 : Shape := ⟨2, ![32, 128]⟩
abbrev S1x4096x256 : Shape := ⟨3, ![1, 4096, 256]⟩
abbrev S4096x256 : Shape := ⟨2, ![4096, 256]⟩
abbrev S1x256x128 : Shape := ⟨3, ![1, 256, 128]⟩
abbrev S256x128 : Shape := ⟨2, ![256, 128]⟩
abbrev S512x32x1 : Shape := ⟨3, ![512, 32, 1]⟩
abbrev S1x512x32x4x128 : Shape := ⟨5, ![1, 512, 32, 4, 128]⟩
abbrev S32x1x128 : Shape := ⟨3, ![32, 1, 128]⟩
abbrev S1x1x32x1x128 : Shape := ⟨5, ![1, 1, 32, 1, 128]⟩
abbrev S1x512x4x32x128 : Shape := ⟨5, ![1, 512, 4, 32, 128]⟩
abbrev S1x512x4x4096 : Shape := ⟨4, ![1, 512, 4, 4096]⟩
abbrev S1x512x4x256 : Shape := ⟨4, ![1, 512, 4, 256]⟩
abbrev S1x512x4x128 : Shape := ⟨4, ![1, 512, 4, 128]⟩
abbrev S512x4x128 : Shape := ⟨3, ![512, 4, 128]⟩
abbrev S4x512x128 : Shape := ⟨3, ![4, 512, 128]⟩

abbrev nBuf : Space → Nat
  | .hbm => 62
  | .vmem => 0
  | .smem => 0
  | _ => 0

abbrev bufTy : (tb : Table) → Fin (tcTables nBuf tb) → BufTy
  | .hbm, ⟨0, _⟩ => ⟨S8192x5120, .bf16⟩
  | .hbm, ⟨1, _⟩ => ⟨S2x32x128, .f32⟩
  | .hbm, ⟨2, _⟩ => ⟨S2x4096x256, .f32⟩
  | .hbm, ⟨3, _⟩ => ⟨S2x256x128, .f32⟩
  | .hbm, ⟨4, _⟩ => ⟨S512, .i32⟩
  | .hbm, ⟨5, _⟩ => ⟨S_, .i32⟩
  | .hbm, ⟨6, _⟩ => ⟨S512, .i32⟩
  | .hbm, ⟨7, _⟩ => ⟨S512, .i32⟩
  | .hbm, ⟨8, _⟩ => ⟨S512x1, .i32⟩
  | .hbm, ⟨9, _⟩ => ⟨S32, .i32⟩
  | .hbm, ⟨10, _⟩ => ⟨S1x32, .i32⟩
  | .hbm, ⟨11, _⟩ => ⟨S512x32, .i32⟩
  | .hbm, ⟨12, _⟩ => ⟨S512x32, .i32⟩
  | .hbm, ⟨13, _⟩ => ⟨S512x32, .i32⟩
  | .hbm, ⟨14, _⟩ => ⟨S8192x512, .bf16⟩
  | .hbm, ⟨15, _⟩ => ⟨S8192x512, .f32⟩
  | .hbm, ⟨16, _⟩ => ⟨S1x8192x4x128, .f32⟩
  | .hbm, ⟨17, _⟩ => ⟨S1x16x4x128, .f32⟩
  | .hbm, ⟨18, _⟩ => ⟨S1x8208x4x128, .f32⟩
  | .hbm, ⟨19, _⟩ => ⟨S1x32x128, .f32⟩
  | .hbm, ⟨20, _⟩ => ⟨S32x128, .f32⟩
  | .hbm, ⟨21, _⟩ => ⟨S1x4096x256, .f32⟩
  | .hbm, ⟨22, _⟩ => ⟨S4096x256, .f32⟩
  | .hbm, ⟨23, _⟩ => ⟨S1x256x128, .f32⟩
  | .hbm, ⟨24, _⟩ => ⟨S256x128, .f32⟩
  | .hbm, ⟨25, _⟩ => ⟨S_, .i32⟩
  | .hbm, ⟨26, _⟩ => ⟨S512x32, .i32⟩
  | .hbm, ⟨27, _⟩ => ⟨S512x32, .i1⟩
  | .hbm, ⟨28, _⟩ => ⟨S_, .i32⟩
  | .hbm, ⟨29, _⟩ => ⟨S512x32, .i32⟩
  | .hbm, ⟨30, _⟩ => ⟨S512x32, .i32⟩
  | .hbm, ⟨31, _⟩ => ⟨S512x32, .i32⟩
  | .hbm, ⟨32, _⟩ => ⟨S512x32x1, .i32⟩
  | .hbm, ⟨33, _⟩ => ⟨S1x512x32x4x128, .f32⟩
  | .hbm, ⟨34, _⟩ => ⟨S32x1x128, .f32⟩
  | .hbm, ⟨35, _⟩ => ⟨S1x1x32x1x128, .f32⟩
  | .hbm, ⟨36, _⟩ => ⟨S1x512x32x4x128, .f32⟩
  | .hbm, ⟨37, _⟩ => ⟨S1x512x32x4x128, .f32⟩
  | .hbm, ⟨38, _⟩ => ⟨S1x512x4x32x128, .f32⟩
  | .hbm, ⟨39, _⟩ => ⟨S1x512x4x4096, .f32⟩
  | .hbm, ⟨40, _⟩ => ⟨S1x512x4x256, .f32⟩
  | .hbm, ⟨41, _⟩ => ⟨S1x512x4x256, .f32⟩
  | .hbm, ⟨42, _⟩ => ⟨S1x512x4x256, .f32⟩
  | .hbm, ⟨43, _⟩ => ⟨S_, .f32⟩
  | .hbm, ⟨44, _⟩ => ⟨S1x512x4x256, .f32⟩
  | .hbm, ⟨45, _⟩ => ⟨S1x512x4x256, .f32⟩
  | .hbm, ⟨46, _⟩ => ⟨S1x512x4x256, .f32⟩
  | .hbm, ⟨47, _⟩ => ⟨S_, .f32⟩
  | .hbm, ⟨48, _⟩ => ⟨S1x512x4x256, .f32⟩
  | .hbm, ⟨49, _⟩ => ⟨S1x512x4x256, .f32⟩
  | .hbm, ⟨50, _⟩ => ⟨S1x512x4x256, .f32⟩
  | .hbm, ⟨51, _⟩ => ⟨S_, .f32⟩
  | .hbm, ⟨52, _⟩ => ⟨S1x512x4x256, .f32⟩
  | .hbm, ⟨53, _⟩ => ⟨S1x512x4x256, .f32⟩
  | .hbm, ⟨54, _⟩ => ⟨S_, .f32⟩
  | .hbm, ⟨55, _⟩ => ⟨S1x512x4x256, .f32⟩
  | .hbm, ⟨56, _⟩ => ⟨S1x512x4x256, .f32⟩
  | .hbm, ⟨57, _⟩ => ⟨S1x512x4x256, .f32⟩
  | .hbm, ⟨58, _⟩ => ⟨S1x512x4x128, .f32⟩
  | .hbm, ⟨59, _⟩ => ⟨S512x4x128, .f32⟩
  | .hbm, ⟨60, _⟩ => ⟨S4x512x128, .f32⟩
  | .hbm, ⟨61, _⟩ => ⟨S4x512x128, .bf16⟩
  | _, _ => ⟨S8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c_0 : Ref sig .tc := ⟨.hbm, 25, rfl⟩
abbrev main_v20 : Ref sig .tc := ⟨.hbm, 26, rfl⟩
abbrev main_v21 : Ref sig .tc := ⟨.hbm, 27, rfl⟩
abbrev main_c_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_2 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_3 : Ref sig .tc := ⟨.hbm, 51, rfl⟩
abbrev main_v42 : Ref sig .tc := ⟨.hbm, 52, rfl⟩
abbrev main_v43 : Ref sig .tc := ⟨.hbm, 53, rfl⟩
abbrev main_cst_4 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩

abbrev nD : Nat := 1
abbrev τ : Topo := Topo.v7x

variable {F : FTy → Type} [FloatOps F]
-- ==== Kernel13.lean ====
abbrev S8192x5120 : Shape := ⟨2, ![8192, 5120]⟩
abbrev S2x32x128 : Shape := ⟨3, ![2, 32, 128]⟩
abbrev S2x4096x256 : Shape := ⟨3, ![2, 4096, 256]⟩
abbrev S2x256x128 : Shape := ⟨3, ![2, 256, 128]⟩
abbrev S8192x1024 : Shape := ⟨2, ![8192, 1024]⟩
abbrev S512x16x2x4x128 : Shape := ⟨5, ![512, 16, 2, 4, 128]⟩
abbrev S2x4x16x512x128 : Shape := ⟨5, ![2, 4, 16, 512, 128]⟩
abbrev S4x512x128 : Shape := ⟨3, ![4, 512, 128]⟩
abbrev S1x1x16x512x128 : Shape := ⟨5, ![1, 1, 16, 512, 128]⟩
abbrev S1x32x128 : Shape := ⟨3, ![1, 32, 128]⟩
abbrev S1x4096x256 : Shape := ⟨3, ![1, 4096, 256]⟩
abbrev S1x256x128 : Shape := ⟨3, ![1, 256, 128]⟩
abbrev S1x512x128 : Shape := ⟨3, ![1, 512, 128]⟩
abbrev S512x256 : Shape := ⟨2, ![512, 256]⟩
abbrev S1x1x1x512x128 : Shape := ⟨5, ![1, 1, 1, 512, 128]⟩
abbrev S512x128 : Shape := ⟨2, ![512, 128]⟩
abbrev S1x1x128 : Shape := ⟨3, ![1, 1, 128]⟩
abbrev S1x128 : Shape := ⟨2, ![1, 128]⟩
abbrev S1x128x256 : Shape := ⟨3, ![1, 128, 256]⟩
abbrev S128x256 : Shape := ⟨2, ![128, 256]⟩
abbrev S256x128 : Shape := ⟨2, ![256, 128]⟩

abbrev nBuf : Space → Nat
  | .hbm => 8
  | .vmem => 7
  | .smem => 0
  | _ => 0

abbrev bufTy : (tb : Table) → Fin (tcTables nBuf tb) → BufTy
  | .hbm, ⟨0, _⟩ => ⟨S8192x5120, .bf16⟩
  | .hbm, ⟨1, _⟩ => ⟨S2x32x128, .f32⟩
  | .hbm, ⟨2, _⟩ => ⟨S2x4096x256, .f32⟩
  | .hbm, ⟨3, _⟩ => ⟨S2x256x128, .f32⟩
  | .hbm, ⟨4, _⟩ => ⟨S8192x1024, .bf16⟩
  | .hbm, ⟨5, _⟩ => ⟨S512x16x2x4x128, .bf16⟩
  | .hbm, ⟨6, _⟩ => ⟨S2x4x16x512x128, .bf16⟩
  | .hbm, ⟨7, _⟩ => ⟨S4x512x128, .bf16⟩
  | .local _ .vmem, ⟨0, _⟩ => ⟨S1x1x16x512x128, .bf16⟩
  | .local _ .vmem, ⟨1, _⟩ => ⟨S1x1x16x512x128, .bf16⟩
  | .local _ .vmem, ⟨2, _⟩ => ⟨S1x32x128, .f32⟩
  | .local _ .vmem, ⟨3, _⟩ => ⟨S1x4096x256, .f32⟩
  | .local _ .vmem, ⟨4, _⟩ => ⟨S1x256x128, .f32⟩
  | .local _ .vmem, ⟨5, _⟩ => ⟨S1x512x128, .bf16⟩
  | .local _ .vmem, ⟨6, _⟩ => ⟨S1x512x128, .bf16⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x16x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference13Ideal.lean ====
abbrev S8192x5120 : Shape := ⟨2, ![8192, 5120]⟩
abbrev S2x32x128 : Shape := ⟨3, ![2, 32, 128]⟩
abbrev S2x4096x256 : Shape := ⟨3, ![2, 4096, 256]⟩
abbrev S2x256x128 : Shape := ⟨3, ![2, 256, 128]⟩
abbrev S512 : Shape := ⟨1, ![512]⟩
abbrev S_ : Shape := ⟨0, ![]⟩
abbrev S512x1 : Shape := ⟨2, ![512, 1]⟩
abbrev S32 : Shape := ⟨1, ![32]⟩
abbrev S1x32 : Shape := ⟨2, ![1, 32]⟩
abbrev S512x32 : Shape := ⟨2, ![512, 32]⟩
abbrev S8192x512 : Shape := ⟨2, ![8192, 512]⟩
abbrev S1x8192x4x128 : Shape := ⟨4, ![1, 8192, 4, 128]⟩
abbrev S1x16x4x128 : Shape := ⟨4, ![1, 16, 4, 128]⟩
abbrev S1x8208x4x128 : Shape := ⟨4, ![1, 8208, 4, 128]⟩
abbrev S1x32x128 : Shape := ⟨3, ![1, 32, 128]⟩
abbrev S32x128 : Shape := ⟨2, ![32, 128]⟩
abbrev S1x4096x256 : Shape := ⟨3, ![1, 4096, 256]⟩
abbrev S4096x256 : Shape := ⟨2, ![4096, 256]⟩
abbrev S1x256x128 : Shape := ⟨3, ![1, 256, 128]⟩
abbrev S256x128 : Shape := ⟨2, ![256, 128]⟩
abbrev S512x32x1 : Shape := ⟨3, ![512, 32, 1]⟩
abbrev S1x512x32x4x128 : Shape := ⟨5, ![1, 512, 32, 4, 128]⟩
abbrev S32x1x128 : Shape := ⟨3, ![32, 1, 128]⟩
abbrev S1x1x32x1x128 : Shape := ⟨5, ![1, 1, 32, 1, 128]⟩
abbrev S1x512x4x32x128 : Shape := ⟨5, ![1, 512, 4, 32, 128]⟩
abbrev S1x512x4x4096 : Shape := ⟨4, ![1, 512, 4, 4096]⟩
abbrev S1x512x4x256 : Shape := ⟨4, ![1, 512, 4, 256]⟩
abbrev S1x512x4x128 : Shape := ⟨4, ![1, 512, 4, 128]⟩
abbrev S512x4x128 : Shape := ⟨3, ![512, 4, 128]⟩
abbrev S4x512x128 : Shape := ⟨3, ![4, 512, 128]⟩

abbrev nBuf : Space → Nat
  | .hbm => 62
  | .vmem => 0
  | .smem => 0
  | _ => 0

abbrev bufTy : (tb : Table) → Fin (tcTables nBuf tb) → BufTy
  | .hbm, ⟨0, _⟩ => ⟨S8192x5120, .bf16⟩
  | .hbm, ⟨1, _⟩ => ⟨S2x32x128, .f32⟩
  | .hbm, ⟨2, _⟩ => ⟨S2x4096x256, .f32⟩
  | .hbm, ⟨3, _⟩ => ⟨S2x256x128, .f32⟩
  | .hbm, ⟨4, _⟩ => ⟨S512, .i32⟩
  | .hbm, ⟨5, _⟩ => ⟨S_, .i32⟩
  | .hbm, ⟨6, _⟩ => ⟨S512, .i32⟩
  | .hbm, ⟨7, _⟩ => ⟨S512, .i32⟩
  | .hbm, ⟨8, _⟩ => ⟨S512x1, .i32⟩
  | .hbm, ⟨9, _⟩ => ⟨S32, .i32⟩
  | .hbm, ⟨10, _⟩ => ⟨S1x32, .i32⟩
  | .hbm, ⟨11, _⟩ => ⟨S512x32, .i32⟩
  | .hbm, ⟨12, _⟩ => ⟨S512x32, .i32⟩
  | .hbm, ⟨13, _⟩ => ⟨S512x32, .i32⟩
  | .hbm, ⟨14, _⟩ => ⟨S8192x512, .bf16⟩
  | .hbm, ⟨15, _⟩ => ⟨S8192x512, .f32⟩
  | .hbm, ⟨16, _⟩ => ⟨S1x8192x4x128, .f32⟩
  | .hbm, ⟨17, _⟩ => ⟨S1x16x4x128, .f32⟩
  | .hbm, ⟨18, _⟩ => ⟨S1x8208x4x128, .f32⟩
  | .hbm, ⟨19, _⟩ => ⟨S1x32x128, .f32⟩
  | .hbm, ⟨20, _⟩ => ⟨S32x128, .f32⟩
  | .hbm, ⟨21, _⟩ => ⟨S1x4096x256, .f32⟩
  | .hbm, ⟨22, _⟩ => ⟨S4096x256, .f32⟩
  | .hbm, ⟨23, _⟩ => ⟨S1x256x128, .f32⟩
  | .hbm, ⟨24, _⟩ => ⟨S256x128, .f32⟩
  | .hbm, ⟨25, _⟩ => ⟨S_, .i32⟩
  | .hbm, ⟨26, _⟩ => ⟨S512x32, .i32⟩
  | .hbm, ⟨27, _⟩ => ⟨S512x32, .i1⟩
  | .hbm, ⟨28, _⟩ => ⟨S_, .i32⟩
  | .hbm, ⟨29, _⟩ => ⟨S512x32, .i32⟩
  | .hbm, ⟨30, _⟩ => ⟨S512x32, .i32⟩
  | .hbm, ⟨31, _⟩ => ⟨S512x32, .i32⟩
  | .hbm, ⟨32, _⟩ => ⟨S512x32x1, .i32⟩
  | .hbm, ⟨33, _⟩ => ⟨S1x512x32x4x128, .f32⟩
  | .hbm, ⟨34, _⟩ => ⟨S32x1x128, .f32⟩
  | .hbm, ⟨35, _⟩ => ⟨S1x1x32x1x128, .f32⟩
  | .hbm, ⟨36, _⟩ => ⟨S1x512x32x4x128, .f32⟩
  | .hbm, ⟨37, _⟩ => ⟨S1x512x32x4x128, .f32⟩
  | .hbm, ⟨38, _⟩ => ⟨S1x512x4x32x128, .f32⟩
  | .hbm, ⟨39, _⟩ => ⟨S1x512x4x4096, .f32⟩
  | .hbm, ⟨40, _⟩ => ⟨S1x512x4x256, .f32⟩
  | .hbm, ⟨41, _⟩ => ⟨S1x512x4x256, .f32⟩
  | .hbm, ⟨42, _⟩ => ⟨S1x512x4x256, .f32⟩
  | .hbm, ⟨43, _⟩ => ⟨S_, .f32⟩
  | .hbm, ⟨44, _⟩ => ⟨S1x512x4x256, .f32⟩
  | .hbm, ⟨45, _⟩ => ⟨S1x512x4x256, .f32⟩
  | .hbm, ⟨46, _⟩ => ⟨S1x512x4x256, .f32⟩
  | .hbm, ⟨47, _⟩ => ⟨S_, .f32⟩
  | .hbm, ⟨48, _⟩ => ⟨S1x512x4x256, .f32⟩
  | .hbm, ⟨49, _⟩ => ⟨S1x512x4x256, .f32⟩
  | .hbm, ⟨50, _⟩ => ⟨S1x512x4x256, .f32⟩
  | .hbm, ⟨51, _⟩ => ⟨S_, .f32⟩
  | .hbm, ⟨52, _⟩ => ⟨S1x512x4x256, .f32⟩
  | .hbm, ⟨53, _⟩ => ⟨S1x512x4x256, .f32⟩
  | .hbm, ⟨54, _⟩ => ⟨S_, .f32⟩
  | .hbm, ⟨55, _⟩ => ⟨S1x512x4x256, .f32⟩
  | .hbm, ⟨56, _⟩ => ⟨S1x512x4x256, .f32⟩
  | .hbm, ⟨57, _⟩ => ⟨S1x512x4x256, .f32⟩
  | .hbm, ⟨58, _⟩ => ⟨S1x512x4x128, .f32⟩
  | .hbm, ⟨59, _⟩ => ⟨S512x4x128, .f32⟩
  | .hbm, ⟨60, _⟩ => ⟨S4x512x128, .f32⟩
  | .hbm, ⟨61, _⟩ => ⟨S4x512x128, .bf16⟩
  | _, _ => ⟨S8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c_0 : Ref sig .tc := ⟨.hbm, 25, rfl⟩
abbrev main_v20 : Ref sig .tc := ⟨.hbm, 26, rfl⟩
abbrev main_v21 : Ref sig .tc := ⟨.hbm, 27, rfl⟩
abbrev main_c_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_2 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_3 : Ref sig .tc := ⟨.hbm, 51, rfl⟩
abbrev main_v42 : Ref sig .tc := ⟨.hbm, 52, rfl⟩
abbrev main_v43 : Ref sig .tc := ⟨.hbm, 53, rfl⟩
abbrev main_cst_4 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩

abbrev nD : Nat := 1
abbrev τ : Topo := Topo.v7x

variable {F : FTy → Type} [FloatOps F]
-- ==== Kernel14.lean ====
abbrev S8192x5120 : Shape := ⟨2, ![8192, 5120]⟩
abbrev S4x512x128 : Shape := ⟨3, ![4, 512, 128]⟩
abbrev S512 : Shape := ⟨1, ![512]⟩
abbrev S_ : Shape := ⟨0, ![]⟩
abbrev S128 : Shape := ⟨1, ![128]⟩
abbrev S512x1 : Shape := ⟨2, ![512, 1]⟩
abbrev S1x128 : Shape := ⟨2, ![1, 128]⟩
abbrev S512x128 : Shape := ⟨2, ![512, 128]⟩
abbrev S128x512 : Shape := ⟨2, ![128, 512]⟩
abbrev S4x128x512 : Shape := ⟨3, ![4, 128, 512]⟩
abbrev S2048x8192 : Shape := ⟨2, ![2048, 8192]⟩
abbrev S4x8192x128 : Shape := ⟨3, ![4, 8192, 128]⟩
abbrev S128x2048 : Shape := ⟨2, ![128, 2048]⟩
abbrev S2048x128 : Shape := ⟨2, ![2048, 128]⟩
abbrev S4x128x128 : Shape := ⟨3, ![4, 128, 128]⟩
abbrev S512x512 : Shape := ⟨2, ![512, 512]⟩
abbrev S128x128 : Shape := ⟨2, ![128, 128]⟩
abbrev S1x512x128 : Shape := ⟨3, ![1, 512, 128]⟩
abbrev S1x512 : Shape := ⟨2, ![1, 512]⟩
abbrev S1x128x512 : Shape := ⟨3, ![1, 128, 512]⟩
abbrev S1x128x128 : Shape := ⟨3, ![1, 128, 128]⟩

abbrev nBuf : Space → Nat
  | .hbm => 39
  | .vmem => 9
  | .smem => 0
  | _ => 0

abbrev bufTy : (tb : Table) → Fin (tcTables nBuf tb) → BufTy
  | .hbm, ⟨0, _⟩ => ⟨S8192x5120, .bf16⟩
  | .hbm, ⟨1, _⟩ => ⟨S4x512x128, .bf16⟩
  | .hbm, ⟨2, _⟩ => ⟨S4x512x128, .bf16⟩
  | .hbm, ⟨3, _⟩ => ⟨S512, .i32⟩
  | .hbm, ⟨4, _⟩ => ⟨S_, .i32⟩
  | .hbm, ⟨5, _⟩ => ⟨S512, .i32⟩
  | .hbm, ⟨6, _⟩ => ⟨S512, .i32⟩
  | .hbm, ⟨7, _⟩ => ⟨S128, .i32⟩
  | .hbm, ⟨8, _⟩ => ⟨S_, .i32⟩
  | .hbm, ⟨9, _⟩ => ⟨S128, .i32⟩
  | .hbm, ⟨10, _⟩ => ⟨S128, .i32⟩
  | .hbm, ⟨11, _⟩ => ⟨S512x1, .i32⟩
  | .hbm, ⟨12, _⟩ => ⟨S1x128, .i32⟩
  | .hbm, ⟨13, _⟩ => ⟨S_, .i32⟩
  | .hbm, ⟨14, _⟩ => ⟨S1x128, .i32⟩
  | .hbm, ⟨15, _⟩ => ⟨S1x128, .i32⟩
  | .hbm, ⟨16, _⟩ => ⟨S_, .i32⟩
  | .hbm, ⟨17, _⟩ => ⟨S1x128, .i32⟩
  | .hbm, ⟨18, _⟩ => ⟨S1x128, .i32⟩
  | .hbm, ⟨19, _⟩ => ⟨S512x128, .i32⟩
  | .hbm, ⟨20, _⟩ => ⟨S512x128, .i32⟩
  | .hbm, ⟨21, _⟩ => ⟨S512x128, .i1⟩
  | .hbm, ⟨22, _⟩ => ⟨S512x1, .i32⟩
  | .hbm, ⟨23, _⟩ => ⟨S_, .i32⟩
  | .hbm, ⟨24, _⟩ => ⟨S512x1, .i32⟩
  | .hbm, ⟨25, _⟩ => ⟨S512x1, .i32⟩
  | .hbm, ⟨26, _⟩ => ⟨S_, .i32⟩
  | .hbm, ⟨27, _⟩ => ⟨S512x1, .i32⟩
  | .hbm, ⟨28, _⟩ => ⟨S512x1, .i32⟩
  | .hbm, ⟨29, _⟩ => ⟨S1x128, .i32⟩
  | .hbm, ⟨30, _⟩ => ⟨S512x128, .i32⟩
  | .hbm, ⟨31, _⟩ => ⟨S512x128, .i32⟩
  | .hbm, ⟨32, _⟩ => ⟨S512x128, .i1⟩
  | .hbm, ⟨33, _⟩ => ⟨S512x128, .i1⟩
  | .hbm, ⟨34, _⟩ => ⟨S512x128, .bf16⟩
  | .hbm, ⟨35, _⟩ => ⟨S128x512, .bf16⟩
  | .hbm, ⟨36, _⟩ => ⟨S4x128x512, .bf16⟩
  | .hbm, ⟨37, _⟩ => ⟨S2048x8192, .f32⟩
  | .hbm, ⟨38, _⟩ => ⟨S4x8192x128, .bf16⟩
  | .local _ .vmem, ⟨0, _⟩ => ⟨S128x2048, .bf16⟩
  | .local _ .vmem, ⟨1, _⟩ => ⟨S128x2048, .bf16⟩
  | .local _ .vmem, ⟨2, _⟩ => ⟨S4x512x128, .bf16⟩
  | .local _ .vmem, ⟨3, _⟩ => ⟨S4x128x512, .bf16⟩
  | .local _ .vmem, ⟨4, _⟩ => ⟨S128x512, .bf16⟩
  | .local _ .vmem, ⟨5, _⟩ => ⟨S2048x128, .f32⟩
  | .local _ .vmem, ⟨6, _⟩ => ⟨S2048x128, .f32⟩
  | .local _ .vmem, ⟨7, _⟩ => ⟨S4x128x128, .bf16⟩
  | .local _ .vmem, ⟨8, _⟩ => ⟨S4x128x128, .bf16⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_v17 : Ref sig .tc := ⟨.hbm, 25, rfl⟩
abbrev main_c_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28_0 : Ref sig .tc := ⟨.hbm, 37, rfl⟩
abbrev main_v28_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel14Ideal.lean ====
variable {F : FTy → Type} [FloatOps F] [Named F]
def κ : String → Option EReal := fun
  | "half_mask" => some ⊥
  | "mask" => some ⊥
  | _ => none
-- ==== Reference14Ideal.lean ====
abbrev S8192x5120 : Shape := ⟨2, ![8192, 5120]⟩
abbrev S4x512x128 : Shape := ⟨3, ![4, 512, 128]⟩
abbrev S511 : Shape := ⟨1, ![511]⟩
abbrev S_ : Shape := ⟨0, ![]⟩
abbrev S8192 : Shape := ⟨1, ![8192]⟩
abbrev S8192x2048 : Shape := ⟨2, ![8192, 2048]⟩
abbrev S1x8192x4x4x128 : Shape := ⟨5, ![1, 8192, 4, 4, 128]⟩
abbrev S4x511x128 : Shape := ⟨3, ![4, 511, 128]⟩
abbrev S511x4x128 : Shape := ⟨3, ![511, 4, 128]⟩
abbrev S1x511x4x128 : Shape := ⟨4, ![1, 511, 4, 128]⟩
abbrev S1x4x511x8192x4 : Shape := ⟨5, ![1, 4, 511, 8192, 4]⟩
abbrev S1x4x4x8192x511 : Shape := ⟨5, ![1, 4, 4, 8192, 511]⟩
abbrev S1x511 : Shape := ⟨2, ![1, 511]⟩
abbrev S8192x1 : Shape := ⟨2, ![8192, 1]⟩
abbrev S8192x511 : Shape := ⟨2, ![8192, 511]⟩
abbrev S1x4x4x8192 : Shape := ⟨4, ![1, 4, 4, 8192]⟩
abbrev S1x4x4x8192x1 : Shape := ⟨5, ![1, 4, 4, 8192, 1]⟩
abbrev S1x4x128x4x8192 : Shape := ⟨5, ![1, 4, 128, 4, 8192]⟩
abbrev S2048x8192 : Shape := ⟨2, ![2048, 8192]⟩

abbrev nBuf : Space → Nat
  | .hbm => 65
  | .vmem => 0
  | .smem => 0
  | _ => 0

abbrev bufTy : (tb : Table) → Fin (tcTables nBuf tb) → BufTy
  | .hbm, ⟨0, _⟩ => ⟨S8192x5120, .bf16⟩
  | .hbm, ⟨1, _⟩ => ⟨S4x512x128, .bf16⟩
  | .hbm, ⟨2, _⟩ => ⟨S4x512x128, .bf16⟩
  | .hbm, ⟨3, _⟩ => ⟨S511, .i32⟩
  | .hbm, ⟨4, _⟩ => ⟨S_, .i32⟩
  | .hbm, ⟨5, _⟩ => ⟨S511, .i32⟩
  | .hbm, ⟨6, _⟩ => ⟨S511, .i32⟩
  | .hbm, ⟨7, _⟩ => ⟨S_, .i32⟩
  | .hbm, ⟨8, _⟩ => ⟨S511, .i32⟩
  | .hbm, ⟨9, _⟩ => ⟨S511, .i32⟩
  | .hbm, ⟨10, _⟩ => ⟨S_, .i32⟩
  | .hbm, ⟨11, _⟩ => ⟨S511, .i32⟩
  | .hbm, ⟨12, _⟩ => ⟨S511, .i32⟩
  | .hbm, ⟨13, _⟩ => ⟨S8192, .i32⟩
  | .hbm, ⟨14, _⟩ => ⟨S8192x2048, .bf16⟩
  | .hbm, ⟨15, _⟩ => ⟨S8192x2048, .f32⟩
  | .hbm, ⟨16, _⟩ => ⟨S1x8192x4x4x128, .f32⟩
  | .hbm, ⟨17, _⟩ => ⟨S4x511x128, .bf16⟩
  | .hbm, ⟨18, _⟩ => ⟨S4x511x128, .f32⟩
  | .hbm, ⟨19, _⟩ => ⟨S511x4x128, .f32⟩
  | .hbm, ⟨20, _⟩ => ⟨S1x511x4x128, .f32⟩
  | .hbm, ⟨21, _⟩ => ⟨S4x511x128, .bf16⟩
  | .hbm, ⟨22, _⟩ => ⟨S4x511x128, .f32⟩
  | .hbm, ⟨23, _⟩ => ⟨S511x4x128, .f32⟩
  | .hbm, ⟨24, _⟩ => ⟨S1x511x4x128, .f32⟩
  | .hbm, ⟨25, _⟩ => ⟨S1x4x511x8192x4, .f32⟩
  | .hbm, ⟨26, _⟩ => ⟨S1x4x4x8192x511, .f32⟩
  | .hbm, ⟨27, _⟩ => ⟨S1x511, .i32⟩
  | .hbm, ⟨28, _⟩ => ⟨S8192x1, .i32⟩
  | .hbm, ⟨29, _⟩ => ⟨S8192x511, .i32⟩
  | .hbm, ⟨30, _⟩ => ⟨S8192x511, .i32⟩
  | .hbm, ⟨31, _⟩ => ⟨S8192x511, .i1⟩
  | .hbm, ⟨32, _⟩ => ⟨S_, .f32⟩
  | .hbm, ⟨33, _⟩ => ⟨S_, .f32⟩
  | .hbm, ⟨34, _⟩ => ⟨S1x4x4x8192x511, .i1⟩
  | .hbm, ⟨35, _⟩ => ⟨S1x4x4x8192x511, .f32⟩
  | .hbm, ⟨36, _⟩ => ⟨S1x4x4x8192x511, .f32⟩
  | .hbm, ⟨37, _⟩ => ⟨S_, .f32⟩
  | .hbm, ⟨38, _⟩ => ⟨S1x4x4x8192, .f32⟩
  | .hbm, ⟨39, _⟩ => ⟨S1x4x4x8192x1, .f32⟩
  | .hbm, ⟨40, _⟩ => ⟨S1x4x4x8192x1, .f32⟩
  | .hbm, ⟨41, _⟩ => ⟨S_, .f32⟩
  | .hbm, ⟨42, _⟩ => ⟨S1x4x4x8192x1, .f32⟩
  | .hbm, ⟨43, _⟩ => ⟨S1x4x4x8192x1, .i1⟩
  | .hbm, ⟨44, _⟩ => ⟨S_, .f32⟩
  | .hbm, ⟨45, _⟩ => ⟨S_, .f32⟩
  | .hbm, ⟨46, _⟩ => ⟨S1x4x4x8192x1, .f32⟩
  | .hbm, ⟨47, _⟩ => ⟨S1x4x4x8192x1, .f32⟩
  | .hbm, ⟨48, _⟩ => ⟨S1x4x4x8192x511, .f32⟩
  | .hbm, ⟨49, _⟩ => ⟨S1x4x4x8192x511, .f32⟩
  | .hbm, ⟨50, _⟩ => ⟨S_, .f32⟩
  | .hbm, ⟨51, _⟩ => ⟨S1x4x4x8192x511, .f32⟩
  | .hbm, ⟨52, _⟩ => ⟨S1x4x4x8192x511, .f32⟩
  | .hbm, ⟨53, _⟩ => ⟨S_, .f32⟩
  | .hbm, ⟨54, _⟩ => ⟨S1x4x4x8192, .f32⟩
  | .hbm, ⟨55, _⟩ => ⟨S1x4x4x8192x1, .f32⟩
  | .hbm, ⟨56, _⟩ => ⟨S_, .f32⟩
  | .hbm, ⟨57, _⟩ => ⟨S1x4x4x8192x1, .f32⟩
  | .hbm, ⟨58, _⟩ => ⟨S1x4x4x8192x1, .f32⟩
  | .hbm, ⟨59, _⟩ => ⟨S1x4x4x8192x511, .f32⟩
  | .hbm, ⟨60, _⟩ => ⟨S1x4x4x8192x511, .f32⟩
  | .hbm, ⟨61, _⟩ => ⟨S1x4x128x4x8192, .f32⟩
  | .hbm, ⟨62, _⟩ => ⟨S1x8192x4x4x128, .f32⟩
  | .hbm, ⟨63, _⟩ => ⟨S8192x2048, .f32⟩
  | .hbm, ⟨64, _⟩ => ⟨S2048x8192, .f32⟩
  | _, _ => ⟨S8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_call1_v0 : Ref sig .tc := ⟨.hbm, 45, rfl⟩
abbrev main_call1_v1 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩

abbrev nD : Nat := 1
abbrev τ : Topo := Topo.v7x

variable {F : FTy → Type} [FloatOps F]
-- ==== Proof.Tables.lean ====
/- The decays of the retention heads, as real numbers: both programs compute them from the head's and the row's number. -/
module

public import Idealize.ShloMosaic.Lib.Pointwise
public import Idealize.ShloMosaic.Lib.Pipeline.ValueKit

@[expose] public section

noncomputable section

open Idealize.ShloMosaic Idealize.ShloMosaic.TcCoe

namespace Cert.Ret

/-- A number as the programs make it of a counter. -/
def num (k : ℕ) : EReal := FloatOps.sitofp (F := Ideal) FTy.f32 (BitVec.ofNat 32 k)

/-- The logarithm of head `h`'s decay. -/
def lg (h : ℕ) : EReal := Ideal.log1p (-Ideal.pow (Ideal.ofBits .f32 0x40000000#32) (Ideal.ofBits .f32 0xC0A00000#32 - num h))

/-- The weight of a chunk's row `k` in the state after the chunk. -/
def zeta (h k : ℕ) : EReal := Ideal.exp (lg h * (Ideal.ofBits .f32 0x42FE0000#32 - num k))

/-- The weight of the entering state in a chunk's row `k`. -/
def xi (h k : ℕ) : EReal := Ideal.exp (lg h * (num k + 1))

/-- The decay of the state over a chunk. -/
def cdec (h : ℕ) : EReal := Ideal.exp (lg h * Ideal.ofBits .f32 0x43000000#32)

/-- The decay between the rows of a chunk, before the causal mask. -/
def gap (h r k : ℕ) : EReal := Ideal.exp (lg h * max (num r - num k) 0)

/-- The scale of the keys. -/
def kappa : EReal := Ideal.ofBits .f32 0x3DB504F3#32

/-- The group norm's mean of a row of 256 values. -/
def mean (f : Fin 256 → EReal) : EReal := Ideal.div (∑ e, f e) (Ideal.ofBits .f32 0x43800000#32)

/-- The group norm of a row at one place, times the gate's silu. -/
def normed (f : Fin 256 → EReal) (g : EReal) (e : Fin 256) : EReal :=
  (g * Ideal.div 1 (1 + Ideal.exp (0 - g))) * ((f e - mean f) *
    Ideal.rsqrt (mean (fun e => (f e - mean f) * (f e - mean f)) + Ideal.ofBits .f32 0x358637BD#32))

end Cert.Ret
-- ==== Proof.Blocks.lean ====
/- What one grid point of the retention kernel leaves, read at an index: the output block and the state block
as functions of the staged inputs and of the state that entered the point. -/
module

public import proofs.«01_k».proof.Proof.Gen.KernelIdeal.Value
public import proofs.«01_k».proof.Proof.Tables
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelIdeal.Ret

open Cert.KernelIdeal Cert.KernelIdeal.Gen Cert.Ret

/-- One query row of a head against its keys and the entering state, before the group norm. -/
def mix (X : FVec Ideal S128x6144 .bf16) (D : FVec Ideal S8x128x128 .f32) (Xi : FVec Ideal S8x128x256 .f32)
    (S : FVec Ideal S8x128x256 .f32) (h : Fin 8) (r : Fin 128) (e : Fin 256) : EReal :=
  (∑ k : Fin 128, ((∑ d : Fin 128, X (ix2 r ⟨h.val * 128 + d.val, by omega⟩) * X (ix2 k ⟨1024 + h.val * 128 + d.val, by omega⟩))
      * D (ix3 h r k)) * X (ix2 k ⟨2048 + h.val * 256 + e.val, by omega⟩))
    + (∑ d : Fin 128, X (ix2 r ⟨h.val * 128 + d.val, by omega⟩) * S (ix3 h d e)) * Xi (ix3 h r e)

/-- The output block at row `r`, head `h`, lane `e`. -/
def outCell (X : FVec Ideal S128x6144 .bf16) (D : FVec Ideal S8x128x128 .f32) (Xi : FVec Ideal S8x128x256 .f32)
    (S : FVec Ideal S8x128x256 .f32) (h : Fin 8) (r : Fin 128) (e : Fin 256) : EReal :=
  normed (mix X D Xi S h r) (X (ix2 r ⟨4096 + h.val * 256 + e.val, by omega⟩)) e

/-- The state block after a point, at head `h`, key lane `d`, value lane `e`. -/
def stCell (X : FVec Ideal S128x6144 .bf16) (Z : FVec Ideal S8x128x256 .f32) (Cd : FVec Ideal S8x1x256 .f32)
    (S : FVec Ideal S8x128x256 .f32) (h : Fin 8) (d : Fin 128) (e : Fin 256) : EReal :=
  S (ix3 h d e) * Cd (ix3 h 0 e)
    + ∑ k : Fin 128, X (ix2 k ⟨1024 + h.val * 128 + d.val, by omega⟩)
        * (X (ix2 k ⟨2048 + h.val * 256 + e.val, by omega⟩) * Z (ix3 h k e))

variable (m : (ℓ : Loc nD τ sig) → Buf (Elt Ideal) ℓ)

/-- At an index that the later stores cover, what the earlier stores wrote does not matter. -/
theorem canon_covered {S : Shape} {e : EltTy} {Val : EltTy → Type} [∀ e, Nonempty (Val e)] (L' : List (View.Piece Val S e)) (y : S.Idx) :
    ∀ (L : List (View.Piece Val S e)), (∃ p ∈ L, y ∈ p.1.set) → View.canon (L ++ L') y = View.canon L y
  | [], h => by obtain ⟨p, hp, _⟩ := h; exact absurd hp List.not_mem_nil
  | p :: L, h => by
    by_cases hm : y ∈ p.1.set
    · obtain ⟨x, rfl⟩ := p.1.exists_idx_of_mem hm
      show View.canon (⟨p.1, p.2⟩ :: (L ++ L')) (p.1.emb x) = View.canon (⟨p.1, p.2⟩ :: L) (p.1.emb x)
      rw [View.canon_cons_emb, View.canon_cons_emb]
    · rw [List.cons_append, View.canon_cons_of_not_mem _ _ hm, View.canon_cons_of_not_mem _ _ hm]
      obtain ⟨q, hq, hy⟩ := h
      rcases List.mem_cons.mp hq with rfl | hq
      · exact absurd hy hm
      · exact canon_covered L' y L ⟨q, hq, hy⟩

/-- After a later point the state block is the entering one, decayed, plus the point's keys times values. -/
theorem state_B (c : Dev nD) (t : Fin cfg0.N) (h0 : ¬t.val % 64 = 0) (y : S8x128x256.Idx) (q : Fin 8) (d : Fin 128) (e : Fin 256)
    (hq : (y 0).val = q.val) (hd : (y 1).val = d.val) (he : (y 2).val = e.val) :
    (outsAt0 m c t.val t.isLt).2 y
      = stCell (iblk m c 0 t) (iblk m c 2 t) (iblk m c 4 t) (outsAt0 m c (t.val - 1) (Nat.lt_of_le_of_lt (Nat.sub_le _ _) t.isLt)).2
          q d e := by
  rw [outsAt0_B m c t h0]
  frame_out
  canon_tiles x h
  case piece0 =>
    obtain rfl : q = 7 := Fin.ext (by have := (x 0).isLt; omega)
    obtain rfl : d = x 1 := Fin.ext (by omega)
    obtain rfl : e = x 2 := Fin.ext (by omega)
    open_payloads; pointwise [stCell]; simp only [read_unread_whole]
  case piece1 =>
    obtain rfl : q = 6 := Fin.ext (by have := (x 0).isLt; omega)
    obtain rfl : d = x 1 := Fin.ext (by omega)
    obtain rfl : e = x 2 := Fin.ext (by omega)
    open_payloads; pointwise [stCell]; simp only [read_unread_whole]
  case piece2 =>
    obtain rfl : q = 5 := Fin.ext (by have := (x 0).isLt; omega)
    obtain rfl : d = x 1 := Fin.ext (by omega)
    obtain rfl : e = x 2 := Fin.ext (by omega)
    open_payloads; pointwise [stCell]; simp only [read_unread_whole]
  case piece3 =>
    obtain rfl : q = 4 := Fin.ext (by have := (x 0).isLt; omega)
    obtain rfl : d = x 1 := Fin.ext (by omega)
    obtain rfl : e = x 2 := Fin.ext (by omega)
    open_payloads; pointwise [stCell]; simp only [read_unread_whole]
  case piece4 =>
    obtain rfl : q = 3 := Fin.ext (by have := (x 0).isLt; omega)
    obtain rfl : d = x 1 := Fin.ext (by omega)
    obtain rfl : e = x 2 := Fin.ext (by omega)
    open_payloads; pointwise [stCell]; simp only [read_unread_whole]
  case piece5 =>
    obtain rfl : q = 2 := Fin.ext (by have := (x 0).isLt; omega)
    obtain rfl : d = x 1 := Fin.ext (by omega)
    obtain rfl : e = x 2 := Fin.ext (by omega)
    open_payloads; pointwise [stCell]; simp only [read_unread_whole]
  case piece6 =>
    obtain rfl : q = 1 := Fin.ext (by have := (x 0).isLt; omega)
    obtain rfl : d = x 1 := Fin.ext (by omega)
    obtain rfl : e = x 2 := Fin.ext (by omega)
    open_payloads; pointwise [stCell]; simp only [read_unread_whole]
  case piece7 =>
    obtain rfl : q = 0 := Fin.ext (by have := (x 0).isLt; omega)
    obtain rfl : d = x 1 := Fin.ext (by omega)
    obtain rfl : e = x 2 := Fin.ext (by omega)
    open_payloads; pointwise [stCell]; simp only [read_unread_whole]

/-- At the first point the state block is the one after an entering state of zero. -/
theorem state_A (c : Dev nD) (t : Fin cfg0.N) (h0 : t.val % 64 = 0) (y : S8x128x256.Idx) (q : Fin 8) (d : Fin 128) (e : Fin 256)
    (hq : (y 0).val = q.val) (hd : (y 1).val = d.val) (he : (y 2).val = e.val) :
    (outsAt0 m c t.val t.isLt).2 y
      = stCell (iblk m c 0 t) (iblk m c 2 t) (iblk m c 4 t) (k0_pay2 (F := Ideal)) q d e := by
  rw [outsAt0_A m c t h0]
  frame_open
  simp (disch := decide) only [↓ View.readCov_skip, ↓ View.readCov_cons_toLoadRect, ↓ View.readCov_fill]
  frame_out
  refine (canon_covered [_] y [_, _, _, _, _, _, _, _] (View.cover_of_tiledL _ ![1, 128, 256] (by sl_kernel_rfl) y)).trans ?_
  canon_tiles x h
  case piece0 =>
    obtain rfl : q = 7 := Fin.ext (by have := (x 0).isLt; omega)
    obtain rfl : d = x 1 := Fin.ext (by omega)
    obtain rfl : e = x 2 := Fin.ext (by omega)
    open_payloads; pointwise [stCell, k0_pay2]
  case piece1 =>
    obtain rfl : q = 6 := Fin.ext (by have := (x 0).isLt; omega)
    obtain rfl : d = x 1 := Fin.ext (by omega)
    obtain rfl : e = x 2 := Fin.ext (by omega)
    open_payloads; pointwise [stCell, k0_pay2]
  case piece2 =>
    obtain rfl : q = 5 := Fin.ext (by have := (x 0).isLt; omega)
    obtain rfl : d = x 1 := Fin.ext (by omega)
    obtain rfl : e = x 2 := Fin.ext (by omega)
    open_payloads; pointwise [stCell, k0_pay2]
  case piece3 =>
    obtain rfl : q = 4 := Fin.ext (by have := (x 0).isLt; omega)
    obtain rfl : d = x 1 := Fin.ext (by omega)
    obtain rfl : e = x 2 := Fin.ext (by omega)
    open_payloads; pointwise [stCell, k0_pay2]
  case piece4 =>
    obtain rfl : q = 3 := Fin.ext (by have := (x 0).isLt; omega)
    obtain rfl : d = x 1 := Fin.ext (by omega)
    obtain rfl : e = x 2 := Fin.ext (by omega)
    open_payloads; pointwise [stCell, k0_pay2]
  case piece5 =>
    obtain rfl : q = 2 := Fin.ext (by have := (x 0).isLt; omega)
    obtain rfl : d = x 1 := Fin.ext (by omega)
    obtain rfl : e = x 2 := Fin.ext (by omega)
    open_payloads; pointwise [stCell, k0_pay2]
  case piece6 =>
    obtain rfl : q = 1 := Fin.ext (by have := (x 0).isLt; omega)
    obtain rfl : d = x 1 := Fin.ext (by omega)
    obtain rfl : e = x 2 := Fin.ext (by omega)
    open_payloads; pointwise [stCell, k0_pay2]
  case piece7 =>
    obtain rfl : q = 0 := Fin.ext (by have := (x 0).isLt; omega)
    obtain rfl : d = x 1 := Fin.ext (by omega)
    obtain rfl : e = x 2 := Fin.ext (by omega)
    open_payloads; pointwise [stCell, k0_pay2]

end Cert.KernelIdeal.Ret
-- ==== Proof.Outs.lean ====
/- What one grid point of the retention kernel leaves in its output block, read at an index. -/
module

public import proofs.«01_k».proof.Proof.Blocks
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelIdeal.Ret

open Cert.KernelIdeal Cert.KernelIdeal.Gen Cert.Ret

variable (m : (ℓ : Loc nD τ sig) → Buf (Elt Ideal) ℓ)

/-- After a later point the output block. -/
theorem out_B (c : Dev nD) (t : Fin cfg0.N) (h0 : ¬t.val % 64 = 0) (y : S128x2048.Idx) (q : Fin 8) (r : Fin 128) (e : Fin 256)
    (hr : (y 0).val = r.val) (hq : (y 1).val = q.val * 256 + e.val) :
    (outsAt0 m c t.val t.isLt).1 y
      = outCell (iblk m c 0 t) (iblk m c 1 t) (iblk m c 3 t) (outsAt0 m c (t.val - 1) (Nat.lt_of_le_of_lt (Nat.sub_le _ _) t.isLt)).2
          q r e := by
  rw [outsAt0_B m c t h0]
  frame_out
  canon_tiles x h
  case piece0 =>
    obtain rfl : q = 7 := Fin.ext (by omega)
    obtain rfl : r = x 0 := Fin.ext (by omega)
    obtain rfl : e = x 1 := Fin.ext (by omega)
    open_payloads; pointwise [outCell, normed, mean, mix]; simp only [read_unread_whole]
  case piece1 =>
    obtain rfl : q = 6 := Fin.ext (by omega)
    obtain rfl : r = x 0 := Fin.ext (by omega)
    obtain rfl : e = x 1 := Fin.ext (by omega)
    open_payloads; pointwise [outCell, normed, mean, mix]; simp only [read_unread_whole]
  case piece2 =>
    obtain rfl : q = 5 := Fin.ext (by omega)
    obtain rfl : r = x 0 := Fin.ext (by omega)
    obtain rfl : e = x 1 := Fin.ext (by omega)
    open_payloads; pointwise [outCell, normed, mean, mix]; simp only [read_unread_whole]
  case piece3 =>
    obtain rfl : q = 4 := Fin.ext (by omega)
    obtain rfl : r = x 0 := Fin.ext (by omega)
    obtain rfl : e = x 1 := Fin.ext (by omega)
    open_payloads; pointwise [outCell, normed, mean, mix]; simp only [read_unread_whole]
  case piece4 =>
    obtain rfl : q = 3 := Fin.ext (by omega)
    obtain rfl : r = x 0 := Fin.ext (by omega)
    obtain rfl : e = x 1 := Fin.ext (by omega)
    open_payloads; pointwise [outCell, normed, mean, mix]; simp only [read_unread_whole]
  case piece5 =>
    obtain rfl : q = 2 := Fin.ext (by omega)
    obtain rfl : r = x 0 := Fin.ext (by omega)
    obtain rfl : e = x 1 := Fin.ext (by omega)
    open_payloads; pointwise [outCell, normed, mean, mix]; simp only [read_unread_whole]
  case piece6 =>
    obtain rfl : q = 1 := Fin.ext (by omega)
    obtain rfl : r = x 0 := Fin.ext (by omega)
    obtain rfl : e = x 1 := Fin.ext (by omega)
    open_payloads; pointwise [outCell, normed, mean, mix]; simp only [read_unread_whole]
  case piece7 =>
    obtain rfl : q = 0 := Fin.ext (by omega)
    obtain rfl : r = x 0 := Fin.ext (by omega)
    obtain rfl : e = x 1 := Fin.ext (by omega)
    open_payloads; pointwise [outCell, normed, mean, mix]; simp only [read_unread_whole]

/-- At the first point the output block, from an entering state of zero. -/
theorem out_A (c : Dev nD) (t : Fin cfg0.N) (h0 : t.val % 64 = 0) (y : S128x2048.Idx) (q : Fin 8) (r : Fin 128) (e : Fin 256)
    (hr : (y 0).val = r.val) (hq : (y 1).val = q.val * 256 + e.val) :
    (outsAt0 m c t.val t.isLt).1 y
      = outCell (iblk m c 0 t) (iblk m c 1 t) (iblk m c 3 t) (k0_pay2 (F := Ideal)) q r e := by
  rw [outsAt0_A m c t h0]
  frame_open
  simp (disch := decide) only [↓ View.readCov_skip, ↓ View.readCov_cons_toLoadRect, ↓ View.readCov_fill]
  frame_out
  canon_tiles x h
  case piece0 =>
    obtain rfl : q = 7 := Fin.ext (by omega)
    obtain rfl : r = x 0 := Fin.ext (by omega)
    obtain rfl : e = x 1 := Fin.ext (by omega)
    open_payloads; pointwise [outCell, normed, mean, mix, k0_pay2]
  case piece1 =>
    obtain rfl : q = 6 := Fin.ext (by omega)
    obtain rfl : r = x 0 := Fin.ext (by omega)
    obtain rfl : e = x 1 := Fin.ext (by omega)
    open_payloads; pointwise [outCell, normed, mean, mix, k0_pay2]
  case piece2 =>
    obtain rfl : q = 5 := Fin.ext (by omega)
    obtain rfl : r = x 0 := Fin.ext (by omega)
    obtain rfl : e = x 1 := Fin.ext (by omega)
    open_payloads; pointwise [outCell, normed, mean, mix, k0_pay2]
  case piece3 =>
    obtain rfl : q = 4 := Fin.ext (by omega)
    obtain rfl : r = x 0 := Fin.ext (by omega)
    obtain rfl : e = x 1 := Fin.ext (by omega)
    open_payloads; pointwise [outCell, normed, mean, mix, k0_pay2]
  case piece4 =>
    obtain rfl : q = 3 := Fin.ext (by omega)
    obtain rfl : r = x 0 := Fin.ext (by omega)
    obtain rfl : e = x 1 := Fin.ext (by omega)
    open_payloads; pointwise [outCell, normed, mean, mix, k0_pay2]
  case piece5 =>
    obtain rfl : q = 2 := Fin.ext (by omega)
    obtain rfl : r = x 0 := Fin.ext (by omega)
    obtain rfl : e = x 1 := Fin.ext (by omega)
    open_payloads; pointwise [outCell, normed, mean, mix, k0_pay2]
  case piece6 =>
    obtain rfl : q = 1 := Fin.ext (by omega)
    obtain rfl : r = x 0 := Fin.ext (by omega)
    obtain rfl : e = x 1 := Fin.ext (by omega)
    open_payloads; pointwise [outCell, normed, mean, mix, k0_pay2]
  case piece7 =>
    obtain rfl : q = 0 := Fin.ext (by omega)
    obtain rfl : r = x 0 := Fin.ext (by omega)
    obtain rfl : e = x 1 := Fin.ext (by omega)
    open_payloads; pointwise [outCell, normed, mean, mix, k0_pay2]

end Cert.KernelIdeal.Ret
-- ==== Proof.Host.lean ====
/- The retention kernel's staged inputs at an index: the projected columns and the tables of decays the host computes. -/
module

public import proofs.«01_k».proof.Proof.Gen.KernelIdeal.Value
public import proofs.«01_k».proof.Proof.Tables
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem

namespace Cert.KernelIdeal.Ret

open Cert.KernelIdeal Cert.KernelIdeal.Gen Cert.Ret

variable (m : (ℓ : Loc nD τ sig) → Buf (Elt Ideal) ℓ)

/-- The grid has 64 points. -/
theorem lt64 (t : Fin cfg0.N) : t.val < 64 := lt_of_lt_of_eq t.isLt N_0

/-- Where each window's block lies: the columns and the result by row blocks, the tables whole. -/
theorem idx : ∀ t : Fin cfg0.N, win0_0.index t = ![t.val, 0] ∧ win0_1.index t = ![0, 0, 0] ∧ win0_2.index t = ![0, 0, 0]
    ∧ win0_3.index t = ![0, 0, 0] ∧ win0_4.index t = ![0, 0, 0] ∧ win0_5.index t = ![t.val, 0] :=
  (by decide +kernel : ∀ t : Fin grid0.N, _)

/-- The columns' block at point `t` is rows `128 t` onwards. -/
theorem cols_at (c : Dev nD) (t : Fin cfg0.N) (r : Fin 128) (j : Fin 6144) :
    (iblk m c 0 t : FVec Ideal S128x6144 .bf16) (ix2 r j)
      = (m ((c.tc : Thread nD τ).loc main_arg0) : FVec Ideal S8192x6144 .bf16)
          (ix2 ⟨t.val * 128 + r.val, by have := lt64 t; omega⟩ j) := by
  blk_ext [iblk, V, idx t]

/-- The table of decays between the rows of a chunk, masked and scaled. -/
theorem V_dec (c : Dev nD) (h : Fin 8) (r k : Fin 128) : (V m c main_v45 : FVec Ideal S8x128x128 .f32) (ix3 h r k) = Scalar.select (FloatOps.cmpf (F := Ideal) (φ := .f32) CmpFPredicate.oge (num r - num k) 0) (gap h r k) 0 * kappa := by
  unfold V
  simp only [hostOps0, hostOps0_1, hostOps0_2, List.flatten_cons, List.flatten_nil, List.append_nil, List.cons_append, List.nil_append]
  after_reads_at
  pointwise [gap, lg, num, kappa, id]

/-- The same, staged whole. -/
theorem dec_at (c : Dev nD) (t : Fin cfg0.N) (h : Fin 8) (r k : Fin 128) : (iblk m c 1 t : FVec Ideal S8x128x128 .f32) (ix3 h r k) = Scalar.select (FloatOps.cmpf (F := Ideal) (φ := .f32) CmpFPredicate.oge (num r - num k) 0) (gap h r k) 0 * kappa := by
  refine Eq.trans ?_ (V_dec m c h r k)
  blk_ext [iblk, idx t]

/-- The table of the rows' weights in the state, scaled. -/
theorem V_zs (c : Dev nD) (h : Fin 8) (k : Fin 128) (e : Fin 256) : (V m c main_v49 : FVec Ideal S8x128x256 .f32) (ix3 h k e) = zeta h k * kappa := by
  unfold V
  simp only [hostOps0, hostOps0_1, hostOps0_2, List.flatten_cons, List.flatten_nil, List.append_nil, List.cons_append, List.nil_append]
  after_reads_at
  pointwise [zeta, lg, num, kappa]

/-- The same, staged whole. -/
theorem zs_at (c : Dev nD) (t : Fin cfg0.N) (h : Fin 8) (k : Fin 128) (e : Fin 256) : (iblk m c 2 t : FVec Ideal S8x128x256 .f32) (ix3 h k e) = zeta h k * kappa := by
  refine Eq.trans ?_ (V_zs m c h k e)
  blk_ext [iblk, idx t]

/-- The table of the state's weights in the rows. -/
theorem V_xi (c : Dev nD) (h : Fin 8) (k : Fin 128) (e : Fin 256) : (V m c main_v51 : FVec Ideal S8x128x256 .f32) (ix3 h k e) = xi h k := by
  unfold V
  simp only [hostOps0, hostOps0_1, hostOps0_2, List.flatten_cons, List.flatten_nil, List.append_nil, List.cons_append, List.nil_append]
  after_reads_at
  pointwise [xi, lg, num]

/-- The same, staged whole. -/
theorem xi_at (c : Dev nD) (t : Fin cfg0.N) (h : Fin 8) (k : Fin 128) (e : Fin 256) : (iblk m c 3 t : FVec Ideal S8x128x256 .f32) (ix3 h k e) = xi h k := by
  refine Eq.trans ?_ (V_xi m c h k e)
  blk_ext [iblk, idx t]

/-- The table of the state's decay over a chunk. -/
theorem V_cd (c : Dev nD) (h : Fin 8) (e : Fin 256) : (V m c main_v53 : FVec Ideal S8x1x256 .f32) (ix3 h 0 e) = cdec h := by
  unfold V
  simp only [hostOps0, hostOps0_1, hostOps0_2, List.flatten_cons, List.flatten_nil, List.append_nil, List.cons_append, List.nil_append]
  after_reads_at
  pointwise [cdec, lg, num]

/-- The same, staged whole. -/
theorem cd_at (c : Dev nD) (t : Fin cfg0.N) (h : Fin 8) (e : Fin 256) : (iblk m c 4 t : FVec Ideal S8x1x256 .f32) (ix3 h 0 e) = cdec h := by
  refine Eq.trans ?_ (V_cd m c h e)
  blk_ext [iblk, idx t]

end Cert.KernelIdeal.Ret
-- ==== Proof.RefRun.lean ====
/- The reference's run, over the states its loop goes through: `states X k` is what the scan carries before trip `k`,
from the projected columns `X`; the run ends at the outputs computed from state 64. -/
module

public import proofs.«01_k».proof.Proof.Gen.ReferenceIdeal.Run
public import proofs.«01_k».proof.Proof.Gen.ReferenceIdeal.Step
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem Idealize.ShloMosaic.StableHlo

namespace Cert.ReferenceIdeal.Ret

open Cert.ReferenceIdeal Cert.ReferenceIdeal.Gen Cert.ReferenceIdeal.Value Cert.ReferenceIdeal.Step

/-- The scan's carried values before trip `k`. -/
def states (X : (⟨S8192x6144, .bf16⟩ : BufTy).Contents (Elt Ideal)) : ℕ → State Ideal
  | 0 => init X
  | k + 1 => step k (states X k)

/-- A valuation of the buffers carries the state `s` and the trip number `k`. -/
def Carries (V : Valuation τ sig (Elt Ideal)) (s : State Ideal) (k : ℕ) : Prop :=
  V (Proc.devRef .tc main_v45_3) = s.main_v45_3 ∧ V (Proc.devRef .tc main_v45_4) = s.main_v45_4
    ∧ V (Proc.devRef .tc main_v45_0) = s.main_v45_0 ∧ V (Proc.devRef .tc main_v45_2) = constantI S_ 32 (BitVec.ofNat 32 k)
    ∧ V (Proc.devRef .tc main_v45_1) = K_main_v41 (F := Ideal)

/-- One trip carries the next state. -/
theorem carries_step {V : Valuation τ sig (Elt Ideal)} {s : State Ideal} {k : ℕ} (h : Carries V s k) :
    Carries (STEP V) (step k s) (k + 1) := by
  obtain ⟨h3, h4, h0, h2, h1⟩ := h
  refine ⟨(STEP_main_v45_3 V).trans ?_, (STEP_main_v45_4 V).trans ?_, (STEP_main_v45_0 V).trans h0, (STEP_main_v45_2 V).trans ?_,
    (STEP_main_v45_1 V).trans h1⟩
  · unfold Value.step_main_v45_3 step b8 b7 b6 b5 b4
    rw [h3, h0, h2, h1]
    rfl
  · unfold Value.step_main_v45_4 step b14 b9
    rw [h4, h3, h2]
    rfl
  · unfold Value.step_main_v45_2
    rw [h2]
    funext i
    exact (BitVec.ofNat_add k 1).symm

variable (m : (ℓ : Loc nD τ sig) → Buf (Elt Ideal) ℓ) (c : Dev nD)

set_option maxRecDepth 65536 in
set_option maxHeartbeats 300000 in
/-- Before the first trip the buffers carry the initial state. -/
theorem carries_entry : Carries (entryContents preI m c) (init (m ((c.tc : Thread nD τ).loc main_arg0))) 0 := by
  refine ⟨?_, ?_, ?_, ?_, ?_⟩ <;> (simp only [entryContents, afterL_cons, afterL_nil]; after_reads_simp) <;> rfl

/-- Before trip `k` the buffers carry state `k`. -/
theorem carries_iter : ∀ k, Carries (STEP^[k] (entryContents preI m c)) (states (m ((c.tc : Thread nD τ).loc main_arg0)) k) k
  | 0 => carries_entry m c
  | k + 1 => by rw [Function.iterate_succ_apply']; exact carries_step (carries_iter k)

/-- Every execution of the reference ends with its result at the outputs of state 64 and the argument unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v138)
        = R_main_v138 (states (m ((c.tc : Thread nD τ).loc main_arg0)) 64) (m ((c.tc : Thread nD τ).loc main_arg0))
      ∧ r.2.mem ((c.tc : Thread nD τ).loc main_arg0) = m ((c.tc : Thread nD τ).loc main_arg0) := by
  refine (θ_run defs _ _).mono (fun _ h c => ⟨(h c).1.trans ?_, (h c).2⟩) (Value.run m ρ)
  obtain ⟨-, h4, -, -, -⟩ := carries_iter m c 64
  unfold out_main_v138 R_main_v138
  rw [h4, iter_main_arg0 m c 64]
  rfl

end Cert.ReferenceIdeal.Ret
-- ==== Proof.RefVal.lean ====
/- The reference's values at an index: the chunk's keys times values, the states the scan goes through, the outputs. -/
module

public import proofs.«01_k».proof.Proof.RefRun
public import proofs.«01_k».proof.Proof.Tables

@[expose] public section

set_option maxRecDepth 16384

noncomputable section

open Idealize.ShloMosaic Idealize.ShloMosaic.TcCoe Idealize.SL.Sem Idealize.ShloMosaic.StableHlo

namespace Cert.ReferenceIdeal.Ret

open Cert.ReferenceIdeal Cert.ReferenceIdeal.Gen Cert.ReferenceIdeal.Step

variable (X : FVec Ideal S8192x6144 .bf16)

/-- The clamp leaves trip `j`'s row where it is. -/
theorem row_clamp : ∀ j : Fin 64, (min (max (BitVec.toInt (BitVec.ofNat 32 j.val)) 0) ((64 - 1 : ℕ) : ℤ)).toNat = j.val := by decide

/-- Trip `j` reads and writes row `j` of the stacked arrays, -/
theorem start_0 (j : ℕ) (hj : j < 64) (hf : S1x1x8x128x256.rank = S64x1x8x128x256.rank) : Host.clampedStart S64x1x8x128x256 S1x1x8x128x256 hf (fun k : Fin 5 => BitVec.toInt ((![constantI S_ 32 (BitVec.ofNat 32 j), constantI S_ 32 0#32, constantI S_ 32 0#32, constantI S_ 32 0#32, constantI S_ 32 0#32] : Fin 5 → (⟨S_, .i32⟩ : BufTy).Contents (Elt Ideal)) k (Shape.Idx.first h_S_))) 0 = j :=
  row_clamp ⟨j, hj⟩
/-- and all of the axis 1. -/
theorem start_1 (j : ℕ) (hf : S1x1x8x128x256.rank = S64x1x8x128x256.rank) : Host.clampedStart S64x1x8x128x256 S1x1x8x128x256 hf (fun k : Fin 5 => BitVec.toInt ((![constantI S_ 32 (BitVec.ofNat 32 j), constantI S_ 32 0#32, constantI S_ 32 0#32, constantI S_ 32 0#32, constantI S_ 32 0#32] : Fin 5 → (⟨S_, .i32⟩ : BufTy).Contents (Elt Ideal)) k (Shape.Idx.first h_S_))) 1 = 0 := by
  rfl
/-- and all of the axis 2. -/
theorem start_2 (j : ℕ) (hf : S1x1x8x128x256.rank = S64x1x8x128x256.rank) : Host.clampedStart S64x1x8x128x256 S1x1x8x128x256 hf (fun k : Fin 5 => BitVec.toInt ((![constantI S_ 32 (BitVec.ofNat 32 j), constantI S_ 32 0#32, constantI S_ 32 0#32, constantI S_ 32 0#32, constantI S_ 32 0#32] : Fin 5 → (⟨S_, .i32⟩ : BufTy).Contents (Elt Ideal)) k (Shape.Idx.first h_S_))) 2 = 0 := by
  rfl
/-- and all of the axis 3. -/
theorem start_3 (j : ℕ) (hf : S1x1x8x128x256.rank = S64x1x8x128x256.rank) : Host.clampedStart S64x1x8x128x256 S1x1x8x128x256 hf (fun k : Fin 5 => BitVec.toInt ((![constantI S_ 32 (BitVec.ofNat 32 j), constantI S_ 32 0#32, constantI S_ 32 0#32, constantI S_ 32 0#32, constantI S_ 32 0#32] : Fin 5 → (⟨S_, .i32⟩ : BufTy).Contents (Elt Ideal)) k (Shape.Idx.first h_S_))) 3 = 0 := by
  rfl
/-- and all of the axis 4. -/
theorem start_4 (j : ℕ) (hf : S1x1x8x128x256.rank = S64x1x8x128x256.rank) : Host.clampedStart S64x1x8x128x256 S1x1x8x128x256 hf (fun k : Fin 5 => BitVec.toInt ((![constantI S_ 32 (BitVec.ofNat 32 j), constantI S_ 32 0#32, constantI S_ 32 0#32, constantI S_ 32 0#32, constantI S_ 32 0#32] : Fin 5 → (⟨S_, .i32⟩ : BufTy).Contents (Elt Ideal)) k (Shape.Idx.first h_S_))) 4 = 0 := by
  rfl

/-- The state after a trip: the entering one times the decay, plus the trip's row of keys times values. -/
theorem b8_at (j : ℕ) (hj : j < 64) (s : State Ideal) (h : Fin 8) (d : Fin 128) (e : Fin 256) :
    (b8 j s : FVec Ideal S1x8x128x256 .f32) (ix4 0 h d e)
      = (s.main_v45_3 : FVec Ideal S1x8x128x256 .f32) (ix4 0 h d e) * (K_main_v41 (F := Ideal) : FVec Ideal S1x8x1x1 .f32) (ix4 0 h 0 0)
        + (s.main_v45_0 : FVec Ideal S64x1x8x128x256 .f32) (ix5 ⟨j, hj⟩ 0 h d e) := by
  pointwise [b8, b7, b6, b5, b4, b0, b1, b2, b3]
  refine congrArg₂ (· + ·) rfl (congrArg (s.main_v45_0 : FVec Ideal S64x1x8x128x256 .f32) ?_)
  refine (ix5_inj ..).2 ⟨Fin.ext (start_0 j hj rfl), Fin.ext (start_1 j rfl), Fin.ext ?_, Fin.ext ?_, Fin.ext ?_⟩
  · exact (congrArg (· + h.val) (start_2 j rfl)).trans (Nat.zero_add _)
  · exact (congrArg (· + d.val) (start_3 j rfl)).trans (Nat.zero_add _)
  · exact (congrArg (· + e.val) (start_4 j rfl)).trans (Nat.zero_add _)

/-- The stacked states after a trip: the trip's row holds the entering state. -/
theorem b14_at (j : ℕ) (hj : j < 64) (s : State Ideal) (n : Fin 64) (h : Fin 8) (d : Fin 128) (e : Fin 256) :
    (b14 j s : FVec Ideal S64x1x8x128x256 .f32) (ix5 n 0 h d e)
      = if n.val = j then (s.main_v45_3 : FVec Ideal S1x8x128x256 .f32) (ix4 0 h d e)
        else (s.main_v45_4 : FVec Ideal S64x1x8x128x256 .f32) (ix5 n 0 h d e) := by
  pointwise [b14, b9, b10, b11, b12, b13]
  have e0 := start_0 j hj rfl
  have e1 := start_1 j rfl
  have e2 := start_2 j rfl
  have e3 := start_3 j rfl
  have e4 := start_4 j rfl
  by_cases hn : n.val = j
  · rw [if_pos hn, dif_pos]
    · refine congrArg (s.main_v45_3 : FVec Ideal S1x8x128x256 .f32) ?_
      refine (ix4_inj ..).2 ⟨rfl, Fin.ext ?_, Fin.ext ?_, Fin.ext ?_⟩
      · exact (congrArg (h.val - ·) e2).trans (Nat.sub_zero _)
      · exact (congrArg (d.val - ·) e3).trans (Nat.sub_zero _)
      · exact (congrArg (e.val - ·) e4).trans (Nat.sub_zero _)
    · exact ⟨⟨(le_of_eq e0).trans (le_of_eq hn.symm), by omega⟩, ⟨le_of_eq e1, by omega⟩, by omega, by omega, by omega⟩
  · rw [if_neg hn, dif_neg]
    intro hc
    have := hc.1
    omega

open Cert.Ret

variable (X : FVec Ideal S8192x6144 .bf16)

/-- A chunk's keys, scaled, times its values, weighted. -/
def kvAt (n : ℕ) (hn : n < 64) (h : Fin 8) (d : Fin 128) (e : Fin 256) : EReal :=
  ∑ k : Fin 128, (X (ix2 ⟨n * 128 + k.val, by omega⟩ ⟨1024 + h.val * 128 + d.val, by omega⟩) * kappa)
    * (X (ix2 ⟨n * 128 + k.val, by omega⟩ ⟨2048 + h.val * 256 + e.val, by omega⟩) * zeta h k)

/-- What the scan reads in trip `n`. -/
theorem kv_at (n : Fin 64) (h : Fin 8) (d : Fin 128) (e : Fin 256) :
    (A_main_v43 (F := Ideal) X : FVec Ideal S64x1x8x128x256 .f32) (ix5 n 0 h d e) = kvAt X n.val n.isLt h d e := by
  pointwise [A_main_v43, A_main_v37, A_main_v36, A_main_v24, A_main_v23, A_main_v22, A_main_v21, A_main_v19, A_main_v6, A_main_v5, A_main_v4, A_main_v3, A_main_v0,
    K_main_v35, K_main_v34, K_main_v33, K_main_v32, K_main_v31, K_main_v30, K_main_v29, K_main_v28, K_main_v27, K_main_v26, K_main_v25, K_main_v20, K_main_v16,
    K_main_v15, K_main_v14, K_main_v13, K_main_v12, K_main_v11, K_main_v10, K_main_v9, K_main_cst, K_main_cst_0, K_main_cst_1, K_main_cst_2,
    kvAt, zeta, lg, num, kappa]
  simp only [Nat.add_assoc]

/-- The scan's decay. -/
theorem decay_at (h : Fin 8) : (K_main_v41 (F := Ideal) : FVec Ideal S1x8x1x1 .f32) (ix4 0 h 0 0) = cdec h := by
  pointwise [K_main_v41, K_main_v40, K_main_v39, K_main_v38, K_main_cst_3, K_main_v15, K_main_v14, K_main_v13, K_main_v12, K_main_v11, K_main_v10, K_main_v9, K_main_cst, K_main_cst_0,
    cdec, lg, num]

/-- The state entering chunk `n`. -/
def stateAt : (n : ℕ) → n ≤ 64 → Fin 8 → Fin 128 → Fin 256 → EReal
  | 0, _, _, _, _ => 0
  | n + 1, hn, h, d, e => stateAt n (by omega) h d e * cdec h + kvAt X n (by omega) h d e

theorem states_0 (n : ℕ) : (states X n).main_v45_0 = A_main_v43 X := by
  induction n with
  | zero => rfl
  | succ n ih => exact ih

/-- The scan's state before trip `n`. -/
theorem states_3 : ∀ (n : ℕ) (hn : n ≤ 64) (h : Fin 8) (d : Fin 128) (e : Fin 256),
    ((states X n).main_v45_3 : FVec Ideal S1x8x128x256 .f32) (ix4 0 h d e) = stateAt X n hn h d e
  | 0, _, h, d, e => by
    show (K_main_v42 (F := Ideal) : FVec Ideal S1x8x128x256 .f32) (ix4 0 h d e) = 0
    pointwise [K_main_v42, K_main_cst_4]
  | n + 1, hn, h, d, e => by
    refine (b8_at n (by omega) (states X n) h d e).trans ?_
    rw [states_3 n (by omega) h d e, states_0, kv_at X ⟨n, by omega⟩ h d e, decay_at]
    rfl

/-- The rows stacked before trip `n` are the states that entered the trips. -/
theorem states_4 : ∀ (n : ℕ) (hn : n ≤ 64) (i : Fin 64) (hi : i.val < n) (h : Fin 8) (d : Fin 128) (e : Fin 256),
    ((states X n).main_v45_4 : FVec Ideal S64x1x8x128x256 .f32) (ix5 i 0 h d e) = stateAt X i.val (by omega) h d e
  | 0, _, _, hi, _, _, _ => absurd hi (Nat.not_lt_zero _)
  | n + 1, hn, i, hi, h, d, e => by
    refine (b14_at n (by omega) (states X n) i h d e).trans ?_
    by_cases hc : i.val = n
    · subst hc; rw [if_pos rfl, states_3 X i.val (by omega) h d e]
    · rw [if_neg hc, states_4 n (by omega) i (by omega) h d e]

/-- A row of a head against the chunk's keys and an entering state, before the group norm. -/
def mixOf (n : Fin 64) (S : Fin 8 → Fin 128 → Fin 256 → EReal) (h : Fin 8) (r : Fin 128) (e : Fin 256) : EReal :=
  (∑ k : Fin 128, X (ix2 ⟨n.val * 128 + k.val, by omega⟩ ⟨2048 + h.val * 256 + e.val, by omega⟩)
      * ((∑ d : Fin 128, X (ix2 ⟨n.val * 128 + r.val, by omega⟩ ⟨h.val * 128 + d.val, by omega⟩)
          * (X (ix2 ⟨n.val * 128 + k.val, by omega⟩ ⟨1024 + h.val * 128 + d.val, by omega⟩) * kappa))
        * Scalar.select (IntOp.cmpi CmpIPredicate.sge (BitVec.ofNat 32 r.val) (BitVec.ofNat 32 k.val)) (gap h r k) 0))
    + (∑ d : Fin 128, S h d e * X (ix2 ⟨n.val * 128 + r.val, by omega⟩ ⟨h.val * 128 + d.val, by omega⟩)) * xi h r

/-- The reference's result at row `i`, column `q`, over the stacked states. -/
theorem out_raw (s : State Ideal) (i : Fin 8192) (q : Fin 2048) :
    (R_main_v138 s X : FVec Ideal S8192x2048 .bf16) (ix2 i q)
      = normed (mixOf X ⟨i.val / 128, by omega⟩ (fun h d e => (s.main_v45_4 : FVec Ideal S64x1x8x128x256 .f32) (ix5 ⟨i.val / 128, by omega⟩ 0 h d e))
          ⟨q.val / 256, by omega⟩ ⟨i.val % 128, by omega⟩) (X (ix2 i ⟨4096 + q.val, by omega⟩)) ⟨q.val % 256, by omega⟩ := by
  pointwise [R_main_v138, id, normed, mean, mixOf, gap, xi, lg, num, kappa]
  try blk_point []
  exact congrArg Ideal.exp (zero_sub _).symm

/-- The reference's result at row `i`, column `q`: the group norm of the chunk's row under the state that enters the chunk. -/
theorem out_at (i : Fin 8192) (q : Fin 2048) :
    (R_main_v138 (states X 64) X : FVec Ideal S8192x2048 .bf16) (ix2 i q)
      = normed (mixOf X ⟨i.val / 128, by omega⟩ (stateAt X (i.val / 128) (by omega))
          ⟨q.val / 256, by omega⟩ ⟨i.val % 128, by omega⟩) (X (ix2 i ⟨4096 + q.val, by omega⟩)) ⟨q.val % 256, by omega⟩ := by
  rw [out_raw]
  congr 2
  funext h d e
  exact states_4 X 64 le_rfl ⟨i.val / 128, by omega⟩ (by show i.val / 128 < 64; omega) h d e

end Cert.ReferenceIdeal.Ret
-- ==== Proof.Alg.lean ====
/- The algebra over the extended reals that joins the two programs: the keys' scale moves through a sum of products, and the
causal mask by real numbers is the mask by row numbers. -/
module

public import proofs.«01_k».proof.Proof.Tables

@[expose] public section

noncomputable section

open Idealize.ShloMosaic Idealize.ShloMosaic.TcCoe

namespace Cert.Ret

/-- The keys' scale is a real number. -/
theorem kappa_eq : kappa = (((11863283 : ℝ) * 2 ^ (-27 : ℤ) : ℝ) : EReal) := by
  simp [kappa, Ideal.ofBits, Ideal.ieee, -EReal.coe_mul]

theorem kappa_nonneg : 0 ≤ kappa := by rw [kappa_eq]; exact EReal.coe_nonneg.2 (by positivity)

theorem kappa_ne_top : kappa ≠ ⊤ := by rw [kappa_eq]; exact EReal.coe_ne_top _

/-- The scale moves into a sum. -/
theorem sum_mul_kappa {ι : Type*} (s : Finset ι) (f : ι → EReal) : (∑ i ∈ s, f i) * kappa = ∑ i ∈ s, f i * kappa := by
  classical
  induction s using Finset.induction_on with
  | empty => simp
  | insert a s ha ih => rw [Finset.sum_insert ha, Finset.sum_insert ha, EReal.right_distrib_of_nonneg_of_ne_top kappa_nonneg kappa_ne_top, ih]

/-- A row number as a real number. -/
theorem num_eq (k : ℕ) (hk : k < 128) : num k = ((k : ℝ) : EReal) := by
  show (((BitVec.ofNat 32 k).toInt : ℝ) : EReal) = _
  rw [BitVec.toInt_ofNat', Int.bmod_eq_of_le (by omega) (by omega)]
  norm_cast

/-- The two causal masks agree. -/
theorem mask_eq (r k : Fin 128) (a : EReal) :
    Scalar.select (FloatOps.cmpf (F := Ideal) (φ := .f32) CmpFPredicate.oge (num r - num k) 0) a 0
      = Scalar.select (IntOp.cmpi CmpIPredicate.sge (BitVec.ofNat 32 r.val) (BitVec.ofNat 32 k.val)) a (0 : EReal) := by
  have h : IntOp.cmpi CmpIPredicate.sge (BitVec.ofNat 32 r.val) (BitVec.ofNat 32 k.val) = if k ≤ r then 1#1 else 0#1 := by
    revert r k; decide +kernel
  have g : FloatOps.cmpf (F := Ideal) (φ := .f32) CmpFPredicate.oge (num r - num k) 0 = if k ≤ r then 1#1 else 0#1 := by
    rw [num_eq r r.isLt, num_eq k k.isLt, ← EReal.coe_sub]
    show Ideal.cmp CmpFPredicate.oge _ _ = _
    by_cases hkr : k ≤ r
    · have : (0 : EReal) ≤ (((r.val : ℝ) - (k.val : ℝ) : ℝ) : EReal) := EReal.coe_nonneg.2 (sub_nonneg.2 (by exact_mod_cast hkr))
      rw [if_pos hkr]; exact congrArg BitVec.ofBool (decide_eq_true this)
    · have : ¬(0 : EReal) ≤ (((r.val : ℝ) - (k.val : ℝ) : ℝ) : EReal) := fun hc =>
        hkr (by have := sub_nonneg.1 (EReal.coe_nonneg.1 hc); exact_mod_cast this)
      rw [if_neg hkr]; exact congrArg BitVec.ofBool (decide_eq_false this)
  rw [h, g]

/-- A score against a value: the table's scale is the keys'. -/
theorem score_eq (f g : Fin 128 → EReal) (s v : EReal) :
    ((∑ d, f d * g d) * (s * kappa)) * v = v * ((∑ d, f d * (g d * kappa)) * s) := by
  have : (∑ d, f d * (g d * kappa)) = (∑ d, f d * g d) * kappa := by
    rw [sum_mul_kappa]; exact Finset.sum_congr rfl fun d _ => (mul_assoc _ _ _).symm
  rw [this, mul_comm _ v, mul_comm s kappa, ← mul_assoc _ kappa s]

/-- A key against a weighted value: the table's scale is the key's. -/
theorem kv_eq (k v z : EReal) : k * (v * (z * kappa)) = (k * kappa) * (v * z) := by
  rw [mul_comm z kappa, mul_left_comm v kappa z, ← mul_assoc]

end Cert.Ret
-- ==== Proof.Value.lean ====
/- The retention kernel's result is the reference's: the states agree chunk by chunk, so do the rows of every block. -/
module

public import proofs.«01_k».proof.Proof.Outs
public import proofs.«01_k».proof.Proof.Host
public import proofs.«01_k».proof.Proof.RefVal
public import proofs.«01_k».proof.Proof.Alg

@[expose] public section

set_option maxRecDepth 16384

noncomputable section

open Idealize.ShloMosaic Idealize.ShloMosaic.TcCoe Idealize.SL.Sem

namespace Cert.KernelIdeal.Ret

open Cert.KernelIdeal Cert.KernelIdeal.Gen Cert.Ret

variable (m : (ℓ : Loc nD τ sig) → Buf (Elt Ideal) ℓ)

/-- The projected columns as launched. -/
abbrev cols (c : Dev nD) : FVec Ideal S8192x6144 .bf16 := m ((c.tc : Thread nD τ).loc main_arg0)

/-- The state after a point is the reference's, if the entering one is. -/
theorem stCell_eq (c : Dev nD) (t : Fin cfg0.N) (S : FVec Ideal S8x128x256 .f32) (h : Fin 8) (d : Fin 128) (e : Fin 256)
    (hS : S (ix3 h d e) = Cert.ReferenceIdeal.Ret.stateAt (cols m c) t.val (lt64 t).le h d e) :
    stCell (iblk m c 0 t) (iblk m c 2 t) (iblk m c 4 t) S h d e
      = Cert.ReferenceIdeal.Ret.stateAt (cols m c) (t.val + 1) (lt64 t) h d e := by
  simp only [stCell, cols_at, zs_at, cd_at, hS, kv_eq]
  rfl

/-- The state after point `n`. -/
theorem state_at (c : Dev nD) : ∀ (n : ℕ) (hn : n < cfg0.N) (h : Fin 8) (d : Fin 128) (e : Fin 256),
    (outsAt0 m c n hn).2 (ix3 h d e)
      = Cert.ReferenceIdeal.Ret.stateAt (cols m c) (n + 1) (lt64 ⟨n, hn⟩) h d e
  | 0, hn, h, d, e => by
    refine (state_A m c ⟨0, hn⟩ rfl (ix3 h d e) h d e rfl rfl rfl).trans (stCell_eq m c ⟨0, hn⟩ _ h d e ?_)
    show _ = (0 : EReal)
    pointwise [k0_pay2]
  | n + 1, hn, h, d, e => by
    have h64 := lt64 ⟨n + 1, hn⟩
    refine (state_B m c ⟨n + 1, hn⟩ (by show ¬(n + 1) % 64 = 0; have : n + 1 < 64 := h64; omega) (ix3 h d e) h d e rfl rfl rfl).trans
      (stCell_eq m c ⟨n + 1, hn⟩ _ h d e ?_)
    exact state_at c n (by omega) h d e

/-- A cell of the output block is the reference's, if the entering state is. -/
theorem outCell_eq (c : Dev nD) (t : Fin cfg0.N) (S : FVec Ideal S8x128x256 .f32) (h : Fin 8) (r : Fin 128) (e : Fin 256)
    (hS : ∀ d e, S (ix3 h d e) = Cert.ReferenceIdeal.Ret.stateAt (cols m c) t.val (lt64 t).le h d e) :
    outCell (iblk m c 0 t) (iblk m c 1 t) (iblk m c 3 t) S h r e
      = normed (Cert.ReferenceIdeal.Ret.mixOf (cols m c) ⟨t.val, lt64 t⟩ (Cert.ReferenceIdeal.Ret.stateAt (cols m c) t.val (lt64 t).le) h r)
          (cols m c (ix2 ⟨t.val * 128 + r.val, by have := lt64 t; omega⟩ ⟨4096 + h.val * 256 + e.val, by omega⟩)) e := by
  have hm : mix (iblk m c 0 t) (iblk m c 1 t) (iblk m c 3 t) S h r
      = Cert.ReferenceIdeal.Ret.mixOf (cols m c) ⟨t.val, lt64 t⟩ (Cert.ReferenceIdeal.Ret.stateAt (cols m c) t.val (lt64 t).le) h r := by
    funext e
    simp only [mix, Cert.ReferenceIdeal.Ret.mixOf, cols_at, dec_at, xi_at, hS, mask_eq, score_eq]
    congr 2
    exact Finset.sum_congr rfl fun d _ => mul_comm _ _
  simp only [outCell, cols_at, hm]

/-- The output block of a point, at a row and a column. -/
theorem out_cell (c : Dev nD) (t : Fin cfg0.N) (y : S128x2048.Idx) (r : Fin 128) (q : Fin 2048)
    (hy : (y 0).val = r.val) (hy' : (y 1).val = q.val) :
    (outsAt0 m c t.val t.isLt).1 y
      = (Cert.ReferenceIdeal.Step.R_main_v138 (Cert.ReferenceIdeal.Ret.states (cols m c) 64) (cols m c) : FVec Ideal S8192x2048 .bf16)
          (ix2 ⟨t.val * 128 + r.val, by have := lt64 t; omega⟩ q) := by
  have ht := lt64 t
  have hr : (t.val * 128 + r.val) / 128 = t.val := by omega
  have hr' : (t.val * 128 + r.val) % 128 = r.val := by omega
  have hq : q.val / 256 * 256 + q.val % 256 = q.val := by omega
  refine Eq.trans ?_ (Cert.ReferenceIdeal.Ret.out_at (cols m c) ⟨t.val * 128 + r.val, by omega⟩ q).symm
  have key : ∀ S : FVec Ideal S8x128x256 .f32,
      (∀ h d e, S (ix3 h d e) = Cert.ReferenceIdeal.Ret.stateAt (cols m c) t.val (lt64 t).le h d e) →
      outCell (iblk m c 0 t) (iblk m c 1 t) (iblk m c 3 t) S ⟨q.val / 256, by omega⟩ r ⟨q.val % 256, by omega⟩
        = normed (Cert.ReferenceIdeal.Ret.mixOf (cols m c) ⟨(t.val * 128 + r.val) / 128, by omega⟩
            (Cert.ReferenceIdeal.Ret.stateAt (cols m c) ((t.val * 128 + r.val) / 128) (by omega)) ⟨q.val / 256, by omega⟩
            ⟨(t.val * 128 + r.val) % 128, by omega⟩)
          (cols m c (ix2 ⟨t.val * 128 + r.val, by omega⟩ ⟨4096 + q.val, by omega⟩)) ⟨q.val % 256, by omega⟩ := by
    intro S hS
    refine (outCell_eq m c t S ⟨q.val / 256, by omega⟩ r ⟨q.val % 256, by omega⟩ (fun d e => hS _ d e)).trans ?_
    have aux : ∀ (n : ℕ) (hn : n < 64) (s : Fin 128) (i : Fin 8192) (j j' : Fin 6144) (h : Fin 8) (e : Fin 256), n = t.val → s = r → j = j' →
        normed (Cert.ReferenceIdeal.Ret.mixOf (cols m c) ⟨t.val, lt64 t⟩ (Cert.ReferenceIdeal.Ret.stateAt (cols m c) t.val (lt64 t).le) h r)
            (cols m c (ix2 i j)) e
          = normed (Cert.ReferenceIdeal.Ret.mixOf (cols m c) ⟨n, hn⟩ (Cert.ReferenceIdeal.Ret.stateAt (cols m c) n hn.le) h s)
            (cols m c (ix2 i j')) e := by
      intro n hn s i j j' h e e1 e2 e3; subst e1 e2 e3; rfl
    exact aux _ _ _ _ _ _ _ _ hr (Fin.ext hr') (Fin.ext (by show 4096 + q.val / 256 * 256 + q.val % 256 = 4096 + q.val; omega))
  by_cases h0 : t.val % 64 = 0
  · refine (out_A m c t h0 y ⟨q.val / 256, by omega⟩ r ⟨q.val % 256, by omega⟩ hy (hy'.trans hq.symm)).trans (key _ fun h d e => ?_)
    have hz : t.val = 0 := by omega
    have : ∀ (n : ℕ) (hn : n ≤ 64), n = 0 → Cert.ReferenceIdeal.Ret.stateAt (cols m c) n hn h d e = 0 := by
      intro n hn hz; subst hz; rfl
    rw [this _ _ hz]
    pointwise [k0_pay2]
  · refine (out_B m c t h0 y ⟨q.val / 256, by omega⟩ r ⟨q.val % 256, by omega⟩ hy (hy'.trans hq.symm)).trans (key _ fun h d e => ?_)
    refine (state_at m c (t.val - 1) (Nat.lt_of_le_of_lt (Nat.sub_le _ _) t.isLt) h d e).trans ?_
    have : t.val - 1 + 1 = t.val := by omega
    simp only [this]

/-- The kernel's result array is the reference's result. -/
theorem arr_eq (c : Dev nD) :
    (dats m 0 c).arrAt 5 cfg0.N
      = Cert.ReferenceIdeal.Step.R_main_v138 (Cert.ReferenceIdeal.Ret.states (cols m c) 64) (cols m c) := by
  refine (dats m 0 c).arrAt_eq_of_covers 5 _ (by decide +kernel) fun t hf y => ?_
  blk_simp
  rw [after0_5]
  refine (out_cell m c t y (y 0) (y 1) rfl rfl).trans ?_
  refine congrArg (Cert.ReferenceIdeal.Step.R_main_v138 (Cert.ReferenceIdeal.Ret.states (cols m c) 64) (cols m c) : FVec Ideal S8192x2048 .bf16) ?_
  blk_ext [idx t]

end Cert.KernelIdeal.Ret
-- ==== Proof.Up.lean ====
/- The feed-forward block's first half, columns 0 to 5376: what the kernel leaves is the reference's result. -/
module

public import proofs.«01_k».proof.Proof.Gen.Kernel2Ideal.Value
public import proofs.«01_k».proof.Proof.Gen.Reference2Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.Kernel2Ideal.Up

open Cert.Kernel2Ideal Cert.Kernel2Ideal.Gen

/-- A gated unit of the hidden layer: the silu of the gate times the linear part. -/
def gated (a b : EReal) : EReal := (a * Ideal.div 1 (1 + Ideal.exp (0 - a))) * b

/-- A cell of the hidden block from a block of rows and two blocks of weight columns. -/
def cell (X : FVec Ideal S1024x2048 .bf16) (A B : FVec Ideal S2048x768 .bf16) (r : Fin 1024) (e : Fin 768) : EReal :=
  gated (∑ d : Fin 2048, X (ix2 r d) * A (ix2 d e)) (∑ d : Fin 2048, X (ix2 r d) * B (ix2 d e))

variable (m : (ℓ : Loc nD τ sig) → Buf (Elt Ideal) ℓ)

theorem lt56 (t : Fin cfg0.N) : t.val < 56 := lt_of_lt_of_eq t.isLt N_0

/-- The row argument as launched. -/
abbrev rows (c : Dev nD) : FVec Ideal S8192x2048 .bf16 := m ((c.tc : Thread nD τ).loc main_arg0)
/-- The gate's weights as launched. -/
abbrev wg (c : Dev nD) : FVec Ideal S4x2x2048x5504 .f32 := m ((c.tc : Thread nD τ).loc main_arg1)
/-- The linear part's weights as launched. -/
abbrev wl (c : Dev nD) : FVec Ideal S4x2x2048x5504 .f32 := m ((c.tc : Thread nD τ).loc main_arg2)

/-- The block indices of the four windows at every point. -/
theorem idx : ∀ t : Fin cfg0.N, win0_0.index t = ![t.val % 8, 0] ∧ win0_1.index t = ![0, 0, 0, t.val / 8]
    ∧ win0_2.index t = ![0, 0, 0, t.val / 8] ∧ win0_3.index t = ![t.val % 8, t.val / 8] :=
  (by decide +kernel : ∀ t : Fin grid0.N, _)

/-- The block of rows at a point. -/
theorem rows_at (c : Dev nD) (t : Fin cfg0.N) (r : Fin 1024) (d : Fin 2048) :
    (iblk m c 0 t : FVec Ideal S1024x2048 .bf16) (ix2 r d)
      = rows m c (ix2 ⟨t.val % 8 * 1024 + r.val, by omega⟩ d) := by
  blk_ext [iblk, V, idx t]

/-- The block of the gate's weights at a point. -/
theorem wg_at (c : Dev nD) (t : Fin cfg0.N) (d : Fin 2048) (e : Fin 768) :
    (X0_1 m c t : FVec Ideal S1x1x2048x768 .f32) (ix4 0 0 d e)
      = wg m c (ix4 0 0 d ⟨t.val / 8 * 768 + e.val, by have := lt56 t; omega⟩) := by
  unfold X0_1 Pipeline.Window.fill
  rw [dif_pos (moved0_1 t _)]
  blk_ext [iblk, V, idx t]

/-- The block of the linear part's weights at a point. -/
theorem wl_at (c : Dev nD) (t : Fin cfg0.N) (d : Fin 2048) (e : Fin 768) :
    (X0_2 m c t : FVec Ideal S1x1x2048x768 .f32) (ix4 0 0 d e)
      = wl m c (ix4 0 0 d ⟨t.val / 8 * 768 + e.val, by have := lt56 t; omega⟩) := by
  unfold X0_2 Pipeline.Window.fill
  rw [dif_pos (moved0_2 t _)]
  blk_ext [iblk, V, idx t]

/-- At a column's first point the gate's scratch is the block of weights. -/
theorem sg_A (c : Dev nD) (t : Fin cfg0.N) (h0 : t.val % 8 = 0) (d : Fin 2048) (e : Fin 768) :
    (outsAt0 m c t.val t.isLt).2.1 (ix2 d e) = (X0_1 m c t : FVec Ideal S1x1x2048x768 .f32) (ix4 0 0 d e) := by
  rw [outsAt0_A m c t h0]
  frame_open
  frame_out
  open_payloads; pointwise []

/-- At a column's first point the linear part's scratch is the block of weights. -/
theorem sl_A (c : Dev nD) (t : Fin cfg0.N) (h0 : t.val % 8 = 0) (d : Fin 2048) (e : Fin 768) :
    (outsAt0 m c t.val t.isLt).2.2 (ix2 d e) = (X0_2 m c t : FVec Ideal S1x1x2048x768 .f32) (ix4 0 0 d e) := by
  rw [outsAt0_A m c t h0]
  frame_open
  frame_out
  open_payloads; pointwise []

/-- At a later point both scratches are what they were. -/
theorem s_B (c : Dev nD) (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]
  rfl

/-- The output block at a column's first point. -/
theorem out_A (c : Dev nD) (t : Fin cfg0.N) (h0 : t.val % 8 = 0) (r : Fin 1024) (e : Fin 768) :
    (outsAt0 m c t.val t.isLt).1 (ix2 r e)
      = cell (iblk m c 0 t) (k0_pay1 (X0_1 m c t)) (k0_pay2 (X0_2 m c t)) r e := by
  rw [outsAt0_A m c t h0]
  frame_open
  simp (disch := decide) only [↓ View.readCov_skip, ↓ View.readCov_cons_toLoadRect, ↓ View.readCov_fill]
  frame_out
  open_payloads; pointwise [cell, gated, k0_pay1, k0_pay2]

/-- The output block at a later point. -/
theorem out_B (c : Dev nD) (t : Fin cfg0.N) (h0 : ¬t.val % 8 = 0) (r : Fin 1024) (e : Fin 768) :
    (outsAt0 m c t.val t.isLt).1 (ix2 r e)
      = cell (iblk m c 0 t) (outsAt0 m c (t.val - 1) (Nat.lt_of_le_of_lt (Nat.sub_le _ _) t.isLt)).2.1
          (outsAt0 m c (t.val - 1) (Nat.lt_of_le_of_lt (Nat.sub_le _ _) t.isLt)).2.2 r e := by
  rw [outsAt0_B m c t h0]
  frame_out
  open_payloads; pointwise [cell, gated]; simp only [read_unread_whole]

/-- A gated unit of row `i` and column `j` of the weights. -/
def unit (h : FVec Ideal S8192x2048 .bf16) (g l : FVec Ideal S4x2x2048x5504 .f32) (i : Fin 8192) (j : Fin 5504) : EReal :=
  gated (∑ d : Fin 2048, h (ix2 i d) * g (ix4 0 0 d j)) (∑ d : Fin 2048, h (ix2 i d) * l (ix4 0 0 d j))

/-- The scratches after point `n` hold the weights' columns of that point. -/
theorem scr (c : Dev nD) : ∀ (n : ℕ) (hn : n < cfg0.N) (d : Fin 2048) (e : Fin 768) (j : Fin 5504), j.val = n / 8 * 768 + e.val →
    (outsAt0 m c n hn).2.1 (ix2 d e) = wg m c (ix4 0 0 d j) ∧ (outsAt0 m c n hn).2.2 (ix2 d e) = wl m c (ix4 0 0 d j) := by
  have base : ∀ (t : Fin cfg0.N) (d : Fin 2048) (e : Fin 768) (j : Fin 5504), j.val = t.val / 8 * 768 + e.val → t.val % 8 = 0 →
      (outsAt0 m c t.val t.isLt).2.1 (ix2 d e) = wg m c (ix4 0 0 d j)
        ∧ (outsAt0 m c t.val t.isLt).2.2 (ix2 d e) = wl m c (ix4 0 0 d j) := by
    intro t d e j hj h0
    have h56 := lt56 t
    rw [show j = ⟨t.val / 8 * 768 + e.val, by omega⟩ from Fin.ext hj]
    exact ⟨(sg_A m c t h0 d e).trans (wg_at m c t d e), (sl_A m c t h0 d e).trans (wl_at m c t d e)⟩
  intro n
  induction n with
  | zero => exact fun hn d e j hj => base ⟨0, hn⟩ d e j hj rfl
  | succ n ih =>
    intro hn d e j hj
    by_cases h0 : (n + 1) % 8 = 0
    · exact base ⟨n + 1, hn⟩ d e j hj h0
    · have h := s_B m c ⟨n + 1, hn⟩ h0
      have hp := ih (Nat.lt_of_succ_lt hn) d e j (by omega)
      exact ⟨(congrFun (congrArg Prod.fst h) (ix2 d e)).trans hp.1, (congrFun (congrArg Prod.snd h) (ix2 d e)).trans hp.2⟩

/-- The output block of a point. -/
theorem out_at (c : Dev nD) (t : Fin cfg0.N) (r : Fin 1024) (e : Fin 768) :
    (outsAt0 m c t.val t.isLt).1 (ix2 r e)
      = unit (rows m c) (wg m c) (wl m c) ⟨t.val % 8 * 1024 + r.val, by omega⟩
          ⟨t.val / 8 * 768 + e.val, by have := lt56 t; omega⟩ := by
  have h56 := lt56 t
  by_cases h0 : t.val % 8 = 0
  · rw [out_A m c t h0]
    unfold cell unit
    have hg : ∀ d, k0_pay1 (X0_1 m c t) (ix2 d e) = wg m c (ix4 0 0 d ⟨t.val / 8 * 768 + e.val, by omega⟩) := fun d => by
      rw [← wg_at m c t d e]; pointwise [k0_pay1]
    have hl : ∀ d, k0_pay2 (X0_2 m c t) (ix2 d e) = wl m c (ix4 0 0 d ⟨t.val / 8 * 768 + e.val, by omega⟩) := fun d => by
      rw [← wl_at m c t d e]; pointwise [k0_pay2]
    simp only [hg, hl, rows_at]
  · rw [out_B m c t h0]
    unfold cell unit
    have hp := fun d => scr m c (t.val - 1) (Nat.lt_of_le_of_lt (Nat.sub_le _ _) t.isLt) d e ⟨t.val / 8 * 768 + e.val, by omega⟩
      (by show t.val / 8 * 768 + e.val = (t.val - 1) / 8 * 768 + e.val; omega)
    simp only [(hp _).1, (hp _).2, rows_at]

/-- The reference's result at a row and a column. -/
theorem ref_at (h : FVec Ideal S8192x2048 .bf16) (g l : FVec Ideal S4x2x2048x5504 .f32) (i : Fin 8192) (j : Fin 5376) :
    (Cert.Reference2Ideal.Read.val_main_v10 (F := Ideal) h g l : FVec Ideal S8192x5376 .bf16) (ix2 i j)
      = unit h g l i ⟨j.val, by omega⟩ := by
  unfold unit
  pointwise [gated, zero_sub, Cert.Reference2Ideal.Read.val_main_v10, Cert.Reference2Ideal.Read.val_main_v9, Cert.Reference2Ideal.Read.val_main_v8,
    Cert.Reference2Ideal.Read.val_main_v7, Cert.Reference2Ideal.Read.val_main_v6, Cert.Reference2Ideal.Read.val_main_v5,
    Cert.Reference2Ideal.Read.val_main_v4, Cert.Reference2Ideal.Read.val_main_v3, Cert.Reference2Ideal.Read.val_main_v2,
    Cert.Reference2Ideal.Read.val_main_v1, Cert.Reference2Ideal.Read.val_main_v0, Cert.Reference2Ideal.Read.val_main_call0_v0,
    Cert.Reference2Ideal.Read.val_main_call0_v1, Cert.Reference2Ideal.Read.val_main_call0_v2, Cert.Reference2Ideal.Read.val_main_call0_v3,
    Cert.Reference2Ideal.Read.val_main_call0_v4, Cert.Reference2Ideal.Read.val_main_call0_v5, Cert.Reference2Ideal.Read.val_main_call0_cst,
    Cert.Reference2Ideal.Read.val_main_call0_cst_0]

/-- The kernel's result array is the reference's result. -/
theorem arr_eq (c : Dev nD) :
    (dats m 0 c).arrAt 3 cfg0.N = Cert.Reference2Ideal.Read.val_main_v10 (F := Ideal) (rows m c) (wg m c) (wl m c) := by
  refine (dats m 0 c).arrAt_eq_of_covers 3 _ (by decide +kernel) fun t hf y => ?_
  have h56 := lt56 t
  blk_simp
  rw [after0_3]
  have hy : y = ix2 (y 0) (y 1) := by funext a; match a with | ⟨0, _⟩ => rfl | ⟨1, _⟩ => rfl
  refine ((congrArg _ hy).trans (out_at m c t (y 0) (y 1))).trans ?_
  have h0 : (y 0).val < 1024 := (y 0).isLt
  have h1 : (y 1).val < 768 := (y 1).isLt
  refine (ref_at (rows m c) (wg m c) (wl m c) ⟨t.val % 8 * 1024 + (y 0).val, by omega⟩ ⟨t.val / 8 * 768 + (y 1).val, by omega⟩).symm.trans ?_
  refine congrArg (Cert.Reference2Ideal.Read.val_main_v10 (F := Ideal) (rows m c) (wg m c) (wl m c) : FVec Ideal S8192x5376 .bf16) ?_
  blk_ext [idx t]

end Cert.Kernel2Ideal.Up
-- ==== Proof.Up3.lean ====
/- The feed-forward block's first half, columns 5376 to 5504: what the kernel leaves is the reference's result. -/
module

public import proofs.«01_k».proof.Proof.Gen.Kernel3Ideal.Value
public import proofs.«01_k».proof.Proof.Gen.Reference3Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.Kernel3Ideal.Up

open Cert.Kernel3Ideal Cert.Kernel3Ideal.Gen

/-- A gated unit of the hidden layer: the silu of the gate times the linear part. -/
def gated (a b : EReal) : EReal := (a * Ideal.div 1 (1 + Ideal.exp (0 - a))) * b

/-- A cell of the hidden block from a block of rows and two blocks of weight columns. -/
def cell (X : FVec Ideal S1024x2048 .bf16) (A B : FVec Ideal S2048x128 .bf16) (r : Fin 1024) (e : Fin 128) : EReal :=
  gated (∑ d : Fin 2048, X (ix2 r d) * A (ix2 d e)) (∑ d : Fin 2048, X (ix2 r d) * B (ix2 d e))

variable (m : (ℓ : Loc nD τ sig) → Buf (Elt Ideal) ℓ)

theorem lt8 (t : Fin cfg0.N) : t.val < 8 := lt_of_lt_of_eq t.isLt N_0

/-- The row argument as launched. -/
abbrev rows (c : Dev nD) : FVec Ideal S8192x2048 .bf16 := m ((c.tc : Thread nD τ).loc main_arg0)
/-- The gate's weights as launched. -/
abbrev wg (c : Dev nD) : FVec Ideal S4x2x2048x5504 .f32 := m ((c.tc : Thread nD τ).loc main_arg1)
/-- The linear part's weights as launched. -/
abbrev wl (c : Dev nD) : FVec Ideal S4x2x2048x5504 .f32 := m ((c.tc : Thread nD τ).loc main_arg2)

/-- The block indices of the four windows at every point. -/
theorem idx : ∀ t : Fin cfg0.N, win0_0.index t = ![t.val % 8, 0] ∧ win0_1.index t = ![0, 0, 0, 42]
    ∧ win0_2.index t = ![0, 0, 0, 42] ∧ win0_3.index t = ![t.val % 8, 0] :=
  (by decide +kernel : ∀ t : Fin grid0.N, _)

/-- The block of rows at a point. -/
theorem rows_at (c : Dev nD) (t : Fin cfg0.N) (r : Fin 1024) (d : Fin 2048) :
    (iblk m c 0 t : FVec Ideal S1024x2048 .bf16) (ix2 r d)
      = rows m c (ix2 ⟨t.val % 8 * 1024 + r.val, by omega⟩ d) := by
  blk_ext [iblk, V, idx t]

/-- The block of the gate's weights at a point. -/
theorem wg_at (c : Dev nD) (t : Fin cfg0.N) (d : Fin 2048) (e : Fin 128) :
    (iblk m c 1 t : FVec Ideal S1x1x2048x128 .f32) (ix4 0 0 d e)
      = wg m c (ix4 0 0 d ⟨5376 + e.val, by have := lt8 t; omega⟩) := by
  blk_ext [iblk, V, idx t]

/-- The block of the linear part's weights at a point. -/
theorem wl_at (c : Dev nD) (t : Fin cfg0.N) (d : Fin 2048) (e : Fin 128) :
    (iblk m c 2 t : FVec Ideal S1x1x2048x128 .f32) (ix4 0 0 d e)
      = wl m c (ix4 0 0 d ⟨5376 + e.val, by have := lt8 t; omega⟩) := by
  blk_ext [iblk, V, idx t]

/-- At a column's first point the gate's scratch is the block of weights. -/
theorem sg_A (c : Dev nD) (t : Fin cfg0.N) (h0 : t.val % 8 = 0) (d : Fin 2048) (e : Fin 128) :
    (outsAt0 m c t.val t.isLt).2.1 (ix2 d e) = (iblk m c 1 t : FVec Ideal S1x1x2048x128 .f32) (ix4 0 0 d e) := by
  rw [outsAt0_A m c t h0]
  frame_open
  frame_out
  open_payloads; pointwise []

/-- At a column's first point the linear part's scratch is the block of weights. -/
theorem sl_A (c : Dev nD) (t : Fin cfg0.N) (h0 : t.val % 8 = 0) (d : Fin 2048) (e : Fin 128) :
    (outsAt0 m c t.val t.isLt).2.2 (ix2 d e) = (iblk m c 2 t : FVec Ideal S1x1x2048x128 .f32) (ix4 0 0 d e) := by
  rw [outsAt0_A m c t h0]
  frame_open
  frame_out
  open_payloads; pointwise []

/-- At a later point both scratches are what they were. -/
theorem s_B (c : Dev nD) (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]
  rfl

/-- The output block at a column's first point. -/
theorem out_A (c : Dev nD) (t : Fin cfg0.N) (h0 : t.val % 8 = 0) (r : Fin 1024) (e : Fin 128) :
    (outsAt0 m c t.val t.isLt).1 (ix2 r e)
      = cell (iblk m c 0 t) (k0_pay1 (iblk m c 1 t)) (k0_pay2 (iblk m c 2 t)) r e := by
  rw [outsAt0_A m c t h0]
  frame_open
  simp (disch := decide) only [↓ View.readCov_skip, ↓ View.readCov_cons_toLoadRect, ↓ View.readCov_fill]
  frame_out
  open_payloads; pointwise [cell, gated, k0_pay1, k0_pay2]

/-- The output block at a later point. -/
theorem out_B (c : Dev nD) (t : Fin cfg0.N) (h0 : ¬t.val % 8 = 0) (r : Fin 1024) (e : Fin 128) :
    (outsAt0 m c t.val t.isLt).1 (ix2 r e)
      = cell (iblk m c 0 t) (outsAt0 m c (t.val - 1) (Nat.lt_of_le_of_lt (Nat.sub_le _ _) t.isLt)).2.1
          (outsAt0 m c (t.val - 1) (Nat.lt_of_le_of_lt (Nat.sub_le _ _) t.isLt)).2.2 r e := by
  rw [outsAt0_B m c t h0]
  frame_out
  open_payloads; pointwise [cell, gated]; simp only [read_unread_whole]

/-- A gated unit of row `i` and column `j` of the weights. -/
def unit (h : FVec Ideal S8192x2048 .bf16) (g l : FVec Ideal S4x2x2048x5504 .f32) (i : Fin 8192) (j : Fin 5504) : EReal :=
  gated (∑ d : Fin 2048, h (ix2 i d) * g (ix4 0 0 d j)) (∑ d : Fin 2048, h (ix2 i d) * l (ix4 0 0 d j))

/-- The scratches after point `n` hold the weights' columns of that point. -/
theorem scr (c : Dev nD) : ∀ (n : ℕ) (hn : n < cfg0.N) (d : Fin 2048) (e : Fin 128) (j : Fin 5504), j.val = 5376 + e.val →
    (outsAt0 m c n hn).2.1 (ix2 d e) = wg m c (ix4 0 0 d j) ∧ (outsAt0 m c n hn).2.2 (ix2 d e) = wl m c (ix4 0 0 d j) := by
  have base : ∀ (t : Fin cfg0.N) (d : Fin 2048) (e : Fin 128) (j : Fin 5504), j.val = 5376 + e.val → t.val % 8 = 0 →
      (outsAt0 m c t.val t.isLt).2.1 (ix2 d e) = wg m c (ix4 0 0 d j)
        ∧ (outsAt0 m c t.val t.isLt).2.2 (ix2 d e) = wl m c (ix4 0 0 d j) := by
    intro t d e j hj h0
    have h8 := lt8 t
    rw [show j = ⟨5376 + e.val, by omega⟩ from Fin.ext hj]
    exact ⟨(sg_A m c t h0 d e).trans (wg_at m c t d e), (sl_A m c t h0 d e).trans (wl_at m c t d e)⟩
  intro n
  induction n with
  | zero => exact fun hn d e j hj => base ⟨0, hn⟩ d e j hj rfl
  | succ n ih =>
    intro hn d e j hj
    by_cases h0 : (n + 1) % 8 = 0
    · exact base ⟨n + 1, hn⟩ d e j hj h0
    · have h := s_B m c ⟨n + 1, hn⟩ h0
      have hp := ih (Nat.lt_of_succ_lt hn) d e j (by omega)
      exact ⟨(congrFun (congrArg Prod.fst h) (ix2 d e)).trans hp.1, (congrFun (congrArg Prod.snd h) (ix2 d e)).trans hp.2⟩

/-- The output block of a point. -/
theorem out_at (c : Dev nD) (t : Fin cfg0.N) (r : Fin 1024) (e : Fin 128) :
    (outsAt0 m c t.val t.isLt).1 (ix2 r e)
      = unit (rows m c) (wg m c) (wl m c) ⟨t.val % 8 * 1024 + r.val, by omega⟩
          ⟨5376 + e.val, by have := lt8 t; omega⟩ := by
  have h8 := lt8 t
  by_cases h0 : t.val % 8 = 0
  · rw [out_A m c t h0]
    unfold cell unit
    have hg : ∀ d, k0_pay1 (iblk m c 1 t) (ix2 d e) = wg m c (ix4 0 0 d ⟨5376 + e.val, by omega⟩) := fun d => by
      rw [← wg_at m c t d e]; pointwise [k0_pay1]
    have hl : ∀ d, k0_pay2 (iblk m c 2 t) (ix2 d e) = wl m c (ix4 0 0 d ⟨5376 + e.val, by omega⟩) := fun d => by
      rw [← wl_at m c t d e]; pointwise [k0_pay2]
    simp only [hg, hl, rows_at]
  · rw [out_B m c t h0]
    unfold cell unit
    have hp := fun d => scr m c (t.val - 1) (Nat.lt_of_le_of_lt (Nat.sub_le _ _) t.isLt) d e ⟨5376 + e.val, by omega⟩
      (by show 5376 + e.val = 5376 + e.val; omega)
    simp only [(hp _).1, (hp _).2, rows_at]

/-- The reference's result at a row and a column. -/
theorem ref_at (h : FVec Ideal S8192x2048 .bf16) (g l : FVec Ideal S4x2x2048x5504 .f32) (i : Fin 8192) (j : Fin 128) :
    (Cert.Reference3Ideal.Read.val_main_v10 (F := Ideal) h g l : FVec Ideal S8192x128 .bf16) (ix2 i j)
      = unit h g l i ⟨5376 + j.val, by omega⟩ := by
  unfold unit
  pointwise [gated, zero_sub, Cert.Reference3Ideal.Read.val_main_v10, Cert.Reference3Ideal.Read.val_main_v9, Cert.Reference3Ideal.Read.val_main_v8,
    Cert.Reference3Ideal.Read.val_main_v7, Cert.Reference3Ideal.Read.val_main_v6, Cert.Reference3Ideal.Read.val_main_v5,
    Cert.Reference3Ideal.Read.val_main_v4, Cert.Reference3Ideal.Read.val_main_v3, Cert.Reference3Ideal.Read.val_main_v2,
    Cert.Reference3Ideal.Read.val_main_v1, Cert.Reference3Ideal.Read.val_main_v0, Cert.Reference3Ideal.Read.val_main_call0_v0,
    Cert.Reference3Ideal.Read.val_main_call0_v1, Cert.Reference3Ideal.Read.val_main_call0_v2, Cert.Reference3Ideal.Read.val_main_call0_v3,
    Cert.Reference3Ideal.Read.val_main_call0_v4, Cert.Reference3Ideal.Read.val_main_call0_v5, Cert.Reference3Ideal.Read.val_main_call0_cst,
    Cert.Reference3Ideal.Read.val_main_call0_cst_0]

/-- The kernel's result array is the reference's result. -/
theorem arr_eq (c : Dev nD) :
    (dats m 0 c).arrAt 3 cfg0.N = Cert.Reference3Ideal.Read.val_main_v10 (F := Ideal) (rows m c) (wg m c) (wl m c) := by
  refine (dats m 0 c).arrAt_eq_of_covers 3 _ (by decide +kernel) fun t hf y => ?_
  have h8 := lt8 t
  blk_simp
  rw [after0_3]
  have hy : y = ix2 (y 0) (y 1) := by funext a; match a with | ⟨0, _⟩ => rfl | ⟨1, _⟩ => rfl
  refine ((congrArg _ hy).trans (out_at m c t (y 0) (y 1))).trans ?_
  have h0 : (y 0).val < 1024 := (y 0).isLt
  have h1 : (y 1).val < 128 := (y 1).isLt
  refine (ref_at (rows m c) (wg m c) (wl m c) ⟨t.val % 8 * 1024 + (y 0).val, by omega⟩ ⟨(y 1).val, by omega⟩).symm.trans ?_
  refine congrArg (Cert.Reference3Ideal.Read.val_main_v10 (F := Ideal) (rows m c) (wg m c) (wl m c) : FVec Ideal S8192x128 .bf16) ?_
  blk_ext [idx t]

end Cert.Kernel3Ideal.Up
-- ==== Proof.Norm.lean ====
/- The row norm and the residual step of the layer as functions of one row; a sum cut into tiles. -/
module

public import Idealize.ShloMosaic.Lib.Pipeline.ValueKit

@[expose] public section

set_option maxRecDepth 16384

noncomputable section

open Idealize.ShloMosaic Idealize.ShloMosaic.TcCoe

namespace Cert.Norm

/-- One entry of a row's root-mean-square norm with gain `g`. -/
def rms (f g : Fin 2048 → EReal) (e : Fin 2048) : EReal :=
  f e * Ideal.rsqrt (Ideal.div (∑ k, f k * f k) (Ideal.ofBits .f32 0x45000000#32) + Ideal.ofBits .f32 0x358637BD#32) * g e

/-- One entry of the stream after a sublayer's output `y` was normed, scaled by `s` and added. -/
def step (s : EReal) (x y g : Fin 2048 → EReal) (e : Fin 2048) : EReal := x e + s * rms y g e

/-- A sum over 5376 places in three stretches of 1792. -/
theorem sum_5376 (f : Fin 5376 → EReal) :
    ∑ k, f k = (∑ k : Fin 1792, f ⟨0 * 1792 + k.val, by omega⟩ + ∑ k : Fin 1792, f ⟨1 * 1792 + k.val, by omega⟩)
      + ∑ k : Fin 1792, f ⟨2 * 1792 + k.val, by omega⟩ :=
  (Fin.sum_univ_tiles 3 1792 rfl f).trans (Fin.sum_univ_three _)

/-- A sum over 2048 places in two stretches of 1024. -/
theorem sum_2048 (f : Fin 2048 → EReal) :
    ∑ k, f k = ∑ k : Fin 1024, f ⟨0 * 1024 + k.val, by omega⟩ + ∑ k : Fin 1024, f ⟨1 * 1024 + k.val, by omega⟩ :=
  (Fin.sum_univ_tiles 2 1024 rfl f).trans (Fin.sum_univ_two _)

end Cert.Norm
-- ==== Proof.Down.lean ====
/- The feed-forward block's second half with the residual step and the next norm: what the kernel leaves is the
reference's results. -/
module

public import proofs.«01_k».proof.Proof.Gen.Kernel4Ideal.Value
public import proofs.«01_k».proof.Proof.Gen.Reference4Ideal.Read
public import proofs.«01_k».proof.Proof.Norm
public import Idealize.ShloMosaic.Lib.Pipeline.ValueKit
public import Idealize.ShloMosaic.Lib.Pipeline.ReadBack
public import Idealize.ShloMosaic.Lib.StableHlo.ReadAt

@[expose] public section

set_option maxRecDepth 16384

noncomputable section

open Idealize.ShloMosaic Idealize.ShloMosaic.TcCoe Idealize.SL.Sem

namespace Cert.Kernel4Ideal.Down

open Cert.Kernel4Ideal Cert.Kernel4Ideal.Gen Cert.Norm

/-- One half. -/
abbrev half : EReal := Ideal.ofBits .f32 0x3F000000#32

variable (m : (ℓ : Loc nD τ sig) → Buf (Elt Ideal) ℓ)

theorem lt48 (t : Fin cfg0.N) : t.val < 48 := lt_of_lt_of_eq t.isLt N_0

/-- The hidden units 0 to 5376 as launched. -/
abbrev units (c : Dev nD) : FVec Ideal S8192x5376 .bf16 := m ((c.tc : Thread nD τ).loc main_arg0)
/-- The last 128 hidden units as launched. -/
abbrev last (c : Dev nD) : FVec Ideal S8192x128 .bf16 := m ((c.tc : Thread nD τ).loc main_arg1)
/-- The weights as launched. -/
abbrev w2 (c : Dev nD) : FVec Ideal S4x2x5504x2048 .f32 := m ((c.tc : Thread nD τ).loc main_arg2)
/-- The residual stream as launched. -/
abbrev xs (c : Dev nD) : FVec Ideal S8192x2048 .f32 := m ((c.tc : Thread nD τ).loc main_arg3)
/-- The norms' gains as launched. -/
abbrev gains (c : Dev nD) : FVec Ideal S4x6x2048 .f32 := m ((c.tc : Thread nD τ).loc main_arg4)

/-- The block indices of the nine windows at every point. -/
theorem idx : ∀ t : Fin cfg0.N, win0_0.index t = ![t.val / 3, t.val % 3] ∧ win0_1.index t = ![0, 0, t.val % 3, 0]
    ∧ win0_2.index t = ![t.val / 3, 0] ∧ win0_3.index t = ![0, 0, 42, 0] ∧ win0_4.index t = ![t.val / 3, 0]
    ∧ win0_5.index t = ![0, 0, 0] ∧ win0_6.index t = ![0, 0, 0]
    ∧ win0_7.index t = ![t.val / 3, 0] ∧ win0_8.index t = ![t.val / 3, 0] :=
  (by decide +kernel : ∀ t : Fin grid0.N, _)

/-- The weights the call reads are the argument's. -/
theorem w2_host (c : Dev nD) (k : Fin 5504) (e : Fin 2048) :
    (V m c main_v0 : FVec Ideal S4x2x5504x2048 .bf16) (ix4 0 0 k e) = w2 m c (ix4 0 0 k e) := by
  unfold V
  simp only [hostOps0, List.flatten_cons, List.flatten_nil, List.append_nil, List.cons_append, List.nil_append]
  after_reads_at

/-- The block of hidden units at a point. -/
theorem units_at (c : Dev nD) (t : Fin cfg0.N) (r : Fin 512) (k : Fin 1792) :
    (iblk m c 0 t : FVec Ideal S512x1792 .bf16) (ix2 r k)
      = units m c (ix2 ⟨t.val / 3 * 512 + r.val, by have := lt48 t; omega⟩ ⟨t.val % 3 * 1792 + k.val, by omega⟩) := by
  blk_ext [iblk, V, idx t]

/-- The block of weights at a point. -/
theorem w_at (c : Dev nD) (t : Fin cfg0.N) (k : Fin 1792) (e : Fin 2048) :
    (X0_1 m c t : FVec Ideal S1x1x1792x2048 .bf16) (ix4 0 0 k e) = w2 m c (ix4 0 0 ⟨t.val % 3 * 1792 + k.val, by omega⟩ e) := by
  rw [← w2_host m c]
  unfold X0_1 Pipeline.Window.fill
  rw [dif_pos (moved0_1 t _)]
  blk_ext [iblk, idx t]

/-- The block of the last hidden units at a point. -/
theorem last_at (c : Dev nD) (t : Fin cfg0.N) (r : Fin 512) (k : Fin 128) :
    (iblk m c 2 t : FVec Ideal S512x128 .bf16) (ix2 r k)
      = last m c (ix2 ⟨t.val / 3 * 512 + r.val, by have := lt48 t; omega⟩ k) := by
  blk_ext [iblk, V, idx t]

/-- The last weights' block at a point. -/
theorem wt_at (c : Dev nD) (t : Fin cfg0.N) (k : Fin 128) (e : Fin 2048) :
    (iblk m c 3 t : FVec Ideal S1x1x128x2048 .bf16) (ix4 0 0 k e) = w2 m c (ix4 0 0 ⟨5376 + k.val, by omega⟩ e) := by
  rw [← w2_host m c]
  blk_ext [iblk, idx t]

/-- The stream's block at a point. -/
theorem xs_at (c : Dev nD) (t : Fin cfg0.N) (r : Fin 512) (e : Fin 2048) :
    (iblk m c 4 t : FVec Ideal S512x2048 .f32) (ix2 r e)
      = xs m c (ix2 ⟨t.val / 3 * 512 + r.val, by have := lt48 t; omega⟩ e) := by
  blk_ext [iblk, V, idx t]

/-- The residual norm's gains at a point. -/
theorem g_at (c : Dev nD) (t : Fin cfg0.N) (e : Fin 2048) :
    (iblk m c 5 t : FVec Ideal S1x6x2048 .f32) (ix3 0 1 e) = gains m c (ix3 0 1 e) := by
  blk_ext [iblk, V, idx t]

/-- The next norm's gains at a point. -/
theorem gn_at (c : Dev nD) (t : Fin cfg0.N) (e : Fin 2048) :
    (iblk m c 6 t : FVec Ideal S1x6x2048 .f32) (ix3 0 2 e) = gains m c (ix3 0 2 e) := by
  blk_ext [iblk, V, idx t]

/-- The product of a block of hidden units and a block of weights. -/
def part {n : ℕ} (L : FVec Ideal ⟨2, ![512, n]⟩ .bf16) (W : FVec Ideal ⟨4, ![1, 1, n, 2048]⟩ .bf16) (r : Fin 512) (e : Fin 2048) : EReal :=
  ∑ k : Fin n, L (ix2 r k) * W (ix4 0 0 k e)

/-- The first product a point stores: the last units against their weights. -/
theorem pay1_at (L : FVec Ideal S512x128 .bf16) (W : FVec Ideal S1x1x128x2048 .bf16) (r : Fin 512) (e : Fin 2048) :
    k0_pay1 (F := Ideal) L W (ix2 r e) = part L W r e := by
  pointwise [k0_pay1, part]

/-- A tile's product added to what was there. -/
theorem pay2_at (A : FVec Ideal S512x2048 .f32) (L : FVec Ideal S512x1792 .bf16) (W : FVec Ideal S1x1x1792x2048 .bf16) (r : Fin 512) (e : Fin 2048) :
    k0_pay2 (F := Ideal) A L W (ix2 r e) = A (ix2 r e) + part L W r e := by
  pointwise [k0_pay2, part]

/-- The last tile's product added to what was there, on half the rows. -/
def acc (A : FVec Ideal S256x2048 .f32) (L : FVec Ideal S256x1792 .bf16) (W : FVec Ideal S1x1x1792x2048 .bf16) (r : Fin 256) (e : Fin 2048) : EReal :=
  A (ix2 r e) + ∑ k : Fin 1792, L (ix2 r k) * W (ix4 0 0 k e)

/-- The first rows' residual step. -/
theorem pay4_at (A : FVec Ideal S256x2048 .f32) (L : FVec Ideal S256x1792 .bf16) (W : FVec Ideal S1x1x1792x2048 .bf16)
    (X : FVec Ideal S256x2048 .f32) (G : FVec Ideal S1x1x2048 .f32) (r : Fin 256) (e : Fin 2048) :
    k0_pay4 (F := Ideal) A L W X G (ix2 r e) = step half (fun e => X (ix2 r e)) (acc A L W r) (fun e => G (ix3 0 0 e)) e := by
  pointwise [k0_pay4, step, rms, acc]

/-- The other rows' residual step. -/
theorem pay9_at (A : FVec Ideal S256x2048 .f32) (L : FVec Ideal S256x1792 .bf16) (W : FVec Ideal S1x1x1792x2048 .bf16)
    (X : FVec Ideal S256x2048 .f32) (G : FVec Ideal S1x1x2048 .f32) (r : Fin 256) (e : Fin 2048) :
    k0_pay9 (F := Ideal) A L W X G (ix2 r e) = step half (fun e => X (ix2 r e)) (acc A L W r) (fun e => G (ix3 0 0 e)) e := by
  pointwise [k0_pay9, step, rms, acc]

/-- The other rows' next norm. -/
theorem pay3_at (X : FVec Ideal S256x2048 .f32) (G : FVec Ideal S1x1x2048 .f32) (r : Fin 256) (e : Fin 2048) :
    k0_pay3 (F := Ideal) X G (ix2 r e) = rms (fun e => X (ix2 r e)) (fun e => G (ix3 0 0 e)) e := by
  pointwise [k0_pay3, rms]

/-- The first rows' next norm. -/
theorem pay8_at (A : FVec Ideal S256x2048 .f32) (L : FVec Ideal S256x1792 .bf16) (W : FVec Ideal S1x1x1792x2048 .bf16)
    (X : FVec Ideal S256x2048 .f32) (G G' : FVec Ideal S1x1x2048 .f32) (r : Fin 256) (e : Fin 2048) :
    k0_pay8 (F := Ideal) (k0_pay4 A L W X G) (k0_pay5 G') (k0_pay6 A L W X G) k0_pay7 (ix2 r e)
      = rms (fun e => k0_pay4 (F := Ideal) A L W X G (ix2 r e)) (fun e => G' (ix3 0 0 e)) e := by
  pointwise [k0_pay8, k0_pay5, k0_pay6, k0_pay7, rms]

/-- What a block's first point leaves in the scratch. -/
theorem s_A (c : Dev nD) (t : Fin cfg0.N) (h0 : t.val % 3 = 0) (r : Fin 512) (e : Fin 2048) :
    (outsAt0 m c t.val t.isLt).2.2 (ix2 r e)
      = k0_pay2 (F := Ideal) (k0_pay1 (iblk m c 2 t) (iblk m c 3 t)) (iblk m c 0 t) (X0_1 m c t) (ix2 r e) := by
  rw [outsAt0_A m c t h0 (by omega) (by omega)]
  frame_open
  simp (disch := decide) only [↓ View.readCov_skip, ↓ View.readCov_cons_toLoadRect, ↓ View.readCov_fill]
  frame_out

/-- What a block's second point leaves in the scratch. -/
theorem s_B (c : Dev nD) (t : Fin cfg0.N) (h0 : t.val % 3 = 1) (r : Fin 512) (e : Fin 2048) :
    (outsAt0 m c t.val t.isLt).2.2 (ix2 r e)
      = k0_pay2 (F := Ideal) (outsAt0 m c (t.val - 1) (Nat.lt_of_le_of_lt (Nat.sub_le _ _) t.isLt)).2.2 (iblk m c 0 t) (X0_1 m c t) (ix2 r e) := by
  rw [outsAt0_B m c t (by omega) (by omega) (by omega)]
  frame_open
  frame_out
  simp only [read_unread_whole]

/-- The whole product of a point's block from what the scratch held. -/
def full (A : FVec Ideal S512x2048 .f32) (L : FVec Ideal S512x1792 .bf16) (W : FVec Ideal S1x1x1792x2048 .bf16) (r : Fin 512) (e : Fin 2048) : EReal :=
  A (ix2 r e) + part L W r e

/-- The stream's block a block's last point writes. -/
theorem x_C (c : Dev nD) (t : Fin cfg0.N) (g0 : t.val % 3 = 2) (y : S512x2048.Idx) (r : Fin 512) (e : Fin 2048)
    (hr : (y 0).val = r.val) (he : (y 1).val = e.val) :
    (outsAt0 m c t.val t.isLt).1 y
      = step half (fun e => (iblk m c 4 t : FVec Ideal S512x2048 .f32) (ix2 r e))
          (full (outsAt0 m c (t.val - 1) (Nat.lt_of_le_of_lt (Nat.sub_le _ _) t.isLt)).2.2 (iblk m c 0 t) (X0_1 m c t) r)
          (fun e => (iblk m c 5 t : FVec Ideal S1x6x2048 .f32) (ix3 0 1 e)) e := by
  rw [outsAt0_C m c t (by omega) (by omega) g0]
  frame_open
  frame_out
  canon_tiles x h
  case piece0 =>
    rw [show r = ⟨256 + (x 0).val, by omega⟩ from Fin.ext (by show r.val = 256 + (x 0).val; omega)]
    obtain rfl : e = x 1 := Fin.ext (by omega)
    pointwise [k0_pay9, step, rms, full, part]
    simp only [read_unread_whole]
  case piece1 =>
    rw [show r = ⟨(x 0).val, by omega⟩ from Fin.ext (by show r.val = (x 0).val; omega)]
    obtain rfl : e = x 1 := Fin.ext (by omega)
    pointwise [k0_pay4, step, rms, full, part]
    simp only [read_unread_whole]

/-- The normed stream's block a block's last point writes. -/
theorem h_C (c : Dev nD) (t : Fin cfg0.N) (g0 : t.val % 3 = 2) (y : S512x2048.Idx) (r : Fin 512) (e : Fin 2048)
    (hr : (y 0).val = r.val) (he : (y 1).val = e.val) :
    (outsAt0 m c t.val t.isLt).2.1 y
      = rms (step half (fun e => (iblk m c 4 t : FVec Ideal S512x2048 .f32) (ix2 r e))
          (full (outsAt0 m c (t.val - 1) (Nat.lt_of_le_of_lt (Nat.sub_le _ _) t.isLt)).2.2 (iblk m c 0 t) (X0_1 m c t) r)
          (fun e => (iblk m c 5 t : FVec Ideal S1x6x2048 .f32) (ix3 0 1 e)))
          (fun e => (iblk m c 6 t : FVec Ideal S1x6x2048 .f32) (ix3 0 2 e)) e := by
  rw [outsAt0_C m c t (by omega) (by omega) g0]
  frame_open
  frame_out
  canon_tiles x h
  case piece0 =>
    rw [show r = ⟨256 + (x 0).val, by omega⟩ from Fin.ext (by show r.val = 256 + (x 0).val; omega)]
    obtain rfl : e = x 1 := Fin.ext (by omega)
    have hx : x = ix2 (x 0) (x 1) := by funext a; match a with | ⟨0, _⟩ => rfl | ⟨1, _⟩ => rfl
    refine ((congrArg _ hx).trans (pay3_at _ _ (x 0) (x 1))).trans ?_
    refine congrArg₂ (fun f g => rms f g (x 1)) (funext fun e => ?_) (funext fun e => ?_)
    · refine (pay9_at _ _ _ _ _ (x 0) e).trans ?_
      pointwise [step, rms, acc, full, part]
      simp only [read_unread_whole]
    · pointwise []
  case piece1 =>
    rw [show r = ⟨(x 0).val, by omega⟩ from Fin.ext (by show r.val = (x 0).val; omega)]
    obtain rfl : e = x 1 := Fin.ext (by omega)
    have hx : x = ix2 (x 0) (x 1) := by funext a; match a with | ⟨0, _⟩ => rfl | ⟨1, _⟩ => rfl
    refine ((congrArg _ hx).trans (pay8_at _ _ _ _ _ _ (x 0) (x 1))).trans ?_
    refine congrArg₂ (fun f g => rms f g (x 1)) (funext fun e => ?_) (funext fun e => ?_)
    · refine (pay4_at _ _ _ _ _ (x 0) e).trans ?_
      pointwise [step, rms, acc, full, part]
      simp only [read_unread_whole]
    · pointwise []

/-- An entry of the whole product: the first 5376 hidden units and the last 128. -/
def prod (U : FVec Ideal S8192x5376 .bf16) (L : FVec Ideal S8192x128 .bf16) (W : FVec Ideal S4x2x5504x2048 .f32) (i : Fin 8192) (e : Fin 2048) : EReal :=
  ∑ k : Fin 5376, U (ix2 i k) * W (ix4 0 0 ⟨k.val, by omega⟩ e) + ∑ k : Fin 128, L (ix2 i k) * W (ix4 0 0 ⟨5376 + k.val, by omega⟩ e)

/-- The part of the product over tile `q`. -/
def tile (U : FVec Ideal S8192x5376 .bf16) (W : FVec Ideal S4x2x5504x2048 .f32) (q : ℕ) (hq : q < 3) (i : Fin 8192) (e : Fin 2048) : EReal :=
  ∑ k : Fin 1792, U (ix2 i ⟨q * 1792 + k.val, by omega⟩) * W (ix4 0 0 ⟨q * 1792 + k.val, by omega⟩ e)

/-- The product of a point's blocks is a part of the whole one. -/
theorem tile_at (c : Dev nD) (t : Fin cfg0.N) (r : Fin 512) (e : Fin 2048) :
    part (n := 1792) (iblk m c 0 t) (X0_1 m c t) r e
      = tile (units m c) (w2 m c) (t.val % 3) (by omega) ⟨t.val / 3 * 512 + r.val, by have := lt48 t; omega⟩ e :=
  Finset.sum_congr rfl fun k _ => Ideal.mul_congr (units_at m c t r k) (w_at m c t k e)

/-- The product of the last units' block. -/
theorem last_part (c : Dev nD) (t : Fin cfg0.N) (r : Fin 512) (e : Fin 2048) :
    part (n := 128) (iblk m c 2 t) (iblk m c 3 t) r e
      = ∑ k : Fin 128, last m c (ix2 ⟨t.val / 3 * 512 + r.val, by have := lt48 t; omega⟩ k) * w2 m c (ix4 0 0 ⟨5376 + k.val, by omega⟩ e) :=
  Finset.sum_congr rfl fun k _ => Ideal.mul_congr (last_at m c t r k) (wt_at m c t k e)

/-- The whole product from its parts. -/
theorem prod_eq (U : FVec Ideal S8192x5376 .bf16) (L : FVec Ideal S8192x128 .bf16) (W : FVec Ideal S4x2x5504x2048 .f32) (i : Fin 8192) (e : Fin 2048) :
    ((∑ k : Fin 128, L (ix2 i k) * W (ix4 0 0 ⟨5376 + k.val, by omega⟩ e) + tile U W 0 (by omega) i e) + tile U W 1 (by omega) i e)
      + tile U W 2 (by omega) i e = prod U L W i e := by
  unfold prod
  rw [sum_5376, add_comm _ (∑ k : Fin 128, _), ← add_assoc, ← add_assoc]
  rfl

/-- The parts at equal tiles and rows are equal. -/
theorem tile_congr {U : FVec Ideal S8192x5376 .bf16} {W : FVec Ideal S4x2x5504x2048 .f32} {q q' : ℕ} {hq : q < 3} {hq' : q' < 3}
    {i i' : Fin 8192} {e : Fin 2048} (h : q = q') (g : i.val = i'.val) : tile U W q hq i e = tile U W q' hq' i' e := by
  subst h; rw [Fin.ext g]

/-- At a block's last point the whole product is there. -/
theorem full_at (c : Dev nD) (t : Fin cfg0.N) (g0 : t.val % 3 = 2) (r : Fin 512) (e : Fin 2048) :
    full (outsAt0 m c (t.val - 1) (Nat.lt_of_le_of_lt (Nat.sub_le _ _) t.isLt)).2.2 (iblk m c 0 t) (X0_1 m c t) r e
      = prod (units m c) (last m c) (w2 m c) ⟨t.val / 3 * 512 + r.val, by have := lt48 t; omega⟩ e := by
  have h48 := lt48 t
  have b := s_B m c ⟨t.val - 1, Nat.lt_of_le_of_lt (Nat.sub_le _ _) t.isLt⟩ (by show (t.val - 1) % 3 = 1; omega) r e
  have a := s_A m c ⟨t.val - 1 - 1, Nat.lt_of_le_of_lt (Nat.sub_le _ _) (Nat.lt_of_le_of_lt (Nat.sub_le _ _) t.isLt)⟩ (by show (t.val - 1 - 1) % 3 = 0; omega) r e
  rw [pay2_at, tile_at] at a b
  rw [pay1_at, last_part] at a
  unfold full
  refine (congrArg₂ (· + ·) (b.trans (congrArg (· + _) a)) (tile_at m c t r e)).trans ?_
  rw [← prod_eq]
  refine congrArg₂ (· + ·) (congrArg₂ (· + ·) (congrArg₂ (· + ·) ?_ (tile_congr ?_ ?_)) (tile_congr ?_ ?_)) (tile_congr ?_ ?_)
  · refine Finset.sum_congr rfl fun k _ => congrArg (fun i => last m c (ix2 i k) * w2 m c (ix4 0 0 ⟨5376 + k.val, by omega⟩ e)) (Fin.ext ?_)
    show (t.val - 1 - 1) / 3 * 512 + r.val = t.val / 3 * 512 + r.val
    omega
  · show (t.val - 1 - 1) % 3 = 0; omega
  · show (t.val - 1 - 1) / 3 * 512 + r.val = t.val / 3 * 512 + r.val; omega
  · show (t.val - 1) % 3 = 1; omega
  · show (t.val - 1) / 3 * 512 + r.val = t.val / 3 * 512 + r.val; omega
  · exact g0
  · rfl

/-- The reference's product. -/
theorem ref_y (U : FVec Ideal S8192x5376 .bf16) (L : FVec Ideal S8192x128 .bf16) (W : FVec Ideal S4x2x5504x2048 .f32) (i : Fin 8192) (e : Fin 2048) :
    (Cert.Reference4Ideal.Read.val_main_v6 (F := Ideal) U L W : FVec Ideal S8192x2048 .f32) (ix2 i e) = prod U L W i e := by
  pointwise [Cert.Reference4Ideal.Read.val_main_v6, Cert.Reference4Ideal.Read.val_main_v5, Cert.Reference4Ideal.Read.val_main_v4,
    Cert.Reference4Ideal.Read.val_main_v3, Cert.Reference4Ideal.Read.val_main_v2, prod]

/-- The reference's stream. -/
theorem ref_x (U : FVec Ideal S8192x5376 .bf16) (L : FVec Ideal S8192x128 .bf16) (W : FVec Ideal S4x2x5504x2048 .f32)
    (X : FVec Ideal S8192x2048 .f32) (G : FVec Ideal S4x6x2048 .f32) (i : Fin 8192) (e : Fin 2048) :
    (Cert.Reference4Ideal.Read.val_main_v24 (F := Ideal) U L W X G : FVec Ideal S8192x2048 .f32) (ix2 i e)
      = step half (fun e => X (ix2 i e)) (prod U L W i) (fun e => G (ix3 0 1 e)) e := by
  refine Eq.trans (b := step half (fun e => X (ix2 i e)) (fun e => (Cert.Reference4Ideal.Read.val_main_v6 (F := Ideal) U L W : FVec Ideal S8192x2048 .f32) (ix2 i e))
    (fun e => G (ix3 0 1 e)) e) ?_ (congrArg (fun f => step half (fun e => X (ix2 i e)) f (fun e => G (ix3 0 1 e)) e) (funext fun e => ref_y U L W i e))
  pointwise [Cert.Reference4Ideal.Read.val_main_v0, Cert.Reference4Ideal.Read.val_main_v1, Cert.Reference4Ideal.Read.val_main_v7, Cert.Reference4Ideal.Read.val_main_v8, Cert.Reference4Ideal.Read.val_main_v9, Cert.Reference4Ideal.Read.val_main_cst, Cert.Reference4Ideal.Read.val_main_v10, Cert.Reference4Ideal.Read.val_main_v11, Cert.Reference4Ideal.Read.val_main_cst_0, Cert.Reference4Ideal.Read.val_main_v12, Cert.Reference4Ideal.Read.val_main_v13, Cert.Reference4Ideal.Read.val_main_cst_1, Cert.Reference4Ideal.Read.val_main_v14, Cert.Reference4Ideal.Read.val_main_v15, Cert.Reference4Ideal.Read.val_main_v16, Cert.Reference4Ideal.Read.val_main_v17, Cert.Reference4Ideal.Read.val_main_v18, Cert.Reference4Ideal.Read.val_main_v19, Cert.Reference4Ideal.Read.val_main_v20, Cert.Reference4Ideal.Read.val_main_v21, Cert.Reference4Ideal.Read.val_main_cst_2, Cert.Reference4Ideal.Read.val_main_v22, Cert.Reference4Ideal.Read.val_main_v23, Cert.Reference4Ideal.Read.val_main_v24, step, rms]

/-- The reference's normed stream. -/
theorem ref_h (U : FVec Ideal S8192x5376 .bf16) (L : FVec Ideal S8192x128 .bf16) (W : FVec Ideal S4x2x5504x2048 .f32)
    (X : FVec Ideal S8192x2048 .f32) (G : FVec Ideal S4x6x2048 .f32) (i : Fin 8192) (e : Fin 2048) :
    (Cert.Reference4Ideal.Read.val_main_v40 (F := Ideal) U L W X G : FVec Ideal S8192x2048 .bf16) (ix2 i e)
      = rms (step half (fun e => X (ix2 i e)) (prod U L W i) (fun e => G (ix3 0 1 e))) (fun e => G (ix3 0 2 e)) e := by
  refine Eq.trans (b := rms (fun e => (Cert.Reference4Ideal.Read.val_main_v24 (F := Ideal) U L W X G : FVec Ideal S8192x2048 .f32) (ix2 i e))
    (fun e => G (ix3 0 2 e)) e) ?_ (congrArg (fun f => rms f (fun e => G (ix3 0 2 e)) e) (funext fun e => ref_x U L W X G i e))
  pointwise [Cert.Reference4Ideal.Read.val_main_v0, Cert.Reference4Ideal.Read.val_main_v1, Cert.Reference4Ideal.Read.val_main_v25, Cert.Reference4Ideal.Read.val_main_v26, Cert.Reference4Ideal.Read.val_main_v27, Cert.Reference4Ideal.Read.val_main_cst_3, Cert.Reference4Ideal.Read.val_main_v28, Cert.Reference4Ideal.Read.val_main_v29, Cert.Reference4Ideal.Read.val_main_cst_4, Cert.Reference4Ideal.Read.val_main_v30, Cert.Reference4Ideal.Read.val_main_v31, Cert.Reference4Ideal.Read.val_main_cst_5, Cert.Reference4Ideal.Read.val_main_v32, Cert.Reference4Ideal.Read.val_main_v33, Cert.Reference4Ideal.Read.val_main_v34, Cert.Reference4Ideal.Read.val_main_v35, Cert.Reference4Ideal.Read.val_main_v36, Cert.Reference4Ideal.Read.val_main_v37, Cert.Reference4Ideal.Read.val_main_v38, Cert.Reference4Ideal.Read.val_main_v39, Cert.Reference4Ideal.Read.val_main_v40, rms]

/-- A row's block position. -/
abbrev row (t : Fin cfg0.N) (r : Fin 512) : Fin 8192 := ⟨t.val / 3 * 512 + r.val, by have := lt48 t; omega⟩

/-- The streams in, the product and the gains at a block's last point. -/
theorem step_at (c : Dev nD) (t : Fin cfg0.N) (g0 : t.val % 3 = 2) (r : Fin 512) (e : Fin 2048) :
    step half (fun e => (iblk m c 4 t : FVec Ideal S512x2048 .f32) (ix2 r e))
          (full (outsAt0 m c (t.val - 1) (Nat.lt_of_le_of_lt (Nat.sub_le _ _) t.isLt)).2.2 (iblk m c 0 t) (X0_1 m c t) r)
          (fun e => (iblk m c 5 t : FVec Ideal S1x6x2048 .f32) (ix3 0 1 e)) e
      = step half (fun e => xs m c (ix2 (row t r) e)) (prod (units m c) (last m c) (w2 m c) (row t r)) (fun e => gains m c (ix3 0 1 e)) e := by
  rw [show (fun e => (iblk m c 4 t : FVec Ideal S512x2048 .f32) (ix2 r e)) = fun e => xs m c (ix2 (row t r) e) from funext fun e => xs_at m c t r e,
    show full (outsAt0 m c (t.val - 1) (Nat.lt_of_le_of_lt (Nat.sub_le _ _) t.isLt)).2.2 (iblk m c 0 t) (X0_1 m c t) r
      = prod (units m c) (last m c) (w2 m c) (row t r) from funext fun e => full_at m c t g0 r e,
    show (fun e => (iblk m c 5 t : FVec Ideal S1x6x2048 .f32) (ix3 0 1 e)) = fun e => gains m c (ix3 0 1 e) from funext fun e => g_at m c t e]

/-- The stream the call leaves is the reference's. -/
theorem x_eq (c : Dev nD) :
    (dats m 0 c).arrAt 7 cfg0.N = Cert.Reference4Ideal.Read.val_main_v24 (F := Ideal) (units m c) (last m c) (w2 m c) (xs m c) (gains m c) := by
  refine (dats m 0 c).arrAt_eq_of_covers 7 _ (by decide +kernel) fun t hf y => ?_
  have g0 : t.val % 3 = 2 := (flush0_7 t).mp hf
  have h48 := lt48 t
  blk_simp
  rw [after0_7]
  have b0 : (y 0).val < 512 := (y 0).isLt
  have b1 : (y 1).val < 2048 := (y 1).isLt
  refine (x_C m c t g0 y ⟨(y 0).val, b0⟩ ⟨(y 1).val, b1⟩ rfl rfl).trans ((step_at m c t g0 _ _).trans ?_)
  refine (ref_x (units m c) (last m c) (w2 m c) (xs m c) (gains m c) _ _).symm.trans ?_
  refine congrArg (Cert.Reference4Ideal.Read.val_main_v24 (F := Ideal) (units m c) (last m c) (w2 m c) (xs m c) (gains m c) : FVec Ideal S8192x2048 .f32) ?_
  blk_ext [idx t]

/-- The normed stream the call leaves is the reference's. -/
theorem h_eq (c : Dev nD) :
    (dats m 0 c).arrAt 8 cfg0.N = Cert.Reference4Ideal.Read.val_main_v40 (F := Ideal) (units m c) (last m c) (w2 m c) (xs m c) (gains m c) := by
  refine (dats m 0 c).arrAt_eq_of_covers 8 _ (by decide +kernel) fun t hf y => ?_
  have g0 : t.val % 3 = 2 := (flush0_8 t).mp hf
  have h48 := lt48 t
  blk_simp
  rw [after0_8]
  have b0 : (y 0).val < 512 := (y 0).isLt
  have b1 : (y 1).val < 2048 := (y 1).isLt
  refine (h_C m c t g0 y ⟨(y 0).val, b0⟩ ⟨(y 1).val, b1⟩ rfl rfl).trans ?_
  refine (congrArg₂ (fun f g => rms f g ⟨(y 1).val, b1⟩) (funext fun e => step_at m c t g0 _ e) (funext fun e => gn_at m c t e)).trans ?_
  refine (ref_h (units m c) (last m c) (w2 m c) (xs m c) (gains m c) _ _).symm.trans ?_
  refine congrArg (Cert.Reference4Ideal.Read.val_main_v40 (F := Ideal) (units m c) (last m c) (w2 m c) (xs m c) (gains m c) : FVec Ideal S8192x2048 .bf16) ?_
  blk_ext [idx t]

end Cert.Kernel4Ideal.Down
-- ==== Proof.ProjA.lean ====
/- The in-projection's columns of the retention: what the kernel leaves is the reference's result. -/
module

public import proofs.«01_k».proof.Proof.Gen.Kernel5Ideal.Value
public import proofs.«01_k».proof.Proof.Gen.Reference5Ideal.Read
public import Idealize.ShloMosaic.Lib.Pipeline.ValueKit
public import Idealize.ShloMosaic.Lib.Pipeline.ReadBack
public import Idealize.ShloMosaic.Lib.StableHlo.ReadAt

@[expose] public section

set_option maxRecDepth 16384

noncomputable section

open Idealize.ShloMosaic Idealize.ShloMosaic.TcCoe Idealize.SL.Sem

namespace Cert.Kernel5Ideal.Proj

open Cert.Kernel5Ideal Cert.Kernel5Ideal.Gen

/-- The angle of a row at position `p` and frequency `k` of the retention's 64. -/
def ang (p : BitVec 32) (k : ℕ) : EReal :=
  FloatOps.sitofp (F := Ideal) FTy.f32 p * Ideal.pow (Ideal.ofBits FTy.f32 0x461C4000#32)
    (Ideal.div (-FloatOps.sitofp (F := Ideal) FTy.f32 (BitVec.ofNat 32 k)) (Ideal.ofBits FTy.f32 0x42800000#32))

/-- The factor of a column at lane `l` of its head. -/
def tc (p : BitVec 32) (l : ℕ) : EReal := if l < 64 then Ideal.cos (ang p l) else Ideal.cos (ang p (l - 64))

/-- The factor of its partner, half a head away. -/
def ts (p : BitVec 32) (l : ℕ) : EReal := if l < 64 then -Ideal.sin (ang p l) else Ideal.sin (ang p (l - 64))

/-- A column of the projection of a row. -/
def col (h : FVec Ideal S8192x2048 .bf16) (w : FVec Ideal S2x2048x9216 .f32) (i : Fin 8192) (j : Fin 9216) : EReal :=
  ∑ d : Fin 2048, h (ix2 i d) * w (ix3 0 d j)

/-- A cell of the result: queries and keys are turned by the row's angle, `f` being the partner of column `j`. -/
def unit (h : FVec Ideal S8192x2048 .bf16) (p : IVec S1x8192 32) (w : FVec Ideal S2x2048x9216 .f32) (i : Fin 8192) (j f : Fin 9216) :
    EReal :=
  if j.val < 2048 then col h w i j * tc (p (ix2 0 i)) (j.val % 128) + col h w i f * ts (p (ix2 0 i)) (j.val % 128) else col h w i j

variable (m : (ℓ : Loc nD τ sig) → Buf (Elt Ideal) ℓ)

theorem lt48 (t : Fin cfg0.N) : t.val < 48 := lt_of_lt_of_eq t.isLt N_0

/-- The row argument as launched. -/
abbrev rows (c : Dev nD) : FVec Ideal S8192x2048 .bf16 := m ((c.tc : Thread nD τ).loc main_arg0)
/-- The rows' positions as launched. -/
abbrev pos (c : Dev nD) : IVec S1x8192 32 := m ((c.tc : Thread nD τ).loc main_arg1)
/-- The weights as launched. -/
abbrev ws (c : Dev nD) : FVec Ideal S2x2048x9216 .f32 := m ((c.tc : Thread nD τ).loc main_arg2)

/-- The block indices of the five windows at every point. -/
theorem idx : ∀ t : Fin cfg0.N, win0_0.index t = ![t.val % 8, 0] ∧ win0_1.index t = ![0, 0, t.val / 8]
    ∧ win0_2.index t = ![t.val % 8, 0] ∧ win0_3.index t = ![t.val % 8, 0] ∧ win0_4.index t = ![t.val % 8, t.val / 8] :=
  (by decide +kernel : ∀ t : Fin grid0.N, _)

/-- The block of rows at a point. -/
theorem rows_at (c : Dev nD) (t : Fin cfg0.N) (r : Fin 1024) (d : Fin 2048) :
    (iblk m c 0 t : FVec Ideal S1024x2048 .bf16) (ix2 r d)
      = rows m c (ix2 ⟨t.val % 8 * 1024 + r.val, by omega⟩ d) := by
  blk_ext [iblk, V, idx t]

/-- The block of weights at a point. -/
theorem ws_at (c : Dev nD) (t : Fin cfg0.N) (d : Fin 2048) (e : Fin 1024) :
    (iblk m c 1 t : FVec Ideal S1x2048x1024 .f32) (ix3 0 d e)
      = ws m c (ix3 0 d ⟨t.val / 8 * 1024 + e.val, by have := lt48 t; omega⟩) := by
  blk_ext [iblk, V, idx t]

/-- The host's table of the columns' factors. -/
theorem V_cos (c : Dev nD) (r : Fin 8192) (e : Fin 128) :
    (V m c main_v15 : FVec Ideal S8192x128 .f32) (ix2 r e) = tc (pos m c (ix2 0 r)) e.val := by
  unfold V
  simp only [hostOps0, List.flatten_cons, List.flatten_nil, List.append_nil, List.cons_append, List.nil_append]
  after_reads_at
  pointwise []
  rfl

/-- The host's table of the partners' factors. -/
theorem V_sin (c : Dev nD) (r : Fin 8192) (e : Fin 128) :
    (V m c main_v17 : FVec Ideal S8192x128 .f32) (ix2 r e) = ts (pos m c (ix2 0 r)) e.val := by
  unfold V
  simp only [hostOps0, List.flatten_cons, List.flatten_nil, List.append_nil, List.cons_append, List.nil_append]
  after_reads_at
  pointwise []
  rfl

/-- The block of the columns' factors at a point. -/
theorem cos_at (c : Dev nD) (t : Fin cfg0.N) (r : Fin 1024) (e : Fin 128) :
    (iblk m c 2 t : FVec Ideal S1024x128 .f32) (ix2 r e) = tc (pos m c (ix2 0 ⟨t.val % 8 * 1024 + r.val, by omega⟩)) e.val := by
  refine Eq.trans ?_ (V_cos m c ⟨t.val % 8 * 1024 + r.val, by omega⟩ e)
  blk_ext [iblk, idx t]

/-- The block of the partners' factors at a point. -/
theorem sin_at (c : Dev nD) (t : Fin cfg0.N) (r : Fin 1024) (e : Fin 128) :
    (iblk m c 3 t : FVec Ideal S1024x128 .f32) (ix2 r e) = ts (pos m c (ix2 0 ⟨t.val % 8 * 1024 + r.val, by omega⟩)) e.val := by
  refine Eq.trans ?_ (V_sin m c ⟨t.val % 8 * 1024 + r.val, by omega⟩ e)
  blk_ext [iblk, idx t]

/-- Whether a half of a column tile is turned: the first four halves are. -/
def use (t : ℕ) (s : Fin 2) : BitVec 1 := if t / 8 * 2 + s.val < 4 then 1 else 0

/-- The kernel's choice for half 0 of a point's column tile. -/
theorem bit0 : ∀ t : Fin cfg0.N, (let g := Scalar.addi (Scalar.muli (BitVec.ofNat 32 (grid0.coords t 0).val) 2#32) 0#32
    Scalar.ori (Scalar.ori (Scalar.ori (Scalar.cmpi .eq g 0#32) (Scalar.cmpi .eq g 1#32)) (Scalar.cmpi .eq g 2#32))
      (Scalar.cmpi .eq g 3#32)) = use t.val 0 :=
  (by decide +kernel : ∀ t : Fin grid0.N, _)

/-- The kernel's choice for half 1 of a point's column tile. -/
theorem bit1 : ∀ t : Fin cfg0.N, (let g := Scalar.addi (Scalar.muli (BitVec.ofNat 32 (grid0.coords t 0).val) 2#32) 1#32
    Scalar.ori (Scalar.ori (Scalar.ori (Scalar.cmpi .eq g 0#32) (Scalar.cmpi .eq g 1#32)) (Scalar.cmpi .eq g 2#32))
      (Scalar.cmpi .eq g 3#32)) = use t.val 1 :=
  (by decide +kernel : ∀ t : Fin grid0.N, _)

/-- A cell of the output block: the column itself, or the column and its partner turned by the row's angle. -/
def cell (b : BitVec 1) (X : FVec Ideal S1024x2048 .bf16) (W : FVec Ideal S2048x1024 .bf16) (C S : FVec Ideal S1024x128 .f32)
    (r : Fin 1024) (l : Fin 128) (e f : Fin 1024) : EReal :=
  Scalar.select b ((∑ d : Fin 2048, X (ix2 r d) * W (ix2 d e)) * C (ix2 r l) + (∑ d : Fin 2048, X (ix2 r d) * W (ix2 d f)) * S (ix2 r l))
    (∑ d : Fin 2048, X (ix2 r d) * W (ix2 d e))

/-- The output block at a column tile's first point. -/
theorem out_A (c : Dev nD) (t : Fin cfg0.N) (g0 : t.val % 8 = 0) (y : S1024x1024.Idx) (r : Fin 1024) (l : Fin 128) (e f : Fin 1024)
    (s : Fin 2) (hr : (y 0).val = r.val) (he : (y 1).val = e.val) (hl : l.val = e.val % 128)
    (hf : f.val = e.val / 128 * 128 + (l.val + 64) % 128) (hs : s.val = e.val / 512) :
    (outsAt0 m c t.val t.isLt).1 y = cell (use t.val s) (iblk m c 0 t) (k0_pay3 (iblk m c 1 t)) (iblk m c 2 t) (iblk m c 3 t) r l e f := by
  rw [outsAt0_A m c t g0]
  frame_open
  simp (disch := decide) only [↓ View.readCov_skip, ↓ View.readCov_cons_toLoadRect, ↓ View.readCov_fill]
  frame_out
  canon_tiles x h
  case piece0 =>
    obtain rfl : r = x 0 := Fin.ext (by omega)
    obtain rfl : l = x 1 := Fin.ext (by omega)
    rw [show f = ⟨896 + ((x 1).val + 128 - 64) % 128, by clear hr he hl hf hs; omega⟩ from
        Fin.ext (by show f.val = 896 + ((x 1).val + 128 - 64) % 128; omega),
      show e = ⟨896 + (x 1).val, by clear hr he hl hf hs; omega⟩ from Fin.ext (by show e.val = 896 + (x 1).val; omega)]
    obtain rfl : s = 1 := Fin.ext (by show s.val = 1; omega)
    open_payloads; pointwise [cell]; simp only [← bit1]
  case piece1 =>
    obtain rfl : r = x 0 := Fin.ext (by omega)
    obtain rfl : l = x 1 := Fin.ext (by omega)
    rw [show f = ⟨768 + ((x 1).val + 128 - 64) % 128, by clear hr he hl hf hs; omega⟩ from
        Fin.ext (by show f.val = 768 + ((x 1).val + 128 - 64) % 128; omega),
      show e = ⟨768 + (x 1).val, by clear hr he hl hf hs; omega⟩ from Fin.ext (by show e.val = 768 + (x 1).val; omega)]
    obtain rfl : s = 1 := Fin.ext (by show s.val = 1; omega)
    open_payloads; pointwise [cell]; simp only [← bit1]
  case piece2 =>
    obtain rfl : r = x 0 := Fin.ext (by omega)
    obtain rfl : l = x 1 := Fin.ext (by omega)
    rw [show f = ⟨640 + ((x 1).val + 128 - 64) % 128, by clear hr he hl hf hs; omega⟩ from
        Fin.ext (by show f.val = 640 + ((x 1).val + 128 - 64) % 128; omega),
      show e = ⟨640 + (x 1).val, by clear hr he hl hf hs; omega⟩ from Fin.ext (by show e.val = 640 + (x 1).val; omega)]
    obtain rfl : s = 1 := Fin.ext (by show s.val = 1; omega)
    open_payloads; pointwise [cell]; simp only [← bit1]
  case piece3 =>
    obtain rfl : r = x 0 := Fin.ext (by omega)
    obtain rfl : l = x 1 := Fin.ext (by omega)
    rw [show f = ⟨512 + ((x 1).val + 128 - 64) % 128, by clear hr he hl hf hs; omega⟩ from
        Fin.ext (by show f.val = 512 + ((x 1).val + 128 - 64) % 128; omega),
      show e = ⟨512 + (x 1).val, by clear hr he hl hf hs; omega⟩ from Fin.ext (by show e.val = 512 + (x 1).val; omega)]
    obtain rfl : s = 1 := Fin.ext (by show s.val = 1; omega)
    open_payloads; pointwise [cell]; simp only [← bit1]
  case piece4 =>
    obtain rfl : r = x 0 := Fin.ext (by omega)
    obtain rfl : l = x 1 := Fin.ext (by omega)
    rw [show f = ⟨384 + ((x 1).val + 128 - 64) % 128, by clear hr he hl hf hs; omega⟩ from
        Fin.ext (by show f.val = 384 + ((x 1).val + 128 - 64) % 128; omega),
      show e = ⟨384 + (x 1).val, by clear hr he hl hf hs; omega⟩ from Fin.ext (by show e.val = 384 + (x 1).val; omega)]
    obtain rfl : s = 0 := Fin.ext (by show s.val = 0; omega)
    open_payloads; pointwise [cell]; simp only [← bit0]
  case piece5 =>
    obtain rfl : r = x 0 := Fin.ext (by omega)
    obtain rfl : l = x 1 := Fin.ext (by omega)
    rw [show f = ⟨256 + ((x 1).val + 128 - 64) % 128, by clear hr he hl hf hs; omega⟩ from
        Fin.ext (by show f.val = 256 + ((x 1).val + 128 - 64) % 128; omega),
      show e = ⟨256 + (x 1).val, by clear hr he hl hf hs; omega⟩ from Fin.ext (by show e.val = 256 + (x 1).val; omega)]
    obtain rfl : s = 0 := Fin.ext (by show s.val = 0; omega)
    open_payloads; pointwise [cell]; simp only [← bit0]
  case piece6 =>
    obtain rfl : r = x 0 := Fin.ext (by omega)
    obtain rfl : l = x 1 := Fin.ext (by omega)
    rw [show f = ⟨128 + ((x 1).val + 128 - 64) % 128, by clear hr he hl hf hs; omega⟩ from
        Fin.ext (by show f.val = 128 + ((x 1).val + 128 - 64) % 128; omega),
      show e = ⟨128 + (x 1).val, by clear hr he hl hf hs; omega⟩ from Fin.ext (by show e.val = 128 + (x 1).val; omega)]
    obtain rfl : s = 0 := Fin.ext (by show s.val = 0; omega)
    open_payloads; pointwise [cell]; simp only [← bit0]
  case piece7 =>
    obtain rfl : r = x 0 := Fin.ext (by omega)
    obtain rfl : l = x 1 := Fin.ext (by omega)
    rw [show f = ⟨((x 1).val + 128 - 64) % 128, by clear hr he hl hf hs; omega⟩ from
        Fin.ext (by show f.val = ((x 1).val + 128 - 64) % 128; omega),
      show e = ⟨(x 1).val, by clear hr he hl hf hs; omega⟩ from Fin.ext (by show e.val = (x 1).val; omega)]
    obtain rfl : s = 0 := Fin.ext (by show s.val = 0; omega)
    open_payloads; pointwise [cell]; simp only [← bit0]

/-- The output block at a later point. -/
theorem out_B (c : Dev nD) (t : Fin cfg0.N) (g0 : ¬t.val % 8 = 0) (y : S1024x1024.Idx) (r : Fin 1024) (l : Fin 128) (e f : Fin 1024)
    (s : Fin 2) (hr : (y 0).val = r.val) (he : (y 1).val = e.val) (hl : l.val = e.val % 128)
    (hf : f.val = e.val / 128 * 128 + (l.val + 64) % 128) (hs : s.val = e.val / 512) :
    (outsAt0 m c t.val t.isLt).1 y = cell (use t.val s) (iblk m c 0 t)
      (outsAt0 m c (t.val - 1) (Nat.lt_of_le_of_lt (Nat.sub_le _ _) t.isLt)).2 (iblk m c 2 t) (iblk m c 3 t) r l e f := by
  rw [outsAt0_B m c t g0]
  frame_out
  canon_tiles x h
  case piece0 =>
    obtain rfl : r = x 0 := Fin.ext (by omega)
    obtain rfl : l = x 1 := Fin.ext (by omega)
    rw [show f = ⟨896 + ((x 1).val + 128 - 64) % 128, by clear hr he hl hf hs; omega⟩ from
        Fin.ext (by show f.val = 896 + ((x 1).val + 128 - 64) % 128; omega),
      show e = ⟨896 + (x 1).val, by clear hr he hl hf hs; omega⟩ from Fin.ext (by show e.val = 896 + (x 1).val; omega)]
    obtain rfl : s = 1 := Fin.ext (by show s.val = 1; omega)
    open_payloads; pointwise [cell]; simp only [read_unread_whole, ← bit1]
  case piece1 =>
    obtain rfl : r = x 0 := Fin.ext (by omega)
    obtain rfl : l = x 1 := Fin.ext (by omega)
    rw [show f = ⟨768 + ((x 1).val + 128 - 64) % 128, by clear hr he hl hf hs; omega⟩ from
        Fin.ext (by show f.val = 768 + ((x 1).val + 128 - 64) % 128; omega),
      show e = ⟨768 + (x 1).val, by clear hr he hl hf hs; omega⟩ from Fin.ext (by show e.val = 768 + (x 1).val; omega)]
    obtain rfl : s = 1 := Fin.ext (by show s.val = 1; omega)
    open_payloads; pointwise [cell]; simp only [read_unread_whole, ← bit1]
  case piece2 =>
    obtain rfl : r = x 0 := Fin.ext (by omega)
    obtain rfl : l = x 1 := Fin.ext (by omega)
    rw [show f = ⟨640 + ((x 1).val + 128 - 64) % 128, by clear hr he hl hf hs; omega⟩ from
        Fin.ext (by show f.val = 640 + ((x 1).val + 128 - 64) % 128; omega),
      show e = ⟨640 + (x 1).val, by clear hr he hl hf hs; omega⟩ from Fin.ext (by show e.val = 640 + (x 1).val; omega)]
    obtain rfl : s = 1 := Fin.ext (by show s.val = 1; omega)
    open_payloads; pointwise [cell]; simp only [read_unread_whole, ← bit1]
  case piece3 =>
    obtain rfl : r = x 0 := Fin.ext (by omega)
    obtain rfl : l = x 1 := Fin.ext (by omega)
    rw [show f = ⟨512 + ((x 1).val + 128 - 64) % 128, by clear hr he hl hf hs; omega⟩ from
        Fin.ext (by show f.val = 512 + ((x 1).val + 128 - 64) % 128; omega),
      show e = ⟨512 + (x 1).val, by clear hr he hl hf hs; omega⟩ from Fin.ext (by show e.val = 512 + (x 1).val; omega)]
    obtain rfl : s = 1 := Fin.ext (by show s.val = 1; omega)
    open_payloads; pointwise [cell]; simp only [read_unread_whole, ← bit1]
  case piece4 =>
    obtain rfl : r = x 0 := Fin.ext (by omega)
    obtain rfl : l = x 1 := Fin.ext (by omega)
    rw [show f = ⟨384 + ((x 1).val + 128 - 64) % 128, by clear hr he hl hf hs; omega⟩ from
        Fin.ext (by show f.val = 384 + ((x 1).val + 128 - 64) % 128; omega),
      show e = ⟨384 + (x 1).val, by clear hr he hl hf hs; omega⟩ from Fin.ext (by show e.val = 384 + (x 1).val; omega)]
    obtain rfl : s = 0 := Fin.ext (by show s.val = 0; omega)
    open_payloads; pointwise [cell]; simp only [read_unread_whole, ← bit0]
  case piece5 =>
    obtain rfl : r = x 0 := Fin.ext (by omega)
    obtain rfl : l = x 1 := Fin.ext (by omega)
    rw [show f = ⟨256 + ((x 1).val + 128 - 64) % 128, by clear hr he hl hf hs; omega⟩ from
        Fin.ext (by show f.val = 256 + ((x 1).val + 128 - 64) % 128; omega),
      show e = ⟨256 + (x 1).val, by clear hr he hl hf hs; omega⟩ from Fin.ext (by show e.val = 256 + (x 1).val; omega)]
    obtain rfl : s = 0 := Fin.ext (by show s.val = 0; omega)
    open_payloads; pointwise [cell]; simp only [read_unread_whole, ← bit0]
  case piece6 =>
    obtain rfl : r = x 0 := Fin.ext (by omega)
    obtain rfl : l = x 1 := Fin.ext (by omega)
    rw [show f = ⟨128 + ((x 1).val + 128 - 64) % 128, by clear hr he hl hf hs; omega⟩ from
        Fin.ext (by show f.val = 128 + ((x 1).val + 128 - 64) % 128; omega),
      show e = ⟨128 + (x 1).val, by clear hr he hl hf hs; omega⟩ from Fin.ext (by show e.val = 128 + (x 1).val; omega)]
    obtain rfl : s = 0 := Fin.ext (by show s.val = 0; omega)
    open_payloads; pointwise [cell]; simp only [read_unread_whole, ← bit0]
  case piece7 =>
    obtain rfl : r = x 0 := Fin.ext (by omega)
    obtain rfl : l = x 1 := Fin.ext (by omega)
    rw [show f = ⟨((x 1).val + 128 - 64) % 128, by clear hr he hl hf hs; omega⟩ from
        Fin.ext (by show f.val = ((x 1).val + 128 - 64) % 128; omega),
      show e = ⟨(x 1).val, by clear hr he hl hf hs; omega⟩ from Fin.ext (by show e.val = (x 1).val; omega)]
    obtain rfl : s = 0 := Fin.ext (by show s.val = 0; omega)
    open_payloads; pointwise [cell]; simp only [read_unread_whole, ← bit0]

/-- A point's scratch is the block of weights at a column tile's first point. -/
theorem wb_A (c : Dev nD) (t : Fin cfg0.N) (g0 : t.val % 8 = 0) :
    (outsAt0 m c t.val t.isLt).2 = k0_pay3 (iblk m c 1 t) := by
  rw [outsAt0_A m c t g0]
  frame_open
  frame_out

/-- At a later point the scratch is what it was. -/
theorem wb_B (c : Dev nD) (t : Fin cfg0.N) (g0 : ¬t.val % 8 = 0) :
    (outsAt0 m c t.val t.isLt).2 = (outsAt0 m c (t.val - 1) (Nat.lt_of_le_of_lt (Nat.sub_le _ _) t.isLt)).2 := by
  rw [outsAt0_B m c t g0]
  rfl

/-- The scratch a first point fills, at an index. -/
theorem pay3_at (c : Dev nD) (t : Fin cfg0.N) (d : Fin 2048) (e : Fin 1024) (j : Fin 9216) (hj : j.val = t.val / 8 * 1024 + e.val) :
    k0_pay3 (F := Ideal) (iblk m c 1 t) (ix2 d e) = ws m c (ix3 0 d j) := by
  have h48 := lt48 t
  rw [show j = ⟨t.val / 8 * 1024 + e.val, by omega⟩ from Fin.ext hj]
  refine Eq.trans ?_ (ws_at m c t d e)
  pointwise [k0_pay3]

/-- The scratch after point `n` holds the weights' columns of that point. -/
theorem scr (c : Dev nD) : ∀ (n : ℕ) (hn : n < cfg0.N) (d : Fin 2048) (e : Fin 1024) (j : Fin 9216), j.val = n / 8 * 1024 + e.val →
    (outsAt0 m c n hn).2 (ix2 d e) = ws m c (ix3 0 d j) := by
  have base : ∀ (t : Fin cfg0.N) (d : Fin 2048) (e : Fin 1024) (j : Fin 9216), j.val = t.val / 8 * 1024 + e.val → t.val % 8 = 0 →
      (outsAt0 m c t.val t.isLt).2 (ix2 d e) = ws m c (ix3 0 d j) := by
    intro t d e j hj h0
    rw [wb_A m c t h0]
    exact pay3_at m c t d e j hj
  intro n
  induction n with
  | zero => exact fun hn d e j hj => base ⟨0, hn⟩ d e j hj rfl
  | succ n ih =>
    intro hn d e j hj
    by_cases h0 : (n + 1) % 8 = 0
    · exact base ⟨n + 1, hn⟩ d e j hj h0
    · exact (congrFun (wb_B m c ⟨n + 1, hn⟩ h0) (ix2 d e)).trans (ih (Nat.lt_of_succ_lt hn) d e j (by omega))

/-- A cell of a point's block, once the block of weights is known. -/
theorem cell_at (c : Dev nD) (t : Fin cfg0.N) (W : FVec Ideal S2048x1024 .bf16)
    (hW : ∀ (d : Fin 2048) (e : Fin 1024) (j : Fin 9216), j.val = t.val / 8 * 1024 + e.val → W (ix2 d e) = ws m c (ix3 0 d j))
    (r : Fin 1024) (l : Fin 128) (e f : Fin 1024) (s : Fin 2) (j k : Fin 9216) (hl : l.val = e.val % 128) (hs : s.val = e.val / 512)
    (hj : j.val = t.val / 8 * 1024 + e.val) (hk : k.val = t.val / 8 * 1024 + f.val) :
    cell (use t.val s) (iblk m c 0 t) W (iblk m c 2 t) (iblk m c 3 t) r l e f
      = unit (rows m c) (pos m c) (ws m c) ⟨t.val % 8 * 1024 + r.val, by omega⟩ j k := by
  unfold cell unit col
  simp only [rows_at, cos_at, sin_at, hW _ e j hj, hW _ f k hk]
  rw [show l.val = j.val % 128 by omega]
  unfold use
  by_cases g : j.val < 2048
  · rw [if_pos g, if_pos (by omega)]; rfl
  · rw [if_neg g, if_neg (by omega)]; rfl

/-- The output block of a point. -/
theorem out_at (c : Dev nD) (t : Fin cfg0.N) (y : S1024x1024.Idx) (r : Fin 1024) (e : Fin 1024) (j k : Fin 9216)
    (hr : (y 0).val = r.val) (he : (y 1).val = e.val) (hj : j.val = t.val / 8 * 1024 + e.val)
    (hk : k.val = j.val / 128 * 128 + (j.val % 128 + 64) % 128) :
    (outsAt0 m c t.val t.isLt).1 y
      = unit (rows m c) (pos m c) (ws m c) ⟨t.val % 8 * 1024 + r.val, by omega⟩ j k := by
  have h48 := lt48 t
  by_cases g0 : t.val % 8 = 0
  · refine (out_A m c t g0 y r ⟨e.val % 128, by omega⟩ e ⟨e.val / 128 * 128 + (e.val % 128 + 64) % 128, by omega⟩
      ⟨e.val / 512, by omega⟩ hr he rfl rfl rfl).trans ?_
    refine cell_at m c t _ (fun d e j hj => pay3_at m c t d e j hj) r _ e _ _ j k rfl rfl hj ?_
    show k.val = t.val / 8 * 1024 + (e.val / 128 * 128 + (e.val % 128 + 64) % 128)
    omega
  · refine (out_B m c t g0 y r ⟨e.val % 128, by omega⟩ e ⟨e.val / 128 * 128 + (e.val % 128 + 64) % 128, by omega⟩
      ⟨e.val / 512, by omega⟩ hr he rfl rfl rfl).trans ?_
    refine cell_at m c t _ (fun d e j hj => scr m c (t.val - 1) (Nat.lt_of_le_of_lt (Nat.sub_le _ _) t.isLt) d e j (by omega))
      r _ e _ _ j k rfl rfl hj ?_
    show k.val = t.val / 8 * 1024 + (e.val / 128 * 128 + (e.val % 128 + 64) % 128)
    omega

/-- The reference's result at a row and a column. -/
theorem ref_at (h : FVec Ideal S8192x2048 .bf16) (p : IVec S1x8192 32) (w : FVec Ideal S2x2048x9216 .f32) (i : Fin 8192) (j : Fin 6144)
    (k : Fin 9216) (hk : k.val = j.val / 128 * 128 + (j.val % 128 + 64) % 128) :
    (Cert.Reference5Ideal.Read.val_main_v69 (F := Ideal) h p w : FVec Ideal S8192x6144 .bf16) (ix2 i j)
      = unit h p w i ⟨j.val, by omega⟩ k := by
  have hc : ∀ a b : Fin 9216, a.val = b.val → (∑ x, h (ix2 i x) * w (ix3 0 x a)) = col h w i b := fun a b hab => by rw [Fin.ext hab]; rfl
  unfold unit tc ts
  by_cases c1 : j.val < 1024
  · rw [if_pos (show j.val < 2048 by omega)]
    by_cases c2 : j.val % 128 < 64
    · rw [if_pos c2, if_pos c2, mul_neg, ← sub_eq_add_neg]
      pointwise [c1, c2, Cert.Reference5Ideal.Read.val_main_v69, Cert.Reference5Ideal.Read.val_main_v68, Cert.Reference5Ideal.Read.val_main_v67, Cert.Reference5Ideal.Read.val_main_v66, Cert.Reference5Ideal.Read.val_main_v65, Cert.Reference5Ideal.Read.val_main_v64, Cert.Reference5Ideal.Read.val_main_v63, Cert.Reference5Ideal.Read.val_main_v62, Cert.Reference5Ideal.Read.val_main_v61, Cert.Reference5Ideal.Read.val_main_v60, Cert.Reference5Ideal.Read.val_main_v59, Cert.Reference5Ideal.Read.val_main_v58, Cert.Reference5Ideal.Read.val_main_v57, Cert.Reference5Ideal.Read.val_main_v56, Cert.Reference5Ideal.Read.val_main_v55, Cert.Reference5Ideal.Read.val_main_v54, Cert.Reference5Ideal.Read.val_main_v53, Cert.Reference5Ideal.Read.val_main_v52, Cert.Reference5Ideal.Read.val_main_v51, Cert.Reference5Ideal.Read.val_main_v50, Cert.Reference5Ideal.Read.val_main_v49, Cert.Reference5Ideal.Read.val_main_v48, Cert.Reference5Ideal.Read.val_main_v47, Cert.Reference5Ideal.Read.val_main_v46, Cert.Reference5Ideal.Read.val_main_v45, Cert.Reference5Ideal.Read.val_main_v44, Cert.Reference5Ideal.Read.val_main_v43, Cert.Reference5Ideal.Read.val_main_v42, Cert.Reference5Ideal.Read.val_main_v41, Cert.Reference5Ideal.Read.val_main_v40, Cert.Reference5Ideal.Read.val_main_v39, Cert.Reference5Ideal.Read.val_main_v38, Cert.Reference5Ideal.Read.val_main_v37, Cert.Reference5Ideal.Read.val_main_v36, Cert.Reference5Ideal.Read.val_main_v35, Cert.Reference5Ideal.Read.val_main_v34, Cert.Reference5Ideal.Read.val_main_v33, Cert.Reference5Ideal.Read.val_main_v32, Cert.Reference5Ideal.Read.val_main_v31, Cert.Reference5Ideal.Read.val_main_v30, Cert.Reference5Ideal.Read.val_main_v29, Cert.Reference5Ideal.Read.val_main_v28, Cert.Reference5Ideal.Read.val_main_v27, Cert.Reference5Ideal.Read.val_main_v26, Cert.Reference5Ideal.Read.val_main_v25, Cert.Reference5Ideal.Read.val_main_v24, Cert.Reference5Ideal.Read.val_main_v23, Cert.Reference5Ideal.Read.val_main_v22, Cert.Reference5Ideal.Read.val_main_v21, Cert.Reference5Ideal.Read.val_main_v20, Cert.Reference5Ideal.Read.val_main_v19, Cert.Reference5Ideal.Read.val_main_v18, Cert.Reference5Ideal.Read.val_main_v17, Cert.Reference5Ideal.Read.val_main_v16, Cert.Reference5Ideal.Read.val_main_v15, Cert.Reference5Ideal.Read.val_main_v14, Cert.Reference5Ideal.Read.val_main_v13, Cert.Reference5Ideal.Read.val_main_v12, Cert.Reference5Ideal.Read.val_main_v11, Cert.Reference5Ideal.Read.val_main_v10, Cert.Reference5Ideal.Read.val_main_v9, Cert.Reference5Ideal.Read.val_main_v8, Cert.Reference5Ideal.Read.val_main_v7, Cert.Reference5Ideal.Read.val_main_v6, Cert.Reference5Ideal.Read.val_main_v5, Cert.Reference5Ideal.Read.val_main_v4, Cert.Reference5Ideal.Read.val_main_v3, Cert.Reference5Ideal.Read.val_main_v2, Cert.Reference5Ideal.Read.val_main_v1, Cert.Reference5Ideal.Read.val_main_v0, Cert.Reference5Ideal.Read.val_main_cst, Cert.Reference5Ideal.Read.val_main_cst_0, Cert.Reference5Ideal.Read.val_main_cst_1, Cert.Reference5Ideal.Read.val_main_cst_2]
      exact congrArg₂ (· - ·) (congrArg (· * _) (hc _ _ (by show j.val / 128 * 128 + j.val % 128 = j.val; omega)))
        (congrArg (· * _) (hc _ _ (by show j.val / 128 * 128 + (64 + j.val % 128) = k.val; omega)))
    · rw [if_neg c2, if_neg c2]
      pointwise [c1, c2, Cert.Reference5Ideal.Read.val_main_v69, Cert.Reference5Ideal.Read.val_main_v68, Cert.Reference5Ideal.Read.val_main_v67, Cert.Reference5Ideal.Read.val_main_v66, Cert.Reference5Ideal.Read.val_main_v65, Cert.Reference5Ideal.Read.val_main_v64, Cert.Reference5Ideal.Read.val_main_v63, Cert.Reference5Ideal.Read.val_main_v62, Cert.Reference5Ideal.Read.val_main_v61, Cert.Reference5Ideal.Read.val_main_v60, Cert.Reference5Ideal.Read.val_main_v59, Cert.Reference5Ideal.Read.val_main_v58, Cert.Reference5Ideal.Read.val_main_v57, Cert.Reference5Ideal.Read.val_main_v56, Cert.Reference5Ideal.Read.val_main_v55, Cert.Reference5Ideal.Read.val_main_v54, Cert.Reference5Ideal.Read.val_main_v53, Cert.Reference5Ideal.Read.val_main_v52, Cert.Reference5Ideal.Read.val_main_v51, Cert.Reference5Ideal.Read.val_main_v50, Cert.Reference5Ideal.Read.val_main_v49, Cert.Reference5Ideal.Read.val_main_v48, Cert.Reference5Ideal.Read.val_main_v47, Cert.Reference5Ideal.Read.val_main_v46, Cert.Reference5Ideal.Read.val_main_v45, Cert.Reference5Ideal.Read.val_main_v44, Cert.Reference5Ideal.Read.val_main_v43, Cert.Reference5Ideal.Read.val_main_v42, Cert.Reference5Ideal.Read.val_main_v41, Cert.Reference5Ideal.Read.val_main_v40, Cert.Reference5Ideal.Read.val_main_v39, Cert.Reference5Ideal.Read.val_main_v38, Cert.Reference5Ideal.Read.val_main_v37, Cert.Reference5Ideal.Read.val_main_v36, Cert.Reference5Ideal.Read.val_main_v35, Cert.Reference5Ideal.Read.val_main_v34, Cert.Reference5Ideal.Read.val_main_v33, Cert.Reference5Ideal.Read.val_main_v32, Cert.Reference5Ideal.Read.val_main_v31, Cert.Reference5Ideal.Read.val_main_v30, Cert.Reference5Ideal.Read.val_main_v29, Cert.Reference5Ideal.Read.val_main_v28, Cert.Reference5Ideal.Read.val_main_v27, Cert.Reference5Ideal.Read.val_main_v26, Cert.Reference5Ideal.Read.val_main_v25, Cert.Reference5Ideal.Read.val_main_v24, Cert.Reference5Ideal.Read.val_main_v23, Cert.Reference5Ideal.Read.val_main_v22, Cert.Reference5Ideal.Read.val_main_v21, Cert.Reference5Ideal.Read.val_main_v20, Cert.Reference5Ideal.Read.val_main_v19, Cert.Reference5Ideal.Read.val_main_v18, Cert.Reference5Ideal.Read.val_main_v17, Cert.Reference5Ideal.Read.val_main_v16, Cert.Reference5Ideal.Read.val_main_v15, Cert.Reference5Ideal.Read.val_main_v14, Cert.Reference5Ideal.Read.val_main_v13, Cert.Reference5Ideal.Read.val_main_v12, Cert.Reference5Ideal.Read.val_main_v11, Cert.Reference5Ideal.Read.val_main_v10, Cert.Reference5Ideal.Read.val_main_v9, Cert.Reference5Ideal.Read.val_main_v8, Cert.Reference5Ideal.Read.val_main_v7, Cert.Reference5Ideal.Read.val_main_v6, Cert.Reference5Ideal.Read.val_main_v5, Cert.Reference5Ideal.Read.val_main_v4, Cert.Reference5Ideal.Read.val_main_v3, Cert.Reference5Ideal.Read.val_main_v2, Cert.Reference5Ideal.Read.val_main_v1, Cert.Reference5Ideal.Read.val_main_v0, Cert.Reference5Ideal.Read.val_main_cst, Cert.Reference5Ideal.Read.val_main_cst_0, Cert.Reference5Ideal.Read.val_main_cst_1, Cert.Reference5Ideal.Read.val_main_cst_2]
      exact congrArg₂ (· + ·) (congrArg (· * _) (hc _ _ (by show j.val / 128 * 128 + (64 + (j.val % 128 - 64)) = j.val; omega)))
        (congrArg (· * _) (hc _ _ (by show j.val / 128 * 128 + (j.val % 128 - 64) = k.val; omega)))
  · by_cases c3 : j.val - 1024 < 1024
    · rw [if_pos (show j.val < 2048 by omega), show j.val % 128 = (j.val - 1024) % 128 by omega]
      by_cases c2 : (j.val - 1024) % 128 < 64
      · rw [if_pos c2, if_pos c2, mul_neg, ← sub_eq_add_neg]
        pointwise [c1, c2, c3, Cert.Reference5Ideal.Read.val_main_v69, Cert.Reference5Ideal.Read.val_main_v68, Cert.Reference5Ideal.Read.val_main_v67, Cert.Reference5Ideal.Read.val_main_v66, Cert.Reference5Ideal.Read.val_main_v65, Cert.Reference5Ideal.Read.val_main_v64, Cert.Reference5Ideal.Read.val_main_v63, Cert.Reference5Ideal.Read.val_main_v62, Cert.Reference5Ideal.Read.val_main_v61, Cert.Reference5Ideal.Read.val_main_v60, Cert.Reference5Ideal.Read.val_main_v59, Cert.Reference5Ideal.Read.val_main_v58, Cert.Reference5Ideal.Read.val_main_v57, Cert.Reference5Ideal.Read.val_main_v56, Cert.Reference5Ideal.Read.val_main_v55, Cert.Reference5Ideal.Read.val_main_v54, Cert.Reference5Ideal.Read.val_main_v53, Cert.Reference5Ideal.Read.val_main_v52, Cert.Reference5Ideal.Read.val_main_v51, Cert.Reference5Ideal.Read.val_main_v50, Cert.Reference5Ideal.Read.val_main_v49, Cert.Reference5Ideal.Read.val_main_v48, Cert.Reference5Ideal.Read.val_main_v47, Cert.Reference5Ideal.Read.val_main_v46, Cert.Reference5Ideal.Read.val_main_v45, Cert.Reference5Ideal.Read.val_main_v44, Cert.Reference5Ideal.Read.val_main_v43, Cert.Reference5Ideal.Read.val_main_v42, Cert.Reference5Ideal.Read.val_main_v41, Cert.Reference5Ideal.Read.val_main_v40, Cert.Reference5Ideal.Read.val_main_v39, Cert.Reference5Ideal.Read.val_main_v38, Cert.Reference5Ideal.Read.val_main_v37, Cert.Reference5Ideal.Read.val_main_v36, Cert.Reference5Ideal.Read.val_main_v35, Cert.Reference5Ideal.Read.val_main_v34, Cert.Reference5Ideal.Read.val_main_v33, Cert.Reference5Ideal.Read.val_main_v32, Cert.Reference5Ideal.Read.val_main_v31, Cert.Reference5Ideal.Read.val_main_v30, Cert.Reference5Ideal.Read.val_main_v29, Cert.Reference5Ideal.Read.val_main_v28, Cert.Reference5Ideal.Read.val_main_v27, Cert.Reference5Ideal.Read.val_main_v26, Cert.Reference5Ideal.Read.val_main_v25, Cert.Reference5Ideal.Read.val_main_v24, Cert.Reference5Ideal.Read.val_main_v23, Cert.Reference5Ideal.Read.val_main_v22, Cert.Reference5Ideal.Read.val_main_v21, Cert.Reference5Ideal.Read.val_main_v20, Cert.Reference5Ideal.Read.val_main_v19, Cert.Reference5Ideal.Read.val_main_v18, Cert.Reference5Ideal.Read.val_main_v17, Cert.Reference5Ideal.Read.val_main_v16, Cert.Reference5Ideal.Read.val_main_v15, Cert.Reference5Ideal.Read.val_main_v14, Cert.Reference5Ideal.Read.val_main_v13, Cert.Reference5Ideal.Read.val_main_v12, Cert.Reference5Ideal.Read.val_main_v11, Cert.Reference5Ideal.Read.val_main_v10, Cert.Reference5Ideal.Read.val_main_v9, Cert.Reference5Ideal.Read.val_main_v8, Cert.Reference5Ideal.Read.val_main_v7, Cert.Reference5Ideal.Read.val_main_v6, Cert.Reference5Ideal.Read.val_main_v5, Cert.Reference5Ideal.Read.val_main_v4, Cert.Reference5Ideal.Read.val_main_v3, Cert.Reference5Ideal.Read.val_main_v2, Cert.Reference5Ideal.Read.val_main_v1, Cert.Reference5Ideal.Read.val_main_v0, Cert.Reference5Ideal.Read.val_main_cst, Cert.Reference5Ideal.Read.val_main_cst_0, Cert.Reference5Ideal.Read.val_main_cst_1, Cert.Reference5Ideal.Read.val_main_cst_2]
        exact congrArg₂ (· - ·)
          (congrArg (· * _) (hc _ _ (by show 1024 + ((j.val - 1024) / 128 * 128 + (j.val - 1024) % 128) = j.val; omega)))
          (congrArg (· * _) (hc _ _ (by show 1024 + ((j.val - 1024) / 128 * 128 + (64 + (j.val - 1024) % 128)) = k.val; omega)))
      · rw [if_neg c2, if_neg c2]
        pointwise [c1, c2, c3, Cert.Reference5Ideal.Read.val_main_v69, Cert.Reference5Ideal.Read.val_main_v68, Cert.Reference5Ideal.Read.val_main_v67, Cert.Reference5Ideal.Read.val_main_v66, Cert.Reference5Ideal.Read.val_main_v65, Cert.Reference5Ideal.Read.val_main_v64, Cert.Reference5Ideal.Read.val_main_v63, Cert.Reference5Ideal.Read.val_main_v62, Cert.Reference5Ideal.Read.val_main_v61, Cert.Reference5Ideal.Read.val_main_v60, Cert.Reference5Ideal.Read.val_main_v59, Cert.Reference5Ideal.Read.val_main_v58, Cert.Reference5Ideal.Read.val_main_v57, Cert.Reference5Ideal.Read.val_main_v56, Cert.Reference5Ideal.Read.val_main_v55, Cert.Reference5Ideal.Read.val_main_v54, Cert.Reference5Ideal.Read.val_main_v53, Cert.Reference5Ideal.Read.val_main_v52, Cert.Reference5Ideal.Read.val_main_v51, Cert.Reference5Ideal.Read.val_main_v50, Cert.Reference5Ideal.Read.val_main_v49, Cert.Reference5Ideal.Read.val_main_v48, Cert.Reference5Ideal.Read.val_main_v47, Cert.Reference5Ideal.Read.val_main_v46, Cert.Reference5Ideal.Read.val_main_v45, Cert.Reference5Ideal.Read.val_main_v44, Cert.Reference5Ideal.Read.val_main_v43, Cert.Reference5Ideal.Read.val_main_v42, Cert.Reference5Ideal.Read.val_main_v41, Cert.Reference5Ideal.Read.val_main_v40, Cert.Reference5Ideal.Read.val_main_v39, Cert.Reference5Ideal.Read.val_main_v38, Cert.Reference5Ideal.Read.val_main_v37, Cert.Reference5Ideal.Read.val_main_v36, Cert.Reference5Ideal.Read.val_main_v35, Cert.Reference5Ideal.Read.val_main_v34, Cert.Reference5Ideal.Read.val_main_v33, Cert.Reference5Ideal.Read.val_main_v32, Cert.Reference5Ideal.Read.val_main_v31, Cert.Reference5Ideal.Read.val_main_v30, Cert.Reference5Ideal.Read.val_main_v29, Cert.Reference5Ideal.Read.val_main_v28, Cert.Reference5Ideal.Read.val_main_v27, Cert.Reference5Ideal.Read.val_main_v26, Cert.Reference5Ideal.Read.val_main_v25, Cert.Reference5Ideal.Read.val_main_v24, Cert.Reference5Ideal.Read.val_main_v23, Cert.Reference5Ideal.Read.val_main_v22, Cert.Reference5Ideal.Read.val_main_v21, Cert.Reference5Ideal.Read.val_main_v20, Cert.Reference5Ideal.Read.val_main_v19, Cert.Reference5Ideal.Read.val_main_v18, Cert.Reference5Ideal.Read.val_main_v17, Cert.Reference5Ideal.Read.val_main_v16, Cert.Reference5Ideal.Read.val_main_v15, Cert.Reference5Ideal.Read.val_main_v14, Cert.Reference5Ideal.Read.val_main_v13, Cert.Reference5Ideal.Read.val_main_v12, Cert.Reference5Ideal.Read.val_main_v11, Cert.Reference5Ideal.Read.val_main_v10, Cert.Reference5Ideal.Read.val_main_v9, Cert.Reference5Ideal.Read.val_main_v8, Cert.Reference5Ideal.Read.val_main_v7, Cert.Reference5Ideal.Read.val_main_v6, Cert.Reference5Ideal.Read.val_main_v5, Cert.Reference5Ideal.Read.val_main_v4, Cert.Reference5Ideal.Read.val_main_v3, Cert.Reference5Ideal.Read.val_main_v2, Cert.Reference5Ideal.Read.val_main_v1, Cert.Reference5Ideal.Read.val_main_v0, Cert.Reference5Ideal.Read.val_main_cst, Cert.Reference5Ideal.Read.val_main_cst_0, Cert.Reference5Ideal.Read.val_main_cst_1, Cert.Reference5Ideal.Read.val_main_cst_2]
        exact congrArg₂ (· + ·)
          (congrArg (· * _) (hc _ _ (by show 1024 + ((j.val - 1024) / 128 * 128 + (64 + ((j.val - 1024) % 128 - 64))) = j.val; omega)))
          (congrArg (· * _) (hc _ _ (by show 1024 + ((j.val - 1024) / 128 * 128 + ((j.val - 1024) % 128 - 64)) = k.val; omega)))
    · rw [if_neg (show ¬j.val < 2048 by omega)]
      by_cases c4 : j.val - 1024 - 1024 < 2048
      · pointwise [c1, c3, c4, Cert.Reference5Ideal.Read.val_main_v69, Cert.Reference5Ideal.Read.val_main_v68, Cert.Reference5Ideal.Read.val_main_v67, Cert.Reference5Ideal.Read.val_main_v66, Cert.Reference5Ideal.Read.val_main_v65, Cert.Reference5Ideal.Read.val_main_v64, Cert.Reference5Ideal.Read.val_main_v63, Cert.Reference5Ideal.Read.val_main_v62, Cert.Reference5Ideal.Read.val_main_v61, Cert.Reference5Ideal.Read.val_main_v60, Cert.Reference5Ideal.Read.val_main_v59, Cert.Reference5Ideal.Read.val_main_v58, Cert.Reference5Ideal.Read.val_main_v57, Cert.Reference5Ideal.Read.val_main_v56, Cert.Reference5Ideal.Read.val_main_v55, Cert.Reference5Ideal.Read.val_main_v54, Cert.Reference5Ideal.Read.val_main_v53, Cert.Reference5Ideal.Read.val_main_v52, Cert.Reference5Ideal.Read.val_main_v51, Cert.Reference5Ideal.Read.val_main_v50, Cert.Reference5Ideal.Read.val_main_v49, Cert.Reference5Ideal.Read.val_main_v48, Cert.Reference5Ideal.Read.val_main_v47, Cert.Reference5Ideal.Read.val_main_v46, Cert.Reference5Ideal.Read.val_main_v45, Cert.Reference5Ideal.Read.val_main_v44, Cert.Reference5Ideal.Read.val_main_v43, Cert.Reference5Ideal.Read.val_main_v42, Cert.Reference5Ideal.Read.val_main_v41, Cert.Reference5Ideal.Read.val_main_v40, Cert.Reference5Ideal.Read.val_main_v39, Cert.Reference5Ideal.Read.val_main_v38, Cert.Reference5Ideal.Read.val_main_v37, Cert.Reference5Ideal.Read.val_main_v36, Cert.Reference5Ideal.Read.val_main_v35, Cert.Reference5Ideal.Read.val_main_v34, Cert.Reference5Ideal.Read.val_main_v33, Cert.Reference5Ideal.Read.val_main_v32, Cert.Reference5Ideal.Read.val_main_v31, Cert.Reference5Ideal.Read.val_main_v30, Cert.Reference5Ideal.Read.val_main_v29, Cert.Reference5Ideal.Read.val_main_v28, Cert.Reference5Ideal.Read.val_main_v27, Cert.Reference5Ideal.Read.val_main_v26, Cert.Reference5Ideal.Read.val_main_v25, Cert.Reference5Ideal.Read.val_main_v24, Cert.Reference5Ideal.Read.val_main_v23, Cert.Reference5Ideal.Read.val_main_v22, Cert.Reference5Ideal.Read.val_main_v21, Cert.Reference5Ideal.Read.val_main_v20, Cert.Reference5Ideal.Read.val_main_v19, Cert.Reference5Ideal.Read.val_main_v18, Cert.Reference5Ideal.Read.val_main_v17, Cert.Reference5Ideal.Read.val_main_v16, Cert.Reference5Ideal.Read.val_main_v15, Cert.Reference5Ideal.Read.val_main_v14, Cert.Reference5Ideal.Read.val_main_v13, Cert.Reference5Ideal.Read.val_main_v12, Cert.Reference5Ideal.Read.val_main_v11, Cert.Reference5Ideal.Read.val_main_v10, Cert.Reference5Ideal.Read.val_main_v9, Cert.Reference5Ideal.Read.val_main_v8, Cert.Reference5Ideal.Read.val_main_v7, Cert.Reference5Ideal.Read.val_main_v6, Cert.Reference5Ideal.Read.val_main_v5, Cert.Reference5Ideal.Read.val_main_v4, Cert.Reference5Ideal.Read.val_main_v3, Cert.Reference5Ideal.Read.val_main_v2, Cert.Reference5Ideal.Read.val_main_v1, Cert.Reference5Ideal.Read.val_main_v0, Cert.Reference5Ideal.Read.val_main_cst, Cert.Reference5Ideal.Read.val_main_cst_0, Cert.Reference5Ideal.Read.val_main_cst_1, Cert.Reference5Ideal.Read.val_main_cst_2]
        exact hc _ _ (by show 2048 + (j.val - 1024 - 1024) = j.val; omega)
      · pointwise [c1, c3, c4, Cert.Reference5Ideal.Read.val_main_v69, Cert.Reference5Ideal.Read.val_main_v68, Cert.Reference5Ideal.Read.val_main_v67, Cert.Reference5Ideal.Read.val_main_v66, Cert.Reference5Ideal.Read.val_main_v65, Cert.Reference5Ideal.Read.val_main_v64, Cert.Reference5Ideal.Read.val_main_v63, Cert.Reference5Ideal.Read.val_main_v62, Cert.Reference5Ideal.Read.val_main_v61, Cert.Reference5Ideal.Read.val_main_v60, Cert.Reference5Ideal.Read.val_main_v59, Cert.Reference5Ideal.Read.val_main_v58, Cert.Reference5Ideal.Read.val_main_v57, Cert.Reference5Ideal.Read.val_main_v56, Cert.Reference5Ideal.Read.val_main_v55, Cert.Reference5Ideal.Read.val_main_v54, Cert.Reference5Ideal.Read.val_main_v53, Cert.Reference5Ideal.Read.val_main_v52, Cert.Reference5Ideal.Read.val_main_v51, Cert.Reference5Ideal.Read.val_main_v50, Cert.Reference5Ideal.Read.val_main_v49, Cert.Reference5Ideal.Read.val_main_v48, Cert.Reference5Ideal.Read.val_main_v47, Cert.Reference5Ideal.Read.val_main_v46, Cert.Reference5Ideal.Read.val_main_v45, Cert.Reference5Ideal.Read.val_main_v44, Cert.Reference5Ideal.Read.val_main_v43, Cert.Reference5Ideal.Read.val_main_v42, Cert.Reference5Ideal.Read.val_main_v41, Cert.Reference5Ideal.Read.val_main_v40, Cert.Reference5Ideal.Read.val_main_v39, Cert.Reference5Ideal.Read.val_main_v38, Cert.Reference5Ideal.Read.val_main_v37, Cert.Reference5Ideal.Read.val_main_v36, Cert.Reference5Ideal.Read.val_main_v35, Cert.Reference5Ideal.Read.val_main_v34, Cert.Reference5Ideal.Read.val_main_v33, Cert.Reference5Ideal.Read.val_main_v32, Cert.Reference5Ideal.Read.val_main_v31, Cert.Reference5Ideal.Read.val_main_v30, Cert.Reference5Ideal.Read.val_main_v29, Cert.Reference5Ideal.Read.val_main_v28, Cert.Reference5Ideal.Read.val_main_v27, Cert.Reference5Ideal.Read.val_main_v26, Cert.Reference5Ideal.Read.val_main_v25, Cert.Reference5Ideal.Read.val_main_v24, Cert.Reference5Ideal.Read.val_main_v23, Cert.Reference5Ideal.Read.val_main_v22, Cert.Reference5Ideal.Read.val_main_v21, Cert.Reference5Ideal.Read.val_main_v20, Cert.Reference5Ideal.Read.val_main_v19, Cert.Reference5Ideal.Read.val_main_v18, Cert.Reference5Ideal.Read.val_main_v17, Cert.Reference5Ideal.Read.val_main_v16, Cert.Reference5Ideal.Read.val_main_v15, Cert.Reference5Ideal.Read.val_main_v14, Cert.Reference5Ideal.Read.val_main_v13, Cert.Reference5Ideal.Read.val_main_v12, Cert.Reference5Ideal.Read.val_main_v11, Cert.Reference5Ideal.Read.val_main_v10, Cert.Reference5Ideal.Read.val_main_v9, Cert.Reference5Ideal.Read.val_main_v8, Cert.Reference5Ideal.Read.val_main_v7, Cert.Reference5Ideal.Read.val_main_v6, Cert.Reference5Ideal.Read.val_main_v5, Cert.Reference5Ideal.Read.val_main_v4, Cert.Reference5Ideal.Read.val_main_v3, Cert.Reference5Ideal.Read.val_main_v2, Cert.Reference5Ideal.Read.val_main_v1, Cert.Reference5Ideal.Read.val_main_v0, Cert.Reference5Ideal.Read.val_main_cst, Cert.Reference5Ideal.Read.val_main_cst_0, Cert.Reference5Ideal.Read.val_main_cst_1, Cert.Reference5Ideal.Read.val_main_cst_2]
        exact hc _ _ (by show 4096 + (j.val - 1024 - 1024 - 2048) = j.val; omega)

/-- The kernel's result array is the reference's result. -/
theorem arr_eq (c : Dev nD) :
    (dats m 0 c).arrAt 4 cfg0.N = Cert.Reference5Ideal.Read.val_main_v69 (F := Ideal) (rows m c) (pos m c) (ws m c) := by
  refine (dats m 0 c).arrAt_eq_of_covers 4 _ (by decide +kernel) fun t hf y => ?_
  have h48 := lt48 t
  blk_simp
  rw [after0_4]
  have h0 : (y 0).val < 1024 := (y 0).isLt
  have h1 : (y 1).val < 1024 := (y 1).isLt
  refine (out_at m c t y (y 0) (y 1) ⟨t.val / 8 * 1024 + (y 1).val, by omega⟩
    ⟨(t.val / 8 * 1024 + (y 1).val) / 128 * 128 + ((t.val / 8 * 1024 + (y 1).val) % 128 + 64) % 128, by omega⟩ rfl rfl rfl rfl).trans ?_
  refine (ref_at (rows m c) (pos m c) (ws m c) ⟨t.val % 8 * 1024 + (y 0).val, by omega⟩ ⟨t.val / 8 * 1024 + (y 1).val, by omega⟩ _ rfl).symm.trans ?_
  refine congrArg (Cert.Reference5Ideal.Read.val_main_v69 (F := Ideal) (rows m c) (pos m c) (ws m c) : FVec Ideal S8192x6144 .bf16) ?_
  blk_ext [idx t]

end Cert.Kernel5Ideal.Proj
-- ==== Proof.Rope.lean ====
/- The rotary embedding of the first 32 lanes of a head: the angle, and the factors of a lane and of its partners. -/
module

public import proofs.«01_k».proof.Proof.Norm

@[expose] public section

noncomputable section

open Idealize.ShloMosaic

namespace Cert.Rope

/-- The angle of a row at position `p` and frequency `k` of sixteen. -/
def ang (p : BitVec 32) (k : ℕ) : EReal :=
  FloatOps.sitofp (F := Ideal) FTy.f32 p * Ideal.pow (Ideal.ofBits FTy.f32 0x48F42400#32)
    (Ideal.div (-FloatOps.sitofp (F := Ideal) FTy.f32 (BitVec.ofNat 32 k)) (Ideal.ofBits FTy.f32 0x41800000#32))

/-- The factor of lane `l` itself. -/
def tc (p : BitVec 32) (l : ℕ) : EReal :=
  if l < 16 then Ideal.cos (ang p l) else if l - 16 < 16 then Ideal.cos (ang p (l - 16)) else 1

/-- The factor of the lane sixteen before. -/
def tu (p : BitVec 32) (l : ℕ) : EReal :=
  if l < 16 then 0 else if l - 16 < 16 then Ideal.sin (ang p (l - 16)) else 0

/-- The factor of the lane sixteen after. -/
def td (p : BitVec 32) (l : ℕ) : EReal :=
  if l < 16 then -Ideal.sin (ang p l) else if l - 16 < 16 then 0 else 0

/-- The scale of the scores, whose exponentials are taken to the base two. -/
def qs : EReal := Ideal.ofBits .f32 0x3E0293EE#32

/-- The scale is a real number. -/
theorem qs_eq : qs = (((8557550 : ℝ) * 2 ^ (-26 : ℤ) : ℝ) : EReal) := by
  simp [qs, Ideal.ofBits, Ideal.ieee, -EReal.coe_mul]

theorem qs_nonneg : 0 ≤ qs := by rw [qs_eq]; exact EReal.coe_nonneg.2 (by positivity)

theorem qs_ne_top : qs ≠ ⊤ := by rw [qs_eq]; exact EReal.coe_ne_top _

theorem one_ne_top : (1 : EReal) ≠ ⊤ := EReal.coe_ne_top 1

/-- A scaled column turned by the row's angle, its two partners weighed by the tables. -/
def turn (s a b c : EReal) (p : BitVec 32) (l : ℕ) : EReal := (a * s) * tc p l + (b * s) * tu p l + (c * s) * td p l

/-- In the first sixteen lanes only the partner after counts. -/
theorem turn_lo (s a b c : EReal) (p : BitVec 32) (l : ℕ) (h0 : 0 ≤ s) (ht : s ≠ ⊤) (h : l < 16) :
    turn s a b c p l = (a * Ideal.cos (ang p l) - c * Ideal.sin (ang p l)) * s := by
  unfold turn tc tu td
  rw [if_pos h, if_pos h, if_pos h, mul_zero, add_zero, sub_eq_add_neg, EReal.right_distrib_of_nonneg_of_ne_top h0 ht, mul_neg,
    neg_mul, mul_right_comm a, mul_right_comm c]

/-- In the next sixteen lanes only the partner before counts. -/
theorem turn_mid (s a b c : EReal) (p : BitVec 32) (l : ℕ) (h0 : 0 ≤ s) (ht : s ≠ ⊤) (h : ¬l < 16) (h' : l - 16 < 16) :
    turn s a b c p l = (a * Ideal.cos (ang p (l - 16)) + b * Ideal.sin (ang p (l - 16))) * s := by
  unfold turn tc tu td
  rw [if_neg h, if_neg h, if_neg h, if_pos h', if_pos h', if_pos h', mul_zero, add_zero,
    EReal.right_distrib_of_nonneg_of_ne_top h0 ht, mul_right_comm a, mul_right_comm b]

/-- The other lanes are not turned. -/
theorem turn_hi (s a b c : EReal) (p : BitVec 32) (l : ℕ) (h : ¬l < 16) (h' : ¬l - 16 < 16) :
    turn s a b c p l = a * s := by
  unfold turn tc tu td
  rw [if_neg h, if_neg h, if_neg h, if_neg h', if_neg h', if_neg h', mul_zero, mul_zero, add_zero, add_zero, mul_one]

end Cert.Rope
-- ==== Proof.ProjB.lean ====
/- The in-projection's columns of the dilated attention: what the kernel leaves is the reference's result. -/
module

public import proofs.«01_k».proof.Proof.Gen.Kernel6Ideal.Value
public import proofs.«01_k».proof.Proof.Gen.Reference6Ideal.Read
public import proofs.«01_k».proof.Proof.Rope
public import Idealize.ShloMosaic.Lib.Pipeline.ValueKit
public import Idealize.ShloMosaic.Lib.Pipeline.ReadBack
public import Idealize.ShloMosaic.Lib.StableHlo.ReadAt

@[expose] public section

set_option maxRecDepth 16384

noncomputable section

open Idealize.ShloMosaic Idealize.ShloMosaic.TcCoe Idealize.SL.Sem

namespace Cert.Kernel6Ideal.Proj

open Cert.Kernel6Ideal Cert.Kernel6Ideal.Gen Cert.Rope Cert.Reference6Ideal.Read

/-- A column of the projection of a row. -/
def col (h : FVec Ideal S8192x2048 .bf16) (w : FVec Ideal S2x2048x9216 .f32) (i : Fin 8192) (j : Fin 3072) : EReal :=
  ∑ d : Fin 2048, h (ix2 i d) * w (ix3 0 d ⟨6144 + j.val, by omega⟩)

/-- The queries carry the scale of the scores. -/
def scale (j : Fin 3072) : EReal := if j.val < 1024 then qs else 1

/-- A cell of the result: queries and keys are turned by the row's angle, `f` and `g` being the partners of column `j`. -/
def unit (h : FVec Ideal S8192x2048 .bf16) (p : IVec S1x8192 32) (w : FVec Ideal S2x2048x9216 .f32) (i : Fin 8192) (j f g : Fin 3072) :
    EReal :=
  if j.val < 2048 then turn (scale j) (col h w i j) (col h w i f) (col h w i g) (p (ix2 0 i)) (j.val % 128) else col h w i j * scale j

variable (m : (ℓ : Loc nD τ sig) → Buf (Elt Ideal) ℓ)

theorem ltN (t : Fin cfg0.N) : t.val < 24 := lt_of_lt_of_eq t.isLt N_0

/-- The row argument as launched. -/
abbrev rows (c : Dev nD) : FVec Ideal S8192x2048 .bf16 := m ((c.tc : Thread nD τ).loc main_arg0)
/-- The rows' positions as launched. -/
abbrev pos (c : Dev nD) : IVec S1x8192 32 := m ((c.tc : Thread nD τ).loc main_arg1)
/-- The weights as launched. -/
abbrev ws (c : Dev nD) : FVec Ideal S2x2048x9216 .f32 := m ((c.tc : Thread nD τ).loc main_arg2)

/-- The block indices of the six windows at every point. -/
theorem idx : ∀ t : Fin cfg0.N, win0_0.index t = ![t.val % 8, 0] ∧ win0_1.index t = ![0, 0, t.val / 8 + 6]
    ∧ win0_2.index t = ![t.val % 8, 0] ∧ win0_3.index t = ![t.val % 8, 0] ∧ win0_4.index t = ![t.val % 8, 0]
    ∧ win0_5.index t = ![t.val % 8, t.val / 8] :=
  (by decide +kernel : ∀ t : Fin grid0.N, _)

/-- The block of rows at a point. -/
theorem rows_at (c : Dev nD) (t : Fin cfg0.N) (r : Fin 1024) (d : Fin 2048) :
    (iblk m c 0 t : FVec Ideal S1024x2048 .bf16) (ix2 r d)
      = rows m c (ix2 ⟨t.val % 8 * 1024 + r.val, by omega⟩ d) := by
  blk_ext [iblk, V, idx t]

/-- The block of weights at a point. -/
theorem ws_at (c : Dev nD) (t : Fin cfg0.N) (d : Fin 2048) (e : Fin 1024) :
    (iblk m c 1 t : FVec Ideal S1x2048x1024 .f32) (ix3 0 d e)
      = ws m c (ix3 0 d ⟨6144 + (t.val / 8 * 1024 + e.val), by have := ltN t; omega⟩) := by
  blk_ext [iblk, V, idx t]

/-- The host's table of the columns' factors. -/
theorem V_cos (c : Dev nD) (r : Fin 8192) (e : Fin 128) :
    (V m c main_v33 : FVec Ideal S8192x128 .f32) (ix2 r e) = tc (pos m c (ix2 0 r)) e.val := by
  unfold V
  simp only [hostOps0, List.flatten_cons, List.flatten_nil, List.append_nil, List.cons_append, List.nil_append]
  after_reads_simp
  dsimp only [Matrix.cons_val_zero, Matrix.cons_val_one, Matrix.cons_val]
  after_reads_simp
  try simp -implicitDefEqProofs only [StableHlo.TRef.toBuf, StableHlo.TRef.ofBuf, cast_cast, cast_eq]
  clean_types
  unfold tc
  by_cases d0 : e.val < 16
  · pointwise [d0]
    all_goals rfl
  · by_cases d1 : e.val - 16 < 16
    · pointwise [d0, d1]
      all_goals rfl
    · pointwise [d0, d1]
      all_goals rfl

/-- The block of the columns' factors at a point. -/
theorem cos_at (c : Dev nD) (t : Fin cfg0.N) (r : Fin 1024) (e : Fin 128) :
    (iblk m c 2 t : FVec Ideal S1024x128 .f32) (ix2 r e) = tc (pos m c (ix2 0 ⟨t.val % 8 * 1024 + r.val, by omega⟩)) e.val := by
  refine Eq.trans ?_ (V_cos m c ⟨t.val % 8 * 1024 + r.val, by omega⟩ e)
  blk_ext [iblk, idx t]

/-- The host's table of the factors of the partner before. -/
theorem V_up (c : Dev nD) (r : Fin 8192) (e : Fin 128) :
    (V m c main_v34 : FVec Ideal S8192x128 .f32) (ix2 r e) = tu (pos m c (ix2 0 r)) e.val := by
  unfold V
  simp only [hostOps0, List.flatten_cons, List.flatten_nil, List.append_nil, List.cons_append, List.nil_append]
  after_reads_simp
  dsimp only [Matrix.cons_val_zero, Matrix.cons_val_one, Matrix.cons_val]
  after_reads_simp
  try simp -implicitDefEqProofs only [StableHlo.TRef.toBuf, StableHlo.TRef.ofBuf, cast_cast, cast_eq]
  clean_types
  unfold tu
  by_cases d0 : e.val < 16
  · pointwise [d0]
    all_goals rfl
  · by_cases d1 : e.val - 16 < 16
    · pointwise [d0, d1]
      all_goals rfl
    · pointwise [d0, d1]
      all_goals rfl

/-- The block of the factors of the partner before at a point. -/
theorem up_at (c : Dev nD) (t : Fin cfg0.N) (r : Fin 1024) (e : Fin 128) :
    (iblk m c 3 t : FVec Ideal S1024x128 .f32) (ix2 r e) = tu (pos m c (ix2 0 ⟨t.val % 8 * 1024 + r.val, by omega⟩)) e.val := by
  refine Eq.trans ?_ (V_up m c ⟨t.val % 8 * 1024 + r.val, by omega⟩ e)
  blk_ext [iblk, idx t]

/-- The host's table of the factors of the partner after. -/
theorem V_dn (c : Dev nD) (r : Fin 8192) (e : Fin 128) :
    (V m c main_v36 : FVec Ideal S8192x128 .f32) (ix2 r e) = td (pos m c (ix2 0 r)) e.val := by
  unfold V
  simp only [hostOps0, List.flatten_cons, List.flatten_nil, List.append_nil, List.cons_append, List.nil_append]
  after_reads_simp
  dsimp only [Matrix.cons_val_zero, Matrix.cons_val_one, Matrix.cons_val]
  after_reads_simp
  try simp -implicitDefEqProofs only [StableHlo.TRef.toBuf, StableHlo.TRef.ofBuf, cast_cast, cast_eq]
  clean_types
  unfold td
  by_cases d0 : e.val < 16
  · pointwise [d0]
    all_goals rfl
  · by_cases d1 : e.val - 16 < 16
    · pointwise [d0, d1]
      all_goals rfl
    · pointwise [d0, d1]
      all_goals rfl

/-- The block of the factors of the partner after at a point. -/
theorem dn_at (c : Dev nD) (t : Fin cfg0.N) (r : Fin 1024) (e : Fin 128) :
    (iblk m c 4 t : FVec Ideal S1024x128 .f32) (ix2 r e) = td (pos m c (ix2 0 ⟨t.val % 8 * 1024 + r.val, by omega⟩)) e.val := by
  refine Eq.trans ?_ (V_dn m c ⟨t.val % 8 * 1024 + r.val, by omega⟩ e)
  blk_ext [iblk, idx t]

/-- Whether a half of a column tile is turned. -/
def use (t : ℕ) (s : Fin 2) : BitVec 1 := if t / 8 * 2 + s.val < 4 then 1 else 0

/-- Whether a half of a column tile is scaled. -/
def isq (t : ℕ) (s : Fin 2) : BitVec 1 := if t / 8 * 2 + s.val < 2 then 1 else 0

/-- The kernel's choice to turn half 0 of a point's column tile. -/
theorem use0 : ∀ t : Fin cfg0.N, (let g := Scalar.addi (Scalar.muli (BitVec.ofNat 32 (grid0.coords t 0).val) 2#32) 0#32
    Scalar.ori (Scalar.ori (Scalar.ori (Scalar.cmpi .eq g 0#32) (Scalar.cmpi .eq g 1#32)) (Scalar.cmpi .eq g 2#32)) (Scalar.cmpi .eq g 3#32)) = use t.val 0 :=
  (by decide +kernel : ∀ t : Fin grid0.N, _)

/-- The kernel's choice to scale half 0 of a point's column tile. -/
theorem isq0 : ∀ t : Fin cfg0.N, (let g := Scalar.addi (Scalar.muli (BitVec.ofNat 32 (grid0.coords t 0).val) 2#32) 0#32
    Scalar.ori (Scalar.cmpi .eq g 0#32) (Scalar.cmpi .eq g 1#32)) = isq t.val 0 :=
  (by decide +kernel : ∀ t : Fin grid0.N, _)

/-- The kernel's choice to turn half 1 of a point's column tile. -/
theorem use1 : ∀ t : Fin cfg0.N, (let g := Scalar.addi (Scalar.muli (BitVec.ofNat 32 (grid0.coords t 0).val) 2#32) 1#32
    Scalar.ori (Scalar.ori (Scalar.ori (Scalar.cmpi .eq g 0#32) (Scalar.cmpi .eq g 1#32)) (Scalar.cmpi .eq g 2#32)) (Scalar.cmpi .eq g 3#32)) = use t.val 1 :=
  (by decide +kernel : ∀ t : Fin grid0.N, _)

/-- The kernel's choice to scale half 1 of a point's column tile. -/
theorem isq1 : ∀ t : Fin cfg0.N, (let g := Scalar.addi (Scalar.muli (BitVec.ofNat 32 (grid0.coords t 0).val) 2#32) 1#32
    Scalar.ori (Scalar.cmpi .eq g 0#32) (Scalar.cmpi .eq g 1#32)) = isq t.val 1 :=
  (by decide +kernel : ∀ t : Fin grid0.N, _)

/-- A cell of the output block: a scaled column, or the column and its partners turned by the row's angle. -/
def cell (b q : BitVec 1) (X : FVec Ideal S1024x2048 .bf16) (W : FVec Ideal S2048x1024 .bf16) (C U D : FVec Ideal S1024x128 .f32)
    (r : Fin 1024) (l : Fin 128) (e f g : Fin 1024) : EReal :=
  Scalar.select b
    (((∑ d : Fin 2048, X (ix2 r d) * W (ix2 d e)) * Scalar.select q (Ideal.ofBits FTy.f32 0x3E0293EE#32) 1) * C (ix2 r l)
      + ((∑ d : Fin 2048, X (ix2 r d) * W (ix2 d f)) * Scalar.select q (Ideal.ofBits FTy.f32 0x3E0293EE#32) 1) * U (ix2 r l)
      + ((∑ d : Fin 2048, X (ix2 r d) * W (ix2 d g)) * Scalar.select q (Ideal.ofBits FTy.f32 0x3E0293EE#32) 1) * D (ix2 r l))
    ((∑ d : Fin 2048, X (ix2 r d) * W (ix2 d e)) * Scalar.select q (Ideal.ofBits FTy.f32 0x3E0293EE#32) 1)

set_option maxHeartbeats 1600000 in
/-- The output block at a column tile's first point. -/
theorem out_A (c : Dev nD) (t : Fin cfg0.N) (g0 : t.val % 8 = 0) (y : S1024x1024.Idx) (r : Fin 1024) (l : Fin 128) (e f g : Fin 1024)
    (s : Fin 2) (hr : (y 0).val = r.val) (he : (y 1).val = e.val) (hl : l.val = e.val % 128)
    (hf : f.val = e.val / 128 * 128 + (l.val + 112) % 128) (hg : g.val = e.val / 128 * 128 + (l.val + 16) % 128)
    (hs : s.val = e.val / 512) :
    (outsAt0 m c t.val t.isLt).1 y = cell (use t.val s) (isq t.val s) (iblk m c 0 t)
      (k0_pay1 (iblk m c 1 t)) (iblk m c 2 t) (iblk m c 3 t) (iblk m c 4 t) r l e f g := by
  rw [outsAt0_A m c t g0]
  frame_open
  simp (disch := decide) only [↓ View.readCov_skip, ↓ View.readCov_cons_toLoadRect, ↓ View.readCov_fill]
  frame_out
  canon_tiles x h
  case piece0 =>
    obtain rfl : r = x 0 := Fin.ext (by omega)
    obtain rfl : l = x 1 := Fin.ext (by omega)
    obtain rfl : s = 1 := Fin.ext (by show s.val = 1; omega)
    rw [show f = ⟨896 + ((x 1).val + 128 - 16) % 128, by clear hr he hl hf hg hs; omega⟩ from
        Fin.ext (by show f.val = 896 + ((x 1).val + 128 - 16) % 128; omega),
      show g = ⟨896 + ((x 1).val + 128 - 112) % 128, by clear hr he hl hf hg hs; omega⟩ from
        Fin.ext (by show g.val = 896 + ((x 1).val + 128 - 112) % 128; omega),
      show e = ⟨896 + (x 1).val, by clear hr he hl hf hg hs; omega⟩ from Fin.ext (by show e.val = 896 + (x 1).val; omega)]
    open_payloads; pointwise [cell]; simp only [← use1, ← isq1]
  case piece1 =>
    obtain rfl : r = x 0 := Fin.ext (by omega)
    obtain rfl : l = x 1 := Fin.ext (by omega)
    obtain rfl : s = 1 := Fin.ext (by show s.val = 1; omega)
    rw [show f = ⟨768 + ((x 1).val + 128 - 16) % 128, by clear hr he hl hf hg hs; omega⟩ from
        Fin.ext (by show f.val = 768 + ((x 1).val + 128 - 16) % 128; omega),
      show g = ⟨768 + ((x 1).val + 128 - 112) % 128, by clear hr he hl hf hg hs; omega⟩ from
        Fin.ext (by show g.val = 768 + ((x 1).val + 128 - 112) % 128; omega),
      show e = ⟨768 + (x 1).val, by clear hr he hl hf hg hs; omega⟩ from Fin.ext (by show e.val = 768 + (x 1).val; omega)]
    open_payloads; pointwise [cell]; simp only [← use1, ← isq1]
  case piece2 =>
    obtain rfl : r = x 0 := Fin.ext (by omega)
    obtain rfl : l = x 1 := Fin.ext (by omega)
    obtain rfl : s = 1 := Fin.ext (by show s.val = 1; omega)
    rw [show f = ⟨640 + ((x 1).val + 128 - 16) % 128, by clear hr he hl hf hg hs; omega⟩ from
        Fin.ext (by show f.val = 640 + ((x 1).val + 128 - 16) % 128; omega),
      show g = ⟨640 + ((x 1).val + 128 - 112) % 128, by clear hr he hl hf hg hs; omega⟩ from
        Fin.ext (by show g.val = 640 + ((x 1).val + 128 - 112) % 128; omega),
      show e = ⟨640 + (x 1).val, by clear hr he hl hf hg hs; omega⟩ from Fin.ext (by show e.val = 640 + (x 1).val; omega)]
    open_payloads; pointwise [cell]; simp only [← use1, ← isq1]
  case piece3 =>
    obtain rfl : r = x 0 := Fin.ext (by omega)
    obtain rfl : l = x 1 := Fin.ext (by omega)
    obtain rfl : s = 1 := Fin.ext (by show s.val = 1; omega)
    rw [show f = ⟨512 + ((x 1).val + 128 - 16) % 128, by clear hr he hl hf hg hs; omega⟩ from
        Fin.ext (by show f.val = 512 + ((x 1).val + 128 - 16) % 128; omega),
      show g = ⟨512 + ((x 1).val + 128 - 112) % 128, by clear hr he hl hf hg hs; omega⟩ from
        Fin.ext (by show g.val = 512 + ((x 1).val + 128 - 112) % 128; omega),
      show e = ⟨512 + (x 1).val, by clear hr he hl hf hg hs; omega⟩ from Fin.ext (by show e.val = 512 + (x 1).val; omega)]
    open_payloads; pointwise [cell]; simp only [← use1, ← isq1]
  case piece4 =>
    obtain rfl : r = x 0 := Fin.ext (by omega)
    obtain rfl : l = x 1 := Fin.ext (by omega)
    obtain rfl : s = 0 := Fin.ext (by show s.val = 0; omega)
    rw [show f = ⟨384 + ((x 1).val + 128 - 16) % 128, by clear hr he hl hf hg hs; omega⟩ from
        Fin.ext (by show f.val = 384 + ((x 1).val + 128 - 16) % 128; omega),
      show g = ⟨384 + ((x 1).val + 128 - 112) % 128, by clear hr he hl hf hg hs; omega⟩ from
        Fin.ext (by show g.val = 384 + ((x 1).val + 128 - 112) % 128; omega),
      show e = ⟨384 + (x 1).val, by clear hr he hl hf hg hs; omega⟩ from Fin.ext (by show e.val = 384 + (x 1).val; omega)]
    open_payloads; pointwise [cell]; simp only [← use0, ← isq0]
  case piece5 =>
    obtain rfl : r = x 0 := Fin.ext (by omega)
    obtain rfl : l = x 1 := Fin.ext (by omega)
    obtain rfl : s = 0 := Fin.ext (by show s.val = 0; omega)
    rw [show f = ⟨256 + ((x 1).val + 128 - 16) % 128, by clear hr he hl hf hg hs; omega⟩ from
        Fin.ext (by show f.val = 256 + ((x 1).val + 128 - 16) % 128; omega),
      show g = ⟨256 + ((x 1).val + 128 - 112) % 128, by clear hr he hl hf hg hs; omega⟩ from
        Fin.ext (by show g.val = 256 + ((x 1).val + 128 - 112) % 128; omega),
      show e = ⟨256 + (x 1).val, by clear hr he hl hf hg hs; omega⟩ from Fin.ext (by show e.val = 256 + (x 1).val; omega)]
    open_payloads; pointwise [cell]; simp only [← use0, ← isq0]
  case piece6 =>
    obtain rfl : r = x 0 := Fin.ext (by omega)
    obtain rfl : l = x 1 := Fin.ext (by omega)
    obtain rfl : s = 0 := Fin.ext (by show s.val = 0; omega)
    rw [show f = ⟨128 + ((x 1).val + 128 - 16) % 128, by clear hr he hl hf hg hs; omega⟩ from
        Fin.ext (by show f.val = 128 + ((x 1).val + 128 - 16) % 128; omega),
      show g = ⟨128 + ((x 1).val + 128 - 112) % 128, by clear hr he hl hf hg hs; omega⟩ from
        Fin.ext (by show g.val = 128 + ((x 1).val + 128 - 112) % 128; omega),
      show e = ⟨128 + (x 1).val, by clear hr he hl hf hg hs; omega⟩ from Fin.ext (by show e.val = 128 + (x 1).val; omega)]
    open_payloads; pointwise [cell]; simp only [← use0, ← isq0]
  case piece7 =>
    obtain rfl : r = x 0 := Fin.ext (by omega)
    obtain rfl : l = x 1 := Fin.ext (by omega)
    obtain rfl : s = 0 := Fin.ext (by show s.val = 0; omega)
    rw [show f = ⟨((x 1).val + 128 - 16) % 128, by clear hr he hl hf hg hs; omega⟩ from
        Fin.ext (by show f.val = ((x 1).val + 128 - 16) % 128; omega),
      show g = ⟨((x 1).val + 128 - 112) % 128, by clear hr he hl hf hg hs; omega⟩ from
        Fin.ext (by show g.val = ((x 1).val + 128 - 112) % 128; omega),
      show e = ⟨(x 1).val, by clear hr he hl hf hg hs; omega⟩ from Fin.ext (by show e.val = (x 1).val; omega)]
    open_payloads; pointwise [cell]; simp only [← use0, ← isq0]

set_option maxHeartbeats 1600000 in
/-- The output block at a later point. -/
theorem out_B (c : Dev nD) (t : Fin cfg0.N) (g0 : ¬t.val % 8 = 0) (y : S1024x1024.Idx) (r : Fin 1024) (l : Fin 128) (e f g : Fin 1024)
    (s : Fin 2) (hr : (y 0).val = r.val) (he : (y 1).val = e.val) (hl : l.val = e.val % 128)
    (hf : f.val = e.val / 128 * 128 + (l.val + 112) % 128) (hg : g.val = e.val / 128 * 128 + (l.val + 16) % 128)
    (hs : s.val = e.val / 512) :
    (outsAt0 m c t.val t.isLt).1 y = cell (use t.val s) (isq t.val s) (iblk m c 0 t)
      (outsAt0 m c (t.val - 1) (Nat.lt_of_le_of_lt (Nat.sub_le _ _) t.isLt)).2 (iblk m c 2 t) (iblk m c 3 t) (iblk m c 4 t) r l e f g := by
  rw [outsAt0_B m c t g0]
  frame_out
  canon_tiles x h
  case piece0 =>
    obtain rfl : r = x 0 := Fin.ext (by omega)
    obtain rfl : l = x 1 := Fin.ext (by omega)
    obtain rfl : s = 1 := Fin.ext (by show s.val = 1; omega)
    rw [show f = ⟨896 + ((x 1).val + 128 - 16) % 128, by clear hr he hl hf hg hs; omega⟩ from
        Fin.ext (by show f.val = 896 + ((x 1).val + 128 - 16) % 128; omega),
      show g = ⟨896 + ((x 1).val + 128 - 112) % 128, by clear hr he hl hf hg hs; omega⟩ from
        Fin.ext (by show g.val = 896 + ((x 1).val + 128 - 112) % 128; omega),
      show e = ⟨896 + (x 1).val, by clear hr he hl hf hg hs; omega⟩ from Fin.ext (by show e.val = 896 + (x 1).val; omega)]
    open_payloads; pointwise [cell]; simp only [read_unread_whole, ← use1, ← isq1]
  case piece1 =>
    obtain rfl : r = x 0 := Fin.ext (by omega)
    obtain rfl : l = x 1 := Fin.ext (by omega)
    obtain rfl : s = 1 := Fin.ext (by show s.val = 1; omega)
    rw [show f = ⟨768 + ((x 1).val + 128 - 16) % 128, by clear hr he hl hf hg hs; omega⟩ from
        Fin.ext (by show f.val = 768 + ((x 1).val + 128 - 16) % 128; omega),
      show g = ⟨768 + ((x 1).val + 128 - 112) % 128, by clear hr he hl hf hg hs; omega⟩ from
        Fin.ext (by show g.val = 768 + ((x 1).val + 128 - 112) % 128; omega),
      show e = ⟨768 + (x 1).val, by clear hr he hl hf hg hs; omega⟩ from Fin.ext (by show e.val = 768 + (x 1).val; omega)]
    open_payloads; pointwise [cell]; simp only [read_unread_whole, ← use1, ← isq1]
  case piece2 =>
    obtain rfl : r = x 0 := Fin.ext (by omega)
    obtain rfl : l = x 1 := Fin.ext (by omega)
    obtain rfl : s = 1 := Fin.ext (by show s.val = 1; omega)
    rw [show f = ⟨640 + ((x 1).val + 128 - 16) % 128, by clear hr he hl hf hg hs; omega⟩ from
        Fin.ext (by show f.val = 640 + ((x 1).val + 128 - 16) % 128; omega),
      show g = ⟨640 + ((x 1).val + 128 - 112) % 128, by clear hr he hl hf hg hs; omega⟩ from
        Fin.ext (by show g.val = 640 + ((x 1).val + 128 - 112) % 128; omega),
      show e = ⟨640 + (x 1).val, by clear hr he hl hf hg hs; omega⟩ from Fin.ext (by show e.val = 640 + (x 1).val; omega)]
    open_payloads; pointwise [cell]; simp only [read_unread_whole, ← use1, ← isq1]
  case piece3 =>
    obtain rfl : r = x 0 := Fin.ext (by omega)
    obtain rfl : l = x 1 := Fin.ext (by omega)
    obtain rfl : s = 1 := Fin.ext (by show s.val = 1; omega)
    rw [show f = ⟨512 + ((x 1).val + 128 - 16) % 128, by clear hr he hl hf hg hs; omega⟩ from
        Fin.ext (by show f.val = 512 + ((x 1).val + 128 - 16) % 128; omega),
      show g = ⟨512 + ((x 1).val + 128 - 112) % 128, by clear hr he hl hf hg hs; omega⟩ from
        Fin.ext (by show g.val = 512 + ((x 1).val + 128 - 112) % 128; omega),
      show e = ⟨512 + (x 1).val, by clear hr he hl hf hg hs; omega⟩ from Fin.ext (by show e.val = 512 + (x 1).val; omega)]
    open_payloads; pointwise [cell]; simp only [read_unread_whole, ← use1, ← isq1]
  case piece4 =>
    obtain rfl : r = x 0 := Fin.ext (by omega)
    obtain rfl : l = x 1 := Fin.ext (by omega)
    obtain rfl : s = 0 := Fin.ext (by show s.val = 0; omega)
    rw [show f = ⟨384 + ((x 1).val + 128 - 16) % 128, by clear hr he hl hf hg hs; omega⟩ from
        Fin.ext (by show f.val = 384 + ((x 1).val + 128 - 16) % 128; omega),
      show g = ⟨384 + ((x 1).val + 128 - 112) % 128, by clear hr he hl hf hg hs; omega⟩ from
        Fin.ext (by show g.val = 384 + ((x 1).val + 128 - 112) % 128; omega),
      show e = ⟨384 + (x 1).val, by clear hr he hl hf hg hs; omega⟩ from Fin.ext (by show e.val = 384 + (x 1).val; omega)]
    open_payloads; pointwise [cell]; simp only [read_unread_whole, ← use0, ← isq0]
  case piece5 =>
    obtain rfl : r = x 0 := Fin.ext (by omega)
    obtain rfl : l = x 1 := Fin.ext (by omega)
    obtain rfl : s = 0 := Fin.ext (by show s.val = 0; omega)
    rw [show f = ⟨256 + ((x 1).val + 128 - 16) % 128, by clear hr he hl hf hg hs; omega⟩ from
        Fin.ext (by show f.val = 256 + ((x 1).val + 128 - 16) % 128; omega),
      show g = ⟨256 + ((x 1).val + 128 - 112) % 128, by clear hr he hl hf hg hs; omega⟩ from
        Fin.ext (by show g.val = 256 + ((x 1).val + 128 - 112) % 128; omega),
      show e = ⟨256 + (x 1).val, by clear hr he hl hf hg hs; omega⟩ from Fin.ext (by show e.val = 256 + (x 1).val; omega)]
    open_payloads; pointwise [cell]; simp only [read_unread_whole, ← use0, ← isq0]
  case piece6 =>
    obtain rfl : r = x 0 := Fin.ext (by omega)
    obtain rfl : l = x 1 := Fin.ext (by omega)
    obtain rfl : s = 0 := Fin.ext (by show s.val = 0; omega)
    rw [show f = ⟨128 + ((x 1).val + 128 - 16) % 128, by clear hr he hl hf hg hs; omega⟩ from
        Fin.ext (by show f.val = 128 + ((x 1).val + 128 - 16) % 128; omega),
      show g = ⟨128 + ((x 1).val + 128 - 112) % 128, by clear hr he hl hf hg hs; omega⟩ from
        Fin.ext (by show g.val = 128 + ((x 1).val + 128 - 112) % 128; omega),
      show e = ⟨128 + (x 1).val, by clear hr he hl hf hg hs; omega⟩ from Fin.ext (by show e.val = 128 + (x 1).val; omega)]
    open_payloads; pointwise [cell]; simp only [read_unread_whole, ← use0, ← isq0]
  case piece7 =>
    obtain rfl : r = x 0 := Fin.ext (by omega)
    obtain rfl : l = x 1 := Fin.ext (by omega)
    obtain rfl : s = 0 := Fin.ext (by show s.val = 0; omega)
    rw [show f = ⟨((x 1).val + 128 - 16) % 128, by clear hr he hl hf hg hs; omega⟩ from
        Fin.ext (by show f.val = ((x 1).val + 128 - 16) % 128; omega),
      show g = ⟨((x 1).val + 128 - 112) % 128, by clear hr he hl hf hg hs; omega⟩ from
        Fin.ext (by show g.val = ((x 1).val + 128 - 112) % 128; omega),
      show e = ⟨(x 1).val, by clear hr he hl hf hg hs; omega⟩ from Fin.ext (by show e.val = (x 1).val; omega)]
    open_payloads; pointwise [cell]; simp only [read_unread_whole, ← use0, ← isq0]

/-- A point's scratch is the block of weights at a column tile's first point. -/
theorem wb_A (c : Dev nD) (t : Fin cfg0.N) (g0 : t.val % 8 = 0) :
    (outsAt0 m c t.val t.isLt).2 = k0_pay1 (iblk m c 1 t) := by
  rw [outsAt0_A m c t g0]
  frame_open
  frame_out

/-- At a later point the scratch is what it was. -/
theorem wb_B (c : Dev nD) (t : Fin cfg0.N) (g0 : ¬t.val % 8 = 0) :
    (outsAt0 m c t.val t.isLt).2 = (outsAt0 m c (t.val - 1) (Nat.lt_of_le_of_lt (Nat.sub_le _ _) t.isLt)).2 := by
  rw [outsAt0_B m c t g0]
  rfl

/-- The scratch a first point fills, at an index. -/
theorem pay_at (c : Dev nD) (t : Fin cfg0.N) (d : Fin 2048) (e : Fin 1024) (j : Fin 3072) (hj : j.val = t.val / 8 * 1024 + e.val) :
    k0_pay1 (F := Ideal) (iblk m c 1 t) (ix2 d e) = ws m c (ix3 0 d ⟨6144 + j.val, by omega⟩) := by
  have hN := ltN t
  refine Eq.trans ?_ ((ws_at m c t d e).trans (congrArg (fun z => ws m c (ix3 0 d z)) (Fin.ext (by dsimp only; omega))))
  pointwise [k0_pay1]

/-- The scratch after point `n` holds the weights' columns of that point. -/
theorem scr (c : Dev nD) : ∀ (n : ℕ) (hn : n < cfg0.N) (d : Fin 2048) (e : Fin 1024) (j : Fin 3072), j.val = n / 8 * 1024 + e.val →
    (outsAt0 m c n hn).2 (ix2 d e) = ws m c (ix3 0 d ⟨6144 + j.val, by omega⟩) := by
  have base : ∀ (t : Fin cfg0.N) (d : Fin 2048) (e : Fin 1024) (j : Fin 3072), j.val = t.val / 8 * 1024 + e.val → t.val % 8 = 0 →
      (outsAt0 m c t.val t.isLt).2 (ix2 d e) = ws m c (ix3 0 d ⟨6144 + j.val, by omega⟩) := by
    intro t d e j hj h0
    rw [wb_A m c t h0]
    exact pay_at m c t d e j hj
  intro n
  induction n with
  | zero => exact fun hn d e j hj => base ⟨0, hn⟩ d e j hj rfl
  | succ n ih =>
    intro hn d e j hj
    by_cases h0 : (n + 1) % 8 = 0
    · exact base ⟨n + 1, hn⟩ d e j hj h0
    · exact (congrFun (wb_B m c ⟨n + 1, hn⟩ h0) (ix2 d e)).trans (ih (Nat.lt_of_succ_lt hn) d e j (by omega))

/-- A cell of a point's block, once the block of weights is known. -/
theorem cell_at (c : Dev nD) (t : Fin cfg0.N) (W : FVec Ideal S2048x1024 .bf16)
    (hW : ∀ (d : Fin 2048) (e : Fin 1024) (j : Fin 3072), j.val = t.val / 8 * 1024 + e.val → W (ix2 d e) = ws m c (ix3 0 d ⟨6144 + j.val, by omega⟩))
    (r : Fin 1024) (l : Fin 128) (e f g : Fin 1024) (s : Fin 2) (j a b : Fin 3072) (hl : l.val = e.val % 128) (hs : s.val = e.val / 512)
    (hj : j.val = t.val / 8 * 1024 + e.val) (ha : a.val = t.val / 8 * 1024 + f.val) (hb : b.val = t.val / 8 * 1024 + g.val) :
    cell (use t.val s) (isq t.val s) (iblk m c 0 t) W (iblk m c 2 t) (iblk m c 3 t) (iblk m c 4 t) r l e f g
      = unit (rows m c) (pos m c) (ws m c) ⟨t.val % 8 * 1024 + r.val, by omega⟩ j a b := by
  have hq : Scalar.select (isq t.val s) (Ideal.ofBits FTy.f32 0x3E0293EE#32) 1 = scale j := by
    unfold isq scale
    by_cases q : j.val < 1024
    · rw [if_pos q, if_pos (by omega)]; rfl
    · rw [if_neg q, if_neg (by omega)]; rfl
  unfold cell unit col turn
  simp only [rows_at, cos_at, up_at, dn_at, hW _ e j hj, hW _ f a ha, hW _ g b hb, hq]
  rw [show l.val = j.val % 128 by omega]
  unfold use
  by_cases q : j.val < 2048
  · rw [if_pos q, if_pos (by omega)]; rfl
  · rw [if_neg q, if_neg (by omega)]; rfl

/-- The output block of a point. -/
theorem out_at (c : Dev nD) (t : Fin cfg0.N) (y : S1024x1024.Idx) (r : Fin 1024) (e : Fin 1024) (j a b : Fin 3072)
    (hr : (y 0).val = r.val) (he : (y 1).val = e.val) (hj : j.val = t.val / 8 * 1024 + e.val)
    (ha : a.val = j.val / 128 * 128 + (j.val % 128 + 112) % 128) (hb : b.val = j.val / 128 * 128 + (j.val % 128 + 16) % 128) :
    (outsAt0 m c t.val t.isLt).1 y
      = unit (rows m c) (pos m c) (ws m c) ⟨t.val % 8 * 1024 + r.val, by omega⟩ j a b := by
  have hN := ltN t
  by_cases g0 : t.val % 8 = 0
  · refine (out_A m c t g0 y r ⟨e.val % 128, by omega⟩ e ⟨e.val / 128 * 128 + (e.val % 128 + 112) % 128, by omega⟩
      ⟨e.val / 128 * 128 + (e.val % 128 + 16) % 128, by omega⟩ ⟨e.val / 512, by omega⟩ hr he rfl rfl rfl rfl).trans ?_
    refine cell_at m c t _ (fun d e j hj => pay_at m c t d e j hj) r _ e _ _ _ j a b rfl rfl hj ?_ ?_
    · show a.val = t.val / 8 * 1024 + (e.val / 128 * 128 + (e.val % 128 + 112) % 128); omega
    · show b.val = t.val / 8 * 1024 + (e.val / 128 * 128 + (e.val % 128 + 16) % 128); omega
  · refine (out_B m c t g0 y r ⟨e.val % 128, by omega⟩ e ⟨e.val / 128 * 128 + (e.val % 128 + 112) % 128, by omega⟩
      ⟨e.val / 128 * 128 + (e.val % 128 + 16) % 128, by omega⟩ ⟨e.val / 512, by omega⟩ hr he rfl rfl rfl rfl).trans ?_
    refine cell_at m c t _ (fun d e j hj => scr m c (t.val - 1) (Nat.lt_of_le_of_lt (Nat.sub_le _ _) t.isLt) d e j (by omega))
      r _ e _ _ _ j a b rfl rfl hj ?_ ?_
    · show a.val = t.val / 8 * 1024 + (e.val / 128 * 128 + (e.val % 128 + 112) % 128); omega
    · show b.val = t.val / 8 * 1024 + (e.val / 128 * 128 + (e.val % 128 + 16) % 128); omega

set_option maxHeartbeats 2000000 in
/-- The reference's result at the columns from 0 to 1024. -/
theorem ref_0 (h : FVec Ideal S8192x2048 .bf16) (p : IVec S1x8192 32) (w : FVec Ideal S2x2048x9216 .f32) (i : Fin 8192) (j a b : Fin 3072)
    (ha : a.val = j.val / 128 * 128 + (j.val % 128 + 112) % 128) (hb : b.val = j.val / 128 * 128 + (j.val % 128 + 16) % 128)
    (h0 : 0 ≤ j.val) (h1 : j.val < 1024) :
    (val_main_v74 (F := Ideal) h p w : FVec Ideal S8192x3072 .bf16) (ix2 i j) = unit h p w i j a b := by
  have hc : ∀ (x : Fin 9216) (y : Fin 3072), x.val = 6144 + (y.val) → (∑ d, h (ix2 i d) * w (ix3 0 d x)) = col h w i y := fun x y hxy => by
    rw [show x = ⟨6144 + y.val, by omega⟩ from Fin.ext hxy]; rfl
  have c0 : j.val < 1024 := by omega
  have hs : scale j = qs := if_pos (by omega)
  unfold unit
  rw [if_pos (by omega), hs]
  rw [show j.val % 128 = (j.val) % 128 by omega]
  have hp : (j.val) % 128 < 128 := Nat.mod_lt _ (by decide)
  by_cases d0 : (j.val) % 128 < 16
  · have d1 : (j.val) % 128 < 32 := by omega
    rw [turn_lo _ _ _ _ _ _ qs_nonneg qs_ne_top d0]
    pointwise [c0, d0, d1, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]
    exact congrArg (· * qs) (congrArg₂ (· - ·) (congrArg (· * _) (hc _ j (by dsimp only; omega))) (congrArg (· * _) (hc _ b (by dsimp only; omega))))
  · by_cases d1 : (j.val) % 128 - 16 < 16
    · have d2 : (j.val) % 128 < 32 := by omega
      rw [turn_mid _ _ _ _ _ _ qs_nonneg qs_ne_top d0 d1]
      pointwise [c0, d0, d1, d2, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]
      exact congrArg (· * qs) (congrArg₂ (· + ·) (congrArg (· * _) (hc _ j (by dsimp only; omega))) (congrArg (· * _) (hc _ a (by dsimp only; omega))))
    · have d2 : ¬(j.val) % 128 < 32 := by omega
      rw [turn_hi _ _ _ _ _ _ d0 d1]
      pointwise [c0, d0, d1, d2, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]
      exact congrArg (· * qs) (hc _ j (by dsimp only; omega))

set_option maxHeartbeats 2000000 in
/-- The reference's result at the columns from 1024 to 2048. -/
theorem ref_1 (h : FVec Ideal S8192x2048 .bf16) (p : IVec S1x8192 32) (w : FVec Ideal S2x2048x9216 .f32) (i : Fin 8192) (j a b : Fin 3072)
    (ha : a.val = j.val / 128 * 128 + (j.val % 128 + 112) % 128) (hb : b.val = j.val / 128 * 128 + (j.val % 128 + 16) % 128)
    (h0 : 1024 ≤ j.val) (h1 : j.val < 2048) :
    (val_main_v74 (F := Ideal) h p w : FVec Ideal S8192x3072 .bf16) (ix2 i j) = unit h p w i j a b := by
  have hc : ∀ (x : Fin 9216) (y : Fin 3072), x.val = 6144 + (y.val) → (∑ d, h (ix2 i d) * w (ix3 0 d x)) = col h w i y := fun x y hxy => by
    rw [show x = ⟨6144 + y.val, by omega⟩ from Fin.ext hxy]; rfl
  have c0 : ¬j.val < 1024 := by omega
  have c1 : j.val - 1024 < 1024 := by omega
  have hs : scale j = 1 := if_neg (by omega)
  unfold unit
  rw [if_pos (by omega), hs]
  rw [show j.val % 128 = (j.val - 1024) % 128 by omega]
  have hp : (j.val - 1024) % 128 < 128 := Nat.mod_lt _ (by decide)
  by_cases d0 : (j.val - 1024) % 128 < 16
  · have d1 : (j.val - 1024) % 128 < 32 := by omega
    rw [turn_lo _ _ _ _ _ _ zero_le_one one_ne_top d0, mul_one]
    pointwise [c0, c1, d0, d1, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]
    exact congrArg₂ (· - ·) (congrArg (· * _) (hc _ j (by dsimp only; omega))) (congrArg (· * _) (hc _ b (by dsimp only; omega)))
  · by_cases d1 : (j.val - 1024) % 128 - 16 < 16
    · have d2 : (j.val - 1024) % 128 < 32 := by omega
      rw [turn_mid _ _ _ _ _ _ zero_le_one one_ne_top d0 d1, mul_one]
      pointwise [c0, c1, d0, d1, d2, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]
      exact congrArg₂ (· + ·) (congrArg (· * _) (hc _ j (by dsimp only; omega))) (congrArg (· * _) (hc _ a (by dsimp only; omega)))
    · have d2 : ¬(j.val - 1024) % 128 < 32 := by omega
      rw [turn_hi _ _ _ _ _ _ d0 d1, mul_one]
      pointwise [c0, c1, d0, d1, d2, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]
      exact hc _ j (by dsimp only; omega)

set_option maxHeartbeats 2000000 in
/-- The reference's result at the columns from 2048 to 3072. -/
theorem ref_2 (h : FVec Ideal S8192x2048 .bf16) (p : IVec S1x8192 32) (w : FVec Ideal S2x2048x9216 .f32) (i : Fin 8192) (j a b : Fin 3072)
    (ha : a.val = j.val / 128 * 128 + (j.val % 128 + 112) % 128) (hb : b.val = j.val / 128 * 128 + (j.val % 128 + 16) % 128)
    (h0 : 2048 ≤ j.val) (h1 : j.val < 3072) :
    (val_main_v74 (F := Ideal) h p w : FVec Ideal S8192x3072 .bf16) (ix2 i j) = unit h p w i j a b := by
  have hc : ∀ (x : Fin 9216) (y : Fin 3072), x.val = 6144 + (y.val) → (∑ d, h (ix2 i d) * w (ix3 0 d x)) = col h w i y := fun x y hxy => by
    rw [show x = ⟨6144 + y.val, by omega⟩ from Fin.ext hxy]; rfl
  have c0 : ¬j.val < 1024 := by omega
  have c1 : ¬j.val - 1024 < 1024 := by omega
  have hs : scale j = 1 := if_neg (by omega)
  unfold unit
  rw [if_neg (by omega), hs]
  rw [mul_one]
  pointwise [c0, c1, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]
  exact hc _ j (by dsimp only; omega)

/-- The reference's result at a row and a column. -/
theorem ref_at (h : FVec Ideal S8192x2048 .bf16) (p : IVec S1x8192 32) (w : FVec Ideal S2x2048x9216 .f32) (i : Fin 8192) (j a b : Fin 3072)
    (ha : a.val = j.val / 128 * 128 + (j.val % 128 + 112) % 128) (hb : b.val = j.val / 128 * 128 + (j.val % 128 + 16) % 128) :
    (val_main_v74 (F := Ideal) h p w : FVec Ideal S8192x3072 .bf16) (ix2 i j) = unit h p w i j a b := by
  by_cases g0 : j.val < 1024
  · exact ref_0 h p w i j a b ha hb (by omega) g0
  by_cases g1 : j.val < 2048
  · exact ref_1 h p w i j a b ha hb (by omega) g1
  exact ref_2 h p w i j a b ha hb (by omega) (by omega)

/-- The kernel's result array is the reference's result. -/
theorem arr_eq (c : Dev nD) :
    (dats m 0 c).arrAt 5 cfg0.N = val_main_v74 (F := Ideal) (rows m c) (pos m c) (ws m c) := by
  refine (dats m 0 c).arrAt_eq_of_covers 5 _ (by decide +kernel) fun t hf y => ?_
  have hN := ltN t
  blk_simp
  rw [after0_5]
  have h0 : (y 0).val < 1024 := (y 0).isLt
  have h1 : (y 1).val < 1024 := (y 1).isLt
  refine (out_at m c t y (y 0) (y 1) ⟨t.val / 8 * 1024 + (y 1).val, by omega⟩
    ⟨(t.val / 8 * 1024 + (y 1).val) / 128 * 128 + ((t.val / 8 * 1024 + (y 1).val) % 128 + 112) % 128, by omega⟩
    ⟨(t.val / 8 * 1024 + (y 1).val) / 128 * 128 + ((t.val / 8 * 1024 + (y 1).val) % 128 + 16) % 128, by omega⟩ rfl rfl rfl rfl rfl).trans ?_
  refine (ref_at (rows m c) (pos m c) (ws m c) ⟨t.val % 8 * 1024 + (y 0).val, by omega⟩ ⟨t.val / 8 * 1024 + (y 1).val, by omega⟩
    _ _ rfl rfl).symm.trans ?_
  refine congrArg (val_main_v74 (F := Ideal) (rows m c) (pos m c) (ws m c) : FVec Ideal S8192x3072 .bf16) ?_
  blk_ext [idx t]

end Cert.Kernel6Ideal.Proj
-- ==== Proof.Out.lean ====
/- The block's output product over both kinds of heads with the residual step and the next norm: what the kernel leaves is
the reference's results. -/
module

public import proofs.«01_k».proof.Proof.Gen.Kernel7Ideal.Value
public import proofs.«01_k».proof.Proof.Gen.Reference7Ideal.Read
public import proofs.«01_k».proof.Proof.Norm
public import Idealize.ShloMosaic.Lib.Pipeline.ValueKit
public import Idealize.ShloMosaic.Lib.Pipeline.ReadBack
public import Idealize.ShloMosaic.Lib.StableHlo.ReadAt

@[expose] public section

set_option maxRecDepth 16384

noncomputable section

open Idealize.ShloMosaic Idealize.ShloMosaic.TcCoe Idealize.SL.Sem

namespace Cert.Kernel7Ideal.Out

open Cert.Kernel7Ideal Cert.Kernel7Ideal.Gen Cert.Norm

variable (m : (ℓ : Loc nD τ sig) → Buf (Elt Ideal) ℓ)

theorem lt32 (t : Fin cfg0.N) : t.val < 32 := lt_of_lt_of_eq t.isLt N_0

/-- The first kind of heads' outputs as launched. -/
abbrev units (c : Dev nD) : FVec Ideal S8192x2048 .bf16 := m ((c.tc : Thread nD τ).loc main_arg0)
/-- The second kind of heads' outputs as launched. -/
abbrev last (c : Dev nD) : FVec Ideal S8192x1024 .bf16 := m ((c.tc : Thread nD τ).loc main_arg1)
/-- The weights as launched. -/
abbrev w2 (c : Dev nD) : FVec Ideal S2x3072x2048 .f32 := m ((c.tc : Thread nD τ).loc main_arg2)
/-- The residual stream as launched. -/
abbrev xs (c : Dev nD) : FVec Ideal S8192x2048 .f32 := m ((c.tc : Thread nD τ).loc main_arg3)
/-- The norms' gains as launched. -/
abbrev gains (c : Dev nD) : FVec Ideal S4x6x2048 .f32 := m ((c.tc : Thread nD τ).loc main_arg4)

/-- The block indices of the nine windows at every point. -/
theorem idx : ∀ t : Fin cfg0.N, win0_0.index t = ![t.val / 2, t.val % 2] ∧ win0_1.index t = ![0, t.val % 2, 0]
    ∧ win0_2.index t = ![t.val / 2, 0] ∧ win0_3.index t = ![0, 2, 0] ∧ win0_4.index t = ![t.val / 2, 0]
    ∧ win0_5.index t = ![0, 0, 0] ∧ win0_6.index t = ![0, 0, 0]
    ∧ win0_7.index t = ![t.val / 2, 0] ∧ win0_8.index t = ![t.val / 2, 0] :=
  (by decide +kernel : ∀ t : Fin grid0.N, _)

/-- The weights the call reads are the argument's. -/
theorem w2_host (c : Dev nD) (k : Fin 3072) (e : Fin 2048) :
    (V m c main_v0 : FVec Ideal S2x3072x2048 .bf16) (ix3 0 k e) = w2 m c (ix3 0 k e) := by
  unfold V
  simp only [hostOps0, List.flatten_cons, List.flatten_nil, List.append_nil, List.cons_append, List.nil_append]
  after_reads_at

/-- The block of the first heads' outputs at a point. -/
theorem units_at (c : Dev nD) (t : Fin cfg0.N) (r : Fin 512) (k : Fin 1024) :
    (iblk m c 0 t : FVec Ideal S512x1024 .bf16) (ix2 r k)
      = units m c (ix2 ⟨t.val / 2 * 512 + r.val, by have := lt32 t; omega⟩ ⟨t.val % 2 * 1024 + k.val, by omega⟩) := by
  blk_ext [iblk, V, idx t]

/-- The block of weights at a point. -/
theorem w_at (c : Dev nD) (t : Fin cfg0.N) (k : Fin 1024) (e : Fin 2048) :
    (iblk m c 1 t : FVec Ideal S1x1024x2048 .bf16) (ix3 0 k e) = w2 m c (ix3 0 ⟨t.val % 2 * 1024 + k.val, by omega⟩ e) := by
  rw [← w2_host m c]
  blk_ext [iblk, idx t]

/-- The block of the second heads' outputs at a point. -/
theorem last_at (c : Dev nD) (t : Fin cfg0.N) (r : Fin 512) (k : Fin 1024) :
    (iblk m c 2 t : FVec Ideal S512x1024 .bf16) (ix2 r k)
      = last m c (ix2 ⟨t.val / 2 * 512 + r.val, by have := lt32 t; omega⟩ k) := by
  blk_ext [iblk, V, idx t]

/-- The last weights' block at a point. -/
theorem wt_at (c : Dev nD) (t : Fin cfg0.N) (k : Fin 1024) (e : Fin 2048) :
    (iblk m c 3 t : FVec Ideal S1x1024x2048 .bf16) (ix3 0 k e) = w2 m c (ix3 0 ⟨2048 + k.val, by omega⟩ e) := by
  rw [← w2_host m c]
  blk_ext [iblk, idx t]

/-- The stream's block at a point. -/
theorem xs_at (c : Dev nD) (t : Fin cfg0.N) (r : Fin 512) (e : Fin 2048) :
    (iblk m c 4 t : FVec Ideal S512x2048 .f32) (ix2 r e)
      = xs m c (ix2 ⟨t.val / 2 * 512 + r.val, by have := lt32 t; omega⟩ e) := by
  blk_ext [iblk, V, idx t]

/-- The residual norm's gains at a point. -/
theorem g_at (c : Dev nD) (t : Fin cfg0.N) (e : Fin 2048) :
    (iblk m c 5 t : FVec Ideal S1x6x2048 .f32) (ix3 0 3 e) = gains m c (ix3 0 3 e) := by
  blk_ext [iblk, V, idx t]

/-- The next norm's gains at a point. -/
theorem gn_at (c : Dev nD) (t : Fin cfg0.N) (e : Fin 2048) :
    (iblk m c 6 t : FVec Ideal S1x6x2048 .f32) (ix3 0 4 e) = gains m c (ix3 0 4 e) := by
  blk_ext [iblk, V, idx t]

/-- The product of a block of outputs and a block of weights. -/
def part {n : ℕ} (L : FVec Ideal ⟨2, ![512, n]⟩ .bf16) (W : FVec Ideal ⟨3, ![1, n, 2048]⟩ .bf16) (r : Fin 512) (e : Fin 2048) : EReal :=
  ∑ k : Fin n, L (ix2 r k) * W (ix3 0 k e)

/-- The first product a point stores: the second heads against their weights. -/
theorem pay1_at (L : FVec Ideal S512x1024 .bf16) (W : FVec Ideal S1x1024x2048 .bf16) (r : Fin 512) (e : Fin 2048) :
    k0_pay1 (F := Ideal) L W (ix2 r e) = part L W r e := by
  pointwise [k0_pay1, part]

/-- A tile's product added to what was there. -/
theorem pay2_at (A : FVec Ideal S512x2048 .f32) (L : FVec Ideal S512x1024 .bf16) (W : FVec Ideal S1x1024x2048 .bf16) (r : Fin 512) (e : Fin 2048) :
    k0_pay2 (F := Ideal) A L W (ix2 r e) = A (ix2 r e) + part L W r e := by
  pointwise [k0_pay2, part]

/-- The last tile's product added to what was there, on half the rows. -/
def acc (A : FVec Ideal S256x2048 .f32) (L : FVec Ideal S256x1024 .bf16) (W : FVec Ideal S1x1024x2048 .bf16) (r : Fin 256) (e : Fin 2048) : EReal :=
  A (ix2 r e) + ∑ k : Fin 1024, L (ix2 r k) * W (ix3 0 k e)

/-- The first rows' residual step. -/
theorem pay4_at (A : FVec Ideal S256x2048 .f32) (L : FVec Ideal S256x1024 .bf16) (W : FVec Ideal S1x1024x2048 .bf16)
    (X : FVec Ideal S256x2048 .f32) (G : FVec Ideal S1x1x2048 .f32) (r : Fin 256) (e : Fin 2048) :
    k0_pay4 (F := Ideal) A L W X G (ix2 r e) = step 1 (fun e => X (ix2 r e)) (acc A L W r) (fun e => G (ix3 0 0 e)) e := by
  pointwise [k0_pay4, step, rms, acc, one_mul]

/-- The other rows' residual step. -/
theorem pay8_at (A : FVec Ideal S256x2048 .f32) (L : FVec Ideal S256x1024 .bf16) (W : FVec Ideal S1x1024x2048 .bf16)
    (X : FVec Ideal S256x2048 .f32) (G : FVec Ideal S1x1x2048 .f32) (r : Fin 256) (e : Fin 2048) :
    k0_pay8 (F := Ideal) A L W X G (ix2 r e) = step 1 (fun e => X (ix2 r e)) (acc A L W r) (fun e => G (ix3 0 0 e)) e := by
  pointwise [k0_pay8, step, rms, acc, one_mul]

/-- The other rows' next norm. -/
theorem pay3_at (X : FVec Ideal S256x2048 .f32) (G : FVec Ideal S1x1x2048 .f32) (r : Fin 256) (e : Fin 2048) :
    k0_pay3 (F := Ideal) X (k0_pay9 G) (ix2 r e) = rms (fun e => X (ix2 r e)) (fun e => G (ix3 0 0 e)) e := by
  pointwise [k0_pay3, k0_pay9, rms]

/-- The first rows' next norm. -/
theorem pay7_at (A : FVec Ideal S256x2048 .f32) (L : FVec Ideal S256x1024 .bf16) (W : FVec Ideal S1x1024x2048 .bf16)
    (X : FVec Ideal S256x2048 .f32) (G G' : FVec Ideal S1x1x2048 .f32) (r : Fin 256) (e : Fin 2048) :
    k0_pay7 (F := Ideal) (k0_pay4 A L W X G) (k0_pay5 G') (k0_pay6 A L W X G) (ix2 r e)
      = rms (fun e => k0_pay4 (F := Ideal) A L W X G (ix2 r e)) (fun e => G' (ix3 0 0 e)) e := by
  pointwise [k0_pay7, k0_pay5, k0_pay6, rms]

/-- What a block's first point leaves in the scratch. -/
theorem s_A (c : Dev nD) (t : Fin cfg0.N) (h0 : t.val % 2 = 0) (r : Fin 512) (e : Fin 2048) :
    (outsAt0 m c t.val t.isLt).2.2 (ix2 r e)
      = k0_pay2 (F := Ideal) (k0_pay1 (iblk m c 2 t) (iblk m c 3 t)) (iblk m c 0 t) (iblk m c 1 t) (ix2 r e) := by
  rw [outsAt0_A m c t h0 h0 (by omega)]
  frame_open
  simp (disch := decide) only [↓ View.readCov_skip, ↓ View.readCov_cons_toLoadRect, ↓ View.readCov_fill]
  frame_out

/-- The whole product of a point's block from what the scratch held. -/
def full (A : FVec Ideal S512x2048 .f32) (L : FVec Ideal S512x1024 .bf16) (W : FVec Ideal S1x1024x2048 .bf16) (r : Fin 512) (e : Fin 2048) : EReal :=
  A (ix2 r e) + part L W r e

/-- The stream's block a block's last point writes. -/
theorem x_B (c : Dev nD) (t : Fin cfg0.N) (g0 : t.val % 2 = 1) (y : S512x2048.Idx) (r : Fin 512) (e : Fin 2048)
    (hr : (y 0).val = r.val) (he : (y 1).val = e.val) :
    (outsAt0 m c t.val t.isLt).1 y
      = step 1 (fun e => (iblk m c 4 t : FVec Ideal S512x2048 .f32) (ix2 r e))
          (full (outsAt0 m c (t.val - 1) (Nat.lt_of_le_of_lt (Nat.sub_le _ _) t.isLt)).2.2 (iblk m c 0 t) (iblk m c 1 t) r)
          (fun e => (iblk m c 5 t : FVec Ideal S1x6x2048 .f32) (ix3 0 3 e)) e := by
  rw [outsAt0_B m c t (by omega) (by omega) g0]
  frame_open
  frame_out
  canon_tiles x h
  case piece0 =>
    rw [show r = ⟨256 + (x 0).val, by omega⟩ from Fin.ext (by show r.val = 256 + (x 0).val; omega)]
    obtain rfl : e = x 1 := Fin.ext (by omega)
    pointwise [k0_pay8, step, rms, full, part, one_mul]
    simp only [read_unread_whole]
  case piece1 =>
    rw [show r = ⟨(x 0).val, by omega⟩ from Fin.ext (by show r.val = (x 0).val; omega)]
    obtain rfl : e = x 1 := Fin.ext (by omega)
    pointwise [k0_pay4, step, rms, full, part, one_mul]
    simp only [read_unread_whole]

/-- The normed stream's block a block's last point writes. -/
theorem h_B (c : Dev nD) (t : Fin cfg0.N) (g0 : t.val % 2 = 1) (y : S512x2048.Idx) (r : Fin 512) (e : Fin 2048)
    (hr : (y 0).val = r.val) (he : (y 1).val = e.val) :
    (outsAt0 m c t.val t.isLt).2.1 y
      = rms (step 1 (fun e => (iblk m c 4 t : FVec Ideal S512x2048 .f32) (ix2 r e))
          (full (outsAt0 m c (t.val - 1) (Nat.lt_of_le_of_lt (Nat.sub_le _ _) t.isLt)).2.2 (iblk m c 0 t) (iblk m c 1 t) r)
          (fun e => (iblk m c 5 t : FVec Ideal S1x6x2048 .f32) (ix3 0 3 e)))
          (fun e => (iblk m c 6 t : FVec Ideal S1x6x2048 .f32) (ix3 0 4 e)) e := by
  rw [outsAt0_B m c t (by omega) (by omega) g0]
  frame_open
  frame_out
  canon_tiles x h
  case piece0 =>
    rw [show r = ⟨256 + (x 0).val, by omega⟩ from Fin.ext (by show r.val = 256 + (x 0).val; omega)]
    obtain rfl : e = x 1 := Fin.ext (by omega)
    have hx : x = ix2 (x 0) (x 1) := by funext a; match a with | ⟨0, _⟩ => rfl | ⟨1, _⟩ => rfl
    refine ((congrArg _ hx).trans (pay3_at _ _ (x 0) (x 1))).trans ?_
    refine congrArg₂ (fun f g => rms f g (x 1)) (funext fun e => ?_) (funext fun e => ?_)
    · refine (pay8_at _ _ _ _ _ (x 0) e).trans ?_
      pointwise [one_mul, step, rms, acc, full, part]
      simp only [read_unread_whole]
    · pointwise []
  case piece1 =>
    rw [show r = ⟨(x 0).val, by omega⟩ from Fin.ext (by show r.val = (x 0).val; omega)]
    obtain rfl : e = x 1 := Fin.ext (by omega)
    have hx : x = ix2 (x 0) (x 1) := by funext a; match a with | ⟨0, _⟩ => rfl | ⟨1, _⟩ => rfl
    refine ((congrArg _ hx).trans (pay7_at _ _ _ _ _ _ (x 0) (x 1))).trans ?_
    refine congrArg₂ (fun f g => rms f g (x 1)) (funext fun e => ?_) (funext fun e => ?_)
    · refine (pay4_at _ _ _ _ _ (x 0) e).trans ?_
      pointwise [one_mul, step, rms, acc, full, part]
      simp only [read_unread_whole]
    · pointwise []

/-- An entry of the whole product: the first heads and the second. -/
def prod (U : FVec Ideal S8192x2048 .bf16) (L : FVec Ideal S8192x1024 .bf16) (W : FVec Ideal S2x3072x2048 .f32) (i : Fin 8192) (e : Fin 2048) : EReal :=
  ∑ k : Fin 2048, U (ix2 i k) * W (ix3 0 ⟨k.val, by omega⟩ e) + ∑ k : Fin 1024, L (ix2 i k) * W (ix3 0 ⟨2048 + k.val, by omega⟩ e)

/-- The part of the product over tile `q`. -/
def tile (U : FVec Ideal S8192x2048 .bf16) (W : FVec Ideal S2x3072x2048 .f32) (q : ℕ) (hq : q < 2) (i : Fin 8192) (e : Fin 2048) : EReal :=
  ∑ k : Fin 1024, U (ix2 i ⟨q * 1024 + k.val, by omega⟩) * W (ix3 0 ⟨q * 1024 + k.val, by omega⟩ e)

/-- The product of a point's blocks is a part of the whole one. -/
theorem tile_at (c : Dev nD) (t : Fin cfg0.N) (r : Fin 512) (e : Fin 2048) :
    part (n := 1024) (iblk m c 0 t) (iblk m c 1 t) r e
      = tile (units m c) (w2 m c) (t.val % 2) (by omega) ⟨t.val / 2 * 512 + r.val, by have := lt32 t; omega⟩ e :=
  Finset.sum_congr rfl fun k _ => Ideal.mul_congr (units_at m c t r k) (w_at m c t k e)

/-- The product of the second heads' block. -/
theorem last_part (c : Dev nD) (t : Fin cfg0.N) (r : Fin 512) (e : Fin 2048) :
    part (n := 1024) (iblk m c 2 t) (iblk m c 3 t) r e
      = ∑ k : Fin 1024, last m c (ix2 ⟨t.val / 2 * 512 + r.val, by have := lt32 t; omega⟩ k) * w2 m c (ix3 0 ⟨2048 + k.val, by omega⟩ e) :=
  Finset.sum_congr rfl fun k _ => Ideal.mul_congr (last_at m c t r k) (wt_at m c t k e)

/-- The whole product from its parts. -/
theorem prod_eq (U : FVec Ideal S8192x2048 .bf16) (L : FVec Ideal S8192x1024 .bf16) (W : FVec Ideal S2x3072x2048 .f32) (i : Fin 8192) (e : Fin 2048) :
    (∑ k : Fin 1024, L (ix2 i k) * W (ix3 0 ⟨2048 + k.val, by omega⟩ e) + tile U W 0 (by omega) i e) + tile U W 1 (by omega) i e
      = prod U L W i e := by
  unfold prod
  rw [sum_2048, add_comm _ (∑ k : Fin 1024, L _ * _), ← add_assoc]
  rfl

/-- The parts at equal tiles and rows are equal. -/
theorem tile_congr {U : FVec Ideal S8192x2048 .bf16} {W : FVec Ideal S2x3072x2048 .f32} {q q' : ℕ} {hq : q < 2} {hq' : q' < 2}
    {i i' : Fin 8192} {e : Fin 2048} (h : q = q') (g : i.val = i'.val) : tile U W q hq i e = tile U W q' hq' i' e := by
  subst h; rw [Fin.ext g]

/-- At a block's last point the whole product is there. -/
theorem full_at (c : Dev nD) (t : Fin cfg0.N) (g0 : t.val % 2 = 1) (r : Fin 512) (e : Fin 2048) :
    full (outsAt0 m c (t.val - 1) (Nat.lt_of_le_of_lt (Nat.sub_le _ _) t.isLt)).2.2 (iblk m c 0 t) (iblk m c 1 t) r e
      = prod (units m c) (last m c) (w2 m c) ⟨t.val / 2 * 512 + r.val, by have := lt32 t; omega⟩ e := by
  have h32 := lt32 t
  have a := s_A m c ⟨t.val - 1, Nat.lt_of_le_of_lt (Nat.sub_le _ _) t.isLt⟩ (by show (t.val - 1) % 2 = 0; omega) r e
  rw [pay2_at, tile_at, pay1_at, last_part] at a
  unfold full
  refine (congrArg₂ (· + ·) a (tile_at m c t r e)).trans ?_
  rw [← prod_eq]
  refine congrArg₂ (· + ·) (congrArg₂ (· + ·) ?_ (tile_congr ?_ ?_)) (tile_congr ?_ ?_)
  · refine Finset.sum_congr rfl fun k _ => congrArg (fun i => last m c (ix2 i k) * w2 m c (ix3 0 ⟨2048 + k.val, by omega⟩ e)) (Fin.ext ?_)
    show (t.val - 1) / 2 * 512 + r.val = t.val / 2 * 512 + r.val
    omega
  · show (t.val - 1) % 2 = 0; omega
  · show (t.val - 1) / 2 * 512 + r.val = t.val / 2 * 512 + r.val; omega
  · exact g0
  · rfl

/-- The reference's product. -/
theorem ref_y (U : FVec Ideal S8192x2048 .bf16) (L : FVec Ideal S8192x1024 .bf16) (W : FVec Ideal S2x3072x2048 .f32) (i : Fin 8192) (e : Fin 2048) :
    (Cert.Reference7Ideal.Read.val_main_v6 (F := Ideal) U L W : FVec Ideal S8192x2048 .f32) (ix2 i e) = prod U L W i e := by
  pointwise [Cert.Reference7Ideal.Read.val_main_v6, Cert.Reference7Ideal.Read.val_main_v5, Cert.Reference7Ideal.Read.val_main_v4,
    Cert.Reference7Ideal.Read.val_main_v3, Cert.Reference7Ideal.Read.val_main_v2, prod]

/-- The reference's stream. -/
theorem ref_x (U : FVec Ideal S8192x2048 .bf16) (L : FVec Ideal S8192x1024 .bf16) (W : FVec Ideal S2x3072x2048 .f32)
    (X : FVec Ideal S8192x2048 .f32) (G : FVec Ideal S4x6x2048 .f32) (i : Fin 8192) (e : Fin 2048) :
    (Cert.Reference7Ideal.Read.val_main_v22 (F := Ideal) U L W X G : FVec Ideal S8192x2048 .f32) (ix2 i e)
      = step 1 (fun e => X (ix2 i e)) (prod U L W i) (fun e => G (ix3 0 3 e)) e := by
  refine Eq.trans (b := step 1 (fun e => X (ix2 i e)) (fun e => (Cert.Reference7Ideal.Read.val_main_v6 (F := Ideal) U L W : FVec Ideal S8192x2048 .f32) (ix2 i e))
    (fun e => G (ix3 0 3 e)) e) ?_ (congrArg (fun f => step 1 (fun e => X (ix2 i e)) f (fun e => G (ix3 0 3 e)) e) (funext fun e => ref_y U L W i e))
  pointwise [Cert.Reference7Ideal.Read.val_main_v0, Cert.Reference7Ideal.Read.val_main_v1, Cert.Reference7Ideal.Read.val_main_v7, Cert.Reference7Ideal.Read.val_main_v8, Cert.Reference7Ideal.Read.val_main_v9, Cert.Reference7Ideal.Read.val_main_cst, Cert.Reference7Ideal.Read.val_main_v10, Cert.Reference7Ideal.Read.val_main_v11, Cert.Reference7Ideal.Read.val_main_cst_0, Cert.Reference7Ideal.Read.val_main_v12, Cert.Reference7Ideal.Read.val_main_v13, Cert.Reference7Ideal.Read.val_main_cst_1, Cert.Reference7Ideal.Read.val_main_v14, Cert.Reference7Ideal.Read.val_main_v15, Cert.Reference7Ideal.Read.val_main_v16, Cert.Reference7Ideal.Read.val_main_v17, Cert.Reference7Ideal.Read.val_main_v18, Cert.Reference7Ideal.Read.val_main_v19, Cert.Reference7Ideal.Read.val_main_v20, Cert.Reference7Ideal.Read.val_main_v21, Cert.Reference7Ideal.Read.val_main_v22, step, rms, one_mul]

/-- The reference's normed stream. -/
theorem ref_h (U : FVec Ideal S8192x2048 .bf16) (L : FVec Ideal S8192x1024 .bf16) (W : FVec Ideal S2x3072x2048 .f32)
    (X : FVec Ideal S8192x2048 .f32) (G : FVec Ideal S4x6x2048 .f32) (i : Fin 8192) (e : Fin 2048) :
    (Cert.Reference7Ideal.Read.val_main_v38 (F := Ideal) U L W X G : FVec Ideal S8192x2048 .bf16) (ix2 i e)
      = rms (step 1 (fun e => X (ix2 i e)) (prod U L W i) (fun e => G (ix3 0 3 e))) (fun e => G (ix3 0 4 e)) e := by
  refine Eq.trans (b := rms (fun e => (Cert.Reference7Ideal.Read.val_main_v22 (F := Ideal) U L W X G : FVec Ideal S8192x2048 .f32) (ix2 i e))
    (fun e => G (ix3 0 4 e)) e) ?_ (congrArg (fun f => rms f (fun e => G (ix3 0 4 e)) e) (funext fun e => ref_x U L W X G i e))
  pointwise [Cert.Reference7Ideal.Read.val_main_v0, Cert.Reference7Ideal.Read.val_main_v1, Cert.Reference7Ideal.Read.val_main_v23, Cert.Reference7Ideal.Read.val_main_v24, Cert.Reference7Ideal.Read.val_main_v25, Cert.Reference7Ideal.Read.val_main_cst_2, Cert.Reference7Ideal.Read.val_main_v26, Cert.Reference7Ideal.Read.val_main_v27, Cert.Reference7Ideal.Read.val_main_cst_3, Cert.Reference7Ideal.Read.val_main_v28, Cert.Reference7Ideal.Read.val_main_v29, Cert.Reference7Ideal.Read.val_main_cst_4, Cert.Reference7Ideal.Read.val_main_v30, Cert.Reference7Ideal.Read.val_main_v31, Cert.Reference7Ideal.Read.val_main_v32, Cert.Reference7Ideal.Read.val_main_v33, Cert.Reference7Ideal.Read.val_main_v34, Cert.Reference7Ideal.Read.val_main_v35, Cert.Reference7Ideal.Read.val_main_v36, Cert.Reference7Ideal.Read.val_main_v37, Cert.Reference7Ideal.Read.val_main_v38, rms]

/-- A row's block position. -/
abbrev row (t : Fin cfg0.N) (r : Fin 512) : Fin 8192 := ⟨t.val / 2 * 512 + r.val, by have := lt32 t; omega⟩

/-- The streams in, the product and the gains at a block's last point. -/
theorem step_at (c : Dev nD) (t : Fin cfg0.N) (g0 : t.val % 2 = 1) (r : Fin 512) (e : Fin 2048) :
    step 1 (fun e => (iblk m c 4 t : FVec Ideal S512x2048 .f32) (ix2 r e))
          (full (outsAt0 m c (t.val - 1) (Nat.lt_of_le_of_lt (Nat.sub_le _ _) t.isLt)).2.2 (iblk m c 0 t) (iblk m c 1 t) r)
          (fun e => (iblk m c 5 t : FVec Ideal S1x6x2048 .f32) (ix3 0 3 e)) e
      = step 1 (fun e => xs m c (ix2 (row t r) e)) (prod (units m c) (last m c) (w2 m c) (row t r)) (fun e => gains m c (ix3 0 3 e)) e := by
  rw [show (fun e => (iblk m c 4 t : FVec Ideal S512x2048 .f32) (ix2 r e)) = fun e => xs m c (ix2 (row t r) e) from funext fun e => xs_at m c t r e,
    show full (outsAt0 m c (t.val - 1) (Nat.lt_of_le_of_lt (Nat.sub_le _ _) t.isLt)).2.2 (iblk m c 0 t) (iblk m c 1 t) r
      = prod (units m c) (last m c) (w2 m c) (row t r) from funext fun e => full_at m c t g0 r e,
    show (fun e => (iblk m c 5 t : FVec Ideal S1x6x2048 .f32) (ix3 0 3 e)) = fun e => gains m c (ix3 0 3 e) from funext fun e => g_at m c t e]

/-- The stream the call leaves is the reference's. -/
theorem x_eq (c : Dev nD) :
    (dats m 0 c).arrAt 7 cfg0.N = Cert.Reference7Ideal.Read.val_main_v22 (F := Ideal) (units m c) (last m c) (w2 m c) (xs m c) (gains m c) := by
  refine (dats m 0 c).arrAt_eq_of_covers 7 _ (by decide +kernel) fun t hf y => ?_
  have g0 : t.val % 2 = 1 := (flush0_7 t).mp hf
  have h32 := lt32 t
  blk_simp
  rw [after0_7]
  have b0 : (y 0).val < 512 := (y 0).isLt
  have b1 : (y 1).val < 2048 := (y 1).isLt
  refine (x_B m c t g0 y ⟨(y 0).val, b0⟩ ⟨(y 1).val, b1⟩ rfl rfl).trans ((step_at m c t g0 _ _).trans ?_)
  refine (ref_x (units m c) (last m c) (w2 m c) (xs m c) (gains m c) _ _).symm.trans ?_
  refine congrArg (Cert.Reference7Ideal.Read.val_main_v22 (F := Ideal) (units m c) (last m c) (w2 m c) (xs m c) (gains m c) : FVec Ideal S8192x2048 .f32) ?_
  blk_ext [idx t]

/-- The normed stream the call leaves is the reference's. -/
theorem h_eq (c : Dev nD) :
    (dats m 0 c).arrAt 8 cfg0.N = Cert.Reference7Ideal.Read.val_main_v38 (F := Ideal) (units m c) (last m c) (w2 m c) (xs m c) (gains m c) := by
  refine (dats m 0 c).arrAt_eq_of_covers 8 _ (by decide +kernel) fun t hf y => ?_
  have g0 : t.val % 2 = 1 := (flush0_8 t).mp hf
  have h32 := lt32 t
  blk_simp
  rw [after0_8]
  have b0 : (y 0).val < 512 := (y 0).isLt
  have b1 : (y 1).val < 2048 := (y 1).isLt
  refine (h_B m c t g0 y ⟨(y 0).val, b0⟩ ⟨(y 1).val, b1⟩ rfl rfl).trans ?_
  refine (congrArg₂ (fun f g => rms f g ⟨(y 1).val, b1⟩) (funext fun e => step_at m c t g0 _ e) (funext fun e => gn_at m c t e)).trans ?_
  refine (ref_h (units m c) (last m c) (w2 m c) (xs m c) (gains m c) _ _).symm.trans ?_
  refine congrArg (Cert.Reference7Ideal.Read.val_main_v38 (F := Ideal) (units m c) (last m c) (w2 m c) (xs m c) (gains m c) : FVec Ideal S8192x2048 .bf16) ?_
  blk_ext [idx t]

end Cert.Kernel7Ideal.Out
-- ==== Proof.ProjC.lean ====
/- The block-sparse attention's in-projection, its first 5120 columns: what the kernel leaves is the reference's result. -/
module

public import proofs.«01_k».proof.Proof.Gen.Kernel8Ideal.Value
public import proofs.«01_k».proof.Proof.Gen.Reference8Ideal.Read
public import proofs.«01_k».proof.Proof.Rope
public import Idealize.ShloMosaic.Lib.Pipeline.ValueKit
public import Idealize.ShloMosaic.Lib.Pipeline.ReadBack
public import Idealize.ShloMosaic.Lib.StableHlo.ReadAt

@[expose] public section

set_option maxRecDepth 65536

noncomputable section

open Idealize.ShloMosaic Idealize.ShloMosaic.TcCoe Idealize.SL.Sem

namespace Cert.Kernel8Ideal.Proj

open Cert.Kernel8Ideal Cert.Kernel8Ideal.Gen Cert.Rope Cert.Reference8Ideal.Read

/-- A column of the projection of a row. -/
def col (h : FVec Ideal S8192x2048 .bf16) (w : FVec Ideal S2x2048x5168 .f32) (i : Fin 8192) (j : Fin 5120) : EReal :=
  ∑ d : Fin 2048, h (ix2 i d) * w (ix3 0 d ⟨j.val, by omega⟩)

/-- The queries carry the scale of the scores. -/
def scale (j : Fin 5120) : EReal := if j.val < 2048 then qs else 1

/-- A cell of the result: queries and keys are turned by the row's angle, `f` and `g` being the partners of column `j`. -/
def unit (h : FVec Ideal S8192x2048 .bf16) (p : IVec S1x8192 32) (w : FVec Ideal S2x2048x5168 .f32) (i : Fin 8192) (j f g : Fin 5120) :
    EReal :=
  if j.val < 2560 ∨ (3072 ≤ j.val ∧ j.val < 3584) ∨ (4096 ≤ j.val ∧ j.val < 4608) then turn (scale j) (col h w i j) (col h w i f) (col h w i g) (p (ix2 0 i)) (j.val % 128) else col h w i j * scale j

variable (m : (ℓ : Loc nD τ sig) → Buf (Elt Ideal) ℓ)

theorem ltN (t : Fin cfg0.N) : t.val < 40 := lt_of_lt_of_eq t.isLt N_0

/-- The row argument as launched. -/
abbrev rows (c : Dev nD) : FVec Ideal S8192x2048 .bf16 := m ((c.tc : Thread nD τ).loc main_arg0)
/-- The rows' positions as launched. -/
abbrev pos (c : Dev nD) : IVec S1x8192 32 := m ((c.tc : Thread nD τ).loc main_arg1)
/-- The weights as launched. -/
abbrev ws (c : Dev nD) : FVec Ideal S2x2048x5168 .f32 := m ((c.tc : Thread nD τ).loc main_arg2)

/-- The block indices of the six windows at every point. -/
theorem idx : ∀ t : Fin cfg0.N, win0_0.index t = ![t.val % 8, 0] ∧ win0_1.index t = ![0, 0, t.val / 8]
    ∧ win0_2.index t = ![t.val % 8, 0] ∧ win0_3.index t = ![t.val % 8, 0] ∧ win0_4.index t = ![t.val % 8, 0]
    ∧ win0_5.index t = ![t.val % 8, t.val / 8] :=
  (by decide +kernel : ∀ t : Fin grid0.N, _)

/-- The block of rows at a point. -/
theorem rows_at (c : Dev nD) (t : Fin cfg0.N) (r : Fin 1024) (d : Fin 2048) :
    (iblk m c 0 t : FVec Ideal S1024x2048 .bf16) (ix2 r d)
      = rows m c (ix2 ⟨t.val % 8 * 1024 + r.val, by omega⟩ d) := by
  blk_ext [iblk, V, idx t]

/-- The block of weights at a point. -/
theorem ws_at (c : Dev nD) (t : Fin cfg0.N) (d : Fin 2048) (e : Fin 1024) :
    (X0_1 m c t : FVec Ideal S1x2048x1024 .f32) (ix3 0 d e)
      = ws m c (ix3 0 d ⟨t.val / 8 * 1024 + e.val, by have := ltN t; omega⟩) := by
  unfold X0_1 Pipeline.Window.fill
  rw [dif_pos (moved0_1 t _)]
  blk_ext [iblk, V, idx t]

/-- The host's table of the columns' factors. -/
theorem V_cos (c : Dev nD) (r : Fin 8192) (e : Fin 128) :
    (V m c main_v33 : FVec Ideal S8192x128 .f32) (ix2 r e) = tc (pos m c (ix2 0 r)) e.val := by
  unfold V
  simp only [hostOps0, List.flatten_cons, List.flatten_nil, List.append_nil, List.cons_append, List.nil_append]
  after_reads_simp
  dsimp only [Matrix.cons_val_zero, Matrix.cons_val_one, Matrix.cons_val]
  after_reads_simp
  try simp -implicitDefEqProofs only [StableHlo.TRef.toBuf, StableHlo.TRef.ofBuf, cast_cast, cast_eq]
  clean_types
  unfold tc
  by_cases d0 : e.val < 16
  · pointwise [d0]
    all_goals rfl
  · by_cases d1 : e.val - 16 < 16
    · pointwise [d0, d1]
      all_goals rfl
    · pointwise [d0, d1]
      all_goals rfl

/-- The block of the columns' factors at a point. -/
theorem cos_at (c : Dev nD) (t : Fin cfg0.N) (r : Fin 1024) (e : Fin 128) :
    (iblk m c 2 t : FVec Ideal S1024x128 .f32) (ix2 r e) = tc (pos m c (ix2 0 ⟨t.val % 8 * 1024 + r.val, by omega⟩)) e.val := by
  refine Eq.trans ?_ (V_cos m c ⟨t.val % 8 * 1024 + r.val, by omega⟩ e)
  blk_ext [iblk, idx t]

/-- The host's table of the factors of the partner before. -/
theorem V_up (c : Dev nD) (r : Fin 8192) (e : Fin 128) :
    (V m c main_v34 : FVec Ideal S8192x128 .f32) (ix2 r e) = tu (pos m c (ix2 0 r)) e.val := by
  unfold V
  simp only [hostOps0, List.flatten_cons, List.flatten_nil, List.append_nil, List.cons_append, List.nil_append]
  after_reads_simp
  dsimp only [Matrix.cons_val_zero, Matrix.cons_val_one, Matrix.cons_val]
  after_reads_simp
  try simp -implicitDefEqProofs only [StableHlo.TRef.toBuf, StableHlo.TRef.ofBuf, cast_cast, cast_eq]
  clean_types
  unfold tu
  by_cases d0 : e.val < 16
  · pointwise [d0]
    all_goals rfl
  · by_cases d1 : e.val - 16 < 16
    · pointwise [d0, d1]
      all_goals rfl
    · pointwise [d0, d1]
      all_goals rfl

/-- The block of the factors of the partner before at a point. -/
theorem up_at (c : Dev nD) (t : Fin cfg0.N) (r : Fin 1024) (e : Fin 128) :
    (iblk m c 3 t : FVec Ideal S1024x128 .f32) (ix2 r e) = tu (pos m c (ix2 0 ⟨t.val % 8 * 1024 + r.val, by omega⟩)) e.val := by
  refine Eq.trans ?_ (V_up m c ⟨t.val % 8 * 1024 + r.val, by omega⟩ e)
  blk_ext [iblk, idx t]

/-- The host's table of the factors of the partner after. -/
theorem V_dn (c : Dev nD) (r : Fin 8192) (e : Fin 128) :
    (V m c main_v36 : FVec Ideal S8192x128 .f32) (ix2 r e) = td (pos m c (ix2 0 r)) e.val := by
  unfold V
  simp only [hostOps0, List.flatten_cons, List.flatten_nil, List.append_nil, List.cons_append, List.nil_append]
  after_reads_simp
  dsimp only [Matrix.cons_val_zero, Matrix.cons_val_one, Matrix.cons_val]
  after_reads_simp
  try simp -implicitDefEqProofs only [StableHlo.TRef.toBuf, StableHlo.TRef.ofBuf, cast_cast, cast_eq]
  clean_types
  unfold td
  by_cases d0 : e.val < 16
  · pointwise [d0]
    all_goals rfl
  · by_cases d1 : e.val - 16 < 16
    · pointwise [d0, d1]
      all_goals rfl
    · pointwise [d0, d1]
      all_goals rfl

/-- The block of the factors of the partner after at a point. -/
theorem dn_at (c : Dev nD) (t : Fin cfg0.N) (r : Fin 1024) (e : Fin 128) :
    (iblk m c 4 t : FVec Ideal S1024x128 .f32) (ix2 r e) = td (pos m c (ix2 0 ⟨t.val % 8 * 1024 + r.val, by omega⟩)) e.val := by
  refine Eq.trans ?_ (V_dn m c ⟨t.val % 8 * 1024 + r.val, by omega⟩ e)
  blk_ext [iblk, idx t]

/-- Whether a half of a column tile is turned. -/
def use (t : ℕ) (s : Fin 2) : BitVec 1 := if t / 8 * 2 + s.val < 5 ∨ t / 8 * 2 + s.val = 6 ∨ t / 8 * 2 + s.val = 8 then 1 else 0

/-- Whether a half of a column tile is scaled. -/
def isq (t : ℕ) (s : Fin 2) : BitVec 1 := if t / 8 * 2 + s.val < 4 then 1 else 0

/-- The kernel's choice to turn half 0 of a point's column tile. -/
theorem use0 : ∀ t : Fin cfg0.N, (let g := Scalar.addi (Scalar.muli (BitVec.ofNat 32 (grid0.coords t 0).val) 2#32) 0#32
    Scalar.ori (Scalar.ori (Scalar.ori (Scalar.ori (Scalar.ori (Scalar.ori (Scalar.cmpi .eq g 0#32) (Scalar.cmpi .eq g 1#32)) (Scalar.cmpi .eq g 2#32)) (Scalar.cmpi .eq g 3#32)) (Scalar.cmpi .eq g 4#32)) (Scalar.cmpi .eq g 6#32)) (Scalar.cmpi .eq g 8#32)) = use t.val 0 :=
  (by decide +kernel : ∀ t : Fin grid0.N, _)

/-- The kernel's choice to scale half 0 of a point's column tile. -/
theorem isq0 : ∀ t : Fin cfg0.N, (let g := Scalar.addi (Scalar.muli (BitVec.ofNat 32 (grid0.coords t 0).val) 2#32) 0#32
    Scalar.ori (Scalar.ori (Scalar.ori (Scalar.cmpi .eq g 0#32) (Scalar.cmpi .eq g 1#32)) (Scalar.cmpi .eq g 2#32)) (Scalar.cmpi .eq g 3#32)) = isq t.val 0 :=
  (by decide +kernel : ∀ t : Fin grid0.N, _)

/-- The kernel's choice to turn half 1 of a point's column tile. -/
theorem use1 : ∀ t : Fin cfg0.N, (let g := Scalar.addi (Scalar.muli (BitVec.ofNat 32 (grid0.coords t 0).val) 2#32) 1#32
    Scalar.ori (Scalar.ori (Scalar.ori (Scalar.ori (Scalar.ori (Scalar.ori (Scalar.cmpi .eq g 0#32) (Scalar.cmpi .eq g 1#32)) (Scalar.cmpi .eq g 2#32)) (Scalar.cmpi .eq g 3#32)) (Scalar.cmpi .eq g 4#32)) (Scalar.cmpi .eq g 6#32)) (Scalar.cmpi .eq g 8#32)) = use t.val 1 :=
  (by decide +kernel : ∀ t : Fin grid0.N, _)

/-- The kernel's choice to scale half 1 of a point's column tile. -/
theorem isq1 : ∀ t : Fin cfg0.N, (let g := Scalar.addi (Scalar.muli (BitVec.ofNat 32 (grid0.coords t 0).val) 2#32) 1#32
    Scalar.ori (Scalar.ori (Scalar.ori (Scalar.cmpi .eq g 0#32) (Scalar.cmpi .eq g 1#32)) (Scalar.cmpi .eq g 2#32)) (Scalar.cmpi .eq g 3#32)) = isq t.val 1 :=
  (by decide +kernel : ∀ t : Fin grid0.N, _)

/-- A cell of the output block: a scaled column, or the column and its partners turned by the row's angle. -/
def cell (b q : BitVec 1) (X : FVec Ideal S1024x2048 .bf16) (W : FVec Ideal S2048x1024 .bf16) (C U D : FVec Ideal S1024x128 .f32)
    (r : Fin 1024) (l : Fin 128) (e f g : Fin 1024) : EReal :=
  Scalar.select b
    (((∑ d : Fin 2048, X (ix2 r d) * W (ix2 d e)) * Scalar.select q (Ideal.ofBits FTy.f32 0x3E0293EE#32) 1) * C (ix2 r l)
      + ((∑ d : Fin 2048, X (ix2 r d) * W (ix2 d f)) * Scalar.select q (Ideal.ofBits FTy.f32 0x3E0293EE#32) 1) * U (ix2 r l)
      + ((∑ d : Fin 2048, X (ix2 r d) * W (ix2 d g)) * Scalar.select q (Ideal.ofBits FTy.f32 0x3E0293EE#32) 1) * D (ix2 r l))
    ((∑ d : Fin 2048, X (ix2 r d) * W (ix2 d e)) * Scalar.select q (Ideal.ofBits FTy.f32 0x3E0293EE#32) 1)

set_option maxHeartbeats 1600000 in
/-- The output block at a column tile's first point. -/
theorem out_A (c : Dev nD) (t : Fin cfg0.N) (g0 : t.val % 8 = 0) (y : S1024x1024.Idx) (r : Fin 1024) (l : Fin 128) (e f g : Fin 1024)
    (s : Fin 2) (hr : (y 0).val = r.val) (he : (y 1).val = e.val) (hl : l.val = e.val % 128)
    (hf : f.val = e.val / 128 * 128 + (l.val + 112) % 128) (hg : g.val = e.val / 128 * 128 + (l.val + 16) % 128)
    (hs : s.val = e.val / 512) :
    (outsAt0 m c t.val t.isLt).1 y = cell (use t.val s) (isq t.val s) (iblk m c 0 t)
      (k0_pay2 (X0_1 m c t)) (iblk m c 2 t) (iblk m c 3 t) (iblk m c 4 t) r l e f g := by
  rw [outsAt0_A m c t g0]
  frame_open
  simp (disch := decide) only [↓ View.readCov_skip, ↓ View.readCov_cons_toLoadRect, ↓ View.readCov_fill]
  frame_out
  canon_tiles x h
  case piece0 =>
    obtain rfl : r = x 0 := Fin.ext (by omega)
    obtain rfl : l = x 1 := Fin.ext (by omega)
    obtain rfl : s = 1 := Fin.ext (by show s.val = 1; omega)
    rw [show f = ⟨896 + ((x 1).val + 128 - 16) % 128, by clear hr he hl hf hg hs; omega⟩ from
        Fin.ext (by show f.val = 896 + ((x 1).val + 128 - 16) % 128; omega),
      show g = ⟨896 + ((x 1).val + 128 - 112) % 128, by clear hr he hl hf hg hs; omega⟩ from
        Fin.ext (by show g.val = 896 + ((x 1).val + 128 - 112) % 128; omega),
      show e = ⟨896 + (x 1).val, by clear hr he hl hf hg hs; omega⟩ from Fin.ext (by show e.val = 896 + (x 1).val; omega)]
    open_payloads; pointwise [cell]; simp only [← use1, ← isq1]
  case piece1 =>
    obtain rfl : r = x 0 := Fin.ext (by omega)
    obtain rfl : l = x 1 := Fin.ext (by omega)
    obtain rfl : s = 1 := Fin.ext (by show s.val = 1; omega)
    rw [show f = ⟨768 + ((x 1).val + 128 - 16) % 128, by clear hr he hl hf hg hs; omega⟩ from
        Fin.ext (by show f.val = 768 + ((x 1).val + 128 - 16) % 128; omega),
      show g = ⟨768 + ((x 1).val + 128 - 112) % 128, by clear hr he hl hf hg hs; omega⟩ from
        Fin.ext (by show g.val = 768 + ((x 1).val + 128 - 112) % 128; omega),
      show e = ⟨768 + (x 1).val, by clear hr he hl hf hg hs; omega⟩ from Fin.ext (by show e.val = 768 + (x 1).val; omega)]
    open_payloads; pointwise [cell]; simp only [← use1, ← isq1]
  case piece2 =>
    obtain rfl : r = x 0 := Fin.ext (by omega)
    obtain rfl : l = x 1 := Fin.ext (by omega)
    obtain rfl : s = 1 := Fin.ext (by show s.val = 1; omega)
    rw [show f = ⟨640 + ((x 1).val + 128 - 16) % 128, by clear hr he hl hf hg hs; omega⟩ from
        Fin.ext (by show f.val = 640 + ((x 1).val + 128 - 16) % 128; omega),
      show g = ⟨640 + ((x 1).val + 128 - 112) % 128, by clear hr he hl hf hg hs; omega⟩ from
        Fin.ext (by show g.val = 640 + ((x 1).val + 128 - 112) % 128; omega),
      show e = ⟨640 + (x 1).val, by clear hr he hl hf hg hs; omega⟩ from Fin.ext (by show e.val = 640 + (x 1).val; omega)]
    open_payloads; pointwise [cell]; simp only [← use1, ← isq1]
  case piece3 =>
    obtain rfl : r = x 0 := Fin.ext (by omega)
    obtain rfl : l = x 1 := Fin.ext (by omega)
    obtain rfl : s = 1 := Fin.ext (by show s.val = 1; omega)
    rw [show f = ⟨512 + ((x 1).val + 128 - 16) % 128, by clear hr he hl hf hg hs; omega⟩ from
        Fin.ext (by show f.val = 512 + ((x 1).val + 128 - 16) % 128; omega),
      show g = ⟨512 + ((x 1).val + 128 - 112) % 128, by clear hr he hl hf hg hs; omega⟩ from
        Fin.ext (by show g.val = 512 + ((x 1).val + 128 - 112) % 128; omega),
      show e = ⟨512 + (x 1).val, by clear hr he hl hf hg hs; omega⟩ from Fin.ext (by show e.val = 512 + (x 1).val; omega)]
    open_payloads; pointwise [cell]; simp only [← use1, ← isq1]
  case piece4 =>
    obtain rfl : r = x 0 := Fin.ext (by omega)
    obtain rfl : l = x 1 := Fin.ext (by omega)
    obtain rfl : s = 0 := Fin.ext (by show s.val = 0; omega)
    rw [show f = ⟨384 + ((x 1).val + 128 - 16) % 128, by clear hr he hl hf hg hs; omega⟩ from
        Fin.ext (by show f.val = 384 + ((x 1).val + 128 - 16) % 128; omega),
      show g = ⟨384 + ((x 1).val + 128 - 112) % 128, by clear hr he hl hf hg hs; omega⟩ from
        Fin.ext (by show g.val = 384 + ((x 1).val + 128 - 112) % 128; omega),
      show e = ⟨384 + (x 1).val, by clear hr he hl hf hg hs; omega⟩ from Fin.ext (by show e.val = 384 + (x 1).val; omega)]
    open_payloads; pointwise [cell]; simp only [← use0, ← isq0]
  case piece5 =>
    obtain rfl : r = x 0 := Fin.ext (by omega)
    obtain rfl : l = x 1 := Fin.ext (by omega)
    obtain rfl : s = 0 := Fin.ext (by show s.val = 0; omega)
    rw [show f = ⟨256 + ((x 1).val + 128 - 16) % 128, by clear hr he hl hf hg hs; omega⟩ from
        Fin.ext (by show f.val = 256 + ((x 1).val + 128 - 16) % 128; omega),
      show g = ⟨256 + ((x 1).val + 128 - 112) % 128, by clear hr he hl hf hg hs; omega⟩ from
        Fin.ext (by show g.val = 256 + ((x 1).val + 128 - 112) % 128; omega),
      show e = ⟨256 + (x 1).val, by clear hr he hl hf hg hs; omega⟩ from Fin.ext (by show e.val = 256 + (x 1).val; omega)]
    open_payloads; pointwise [cell]; simp only [← use0, ← isq0]
  case piece6 =>
    obtain rfl : r = x 0 := Fin.ext (by omega)
    obtain rfl : l = x 1 := Fin.ext (by omega)
    obtain rfl : s = 0 := Fin.ext (by show s.val = 0; omega)
    rw [show f = ⟨128 + ((x 1).val + 128 - 16) % 128, by clear hr he hl hf hg hs; omega⟩ from
        Fin.ext (by show f.val = 128 + ((x 1).val + 128 - 16) % 128; omega),
      show g = ⟨128 + ((x 1).val + 128 - 112) % 128, by clear hr he hl hf hg hs; omega⟩ from
        Fin.ext (by show g.val = 128 + ((x 1).val + 128 - 112) % 128; omega),
      show e = ⟨128 + (x 1).val, by clear hr he hl hf hg hs; omega⟩ from Fin.ext (by show e.val = 128 + (x 1).val; omega)]
    open_payloads; pointwise [cell]; simp only [← use0, ← isq0]
  case piece7 =>
    obtain rfl : r = x 0 := Fin.ext (by omega)
    obtain rfl : l = x 1 := Fin.ext (by omega)
    obtain rfl : s = 0 := Fin.ext (by show s.val = 0; omega)
    rw [show f = ⟨((x 1).val + 128 - 16) % 128, by clear hr he hl hf hg hs; omega⟩ from
        Fin.ext (by show f.val = ((x 1).val + 128 - 16) % 128; omega),
      show g = ⟨((x 1).val + 128 - 112) % 128, by clear hr he hl hf hg hs; omega⟩ from
        Fin.ext (by show g.val = ((x 1).val + 128 - 112) % 128; omega),
      show e = ⟨(x 1).val, by clear hr he hl hf hg hs; omega⟩ from Fin.ext (by show e.val = (x 1).val; omega)]
    open_payloads; pointwise [cell]; simp only [← use0, ← isq0]

set_option maxHeartbeats 1600000 in
/-- The output block at a later point. -/
theorem out_B (c : Dev nD) (t : Fin cfg0.N) (g0 : ¬t.val % 8 = 0) (y : S1024x1024.Idx) (r : Fin 1024) (l : Fin 128) (e f g : Fin 1024)
    (s : Fin 2) (hr : (y 0).val = r.val) (he : (y 1).val = e.val) (hl : l.val = e.val % 128)
    (hf : f.val = e.val / 128 * 128 + (l.val + 112) % 128) (hg : g.val = e.val / 128 * 128 + (l.val + 16) % 128)
    (hs : s.val = e.val / 512) :
    (outsAt0 m c t.val t.isLt).1 y = cell (use t.val s) (isq t.val s) (iblk m c 0 t)
      (outsAt0 m c (t.val - 1) (Nat.lt_of_le_of_lt (Nat.sub_le _ _) t.isLt)).2 (iblk m c 2 t) (iblk m c 3 t) (iblk m c 4 t) r l e f g := by
  rw [outsAt0_B m c t g0]
  frame_out
  canon_tiles x h
  case piece0 =>
    obtain rfl : r = x 0 := Fin.ext (by omega)
    obtain rfl : l = x 1 := Fin.ext (by omega)
    obtain rfl : s = 1 := Fin.ext (by show s.val = 1; omega)
    rw [show f = ⟨896 + ((x 1).val + 128 - 16) % 128, by clear hr he hl hf hg hs; omega⟩ from
        Fin.ext (by show f.val = 896 + ((x 1).val + 128 - 16) % 128; omega),
      show g = ⟨896 + ((x 1).val + 128 - 112) % 128, by clear hr he hl hf hg hs; omega⟩ from
        Fin.ext (by show g.val = 896 + ((x 1).val + 128 - 112) % 128; omega),
      show e = ⟨896 + (x 1).val, by clear hr he hl hf hg hs; omega⟩ from Fin.ext (by show e.val = 896 + (x 1).val; omega)]
    open_payloads; pointwise [cell]; simp only [read_unread_whole, ← use1, ← isq1]
  case piece1 =>
    obtain rfl : r = x 0 := Fin.ext (by omega)
    obtain rfl : l = x 1 := Fin.ext (by omega)
    obtain rfl : s = 1 := Fin.ext (by show s.val = 1; omega)
    rw [show f = ⟨768 + ((x 1).val + 128 - 16) % 128, by clear hr he hl hf hg hs; omega⟩ from
        Fin.ext (by show f.val = 768 + ((x 1).val + 128 - 16) % 128; omega),
      show g = ⟨768 + ((x 1).val + 128 - 112) % 128, by clear hr he hl hf hg hs; omega⟩ from
        Fin.ext (by show g.val = 768 + ((x 1).val + 128 - 112) % 128; omega),
      show e = ⟨768 + (x 1).val, by clear hr he hl hf hg hs; omega⟩ from Fin.ext (by show e.val = 768 + (x 1).val; omega)]
    open_payloads; pointwise [cell]; simp only [read_unread_whole, ← use1, ← isq1]
  case piece2 =>
    obtain rfl : r = x 0 := Fin.ext (by omega)
    obtain rfl : l = x 1 := Fin.ext (by omega)
    obtain rfl : s = 1 := Fin.ext (by show s.val = 1; omega)
    rw [show f = ⟨640 + ((x 1).val + 128 - 16) % 128, by clear hr he hl hf hg hs; omega⟩ from
        Fin.ext (by show f.val = 640 + ((x 1).val + 128 - 16) % 128; omega),
      show g = ⟨640 + ((x 1).val + 128 - 112) % 128, by clear hr he hl hf hg hs; omega⟩ from
        Fin.ext (by show g.val = 640 + ((x 1).val + 128 - 112) % 128; omega),
      show e = ⟨640 + (x 1).val, by clear hr he hl hf hg hs; omega⟩ from Fin.ext (by show e.val = 640 + (x 1).val; omega)]
    open_payloads; pointwise [cell]; simp only [read_unread_whole, ← use1, ← isq1]
  case piece3 =>
    obtain rfl : r = x 0 := Fin.ext (by omega)
    obtain rfl : l = x 1 := Fin.ext (by omega)
    obtain rfl : s = 1 := Fin.ext (by show s.val = 1; omega)
    rw [show f = ⟨512 + ((x 1).val + 128 - 16) % 128, by clear hr he hl hf hg hs; omega⟩ from
        Fin.ext (by show f.val = 512 + ((x 1).val + 128 - 16) % 128; omega),
      show g = ⟨512 + ((x 1).val + 128 - 112) % 128, by clear hr he hl hf hg hs; omega⟩ from
        Fin.ext (by show g.val = 512 + ((x 1).val + 128 - 112) % 128; omega),
      show e = ⟨512 + (x 1).val, by clear hr he hl hf hg hs; omega⟩ from Fin.ext (by show e.val = 512 + (x 1).val; omega)]
    open_payloads; pointwise [cell]; simp only [read_unread_whole, ← use1, ← isq1]
  case piece4 =>
    obtain rfl : r = x 0 := Fin.ext (by omega)
    obtain rfl : l = x 1 := Fin.ext (by omega)
    obtain rfl : s = 0 := Fin.ext (by show s.val = 0; omega)
    rw [show f = ⟨384 + ((x 1).val + 128 - 16) % 128, by clear hr he hl hf hg hs; omega⟩ from
        Fin.ext (by show f.val = 384 + ((x 1).val + 128 - 16) % 128; omega),
      show g = ⟨384 + ((x 1).val + 128 - 112) % 128, by clear hr he hl hf hg hs; omega⟩ from
        Fin.ext (by show g.val = 384 + ((x 1).val + 128 - 112) % 128; omega),
      show e = ⟨384 + (x 1).val, by clear hr he hl hf hg hs; omega⟩ from Fin.ext (by show e.val = 384 + (x 1).val; omega)]
    open_payloads; pointwise [cell]; simp only [read_unread_whole, ← use0, ← isq0]
  case piece5 =>
    obtain rfl : r = x 0 := Fin.ext (by omega)
    obtain rfl : l = x 1 := Fin.ext (by omega)
    obtain rfl : s = 0 := Fin.ext (by show s.val = 0; omega)
    rw [show f = ⟨256 + ((x 1).val + 128 - 16) % 128, by clear hr he hl hf hg hs; omega⟩ from
        Fin.ext (by show f.val = 256 + ((x 1).val + 128 - 16) % 128; omega),
      show g = ⟨256 + ((x 1).val + 128 - 112) % 128, by clear hr he hl hf hg hs; omega⟩ from
        Fin.ext (by show g.val = 256 + ((x 1).val + 128 - 112) % 128; omega),
      show e = ⟨256 + (x 1).val, by clear hr he hl hf hg hs; omega⟩ from Fin.ext (by show e.val = 256 + (x 1).val; omega)]
    open_payloads; pointwise [cell]; simp only [read_unread_whole, ← use0, ← isq0]
  case piece6 =>
    obtain rfl : r = x 0 := Fin.ext (by omega)
    obtain rfl : l = x 1 := Fin.ext (by omega)
    obtain rfl : s = 0 := Fin.ext (by show s.val = 0; omega)
    rw [show f = ⟨128 + ((x 1).val + 128 - 16) % 128, by clear hr he hl hf hg hs; omega⟩ from
        Fin.ext (by show f.val = 128 + ((x 1).val + 128 - 16) % 128; omega),
      show g = ⟨128 + ((x 1).val + 128 - 112) % 128, by clear hr he hl hf hg hs; omega⟩ from
        Fin.ext (by show g.val = 128 + ((x 1).val + 128 - 112) % 128; omega),
      show e = ⟨128 + (x 1).val, by clear hr he hl hf hg hs; omega⟩ from Fin.ext (by show e.val = 128 + (x 1).val; omega)]
    open_payloads; pointwise [cell]; simp only [read_unread_whole, ← use0, ← isq0]
  case piece7 =>
    obtain rfl : r = x 0 := Fin.ext (by omega)
    obtain rfl : l = x 1 := Fin.ext (by omega)
    obtain rfl : s = 0 := Fin.ext (by show s.val = 0; omega)
    rw [show f = ⟨((x 1).val + 128 - 16) % 128, by clear hr he hl hf hg hs; omega⟩ from
        Fin.ext (by show f.val = ((x 1).val + 128 - 16) % 128; omega),
      show g = ⟨((x 1).val + 128 - 112) % 128, by clear hr he hl hf hg hs; omega⟩ from
        Fin.ext (by show g.val = ((x 1).val + 128 - 112) % 128; omega),
      show e = ⟨(x 1).val, by clear hr he hl hf hg hs; omega⟩ from Fin.ext (by show e.val = (x 1).val; omega)]
    open_payloads; pointwise [cell]; simp only [read_unread_whole, ← use0, ← isq0]

/-- A point's scratch is the block of weights at a column tile's first point. -/
theorem wb_A (c : Dev nD) (t : Fin cfg0.N) (g0 : t.val % 8 = 0) :
    (outsAt0 m c t.val t.isLt).2 = k0_pay2 (X0_1 m c t) := by
  rw [outsAt0_A m c t g0]
  frame_open
  frame_out

/-- At a later point the scratch is what it was. -/
theorem wb_B (c : Dev nD) (t : Fin cfg0.N) (g0 : ¬t.val % 8 = 0) :
    (outsAt0 m c t.val t.isLt).2 = (outsAt0 m c (t.val - 1) (Nat.lt_of_le_of_lt (Nat.sub_le _ _) t.isLt)).2 := by
  rw [outsAt0_B m c t g0]
  rfl

/-- The scratch a first point fills, at an index. -/
theorem pay_at (c : Dev nD) (t : Fin cfg0.N) (d : Fin 2048) (e : Fin 1024) (j : Fin 5120) (hj : j.val = t.val / 8 * 1024 + e.val) :
    k0_pay2 (F := Ideal) (X0_1 m c t) (ix2 d e) = ws m c (ix3 0 d ⟨j.val, by omega⟩) := by
  have hN := ltN t
  refine Eq.trans ?_ ((ws_at m c t d e).trans (congrArg (fun z => ws m c (ix3 0 d z)) (Fin.ext (by dsimp only; omega))))
  pointwise [k0_pay2]

/-- The scratch after point `n` holds the weights' columns of that point. -/
theorem scr (c : Dev nD) : ∀ (n : ℕ) (hn : n < cfg0.N) (d : Fin 2048) (e : Fin 1024) (j : Fin 5120), j.val = n / 8 * 1024 + e.val →
    (outsAt0 m c n hn).2 (ix2 d e) = ws m c (ix3 0 d ⟨j.val, by omega⟩) := by
  have base : ∀ (t : Fin cfg0.N) (d : Fin 2048) (e : Fin 1024) (j : Fin 5120), j.val = t.val / 8 * 1024 + e.val → t.val % 8 = 0 →
      (outsAt0 m c t.val t.isLt).2 (ix2 d e) = ws m c (ix3 0 d ⟨j.val, by omega⟩) := by
    intro t d e j hj h0
    rw [wb_A m c t h0]
    exact pay_at m c t d e j hj
  intro n
  induction n with
  | zero => exact fun hn d e j hj => base ⟨0, hn⟩ d e j hj rfl
  | succ n ih =>
    intro hn d e j hj
    by_cases h0 : (n + 1) % 8 = 0
    · exact base ⟨n + 1, hn⟩ d e j hj h0
    · exact (congrFun (wb_B m c ⟨n + 1, hn⟩ h0) (ix2 d e)).trans (ih (Nat.lt_of_succ_lt hn) d e j (by omega))

/-- A cell of a point's block, once the block of weights is known. -/
theorem cell_at (c : Dev nD) (t : Fin cfg0.N) (W : FVec Ideal S2048x1024 .bf16)
    (hW : ∀ (d : Fin 2048) (e : Fin 1024) (j : Fin 5120), j.val = t.val / 8 * 1024 + e.val → W (ix2 d e) = ws m c (ix3 0 d ⟨j.val, by omega⟩))
    (r : Fin 1024) (l : Fin 128) (e f g : Fin 1024) (s : Fin 2) (j a b : Fin 5120) (hl : l.val = e.val % 128) (hs : s.val = e.val / 512)
    (hj : j.val = t.val / 8 * 1024 + e.val) (ha : a.val = t.val / 8 * 1024 + f.val) (hb : b.val = t.val / 8 * 1024 + g.val) :
    cell (use t.val s) (isq t.val s) (iblk m c 0 t) W (iblk m c 2 t) (iblk m c 3 t) (iblk m c 4 t) r l e f g
      = unit (rows m c) (pos m c) (ws m c) ⟨t.val % 8 * 1024 + r.val, by omega⟩ j a b := by
  have hq : Scalar.select (isq t.val s) (Ideal.ofBits FTy.f32 0x3E0293EE#32) 1 = scale j := by
    unfold isq scale
    by_cases q : j.val < 2048
    · rw [if_pos q, if_pos (by omega)]; rfl
    · rw [if_neg q, if_neg (by omega)]; rfl
  unfold cell unit col turn
  simp only [rows_at, cos_at, up_at, dn_at, hW _ e j hj, hW _ f a ha, hW _ g b hb, hq]
  rw [show l.val = j.val % 128 by omega]
  unfold use
  by_cases q : j.val < 2560 ∨ (3072 ≤ j.val ∧ j.val < 3584) ∨ (4096 ≤ j.val ∧ j.val < 4608)
  · rw [if_pos q, if_pos (by omega)]; rfl
  · rw [if_neg q, if_neg (by omega)]; rfl

/-- The output block of a point. -/
theorem out_at (c : Dev nD) (t : Fin cfg0.N) (y : S1024x1024.Idx) (r : Fin 1024) (e : Fin 1024) (j a b : Fin 5120)
    (hr : (y 0).val = r.val) (he : (y 1).val = e.val) (hj : j.val = t.val / 8 * 1024 + e.val)
    (ha : a.val = j.val / 128 * 128 + (j.val % 128 + 112) % 128) (hb : b.val = j.val / 128 * 128 + (j.val % 128 + 16) % 128) :
    (outsAt0 m c t.val t.isLt).1 y
      = unit (rows m c) (pos m c) (ws m c) ⟨t.val % 8 * 1024 + r.val, by omega⟩ j a b := by
  have hN := ltN t
  by_cases g0 : t.val % 8 = 0
  · refine (out_A m c t g0 y r ⟨e.val % 128, by omega⟩ e ⟨e.val / 128 * 128 + (e.val % 128 + 112) % 128, by omega⟩
      ⟨e.val / 128 * 128 + (e.val % 128 + 16) % 128, by omega⟩ ⟨e.val / 512, by omega⟩ hr he rfl rfl rfl rfl).trans ?_
    refine cell_at m c t _ (fun d e j hj => pay_at m c t d e j hj) r _ e _ _ _ j a b rfl rfl hj ?_ ?_
    · show a.val = t.val / 8 * 1024 + (e.val / 128 * 128 + (e.val % 128 + 112) % 128); omega
    · show b.val = t.val / 8 * 1024 + (e.val / 128 * 128 + (e.val % 128 + 16) % 128); omega
  · refine (out_B m c t g0 y r ⟨e.val % 128, by omega⟩ e ⟨e.val / 128 * 128 + (e.val % 128 + 112) % 128, by omega⟩
      ⟨e.val / 128 * 128 + (e.val % 128 + 16) % 128, by omega⟩ ⟨e.val / 512, by omega⟩ hr he rfl rfl rfl rfl).trans ?_
    refine cell_at m c t _ (fun d e j hj => scr m c (t.val - 1) (Nat.lt_of_le_of_lt (Nat.sub_le _ _) t.isLt) d e j (by omega))
      r _ e _ _ _ j a b rfl rfl hj ?_ ?_
    · show a.val = t.val / 8 * 1024 + (e.val / 128 * 128 + (e.val % 128 + 112) % 128); omega
    · show b.val = t.val / 8 * 1024 + (e.val / 128 * 128 + (e.val % 128 + 16) % 128); omega

set_option maxHeartbeats 2000000 in
/-- The reference's result at the columns from 0 to 2048. -/
theorem ref_0 (h : FVec Ideal S8192x2048 .bf16) (p : IVec S1x8192 32) (w : FVec Ideal S2x2048x5168 .f32) (i : Fin 8192) (j a b : Fin 5120)
    (ha : a.val = j.val / 128 * 128 + (j.val % 128 + 112) % 128) (hb : b.val = j.val / 128 * 128 + (j.val % 128 + 16) % 128)
    (h0 : 0 ≤ j.val) (h1 : j.val < 2048) :
    (val_main_v140 (F := Ideal) h p w : FVec Ideal S8192x5120 .bf16) (ix2 i j) = unit h p w i j a b := by
  have hc : ∀ (x : Fin 5168) (y : Fin 5120), x.val = y.val → (∑ d, h (ix2 i d) * w (ix3 0 d x)) = col h w i y := fun x y hxy => by
    rw [show x = ⟨y.val, by omega⟩ from Fin.ext hxy]; rfl
  have c0 : j.val < 2048 := by omega
  have hs : scale j = qs := if_pos (by omega)
  unfold unit
  rw [if_pos (by omega), hs]
  rw [show j.val % 128 = (j.val) % 128 by omega]
  have hp : (j.val) % 128 < 128 := Nat.mod_lt _ (by decide)
  by_cases d0 : (j.val) % 128 < 16
  · have d1 : (j.val) % 128 < 32 := by omega
    rw [turn_lo _ _ _ _ _ _ qs_nonneg qs_ne_top d0]
    pointwise [c0, d0, d1, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
    exact congrArg (· * qs) (congrArg₂ (· - ·) (congrArg (· * _) (hc _ j (by dsimp only; omega))) (congrArg (· * _) (hc _ b (by dsimp only; omega))))
  · by_cases d1 : (j.val) % 128 - 16 < 16
    · have d2 : (j.val) % 128 < 32 := by omega
      rw [turn_mid _ _ _ _ _ _ qs_nonneg qs_ne_top d0 d1]
      pointwise [c0, d0, d1, d2, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
      exact congrArg (· * qs) (congrArg₂ (· + ·) (congrArg (· * _) (hc _ j (by dsimp only; omega))) (congrArg (· * _) (hc _ a (by dsimp only; omega))))
    · have d2 : ¬(j.val) % 128 < 32 := by omega
      rw [turn_hi _ _ _ _ _ _ d0 d1]
      pointwise [c0, d0, d1, d2, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
      exact congrArg (· * qs) (hc _ j (by dsimp only; omega))

set_option maxHeartbeats 2000000 in
/-- The reference's result at the columns from 2048 to 2560. -/
theorem ref_1 (h : FVec Ideal S8192x2048 .bf16) (p : IVec S1x8192 32) (w : FVec Ideal S2x2048x5168 .f32) (i : Fin 8192) (j a b : Fin 5120)
    (ha : a.val = j.val / 128 * 128 + (j.val % 128 + 112) % 128) (hb : b.val = j.val / 128 * 128 + (j.val % 128 + 16) % 128)
    (h0 : 2048 ≤ j.val) (h1 : j.val < 2560) :
    (val_main_v140 (F := Ideal) h p w : FVec Ideal S8192x5120 .bf16) (ix2 i j) = unit h p w i j a b := by
  have hc : ∀ (x : Fin 5168) (y : Fin 5120), x.val = y.val → (∑ d, h (ix2 i d) * w (ix3 0 d x)) = col h w i y := fun x y hxy => by
    rw [show x = ⟨y.val, by omega⟩ from Fin.ext hxy]; rfl
  have c0 : ¬j.val < 2048 := by omega
  have c1 : j.val - 2048 < 512 := by omega
  have hs : scale j = 1 := if_neg (by omega)
  unfold unit
  rw [if_pos (by omega), hs]
  rw [show j.val % 128 = (j.val - 2048) % 128 by omega]
  have hp : (j.val - 2048) % 128 < 128 := Nat.mod_lt _ (by decide)
  by_cases d0 : (j.val - 2048) % 128 < 16
  · have d1 : (j.val - 2048) % 128 < 32 := by omega
    rw [turn_lo _ _ _ _ _ _ zero_le_one one_ne_top d0, mul_one]
    pointwise [c0, c1, d0, d1, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
    exact congrArg₂ (· - ·) (congrArg (· * _) (hc _ j (by dsimp only; omega))) (congrArg (· * _) (hc _ b (by dsimp only; omega)))
  · by_cases d1 : (j.val - 2048) % 128 - 16 < 16
    · have d2 : (j.val - 2048) % 128 < 32 := by omega
      rw [turn_mid _ _ _ _ _ _ zero_le_one one_ne_top d0 d1, mul_one]
      pointwise [c0, c1, d0, d1, d2, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
      exact congrArg₂ (· + ·) (congrArg (· * _) (hc _ j (by dsimp only; omega))) (congrArg (· * _) (hc _ a (by dsimp only; omega)))
    · have d2 : ¬(j.val - 2048) % 128 < 32 := by omega
      rw [turn_hi _ _ _ _ _ _ d0 d1, mul_one]
      pointwise [c0, c1, d0, d1, d2, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
      exact hc _ j (by dsimp only; omega)

set_option maxHeartbeats 2000000 in
/-- The reference's result at the columns from 2560 to 3072. -/
theorem ref_2 (h : FVec Ideal S8192x2048 .bf16) (p : IVec S1x8192 32) (w : FVec Ideal S2x2048x5168 .f32) (i : Fin 8192) (j a b : Fin 5120)
    (ha : a.val = j.val / 128 * 128 + (j.val % 128 + 112) % 128) (hb : b.val = j.val / 128 * 128 + (j.val % 128 + 16) % 128)
    (h0 : 2560 ≤ j.val) (h1 : j.val < 3072) :
    (val_main_v140 (F := Ideal) h p w : FVec Ideal S8192x5120 .bf16) (ix2 i j) = unit h p w i j a b := by
  have hc : ∀ (x : Fin 5168) (y : Fin 5120), x.val = y.val → (∑ d, h (ix2 i d) * w (ix3 0 d x)) = col h w i y := fun x y hxy => by
    rw [show x = ⟨y.val, by omega⟩ from Fin.ext hxy]; rfl
  have c0 : ¬j.val < 2048 := by omega
  have c1 : ¬j.val - 2048 < 512 := by omega
  have c2 : j.val - 2048 - 512 < 512 := by omega
  have hs : scale j = 1 := if_neg (by omega)
  unfold unit
  rw [if_neg (by omega), hs]
  rw [mul_one]
  pointwise [c0, c1, c2, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  exact hc _ j (by dsimp only; omega)

set_option maxHeartbeats 2000000 in
/-- The reference's result at the columns from 3072 to 3584. -/
theorem ref_3 (h : FVec Ideal S8192x2048 .bf16) (p : IVec S1x8192 32) (w : FVec Ideal S2x2048x5168 .f32) (i : Fin 8192) (j a b : Fin 5120)
    (ha : a.val = j.val / 128 * 128 + (j.val % 128 + 112) % 128) (hb : b.val = j.val / 128 * 128 + (j.val % 128 + 16) % 128)
    (h0 : 3072 ≤ j.val) (h1 : j.val < 3584) :
    (val_main_v140 (F := Ideal) h p w : FVec Ideal S8192x5120 .bf16) (ix2 i j) = unit h p w i j a b := by
  have hc : ∀ (x : Fin 5168) (y : Fin 5120), x.val = y.val → (∑ d, h (ix2 i d) * w (ix3 0 d x)) = col h w i y := fun x y hxy => by
    rw [show x = ⟨y.val, by omega⟩ from Fin.ext hxy]; rfl
  have c0 : ¬j.val < 2048 := by omega
  have c1 : ¬j.val - 2048 < 512 := by omega
  have c2 : ¬j.val - 2048 - 512 < 512 := by omega
  have c3 : j.val - 2048 - 512 - 512 < 512 := by omega
  have hs : scale j = 1 := if_neg (by omega)
  unfold unit
  rw [if_pos (by omega), hs]
  rw [show j.val % 128 = (j.val - 2048 - 512 - 512) % 128 by omega]
  have hp : (j.val - 2048 - 512 - 512) % 128 < 128 := Nat.mod_lt _ (by decide)
  by_cases d0 : (j.val - 2048 - 512 - 512) % 128 < 16
  · have d1 : (j.val - 2048 - 512 - 512) % 128 < 32 := by omega
    rw [turn_lo _ _ _ _ _ _ zero_le_one one_ne_top d0, mul_one]
    pointwise [c0, c1, c2, c3, d0, d1, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
    exact congrArg₂ (· - ·) (congrArg (· * _) (hc _ j (by dsimp only; omega))) (congrArg (· * _) (hc _ b (by dsimp only; omega)))
  · by_cases d1 : (j.val - 2048 - 512 - 512) % 128 - 16 < 16
    · have d2 : (j.val - 2048 - 512 - 512) % 128 < 32 := by omega
      rw [turn_mid _ _ _ _ _ _ zero_le_one one_ne_top d0 d1, mul_one]
      pointwise [c0, c1, c2, c3, d0, d1, d2, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
      exact congrArg₂ (· + ·) (congrArg (· * _) (hc _ j (by dsimp only; omega))) (congrArg (· * _) (hc _ a (by dsimp only; omega)))
    · have d2 : ¬(j.val - 2048 - 512 - 512) % 128 < 32 := by omega
      rw [turn_hi _ _ _ _ _ _ d0 d1, mul_one]
      pointwise [c0, c1, c2, c3, d0, d1, d2, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
      exact hc _ j (by dsimp only; omega)

set_option maxHeartbeats 2000000 in
/-- The reference's result at the columns from 3584 to 4096. -/
theorem ref_4 (h : FVec Ideal S8192x2048 .bf16) (p : IVec S1x8192 32) (w : FVec Ideal S2x2048x5168 .f32) (i : Fin 8192) (j a b : Fin 5120)
    (ha : a.val = j.val / 128 * 128 + (j.val % 128 + 112) % 128) (hb : b.val = j.val / 128 * 128 + (j.val % 128 + 16) % 128)
    (h0 : 3584 ≤ j.val) (h1 : j.val < 4096) :
    (val_main_v140 (F := Ideal) h p w : FVec Ideal S8192x5120 .bf16) (ix2 i j) = unit h p w i j a b := by
  have hc : ∀ (x : Fin 5168) (y : Fin 5120), x.val = y.val → (∑ d, h (ix2 i d) * w (ix3 0 d x)) = col h w i y := fun x y hxy => by
    rw [show x = ⟨y.val, by omega⟩ from Fin.ext hxy]; rfl
  have c0 : ¬j.val < 2048 := by omega
  have c1 : ¬j.val - 2048 < 512 := by omega
  have c2 : ¬j.val - 2048 - 512 < 512 := by omega
  have c3 : ¬j.val - 2048 - 512 - 512 < 512 := by omega
  have c4 : j.val - 2048 - 512 - 512 - 512 < 512 := by omega
  have hs : scale j = 1 := if_neg (by omega)
  unfold unit
  rw [if_neg (by omega), hs]
  rw [mul_one]
  pointwise [c0, c1, c2, c3, c4, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  exact hc _ j (by dsimp only; omega)

set_option maxHeartbeats 2000000 in
/-- The reference's result at the columns from 4096 to 4608. -/
theorem ref_5 (h : FVec Ideal S8192x2048 .bf16) (p : IVec S1x8192 32) (w : FVec Ideal S2x2048x5168 .f32) (i : Fin 8192) (j a b : Fin 5120)
    (ha : a.val = j.val / 128 * 128 + (j.val % 128 + 112) % 128) (hb : b.val = j.val / 128 * 128 + (j.val % 128 + 16) % 128)
    (h0 : 4096 ≤ j.val) (h1 : j.val < 4608) :
    (val_main_v140 (F := Ideal) h p w : FVec Ideal S8192x5120 .bf16) (ix2 i j) = unit h p w i j a b := by
  have hc : ∀ (x : Fin 5168) (y : Fin 5120), x.val = y.val → (∑ d, h (ix2 i d) * w (ix3 0 d x)) = col h w i y := fun x y hxy => by
    rw [show x = ⟨y.val, by omega⟩ from Fin.ext hxy]; rfl
  have c0 : ¬j.val < 2048 := by omega
  have c1 : ¬j.val - 2048 < 512 := by omega
  have c2 : ¬j.val - 2048 - 512 < 512 := by omega
  have c3 : ¬j.val - 2048 - 512 - 512 < 512 := by omega
  have c4 : ¬j.val - 2048 - 512 - 512 - 512 < 512 := by omega
  have c5 : j.val - 2048 - 512 - 512 - 512 - 512 < 512 := by omega
  have hs : scale j = 1 := if_neg (by omega)
  unfold unit
  rw [if_pos (by omega), hs]
  rw [show j.val % 128 = (j.val - 2048 - 512 - 512 - 512 - 512) % 128 by omega]
  have hp : (j.val - 2048 - 512 - 512 - 512 - 512) % 128 < 128 := Nat.mod_lt _ (by decide)
  by_cases d0 : (j.val - 2048 - 512 - 512 - 512 - 512) % 128 < 16
  · have d1 : (j.val - 2048 - 512 - 512 - 512 - 512) % 128 < 32 := by omega
    rw [turn_lo _ _ _ _ _ _ zero_le_one one_ne_top d0, mul_one]
    pointwise [c0, c1, c2, c3, c4, c5, d0, d1, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
    exact congrArg₂ (· - ·) (congrArg (· * _) (hc _ j (by dsimp only; omega))) (congrArg (· * _) (hc _ b (by dsimp only; omega)))
  · by_cases d1 : (j.val - 2048 - 512 - 512 - 512 - 512) % 128 - 16 < 16
    · have d2 : (j.val - 2048 - 512 - 512 - 512 - 512) % 128 < 32 := by omega
      rw [turn_mid _ _ _ _ _ _ zero_le_one one_ne_top d0 d1, mul_one]
      pointwise [c0, c1, c2, c3, c4, c5, d0, d1, d2, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
      exact congrArg₂ (· + ·) (congrArg (· * _) (hc _ j (by dsimp only; omega))) (congrArg (· * _) (hc _ a (by dsimp only; omega)))
    · have d2 : ¬(j.val - 2048 - 512 - 512 - 512 - 512) % 128 < 32 := by omega
      rw [turn_hi _ _ _ _ _ _ d0 d1, mul_one]
      pointwise [c0, c1, c2, c3, c4, c5, d0, d1, d2, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
      exact hc _ j (by dsimp only; omega)

set_option maxHeartbeats 2000000 in
/-- The reference's result at the columns from 4608 to 5120. -/
theorem ref_6 (h : FVec Ideal S8192x2048 .bf16) (p : IVec S1x8192 32) (w : FVec Ideal S2x2048x5168 .f32) (i : Fin 8192) (j a b : Fin 5120)
    (ha : a.val = j.val / 128 * 128 + (j.val % 128 + 112) % 128) (hb : b.val = j.val / 128 * 128 + (j.val % 128 + 16) % 128)
    (h0 : 4608 ≤ j.val) (h1 : j.val < 5120) :
    (val_main_v140 (F := Ideal) h p w : FVec Ideal S8192x5120 .bf16) (ix2 i j) = unit h p w i j a b := by
  have hc : ∀ (x : Fin 5168) (y : Fin 5120), x.val = y.val → (∑ d, h (ix2 i d) * w (ix3 0 d x)) = col h w i y := fun x y hxy => by
    rw [show x = ⟨y.val, by omega⟩ from Fin.ext hxy]; rfl
  have c0 : ¬j.val < 2048 := by omega
  have c1 : ¬j.val - 2048 < 512 := by omega
  have c2 : ¬j.val - 2048 - 512 < 512 := by omega
  have c3 : ¬j.val - 2048 - 512 - 512 < 512 := by omega
  have c4 : ¬j.val - 2048 - 512 - 512 - 512 < 512 := by omega
  have c5 : ¬j.val - 2048 - 512 - 512 - 512 - 512 < 512 := by omega
  have hs : scale j = 1 := if_neg (by omega)
  unfold unit
  rw [if_neg (by omega), hs]
  rw [mul_one]
  pointwise [c0, c1, c2, c3, c4, c5, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  exact hc _ j (by dsimp only; omega)

/-- The reference's result at a row and a column. -/
theorem ref_at (h : FVec Ideal S8192x2048 .bf16) (p : IVec S1x8192 32) (w : FVec Ideal S2x2048x5168 .f32) (i : Fin 8192) (j a b : Fin 5120)
    (ha : a.val = j.val / 128 * 128 + (j.val % 128 + 112) % 128) (hb : b.val = j.val / 128 * 128 + (j.val % 128 + 16) % 128) :
    (val_main_v140 (F := Ideal) h p w : FVec Ideal S8192x5120 .bf16) (ix2 i j) = unit h p w i j a b := by
  by_cases g0 : j.val < 2048
  · exact ref_0 h p w i j a b ha hb (by omega) g0
  by_cases g1 : j.val < 2560
  · exact ref_1 h p w i j a b ha hb (by omega) g1
  by_cases g2 : j.val < 3072
  · exact ref_2 h p w i j a b ha hb (by omega) g2
  by_cases g3 : j.val < 3584
  · exact ref_3 h p w i j a b ha hb (by omega) g3
  by_cases g4 : j.val < 4096
  · exact ref_4 h p w i j a b ha hb (by omega) g4
  by_cases g5 : j.val < 4608
  · exact ref_5 h p w i j a b ha hb (by omega) g5
  exact ref_6 h p w i j a b ha hb (by omega) (by omega)

/-- The kernel's result array is the reference's result. -/
theorem arr_eq (c : Dev nD) :
    (dats m 0 c).arrAt 5 cfg0.N = val_main_v140 (F := Ideal) (rows m c) (pos m c) (ws m c) := by
  refine (dats m 0 c).arrAt_eq_of_covers 5 _ (by decide +kernel) fun t hf y => ?_
  have hN := ltN t
  blk_simp
  rw [after0_5]
  have h0 : (y 0).val < 1024 := (y 0).isLt
  have h1 : (y 1).val < 1024 := (y 1).isLt
  refine (out_at m c t y (y 0) (y 1) ⟨t.val / 8 * 1024 + (y 1).val, by omega⟩
    ⟨(t.val / 8 * 1024 + (y 1).val) / 128 * 128 + ((t.val / 8 * 1024 + (y 1).val) % 128 + 112) % 128, by omega⟩
    ⟨(t.val / 8 * 1024 + (y 1).val) / 128 * 128 + ((t.val / 8 * 1024 + (y 1).val) % 128 + 16) % 128, by omega⟩ rfl rfl rfl rfl rfl).trans ?_
  refine (ref_at (rows m c) (pos m c) (ws m c) ⟨t.val % 8 * 1024 + (y 0).val, by omega⟩ ⟨t.val / 8 * 1024 + (y 1).val, by omega⟩
    _ _ rfl rfl).symm.trans ?_
  refine congrArg (val_main_v140 (F := Ideal) (rows m c) (pos m c) (ws m c) : FVec Ideal S8192x5120 .bf16) ?_
  blk_ext [idx t]

end Cert.Kernel8Ideal.Proj
-- ==== Proof.Out9.lean ====
/- The second block's output product with the residual step and the next norm: what the kernel leaves is
the reference's results. -/
module

public import proofs.«01_k».proof.Proof.Gen.Kernel9Ideal.Value
public import proofs.«01_k».proof.Proof.Gen.Reference9Ideal.Read
public import proofs.«01_k».proof.Proof.Norm
public import Idealize.ShloMosaic.Lib.Pipeline.ValueKit
public import Idealize.ShloMosaic.Lib.Pipeline.ReadBack
public import Idealize.ShloMosaic.Lib.StableHlo.ReadAt

@[expose] public section

set_option maxRecDepth 16384

noncomputable section

open Idealize.ShloMosaic Idealize.ShloMosaic.TcCoe Idealize.SL.Sem

namespace Cert.Kernel9Ideal.Out

open Cert.Kernel9Ideal Cert.Kernel9Ideal.Gen Cert.Norm

variable (m : (ℓ : Loc nD τ sig) → Buf (Elt Ideal) ℓ)

theorem lt16 (t : Fin cfg0.N) : t.val < 16 := lt_of_lt_of_eq t.isLt N_0

/-- The heads' outputs as launched. -/
abbrev units (c : Dev nD) : FVec Ideal S8192x2048 .bf16 := m ((c.tc : Thread nD τ).loc main_arg0)
/-- The weights as launched. -/
abbrev w2 (c : Dev nD) : FVec Ideal S2x2048x2048 .f32 := m ((c.tc : Thread nD τ).loc main_arg1)
/-- The residual stream as launched. -/
abbrev xs (c : Dev nD) : FVec Ideal S8192x2048 .f32 := m ((c.tc : Thread nD τ).loc main_arg2)
/-- The norms' gains as launched. -/
abbrev gains (c : Dev nD) : FVec Ideal S4x6x2048 .f32 := m ((c.tc : Thread nD τ).loc main_arg3)

/-- The block indices of the seven windows at every point. -/
theorem idx : ∀ t : Fin cfg0.N, win0_0.index t = ![t.val, 0] ∧ win0_1.index t = ![0, 0, 0] ∧ win0_2.index t = ![t.val, 0]
    ∧ win0_3.index t = ![1, 0, 0] ∧ win0_4.index t = ![1, 0, 0] ∧ win0_5.index t = ![t.val, 0] ∧ win0_6.index t = ![t.val, 0] :=
  (by decide +kernel : ∀ t : Fin grid0.N, _)

/-- The weights the call reads are the argument's. -/
theorem w2_host (c : Dev nD) (k : Fin 2048) (e : Fin 2048) :
    (V m c main_v0 : FVec Ideal S2x2048x2048 .bf16) (ix3 0 k e) = w2 m c (ix3 0 k e) := by
  unfold V
  simp only [hostOps0, List.flatten_cons, List.flatten_nil, List.append_nil, List.cons_append, List.nil_append]
  after_reads_at

/-- The block of the heads' outputs at a point. -/
theorem units_at (c : Dev nD) (t : Fin cfg0.N) (r : Fin 512) (k : Fin 2048) :
    (iblk m c 0 t : FVec Ideal S512x2048 .bf16) (ix2 r k)
      = units m c (ix2 ⟨t.val * 512 + r.val, by have := lt16 t; omega⟩ k) := by
  blk_ext [iblk, V, idx t]

/-- The block of weights at a point. -/
theorem w_at (c : Dev nD) (t : Fin cfg0.N) (k : Fin 2048) (e : Fin 2048) :
    (iblk m c 1 t : FVec Ideal S1x2048x2048 .bf16) (ix3 0 k e) = w2 m c (ix3 0 k e) := by
  rw [← w2_host m c]
  blk_ext [iblk, idx t]

/-- The stream's block at a point. -/
theorem xs_at (c : Dev nD) (t : Fin cfg0.N) (r : Fin 512) (e : Fin 2048) :
    (iblk m c 2 t : FVec Ideal S512x2048 .f32) (ix2 r e)
      = xs m c (ix2 ⟨t.val * 512 + r.val, by have := lt16 t; omega⟩ e) := by
  blk_ext [iblk, V, idx t]

/-- The residual norm's gains at a point. -/
theorem g_at (c : Dev nD) (t : Fin cfg0.N) (e : Fin 2048) :
    (iblk m c 3 t : FVec Ideal S1x6x2048 .f32) (ix3 0 3 e) = gains m c (ix3 1 3 e) := by
  blk_ext [iblk, V, idx t]

/-- The next norm's gains at a point. -/
theorem gn_at (c : Dev nD) (t : Fin cfg0.N) (e : Fin 2048) :
    (iblk m c 4 t : FVec Ideal S1x6x2048 .f32) (ix3 0 4 e) = gains m c (ix3 1 4 e) := by
  blk_ext [iblk, V, idx t]

/-- The product of a block of outputs and a block of weights. -/
def part {n : ℕ} (L : FVec Ideal ⟨2, ![512, n]⟩ .bf16) (W : FVec Ideal ⟨3, ![1, n, 2048]⟩ .bf16) (r : Fin 512) (e : Fin 2048) : EReal :=
  ∑ k : Fin n, L (ix2 r k) * W (ix3 0 k e)

/-- The product of half the rows. -/
def acc (L : FVec Ideal S256x2048 .bf16) (W : FVec Ideal S1x2048x2048 .bf16) (r : Fin 256) (e : Fin 2048) : EReal :=
  ∑ k : Fin 2048, L (ix2 r k) * W (ix3 0 k e)

/-- The rows before the product are zero. -/
theorem zero_rows : k0_pay1 (F := Ideal) = fun _ => 0 := by
  funext y
  pointwise [k0_pay1]

/-- The first rows' residual step. -/
theorem pay3_at (A : FVec Ideal S256x2048 .f32) (L : FVec Ideal S256x2048 .bf16) (W : FVec Ideal S1x2048x2048 .bf16)
    (X : FVec Ideal S256x2048 .f32) (G : FVec Ideal S1x1x2048 .f32) (r : Fin 256) (e : Fin 2048) :
    k0_pay3 (F := Ideal) A L W X G (ix2 r e) = step 1 (fun e => X (ix2 r e)) (fun e => A (ix2 r e) + acc L W r e) (fun e => G (ix3 0 0 e)) e := by
  pointwise [k0_pay3, step, rms, acc, one_mul]

/-- The other rows' residual step. -/
theorem pay7_at (A : FVec Ideal S256x2048 .f32) (L : FVec Ideal S256x2048 .bf16) (W : FVec Ideal S1x2048x2048 .bf16)
    (X : FVec Ideal S256x2048 .f32) (G : FVec Ideal S1x1x2048 .f32) (r : Fin 256) (e : Fin 2048) :
    k0_pay7 (F := Ideal) A L W X G (ix2 r e) = step 1 (fun e => X (ix2 r e)) (fun e => A (ix2 r e) + acc L W r e) (fun e => G (ix3 0 0 e)) e := by
  pointwise [k0_pay7, step, rms, acc, one_mul]

/-- The other rows' next norm. -/
theorem pay2_at (X : FVec Ideal S256x2048 .f32) (G : FVec Ideal S1x1x2048 .f32) (r : Fin 256) (e : Fin 2048) :
    k0_pay2 (F := Ideal) X (k0_pay8 G) (ix2 r e) = rms (fun e => X (ix2 r e)) (fun e => G (ix3 0 0 e)) e := by
  pointwise [k0_pay2, k0_pay8, rms]

/-- The first rows' next norm. -/
theorem pay6_at (A : FVec Ideal S256x2048 .f32) (L : FVec Ideal S256x2048 .bf16) (W : FVec Ideal S1x2048x2048 .bf16)
    (X : FVec Ideal S256x2048 .f32) (G G' : FVec Ideal S1x1x2048 .f32) (r : Fin 256) (e : Fin 2048) :
    k0_pay6 (F := Ideal) (k0_pay3 A L W X G) (k0_pay4 G') (k0_pay5 A L W X G) (ix2 r e)
      = rms (fun e => k0_pay3 (F := Ideal) A L W X G (ix2 r e)) (fun e => G' (ix3 0 0 e)) e := by
  pointwise [k0_pay6, k0_pay4, k0_pay5, rms]

/-- The stream's block a point writes. -/
theorem x_A (c : Dev nD) (t : Fin cfg0.N) (y : S512x2048.Idx) (r : Fin 512) (e : Fin 2048)
    (hr : (y 0).val = r.val) (he : (y 1).val = e.val) :
    (outsAt0 m c t).1 y
      = step 1 (fun e => (iblk m c 2 t : FVec Ideal S512x2048 .f32) (ix2 r e))
          (part (n := 2048) (iblk m c 0 t) (iblk m c 1 t) r)
          (fun e => (iblk m c 3 t : FVec Ideal S1x6x2048 .f32) (ix3 0 3 e)) e := by
  unfold outsAt0
  frame_open
  simp (disch := decide) only [↓ View.readCov_skip, ↓ View.readCov_cons_toLoadRect, ↓ View.readCov_fill]
  frame_out
  rw [zero_rows]
  canon_tiles x h
  case piece0 =>
    rw [show r = ⟨256 + (x 0).val, by omega⟩ from Fin.ext (by show r.val = 256 + (x 0).val; omega)]
    obtain rfl : e = x 1 := Fin.ext (by omega)
    pointwise [k0_pay7, step, rms, part, one_mul]
  case piece1 =>
    rw [show r = ⟨(x 0).val, by omega⟩ from Fin.ext (by show r.val = (x 0).val; omega)]
    obtain rfl : e = x 1 := Fin.ext (by omega)
    pointwise [k0_pay3, step, rms, part, one_mul]

/-- The normed stream's block a point writes. -/
theorem h_A (c : Dev nD) (t : Fin cfg0.N) (y : S512x2048.Idx) (r : Fin 512) (e : Fin 2048)
    (hr : (y 0).val = r.val) (he : (y 1).val = e.val) :
    (outsAt0 m c t).2 y
      = rms (step 1 (fun e => (iblk m c 2 t : FVec Ideal S512x2048 .f32) (ix2 r e))
          (part (n := 2048) (iblk m c 0 t) (iblk m c 1 t) r)
          (fun e => (iblk m c 3 t : FVec Ideal S1x6x2048 .f32) (ix3 0 3 e)))
          (fun e => (iblk m c 4 t : FVec Ideal S1x6x2048 .f32) (ix3 0 4 e)) e := by
  unfold outsAt0
  frame_open
  simp (disch := decide) only [↓ View.readCov_skip, ↓ View.readCov_cons_toLoadRect, ↓ View.readCov_fill]
  frame_out
  rw [zero_rows]
  canon_tiles x h
  case piece0 =>
    rw [show r = ⟨256 + (x 0).val, by omega⟩ from Fin.ext (by show r.val = 256 + (x 0).val; omega)]
    obtain rfl : e = x 1 := Fin.ext (by omega)
    have hx : x = ix2 (x 0) (x 1) := by funext a; match a with | ⟨0, _⟩ => rfl | ⟨1, _⟩ => rfl
    refine ((congrArg _ hx).trans (pay2_at _ _ (x 0) (x 1))).trans ?_
    refine congrArg₂ (fun f g => rms f g (x 1)) (funext fun e => ?_) (funext fun e => ?_)
    · refine (pay7_at _ _ _ _ _ (x 0) e).trans ?_
      pointwise [one_mul, step, rms, acc, part]
    · pointwise []
  case piece1 =>
    rw [show r = ⟨(x 0).val, by omega⟩ from Fin.ext (by show r.val = (x 0).val; omega)]
    obtain rfl : e = x 1 := Fin.ext (by omega)
    have hx : x = ix2 (x 0) (x 1) := by funext a; match a with | ⟨0, _⟩ => rfl | ⟨1, _⟩ => rfl
    refine ((congrArg _ hx).trans (pay6_at _ _ _ _ _ _ (x 0) (x 1))).trans ?_
    refine congrArg₂ (fun f g => rms f g (x 1)) (funext fun e => ?_) (funext fun e => ?_)
    · refine (pay3_at _ _ _ _ _ (x 0) e).trans ?_
      pointwise [one_mul, step, rms, acc, part]
    · pointwise []

/-- An entry of the whole product. -/
def prod (U : FVec Ideal S8192x2048 .bf16) (W : FVec Ideal S2x2048x2048 .f32) (i : Fin 8192) (e : Fin 2048) : EReal :=
  ∑ k : Fin 2048, U (ix2 i k) * W (ix3 0 k e)

/-- The product of a point's blocks is the whole one's. -/
theorem part_at (c : Dev nD) (t : Fin cfg0.N) (r : Fin 512) (e : Fin 2048) :
    part (n := 2048) (iblk m c 0 t) (iblk m c 1 t) r e
      = prod (units m c) (w2 m c) ⟨t.val * 512 + r.val, by have := lt16 t; omega⟩ e :=
  Finset.sum_congr rfl fun k _ => Ideal.mul_congr (units_at m c t r k) (w_at m c t k e)

/-- The reference's product. -/
theorem ref_y (U : FVec Ideal S8192x2048 .bf16) (W : FVec Ideal S2x2048x2048 .f32) (i : Fin 8192) (e : Fin 2048) :
    (Cert.Reference9Ideal.Read.val_main_v5 (F := Ideal) U W : FVec Ideal S8192x2048 .f32) (ix2 i e) = prod U W i e := by
  pointwise [Cert.Reference9Ideal.Read.val_main_v5, Cert.Reference9Ideal.Read.val_main_v4, Cert.Reference9Ideal.Read.val_main_v3, Cert.Reference9Ideal.Read.val_main_v2, prod]

/-- The reference's stream. -/
theorem ref_x (U : FVec Ideal S8192x2048 .bf16) (W : FVec Ideal S2x2048x2048 .f32)
    (X : FVec Ideal S8192x2048 .f32) (G : FVec Ideal S4x6x2048 .f32) (i : Fin 8192) (e : Fin 2048) :
    (Cert.Reference9Ideal.Read.val_main_v21 (F := Ideal) U W X G : FVec Ideal S8192x2048 .f32) (ix2 i e)
      = step 1 (fun e => X (ix2 i e)) (prod U W i) (fun e => G (ix3 1 3 e)) e := by
  refine Eq.trans (b := step 1 (fun e => X (ix2 i e)) (fun e => (Cert.Reference9Ideal.Read.val_main_v5 (F := Ideal) U W : FVec Ideal S8192x2048 .f32) (ix2 i e))
    (fun e => G (ix3 1 3 e)) e) ?_ (congrArg (fun f => step 1 (fun e => X (ix2 i e)) f (fun e => G (ix3 1 3 e)) e) (funext fun e => ref_y U W i e))
  pointwise [Cert.Reference9Ideal.Read.val_main_v0, Cert.Reference9Ideal.Read.val_main_v1, Cert.Reference9Ideal.Read.val_main_v6, Cert.Reference9Ideal.Read.val_main_v7, Cert.Reference9Ideal.Read.val_main_v8, Cert.Reference9Ideal.Read.val_main_cst, Cert.Reference9Ideal.Read.val_main_v9, Cert.Reference9Ideal.Read.val_main_v10, Cert.Reference9Ideal.Read.val_main_cst_0, Cert.Reference9Ideal.Read.val_main_v11, Cert.Reference9Ideal.Read.val_main_v12, Cert.Reference9Ideal.Read.val_main_cst_1, Cert.Reference9Ideal.Read.val_main_v13, Cert.Reference9Ideal.Read.val_main_v14, Cert.Reference9Ideal.Read.val_main_v15, Cert.Reference9Ideal.Read.val_main_v16, Cert.Reference9Ideal.Read.val_main_v17, Cert.Reference9Ideal.Read.val_main_v18, Cert.Reference9Ideal.Read.val_main_v19, Cert.Reference9Ideal.Read.val_main_v20, Cert.Reference9Ideal.Read.val_main_v21, step, rms, one_mul]

/-- The reference's normed stream. -/
theorem ref_h (U : FVec Ideal S8192x2048 .bf16) (W : FVec Ideal S2x2048x2048 .f32)
    (X : FVec Ideal S8192x2048 .f32) (G : FVec Ideal S4x6x2048 .f32) (i : Fin 8192) (e : Fin 2048) :
    (Cert.Reference9Ideal.Read.val_main_v37 (F := Ideal) U W X G : FVec Ideal S8192x2048 .bf16) (ix2 i e)
      = rms (step 1 (fun e => X (ix2 i e)) (prod U W i) (fun e => G (ix3 1 3 e))) (fun e => G (ix3 1 4 e)) e := by
  refine Eq.trans (b := rms (fun e => (Cert.Reference9Ideal.Read.val_main_v21 (F := Ideal) U W X G : FVec Ideal S8192x2048 .f32) (ix2 i e))
    (fun e => G (ix3 1 4 e)) e) ?_ (congrArg (fun f => rms f (fun e => G (ix3 1 4 e)) e) (funext fun e => ref_x U W X G i e))
  pointwise [Cert.Reference9Ideal.Read.val_main_v0, Cert.Reference9Ideal.Read.val_main_v1, Cert.Reference9Ideal.Read.val_main_v22, Cert.Reference9Ideal.Read.val_main_v23, Cert.Reference9Ideal.Read.val_main_v24, Cert.Reference9Ideal.Read.val_main_cst_2, Cert.Reference9Ideal.Read.val_main_v25, Cert.Reference9Ideal.Read.val_main_v26, Cert.Reference9Ideal.Read.val_main_cst_3, Cert.Reference9Ideal.Read.val_main_v27, Cert.Reference9Ideal.Read.val_main_v28, Cert.Reference9Ideal.Read.val_main_cst_4, Cert.Reference9Ideal.Read.val_main_v29, Cert.Reference9Ideal.Read.val_main_v30, Cert.Reference9Ideal.Read.val_main_v31, Cert.Reference9Ideal.Read.val_main_v32, Cert.Reference9Ideal.Read.val_main_v33, Cert.Reference9Ideal.Read.val_main_v34, Cert.Reference9Ideal.Read.val_main_v35, Cert.Reference9Ideal.Read.val_main_v36, Cert.Reference9Ideal.Read.val_main_v37, rms]

/-- A row's block position. -/
abbrev row (t : Fin cfg0.N) (r : Fin 512) : Fin 8192 := ⟨t.val * 512 + r.val, by have := lt16 t; omega⟩

/-- The streams in, the product and the gains at a point. -/
theorem step_at (c : Dev nD) (t : Fin cfg0.N) (r : Fin 512) (e : Fin 2048) :
    step 1 (fun e => (iblk m c 2 t : FVec Ideal S512x2048 .f32) (ix2 r e))
          (part (n := 2048) (iblk m c 0 t) (iblk m c 1 t) r)
          (fun e => (iblk m c 3 t : FVec Ideal S1x6x2048 .f32) (ix3 0 3 e)) e
      = step 1 (fun e => xs m c (ix2 (row t r) e)) (prod (units m c) (w2 m c) (row t r)) (fun e => gains m c (ix3 1 3 e)) e := by
  rw [show (fun e => (iblk m c 2 t : FVec Ideal S512x2048 .f32) (ix2 r e)) = fun e => xs m c (ix2 (row t r) e) from funext fun e => xs_at m c t r e,
    show part (n := 2048) (iblk m c 0 t) (iblk m c 1 t) r = prod (units m c) (w2 m c) (row t r) from funext fun e => part_at m c t r e,
    show (fun e => (iblk m c 3 t : FVec Ideal S1x6x2048 .f32) (ix3 0 3 e)) = fun e => gains m c (ix3 1 3 e) from funext fun e => g_at m c t e]

/-- The stream the call leaves is the reference's. -/
theorem x_eq (c : Dev nD) :
    (dats m 0 c).arrAt 5 cfg0.N = Cert.Reference9Ideal.Read.val_main_v21 (F := Ideal) (units m c) (w2 m c) (xs m c) (gains m c) := by
  refine (dats m 0 c).arrAt_eq_of_covers 5 _ (by decide +kernel) fun t _ y => ?_
  have h16 := lt16 t
  blk_simp
  rw [after0_5]
  have b0 : (y 0).val < 512 := (y 0).isLt
  have b1 : (y 1).val < 2048 := (y 1).isLt
  refine (x_A m c t y ⟨(y 0).val, b0⟩ ⟨(y 1).val, b1⟩ rfl rfl).trans ((step_at m c t _ _).trans ?_)
  refine (ref_x (units m c) (w2 m c) (xs m c) (gains m c) _ _).symm.trans ?_
  refine congrArg (Cert.Reference9Ideal.Read.val_main_v21 (F := Ideal) (units m c) (w2 m c) (xs m c) (gains m c) : FVec Ideal S8192x2048 .f32) ?_
  blk_ext [idx t]

/-- The normed stream the call leaves is the reference's. -/
theorem h_eq (c : Dev nD) :
    (dats m 0 c).arrAt 6 cfg0.N = Cert.Reference9Ideal.Read.val_main_v37 (F := Ideal) (units m c) (w2 m c) (xs m c) (gains m c) := by
  refine (dats m 0 c).arrAt_eq_of_covers 6 _ (by decide +kernel) fun t _ y => ?_
  have h16 := lt16 t
  blk_simp
  rw [after0_6]
  have b0 : (y 0).val < 512 := (y 0).isLt
  have b1 : (y 1).val < 2048 := (y 1).isLt
  refine (h_A m c t y ⟨(y 0).val, b0⟩ ⟨(y 1).val, b1⟩ rfl rfl).trans ?_
  refine (congrArg₂ (fun f g => rms f g ⟨(y 1).val, b1⟩) (funext fun e => step_at m c t _ e) (funext fun e => gn_at m c t e)).trans ?_
  refine (ref_h (units m c) (w2 m c) (xs m c) (gains m c) _ _).symm.trans ?_
  refine congrArg (Cert.Reference9Ideal.Read.val_main_v37 (F := Ideal) (units m c) (w2 m c) (xs m c) (gains m c) : FVec Ideal S8192x2048 .bf16) ?_
  blk_ext [idx t]

end Cert.Kernel9Ideal.Out
-- ==== Proof.PreNorm.lean ====
/- The first row norm of the layer: what the kernel leaves is the reference's result. -/
module

public import proofs.«01_k».proof.Proof.Gen.Kernel10Ideal.Value
public import proofs.«01_k».proof.Proof.Gen.Reference10Ideal.Read
public import proofs.«01_k».proof.Proof.Norm
public import Idealize.ShloMosaic.Lib.Pipeline.ValueKit
public import Idealize.ShloMosaic.Lib.Pipeline.ReadBack
public import Idealize.ShloMosaic.Lib.StableHlo.ReadAt

@[expose] public section

set_option maxRecDepth 16384

noncomputable section

open Idealize.ShloMosaic Idealize.ShloMosaic.TcCoe Idealize.SL.Sem

namespace Cert.Kernel10Ideal.PreNorm

open Cert.Kernel10Ideal Cert.Kernel10Ideal.Gen Cert.Norm Cert.Reference10Ideal.Read

variable (m : (ℓ : Loc nD τ sig) → Buf (Elt Ideal) ℓ)

theorem lt16 (t : Fin cfg0.N) : t.val < 16 := lt_of_lt_of_eq t.isLt N_0

/-- The residual stream as launched. -/
abbrev xs (c : Dev nD) : FVec Ideal S8192x2048 .f32 := m ((c.tc : Thread nD τ).loc main_arg0)
/-- The norms' gains as launched. -/
abbrev gains (c : Dev nD) : FVec Ideal S4x6x2048 .f32 := m ((c.tc : Thread nD τ).loc main_arg1)

/-- The block indices of the three windows at every point. -/
theorem idx : ∀ t : Fin cfg0.N, win0_0.index t = ![t.val, 0] ∧ win0_1.index t = ![0, 0, 0] ∧ win0_2.index t = ![t.val, 0] :=
  (by decide +kernel : ∀ t : Fin grid0.N, _)

/-- The stream's block at a point. -/
theorem xs_at (c : Dev nD) (t : Fin cfg0.N) (r : Fin 512) (e : Fin 2048) :
    (iblk m c 0 t : FVec Ideal S512x2048 .f32) (ix2 r e)
      = xs m c (ix2 ⟨t.val * 512 + r.val, by have := lt16 t; omega⟩ e) := by
  blk_ext [iblk, V, idx t]

/-- The norm's gains at a point. -/
theorem g_at (c : Dev nD) (t : Fin cfg0.N) (e : Fin 2048) :
    (iblk m c 1 t : FVec Ideal S1x6x2048 .f32) (ix3 0 0 e) = gains m c (ix3 0 0 e) := by
  blk_ext [iblk, V, idx t]

/-- The block a point writes. -/
theorem out_at (X : FVec Ideal S512x2048 .f32) (G : FVec Ideal S1x6x2048 .f32) (r : Fin 512) (e : Fin 2048) :
    (out0_2 (F := Ideal) X G : FVec Ideal S512x2048 .bf16) (ix2 r e) = rms (fun e => X (ix2 r e)) (fun e => G (ix3 0 0 e)) e := by
  unfold out0_2
  frame_open
  frame_out
  open_payloads; pointwise [rms]

/-- The reference's result at a row and a column. -/
theorem ref_at (X : FVec Ideal S8192x2048 .f32) (G : FVec Ideal S4x6x2048 .f32) (i : Fin 8192) (e : Fin 2048) :
    (val_main_v15 (F := Ideal) X G : FVec Ideal S8192x2048 .bf16) (ix2 i e)
      = rms (fun e => X (ix2 i e)) (fun e => G (ix3 0 0 e)) e := by
  pointwise [rms, val_main_v0, val_main_v1, val_main_v2, val_main_v3, val_main_v4, val_main_v5, val_main_v6, val_main_v7, val_main_v8,
    val_main_v9, val_main_v10, val_main_v11, val_main_v12, val_main_v13, val_main_v14, val_main_v15, val_main_cst, val_main_cst_0, val_main_cst_1]

/-- The kernel's result array is the reference's result. -/
theorem arr_eq (c : Dev nD) :
    (dats m 0 c).arrAt 2 cfg0.N = val_main_v15 (F := Ideal) (xs m c) (gains m c) := by
  refine (dats m 0 c).arrAt_eq_of_covers 2 _ (by decide +kernel) fun t _ y => ?_
  have h16 := lt16 t
  blk_simp
  rw [after0_2]
  have b0 : (y 0).val < 512 := (y 0).isLt
  have b1 : (y 1).val < 2048 := (y 1).isLt
  have hy : y = ix2 (y 0) (y 1) := by funext a; match a with | ⟨0, _⟩ => rfl | ⟨1, _⟩ => rfl
  refine ((congrArg _ hy).trans (out_at _ _ (y 0) (y 1))).trans ?_
  refine (congrArg₂ (fun f g => rms f g (y 1)) (funext fun e => xs_at m c t (y 0) e) (funext fun e => g_at m c t e)).trans ?_
  refine (ref_at (xs m c) (gains m c) _ (y 1)).symm.trans ?_
  refine congrArg (val_main_v15 (F := Ideal) (xs m c) (gains m c) : FVec Ideal S8192x2048 .bf16) ?_
  blk_ext [idx t]

end Cert.Kernel10Ideal.PreNorm
-- ==== Proof.Gates.lean ====
/- The attention gates' product: what the kernel leaves is the reference's result. -/
module

public import proofs.«01_k».proof.Proof.Gen.Kernel11Ideal.Value
public import proofs.«01_k».proof.Proof.Gen.Reference11Ideal.Read
public import Idealize.ShloMosaic.Lib.Pipeline.ValueKit
public import Idealize.ShloMosaic.Lib.Pipeline.ReadBack
public import Idealize.ShloMosaic.Lib.StableHlo.ReadAt

@[expose] public section

set_option maxRecDepth 16384

noncomputable section

open Idealize.ShloMosaic Idealize.ShloMosaic.TcCoe Idealize.SL.Sem

namespace Cert.Kernel11Ideal.Gates

open Cert.Kernel11Ideal Cert.Kernel11Ideal.Gen Cert.Reference11Ideal.Read

/-- A cell of the product of a block of rows and a block of weight columns. -/
def cell (X : FVec Ideal S1024x2048 .bf16) (W : FVec Ideal S2048x128 .bf16) (r : Fin 1024) (e : Fin 128) : EReal :=
  ∑ d : Fin 2048, X (ix2 r d) * W (ix2 d e)

variable (m : (ℓ : Loc nD τ sig) → Buf (Elt Ideal) ℓ)

theorem lt8 (t : Fin cfg0.N) : t.val < 8 := lt_of_lt_of_eq t.isLt N_0

/-- The rows as launched. -/
abbrev rows (c : Dev nD) : FVec Ideal S8192x2048 .bf16 := m ((c.tc : Thread nD τ).loc main_arg0)
/-- The weights as launched. -/
abbrev ws (c : Dev nD) : FVec Ideal S2x2048x5168 .f32 := m ((c.tc : Thread nD τ).loc main_arg1)

/-- A weight of the gates' columns; past the gates zero. -/
def gate (w : FVec Ideal S2x2048x5168 .f32) (d : Fin 2048) (e : Fin 128) : EReal :=
  if h : e.val < 48 then w (ix3 0 d ⟨5120 + e.val, by omega⟩) else 0

/-- The block indices of the three windows at every point. -/
theorem idx : ∀ t : Fin cfg0.N, win0_0.index t = ![t.val, 0] ∧ win0_1.index t = ![0, 0, 0] ∧ win0_2.index t = ![t.val, 0] :=
  (by decide +kernel : ∀ t : Fin grid0.N, _)

/-- The weights the call reads. -/
theorem V_w (c : Dev nD) (d : Fin 2048) (e : Fin 128) :
    (V m c main_v1 : FVec Ideal S2x2048x128 .f32) (ix3 0 d e) = gate (ws m c) d e := by
  unfold V gate
  simp only [hostOps0, hostOps0_1, List.flatten_cons, List.flatten_nil, List.append_nil, List.cons_append, List.nil_append]
  after_reads_at
  by_cases h : e.val < 48
  · pointwise [h]
  · pointwise [h]
    show (((0#32 : BitVec 32).toInt : ℝ) : EReal) = 0
    simp

/-- The block of rows at a point. -/
theorem rows_at (c : Dev nD) (t : Fin cfg0.N) (r : Fin 1024) (d : Fin 2048) :
    (iblk m c 0 t : FVec Ideal S1024x2048 .bf16) (ix2 r d)
      = rows m c (ix2 ⟨t.val * 1024 + r.val, by have := lt8 t; omega⟩ d) := by
  blk_ext [iblk, V, idx t]

/-- The block of weights at a point. -/
theorem w_at (c : Dev nD) (t : Fin cfg0.N) (d : Fin 2048) (e : Fin 128) :
    (iblk m c 1 t : FVec Ideal S1x2048x128 .f32) (ix3 0 d e) = gate (ws m c) d e := by
  rw [← V_w m c]
  blk_ext [iblk, idx t]

/-- The weights' cast. -/
theorem pay1_at (c : Dev nD) (t : Fin cfg0.N) (d : Fin 2048) (e : Fin 128) :
    k0_pay1 (iblk m c 1 t) (ix2 d e) = gate (ws m c) d e := by
  rw [← w_at m c t d e]; pointwise [k0_pay1]

/-- At the first point the scratch is the block of weights. -/
theorem s_A (c : Dev nD) (t : Fin cfg0.N) (h0 : t.val % 8 = 0) (d : Fin 2048) (e : Fin 128) :
    (outsAt0 m c t.val t.isLt).2 (ix2 d e) = (iblk m c 1 t : FVec Ideal S1x2048x128 .f32) (ix3 0 d e) := by
  rw [outsAt0_A m c t h0]
  frame_open
  frame_out
  open_payloads; pointwise []

/-- At a later point the scratch is what it was. -/
theorem s_B (c : Dev nD) (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]
  rfl

/-- The output block at the first point. -/
theorem out_A (c : Dev nD) (t : Fin cfg0.N) (h0 : t.val % 8 = 0) (r : Fin 1024) (e : Fin 128) :
    (outsAt0 m c t.val t.isLt).1 (ix2 r e) = cell (iblk m c 0 t) (k0_pay1 (iblk m c 1 t)) r e := by
  rw [outsAt0_A m c t h0]
  frame_open
  simp (disch := decide) only [↓ View.readCov_skip, ↓ View.readCov_cons_toLoadRect, ↓ View.readCov_fill]
  frame_out
  open_payloads; pointwise [cell, k0_pay1]

/-- The output block at a later point. -/
theorem out_B (c : Dev nD) (t : Fin cfg0.N) (h0 : ¬t.val % 8 = 0) (r : Fin 1024) (e : Fin 128) :
    (outsAt0 m c t.val t.isLt).1 (ix2 r e)
      = cell (iblk m c 0 t) (outsAt0 m c (t.val - 1) (Nat.lt_of_le_of_lt (Nat.sub_le _ _) t.isLt)).2 r e := by
  rw [outsAt0_B m c t h0]
  frame_out
  open_payloads; pointwise [cell]; simp only [read_unread_whole]

/-- The scratch after any point holds the gates' weights. -/
theorem scr (c : Dev nD) : ∀ (n : ℕ) (hn : n < cfg0.N) (d : Fin 2048) (e : Fin 128),
    (outsAt0 m c n hn).2 (ix2 d e) = gate (ws m c) d e := by
  intro n
  induction n with
  | zero => exact fun hn d e => (s_A m c ⟨0, hn⟩ rfl d e).trans (w_at m c ⟨0, hn⟩ d e)
  | succ n ih =>
    intro hn d e
    by_cases h0 : (n + 1) % 8 = 0
    · exact (s_A m c ⟨n + 1, hn⟩ h0 d e).trans (w_at m c ⟨n + 1, hn⟩ d e)
    · exact (congrFun (s_B m c ⟨n + 1, hn⟩ h0) (ix2 d e)).trans (ih (Nat.lt_of_succ_lt hn) d e)

/-- An entry of the product. -/
def unit (h : FVec Ideal S8192x2048 .bf16) (w : FVec Ideal S2x2048x5168 .f32) (i : Fin 8192) (e : Fin 128) : EReal :=
  ∑ d : Fin 2048, h (ix2 i d) * gate w d e

/-- The output block of a point. -/
theorem out_at (c : Dev nD) (t : Fin cfg0.N) (r : Fin 1024) (e : Fin 128) :
    (outsAt0 m c t.val t.isLt).1 (ix2 r e)
      = unit (rows m c) (ws m c) ⟨t.val * 1024 + r.val, by have := lt8 t; omega⟩ e := by
  by_cases h0 : t.val % 8 = 0
  · rw [out_A m c t h0]
    unfold cell unit
    simp only [pay1_at m c t, rows_at]
  · rw [out_B m c t h0]
    unfold cell unit
    simp only [scr m c, rows_at]

/-- The reference's result at a row and a column. -/
theorem ref_at (h : FVec Ideal S8192x2048 .bf16) (w : FVec Ideal S2x2048x5168 .f32) (i : Fin 8192) (e : Fin 128) :
    (val_main_v6 (F := Ideal) h w : FVec Ideal S8192x128 .f32) (ix2 i e) = unit h w i e := by
  unfold unit gate
  by_cases g : e.val < 48
  · pointwise [g, val_main_v0, val_main_v1, val_main_v2, val_main_v3, val_main_v4, val_main_v5, val_main_v6, val_main_cst]
  · pointwise [g, mul_zero, Finset.sum_const_zero, val_main_v0, val_main_v1, val_main_v2, val_main_v3, val_main_v4, val_main_v5, val_main_v6, val_main_cst]

/-- The kernel's result array is the reference's result. -/
theorem arr_eq (c : Dev nD) :
    (dats m 0 c).arrAt 2 cfg0.N = val_main_v6 (F := Ideal) (rows m c) (ws m c) := by
  refine (dats m 0 c).arrAt_eq_of_covers 2 _ (by decide +kernel) fun t _ y => ?_
  have h8 := lt8 t
  blk_simp
  rw [after0_2]
  have b0 : (y 0).val < 1024 := (y 0).isLt
  have b1 : (y 1).val < 128 := (y 1).isLt
  have hy : y = ix2 (y 0) (y 1) := by funext a; match a with | ⟨0, _⟩ => rfl | ⟨1, _⟩ => rfl
  refine ((congrArg _ hy).trans (out_at m c t (y 0) (y 1))).trans ?_
  refine (ref_at (rows m c) (ws m c) _ (y 1)).symm.trans ?_
  refine congrArg (val_main_v6 (F := Ideal) (rows m c) (ws m c) : FVec Ideal S8192x128 .f32) ?_
  blk_ext [idx t]

end Cert.Kernel11Ideal.Gates
-- ==== Proof.Compress.lean ====
/- What the two compressions share: the gelu, a sum in stretches, the gather of windows of positions. -/
module

public import Idealize.ShloMosaic.Lib.Pipeline.ValueKit

@[expose] public section

set_option maxRecDepth 16384

noncomputable section

open Idealize.ShloMosaic Idealize.ShloMosaic.TcCoe

namespace Cert.Compress

/-- The gelu with the hyperbolic tangent. -/
def gelu (h : EReal) : EReal :=
  Ideal.ofBits .f32 0x3F000000#32 * h * (1 + Ideal.tanh (Ideal.ofBits .f32 0x3F4C422A#32 * (h + Ideal.ofBits .f32 0x3D372713#32 * h * h * h)))

/-- The gelu as it is also written. -/
theorem gelu_eq (h : EReal) :
    h * (Ideal.ofBits .f32 0x3F000000#32 * (1 + Ideal.tanh (Ideal.ofBits .f32 0x3F4C422A#32 * (h + Ideal.ofBits .f32 0x3D372713#32 * (h * h * h)))))
      = gelu h := by
  unfold gelu
  rw [← mul_assoc, mul_comm h, mul_assoc h h h, ← mul_assoc, ← mul_assoc, mul_assoc _ h h]

/-- Sixteen terms, the first first. -/
theorem sum_16 (f : Fin 16 → EReal) :
    ∑ j, f j = f 0 + f 1 + f 2 + f 3 + f 4 + f 5 + f 6 + f 7 + f 8 + f 9 + f 10 + f 11 + f 12 + f 13 + f 14 + f 15 := by
  simp only [Fin.sum_univ_castSucc, Fin.sum_univ_zero, zero_add]
  rfl

/-- A sum over 4096 places in twice sixteen stretches of 128. -/
theorem sum_4096 (f : Fin 4096 → EReal) :
    ∑ k, f k = ∑ j : Fin 16, ∑ e : Fin 128, f ⟨j.val * 128 + e.val, by omega⟩
      + ∑ j : Fin 16, ∑ e : Fin 128, f ⟨(16 + j.val) * 128 + e.val, by omega⟩ := by
  refine (Fin.sum_univ_tiles 32 128 rfl f).trans ((Fin.sum_univ_tiles 2 16 rfl _).trans ((Fin.sum_univ_two _).trans ?_))
  refine congrArg₂ (· + ·) (Finset.sum_congr rfl fun j _ => Finset.sum_congr rfl fun e _ => congrArg f (Fin.ext ?_))
    (Finset.sum_congr rfl fun j _ => Finset.sum_congr rfl fun e _ => congrArg f (Fin.ext ?_))
  · show (0 * 16 + j.val) * 128 + e.val = j.val * 128 + e.val
    omega
  · show (1 * 16 + j.val) * 128 + e.val = (16 + j.val) * 128 + e.val
    omega

/-- The dimension numbers of a gather of windows of positions. -/
abbrev winDims (wf : GatherDims.WF ⟨4, ![1, 8208, 4, 128]⟩ ⟨3, ![512, 32, 1]⟩ ⟨5, ![1, 512, 32, 4, 128]⟩ [0, 3, 4] [1] [] [1] [] 2 ![1, 1, 4, 128]) :
    GatherDims ⟨4, ![1, 8208, 4, 128]⟩ ⟨3, ![512, 32, 1]⟩ ⟨5, ![1, 512, 32, 4, 128]⟩ where
  offsetDims := [0, 3, 4]
  collapsedSliceDims := [1]
  operandBatchingDims := []
  startIndicesBatchingDims := []
  startIndexMap := [1]
  indexVectorDim := 2
  sliceSizes := ![1, 1, 4, 128]
  wf := wf

/-- The gathered windows at an index: the operand at the position the window names. -/
theorem gather_win {α : Type} (wf : GatherDims.WF ⟨4, ![1, 8208, 4, 128]⟩ ⟨3, ![512, 32, 1]⟩ ⟨5, ![1, 512, 32, 4, 128]⟩ [0, 3, 4] [1] [] [1] [] 2 ![1, 1, 4, 128])
    (x : (⟨4, ![1, 8208, 4, 128]⟩ : Shape).Idx → α) (idx : IVec ⟨3, ![512, 32, 1]⟩ 32)
    (n : Fin 512) (l : Fin 32) (h : Fin 4) (e : Fin 128) (p : Fin 8208)
    (hp : (idx (ix3 n l 0)).toInt.toNat = p.val) :
    Host.gather (winDims wf) x idx (ix5 0 n l h e) = x (ix4 0 p h e) := by
  unfold Host.gather
  refine congrArg x (funext fun a => Fin.ext ?_)
  have hb : ∀ a', a' ∉ (winDims wf).operandBatchingDims := fun a' => List.not_mem_nil
  show (winDims wf).start (ix5 0 n l h e) idx a + (winDims wf).batchCoord (ix5 0 n l h e) a + (winDims wf).offCoord (ix5 0 n l h e) a = _
  rw [(winDims wf).batchCoord_eq_zero _ _ (hb a), Nat.add_zero]
  have h4 : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases h4 with rfl | rfl | rfl | rfl
  · unfold GatherDims.start
    rw [dif_neg (show (0 : Fin 4) ∉ ([1] : List (Fin 4)) by decide), Nat.zero_add]
    rfl
  · rw [(winDims wf).offCoord_eq_zero _ _ (fun h => (((winDims wf).mem_sKept _).mp h).1 (List.mem_singleton.mpr rfl)), Nat.add_zero]
    unfold GatherDims.start
    rw [dif_pos (show (1 : Fin 4) ∈ (winDims wf).startIndexMap from List.mem_singleton.mpr rfl)]
    have hsi : (winDims wf).siIdx (ix5 0 n l h e) ⟨List.idxOf (1 : Fin 4) (winDims wf).startIndexMap,
        List.idxOf_lt_length_iff.2 (List.mem_singleton.mpr rfl)⟩ = ix3 n l 0 := by
      funext b; refine Fin.ext ?_
      match b with
      | ⟨0, _⟩ => rfl
      | ⟨1, _⟩ => rfl
      | ⟨2, _⟩ => rfl
    rw [hsi, hp]
    show min p.val (8208 - 1) = p.val
    omega
  · unfold GatherDims.start
    rw [dif_neg (show (2 : Fin 4) ∉ ([1] : List (Fin 4)) by decide), Nat.zero_add]
    rfl
  · unfold GatherDims.start
    rw [dif_neg (show (3 : Fin 4) ∉ ([1] : List (Fin 4)) by decide), Nat.zero_add]
    rfl

end Cert.Compress
-- ==== Proof.CompressK.lean ====
/- The compression of the attention's keys: what the kernel leaves is the reference's result. -/
module

public import proofs.«01_k».proof.Proof.Gen.Kernel12Ideal.Value
public import proofs.«01_k».proof.Proof.Gen.Reference12Ideal.Read
public import proofs.«01_k».proof.Proof.Compress
public import Idealize.ShloMosaic.Lib.Pipeline.ValueKit
public import Idealize.ShloMosaic.Lib.Pipeline.ReadBack
public import Idealize.ShloMosaic.Lib.StableHlo.ReadAt

@[expose] public section

set_option maxRecDepth 65536

noncomputable section

open Idealize.ShloMosaic Idealize.ShloMosaic.TcCoe Idealize.SL.Sem

namespace Cert.Kernel12Ideal.CompressK

open Cert.Kernel12Ideal Cert.Kernel12Ideal.Gen Cert.Compress Cert.Reference12Ideal.Read

/-- The first half of the windows of a block. -/
def lo (X : FVec Ideal S1x1x16x512x128 .bf16) (P : FVec Ideal S1x32x128 .f32) (W : FVec Ideal S1x4096x256 .f32) (n : Fin 512) (u : Fin 256) : EReal :=
  ∑ j : Fin 16, ∑ e : Fin 128, (X (ix5 0 0 j n e) + P (ix3 0 ⟨j.val, by omega⟩ e)) * W (ix3 0 ⟨j.val * 128 + e.val, by omega⟩ u)

/-- The second half of the windows of a block. -/
def hi (X : FVec Ideal S1x1x16x512x128 .bf16) (P : FVec Ideal S1x32x128 .f32) (W : FVec Ideal S1x4096x256 .f32) (n : Fin 512) (u : Fin 256) : EReal :=
  ∑ j : Fin 16, ∑ e : Fin 128, (X (ix5 0 0 j n e) + P (ix3 0 ⟨16 + j.val, by omega⟩ e)) * W (ix3 0 ⟨(16 + j.val) * 128 + e.val, by omega⟩ u)

/-- The end of the body from the two accumulators. -/
theorem pay56_at (f s : FVec Ideal S512x256 .f32) (a b : FVec Ideal S512x128 .bf16) (p q : FVec Ideal S1x128x256 .f32) (w : FVec Ideal S1x256x128 .f32)
    (n n' : Fin 512) (d : Fin 128) (hn : n'.val = (n.val + 1) % 512) :
    k0_pay1 (F := Ideal) (k0_pay56 f s a b p q w) (ix3 0 n d)
      = ∑ u : Fin 256, gelu ((f (ix2 n u) + ∑ e : Fin 128, a (ix2 n e) * p (ix3 0 e u)) + (s (ix2 n' u) + ∑ e : Fin 128, b (ix2 n' e) * q (ix3 0 e u)))
          * w (ix3 0 u d) := by
  obtain rfl : n' = ⟨(n.val + 512 - 511) % 512, Nat.mod_lt _ (by decide)⟩ :=
    Fin.ext (hn.trans (by show (n.val + 1) % 512 = (n.val + 512 - 511) % 512; omega))
  pointwise [k0_pay1, k0_pay56, gelu]

variable (m : (ℓ : Loc nD τ sig) → Buf (Elt Ideal) ℓ)

theorem lt4 (t : Fin cfg0.N) : t.val < 4 := lt_of_lt_of_eq t.isLt N_0

/-- The projected rows as launched. -/
abbrev pc (c : Dev nD) : FVec Ideal S8192x5120 .bf16 := m ((c.tc : Thread nD τ).loc main_arg0)
/-- The windows' embedding as launched. -/
abbrev pe (c : Dev nD) : FVec Ideal S2x32x128 .f32 := m ((c.tc : Thread nD τ).loc main_arg1)
/-- The first weights as launched. -/
abbrev w1 (c : Dev nD) : FVec Ideal S2x4096x256 .f32 := m ((c.tc : Thread nD τ).loc main_arg2)
/-- The second weights as launched. -/
abbrev w2 (c : Dev nD) : FVec Ideal S2x256x128 .f32 := m ((c.tc : Thread nD τ).loc main_arg3)

/-- The block indices of the five windows at every point. -/
theorem idx : ∀ t : Fin cfg0.N, win0_0.index t = ![0, t.val, 0, 0, 0] ∧ win0_1.index t = ![0, 0, 0] ∧ win0_2.index t = ![0, 0, 0]
    ∧ win0_3.index t = ![0, 0, 0] ∧ win0_4.index t = ![t.val, 0, 0] :=
  (by decide +kernel : ∀ t : Fin grid0.N, _)

/-- The positions the call reads. -/
theorem V_x (c : Dev nD) (h : Fin 4) (j : Fin 16) (n : Fin 512) (e : Fin 128) :
    (V m c main_v2 : FVec Ideal S2x4x16x512x128 .bf16) (ix5 0 h j n e)
      = pc m c (ix2 ⟨n.val * 16 + j.val, by omega⟩ ⟨2048 + (h.val * 128 + e.val), by omega⟩) := by
  unfold V
  simp only [hostOps0, List.flatten_cons, List.flatten_nil, List.append_nil, List.cons_append, List.nil_append]
  after_reads_at

/-- The block of positions at a point. -/
theorem x_at (c : Dev nD) (t : Fin cfg0.N) (j : Fin 16) (n : Fin 512) (e : Fin 128) :
    (iblk m c 0 t : FVec Ideal S1x1x16x512x128 .bf16) (ix5 0 0 j n e)
      = pc m c (ix2 ⟨n.val * 16 + j.val, by omega⟩ ⟨2048 + (t.val * 128 + e.val), by have := lt4 t; omega⟩) := by
  refine Eq.trans ?_ (V_x m c ⟨t.val, lt4 t⟩ j n e)
  blk_ext [iblk, idx t]

/-- The embedding at a point. -/
theorem pe_at (c : Dev nD) (t : Fin cfg0.N) (j : Fin 32) (e : Fin 128) :
    (iblk m c 1 t : FVec Ideal S1x32x128 .f32) (ix3 0 j e) = pe m c (ix3 0 j e) := by
  blk_ext [iblk, V, idx t]

/-- The first weights at a point. -/
theorem w1_at (c : Dev nD) (t : Fin cfg0.N) (k : Fin 4096) (u : Fin 256) :
    (iblk m c 2 t : FVec Ideal S1x4096x256 .f32) (ix3 0 k u) = w1 m c (ix3 0 k u) := by
  blk_ext [iblk, V, idx t]

/-- The second weights at a point. -/
theorem w2_at (c : Dev nD) (t : Fin cfg0.N) (u : Fin 256) (d : Fin 128) :
    (iblk m c 3 t : FVec Ideal S1x256x128 .f32) (ix3 0 u d) = w2 m c (ix3 0 u d) := by
  blk_ext [iblk, V, idx t]

/-- The block a point writes. -/
theorem out_at (X : FVec Ideal S1x1x16x512x128 .bf16) (P : FVec Ideal S1x32x128 .f32) (W : FVec Ideal S1x4096x256 .f32) (Z : FVec Ideal S1x256x128 .f32)
    (n n' : Fin 512) (d : Fin 128) (hn : n'.val = (n.val + 1) % 512) :
    (out0_4 (F := Ideal) X P W Z : FVec Ideal S1x512x128 .bf16) (ix3 0 n d)
      = ∑ u : Fin 256, gelu (lo X P W n u + hi X P W n' u) * Z (ix3 0 u d) := by
  unfold_out out0_4
  frame_open
  frame_out
  refine (pay56_at _ _ _ _ _ _ _ n n' d hn).trans (Finset.sum_congr rfl fun u _ => ?_)
  refine congrArg₂ (fun a b => gelu a * b) (congrArg₂ (· + ·) ?_ ?_) ?_
  · unfold lo
    rw [sum_16]
    pointwise [k0_pay3, k0_pay2, k0_pay7, k0_pay5, k0_pay6, k0_pay14, k0_pay10, k0_pay9, k0_pay12, k0_pay13, k0_pay18, k0_pay16, k0_pay17,
      k0_pay24, k0_pay21, k0_pay20, k0_pay23, k0_pay27, k0_pay26, k0_pay34, k0_pay30, k0_pay29, k0_pay32, k0_pay36, k0_pay35, k0_pay40, k0_pay38,
      k0_pay39, k0_pay47, k0_pay43, k0_pay42, k0_pay45, k0_pay46, k0_pay51, k0_pay49, k0_pay50, k0_pay54, k0_pay53]
  · unfold hi
    rw [sum_16]
    pointwise [k0_pay4, k0_pay2, k0_pay8, k0_pay5, k0_pay15, k0_pay11, k0_pay9, k0_pay13, k0_pay19, k0_pay16, k0_pay17, k0_pay25, k0_pay22,
      k0_pay20, k0_pay23, k0_pay28, k0_pay26, k0_pay31, k0_pay29, k0_pay37, k0_pay33, k0_pay32, k0_pay35, k0_pay41, k0_pay38, k0_pay48, k0_pay44,
      k0_pay42, k0_pay46, k0_pay52, k0_pay49, k0_pay50, k0_pay55, k0_pay53]
  · pointwise []

/-- A hidden unit: a window of positions with its embedding against the first weights. -/
def hid (X : FVec Ideal S8192x5120 .bf16) (P : FVec Ideal S2x32x128 .f32) (W : FVec Ideal S2x4096x256 .f32) (h : Fin 4) (n n' : Fin 512) (u : Fin 256) : EReal :=
  (∑ j : Fin 16, ∑ e : Fin 128, (X (ix2 ⟨n.val * 16 + j.val, by omega⟩ ⟨2048 + (h.val * 128 + e.val), by omega⟩) + P (ix3 0 ⟨j.val, by omega⟩ e))
      * W (ix3 0 ⟨j.val * 128 + e.val, by omega⟩ u))
    + ∑ j : Fin 16, ∑ e : Fin 128, (X (ix2 ⟨n'.val * 16 + j.val, by omega⟩ ⟨2048 + (h.val * 128 + e.val), by omega⟩) + P (ix3 0 ⟨16 + j.val, by omega⟩ e))
      * W (ix3 0 ⟨(16 + j.val) * 128 + e.val, by omega⟩ u)

/-- The block of a point from the arguments. -/
theorem blk_at (c : Dev nD) (t : Fin cfg0.N) (n n' : Fin 512) (d : Fin 128) (hn : n'.val = (n.val + 1) % 512) :
    (out0_4 (F := Ideal) (iblk m c 0 t) (iblk m c 1 t) (iblk m c 2 t) (iblk m c 3 t) : FVec Ideal S1x512x128 .bf16) (ix3 0 n d)
      = ∑ u : Fin 256, gelu (hid (pc m c) (pe m c) (w1 m c) ⟨t.val, lt4 t⟩ n n' u) * w2 m c (ix3 0 u d) := by
  refine (out_at _ _ _ _ n n' d hn).trans (Finset.sum_congr rfl fun u _ => ?_)
  unfold lo hi hid
  simp only [x_at, pe_at, w1_at, w2_at]

/-- The reference's positions, the first sixteen once more at the end. -/
theorem ref_x (X : FVec Ideal S8192x5120 .bf16) (p : Fin 8208) (q : Fin 8192) (h : Fin 4) (e : Fin 128) (hq : q.val = p.val % 8192) :
    (val_main_v13 (F := Ideal) X : FVec Ideal Cert.Reference12Ideal.S1x8208x4x128 .f32) (ix4 0 p h e) = X (ix2 q ⟨2048 + (h.val * 128 + e.val), by omega⟩) := by
  by_cases g : p.val < 8192
  · obtain rfl : q = ⟨p.val, g⟩ := Fin.ext (hq.trans (Nat.mod_eq_of_lt g))
    pointwise [g, val_main_v13, val_main_v12, val_main_v11, val_main_v10, val_main_v9]
  · have hp := p.isLt
    obtain rfl : q = ⟨p.val - 8192, Nat.lt_of_le_of_lt (Nat.sub_le_sub_right (Nat.le_of_lt hp) _) (by decide)⟩ :=
      Fin.ext (hq.trans (by show p.val % 8192 = p.val - 8192; omega))
    pointwise [g, val_main_v13, val_main_v12, val_main_v11, val_main_v10, val_main_v9]

/-- The position a window names. -/
theorem ref_idx (n : Fin 512) (l : Fin 32) :
    ((val_main_v25 (F := Ideal) : IVec Cert.Reference12Ideal.S512x32x1 32) (ix3 n l 0)).toInt.toNat = n.val * 16 + l.val := by
  have h : (val_main_v8 (F := Ideal) : IVec Cert.Reference12Ideal.S512x32 32) (ix2 n l) = BitVec.ofNat 32 (n.val * 16 + l.val) := by
    pointwise [val_main_v8, val_main_v7, val_main_v6, val_main_v5, val_main_v4, val_main_v3, val_main_v2, val_main_v1, val_main_v0, val_main_c]
    show BitVec.ofNat 32 n.val * 16#32 + BitVec.ofNat 32 l.val = BitVec.ofNat 32 (n.val * 16 + l.val)
    apply BitVec.eq_of_toNat_eq
    simp only [BitVec.toNat_add, BitVec.toNat_mul, BitVec.toNat_ofNat]
    omega
  have hv : (val_main_v25 (F := Ideal) : IVec Cert.Reference12Ideal.S512x32x1 32) (ix3 n l 0)
      = (val_main_v8 (F := Ideal) : IVec Cert.Reference12Ideal.S512x32 32) (ix2 n l) := by
    pointwise [val_main_v25, val_main_v24, val_main_v23, val_main_v22, val_main_v21, val_main_v20, val_main_c_0, val_main_c_1]
    rw [h, show IntOp.cmpi .slt (BitVec.ofNat 32 (n.val * 16 + l.val)) 0#32 = 0#1 from ?_]
    · rfl
    · have hn := n.isLt
      have hl := l.isLt
      have hs : ¬((BitVec.ofNat 32 (n.val * 16 + l.val)).slt 0#32 = true) := by
        rw [BitVec.slt_iff_toInt_lt, BitVec.toInt_eq_toNat_of_lt (by simp only [BitVec.toNat_ofNat]; omega)]
        simp only [BitVec.toNat_ofNat, BitVec.toInt_zero]
        omega
      show BitVec.ofBool ((BitVec.ofNat 32 (n.val * 16 + l.val)).slt 0#32) = 0#1
      rw [Bool.eq_false_of_not_eq_true hs]
      rfl
  rw [hv, h]
  have hn := n.isLt
  have hl := l.isLt
  rw [BitVec.toInt_eq_toNat_of_lt (by simp only [BitVec.toNat_ofNat]; omega)]
  simp only [BitVec.toNat_ofNat, Int.toNat_natCast]
  omega

/-- The reference's windows with their embedding. -/
theorem ref_win (X : FVec Ideal S8192x5120 .bf16) (P : FVec Ideal S2x32x128 .f32) (n : Fin 512) (l : Fin 32) (h : Fin 4) (e : Fin 128)
    (q : Fin 8192) (hq : q.val = (n.val * 16 + l.val) % 8192) :
    (val_main_v30 (F := Ideal) X P : FVec Ideal Cert.Reference12Ideal.S1x512x32x4x128 .f32) (ix5 0 n l h e)
      = X (ix2 q ⟨2048 + (h.val * 128 + e.val), by omega⟩) + P (ix3 0 l e) := by
  have hg : (val_main_v26 (F := Ideal) X : FVec Ideal Cert.Reference12Ideal.S1x512x32x4x128 .f32) (ix5 0 n l h e) = X (ix2 q ⟨2048 + (h.val * 128 + e.val), by omega⟩) :=
    (gather_win _ _ _ n l h e ⟨n.val * 16 + l.val, by omega⟩ (ref_idx n l)).trans (ref_x X _ q h e hq)
  have hp : (val_main_v29 (F := Ideal) P : FVec Ideal Cert.Reference12Ideal.S1x512x32x4x128 .f32) (ix5 0 n l h e) = P (ix3 0 l e) := by
    pointwise [val_main_v29, val_main_v28, val_main_v27, val_main_v15, val_main_v14]
  exact congrArg₂ (· + ·) hg hp

/-- The reference's hidden units. -/
theorem ref_hid (X : FVec Ideal S8192x5120 .bf16) (P : FVec Ideal S2x32x128 .f32) (W : FVec Ideal S2x4096x256 .f32) (h : Fin 4) (n n' : Fin 512) (u : Fin 256)
    (hn : n'.val = (n.val + 1) % 512) :
    (val_main_v33 (F := Ideal) X P W : FVec Ideal Cert.Reference12Ideal.S1x512x4x256 .f32) (ix4 0 n h u) = hid X P W h n n' u := by
  have hs : (val_main_v33 (F := Ideal) X P W : FVec Ideal Cert.Reference12Ideal.S1x512x4x256 .f32) (ix4 0 n h u)
      = ∑ k : Fin 4096, (val_main_v30 (F := Ideal) X P : FVec Ideal Cert.Reference12Ideal.S1x512x32x4x128 .f32) (ix5 0 n ⟨k.val / 128, by omega⟩ h ⟨k.val % 128, by omega⟩) * W (ix3 0 k u) := by
    pointwise [val_main_v33, val_main_v32, val_main_v31, val_main_v17, val_main_v16]
  rw [hs, sum_4096]
  unfold hid
  refine congrArg₂ (· + ·) (Finset.sum_congr rfl fun j _ => Finset.sum_congr rfl fun e _ => ?_) (Finset.sum_congr rfl fun j _ => Finset.sum_congr rfl fun e _ => ?_)
  · refine congrArg₂ (· * ·) ((congrArg _ ?_).trans (ref_win X P n ⟨j.val, by omega⟩ h e ⟨n.val * 16 + j.val, by omega⟩ ?_)) rfl
    · exact congrArg₂ (fun a b => ix5 0 n a h b) (Fin.ext (by show (j.val * 128 + e.val) / 128 = j.val; omega))
        (Fin.ext (by show (j.val * 128 + e.val) % 128 = e.val; omega))
    · show n.val * 16 + j.val = (n.val * 16 + j.val) % 8192
      omega
  · refine congrArg₂ (· * ·) ((congrArg _ ?_).trans (ref_win X P n ⟨16 + j.val, by omega⟩ h e ⟨n'.val * 16 + j.val, by omega⟩ ?_)) rfl
    · exact congrArg₂ (fun a b => ix5 0 n a h b) (Fin.ext (by show ((16 + j.val) * 128 + e.val) / 128 = 16 + j.val; omega))
        (Fin.ext (by show ((16 + j.val) * 128 + e.val) % 128 = e.val; omega))
    · show n'.val * 16 + j.val = (n.val * 16 + (16 + j.val)) % 8192
      omega

/-- The reference's result. -/
theorem ref_at (X : FVec Ideal S8192x5120 .bf16) (P : FVec Ideal S2x32x128 .f32) (W : FVec Ideal S2x4096x256 .f32) (Z : FVec Ideal S2x256x128 .f32)
    (h : Fin 4) (n n' : Fin 512) (d : Fin 128) (hn : n'.val = (n.val + 1) % 512) :
    (val_main_v50 (F := Ideal) X P W Z : FVec Ideal S4x512x128 .bf16) (ix3 h n d)
      = ∑ u : Fin 256, gelu (hid X P W h n n' u) * Z (ix3 0 u d) := by
  simp only [← ref_hid X P W h n n' _ hn]
  pointwise [val_main_v50, val_main_v49, val_main_v48, val_main_v47, val_main_v46, val_main_v45, val_main_v44, val_main_v43, val_main_v42, val_main_v41,
    val_main_v40, val_main_v39, val_main_v38, val_main_v37, val_main_v36, val_main_v35, val_main_v34, val_main_v19, val_main_v18,
    val_main_cst, val_main_cst_2, val_main_cst_3, val_main_cst_4]
  exact Finset.sum_congr rfl fun u _ => Ideal.mul_congr (gelu_eq _) rfl

/-- The kernel's result array is the reference's result. -/
theorem arr_eq (c : Dev nD) :
    (dats m 0 c).arrAt 4 cfg0.N = val_main_v50 (F := Ideal) (pc m c) (pe m c) (w1 m c) (w2 m c) := by
  refine (dats m 0 c).arrAt_eq_of_covers 4 _ (by decide +kernel) fun t _ y => ?_
  have h4 := lt4 t
  blk_simp
  rw [after0_4]
  have b0 : (y 0).val < 1 := (y 0).isLt
  have b1 : (y 1).val < 512 := (y 1).isLt
  have b2 : (y 2).val < 128 := (y 2).isLt
  have hy : y = ix3 0 (y 1) (y 2) := by
    funext a
    match a with
    | ⟨0, _⟩ => exact Fin.ext (by show (y 0).val = 0; omega)
    | ⟨1, _⟩ => rfl
    | ⟨2, _⟩ => rfl
  refine ((congrArg _ hy).trans (blk_at m c t (y 1) ⟨((y 1).val + 1) % 512, by omega⟩ (y 2) rfl)).trans ?_
  refine (ref_at (pc m c) (pe m c) (w1 m c) (w2 m c) _ (y 1) ⟨((y 1).val + 1) % 512, by omega⟩ (y 2) rfl).symm.trans ?_
  refine congrArg (val_main_v50 (F := Ideal) (pc m c) (pe m c) (w1 m c) (w2 m c) : FVec Ideal S4x512x128 .bf16) ?_
  blk_ext [idx t]

end Cert.Kernel12Ideal.CompressK
-- ==== Proof.CompressV.lean ====
/- The compression of the attention's values: what the kernel leaves is the reference's result. -/
module

public import proofs.«01_k».proof.Proof.Gen.Kernel13Ideal.Value
public import proofs.«01_k».proof.Proof.Gen.Reference13Ideal.Read
public import proofs.«01_k».proof.Proof.Compress
public import Idealize.ShloMosaic.Lib.Pipeline.ValueKit
public import Idealize.ShloMosaic.Lib.Pipeline.ReadBack
public import Idealize.ShloMosaic.Lib.StableHlo.ReadAt

@[expose] public section

set_option maxRecDepth 65536

noncomputable section

open Idealize.ShloMosaic Idealize.ShloMosaic.TcCoe Idealize.SL.Sem

namespace Cert.Kernel13Ideal.CompressV

open Cert.Kernel13Ideal Cert.Kernel13Ideal.Gen Cert.Compress Cert.Reference13Ideal.Read

/-- The first half of the windows of a block. -/
def lo (X : FVec Ideal S1x1x16x512x128 .bf16) (P : FVec Ideal S1x32x128 .f32) (W : FVec Ideal S1x4096x256 .f32) (n : Fin 512) (u : Fin 256) : EReal :=
  ∑ j : Fin 16, ∑ e : Fin 128, (X (ix5 0 0 j n e) + P (ix3 0 ⟨j.val, by omega⟩ e)) * W (ix3 0 ⟨j.val * 128 + e.val, by omega⟩ u)

/-- The second half of the windows of a block. -/
def hi (X : FVec Ideal S1x1x16x512x128 .bf16) (P : FVec Ideal S1x32x128 .f32) (W : FVec Ideal S1x4096x256 .f32) (n : Fin 512) (u : Fin 256) : EReal :=
  ∑ j : Fin 16, ∑ e : Fin 128, (X (ix5 0 0 j n e) + P (ix3 0 ⟨16 + j.val, by omega⟩ e)) * W (ix3 0 ⟨(16 + j.val) * 128 + e.val, by omega⟩ u)

/-- The end of the body from the two accumulators. -/
theorem pay56_at (f s : FVec Ideal S512x256 .f32) (a b : FVec Ideal S512x128 .bf16) (p q : FVec Ideal S1x128x256 .f32) (w : FVec Ideal S1x256x128 .f32)
    (n n' : Fin 512) (d : Fin 128) (hn : n'.val = (n.val + 1) % 512) :
    k0_pay1 (F := Ideal) (k0_pay56 f s a b p q w) (ix3 0 n d)
      = ∑ u : Fin 256, gelu ((f (ix2 n u) + ∑ e : Fin 128, a (ix2 n e) * p (ix3 0 e u)) + (s (ix2 n' u) + ∑ e : Fin 128, b (ix2 n' e) * q (ix3 0 e u)))
          * w (ix3 0 u d) := by
  obtain rfl : n' = ⟨(n.val + 512 - 511) % 512, Nat.mod_lt _ (by decide)⟩ :=
    Fin.ext (hn.trans (by show (n.val + 1) % 512 = (n.val + 512 - 511) % 512; omega))
  pointwise [k0_pay1, k0_pay56, gelu]

variable (m : (ℓ : Loc nD τ sig) → Buf (Elt Ideal) ℓ)

theorem lt4 (t : Fin cfg0.N) : t.val < 4 := lt_of_lt_of_eq t.isLt N_0

/-- The projected rows as launched. -/
abbrev pc (c : Dev nD) : FVec Ideal S8192x5120 .bf16 := m ((c.tc : Thread nD τ).loc main_arg0)
/-- The windows' embedding as launched. -/
abbrev pe (c : Dev nD) : FVec Ideal S2x32x128 .f32 := m ((c.tc : Thread nD τ).loc main_arg1)
/-- The first weights as launched. -/
abbrev w1 (c : Dev nD) : FVec Ideal S2x4096x256 .f32 := m ((c.tc : Thread nD τ).loc main_arg2)
/-- The second weights as launched. -/
abbrev w2 (c : Dev nD) : FVec Ideal S2x256x128 .f32 := m ((c.tc : Thread nD τ).loc main_arg3)

/-- The block indices of the five windows at every point. -/
theorem idx : ∀ t : Fin cfg0.N, win0_0.index t = ![1, t.val, 0, 0, 0] ∧ win0_1.index t = ![0, 0, 0] ∧ win0_2.index t = ![0, 0, 0]
    ∧ win0_3.index t = ![0, 0, 0] ∧ win0_4.index t = ![t.val, 0, 0] :=
  (by decide +kernel : ∀ t : Fin grid0.N, _)

/-- The positions the call reads. -/
theorem V_x (c : Dev nD) (h : Fin 4) (j : Fin 16) (n : Fin 512) (e : Fin 128) :
    (V m c main_v2 : FVec Ideal S2x4x16x512x128 .bf16) (ix5 1 h j n e)
      = pc m c (ix2 ⟨n.val * 16 + j.val, by omega⟩ ⟨2560 + (h.val * 128 + e.val), by omega⟩) := by
  unfold V
  simp only [hostOps0, List.flatten_cons, List.flatten_nil, List.append_nil, List.cons_append, List.nil_append]
  after_reads_at
  refine congrArg (pc m c) (congrArg₂ ix2 rfl (Fin.ext ?_))
  show 2048 + (512 + h.val * 128 + e.val) = 2560 + (h.val * 128 + e.val)
  omega

/-- The block of positions at a point. -/
theorem x_at (c : Dev nD) (t : Fin cfg0.N) (j : Fin 16) (n : Fin 512) (e : Fin 128) :
    (iblk m c 0 t : FVec Ideal S1x1x16x512x128 .bf16) (ix5 0 0 j n e)
      = pc m c (ix2 ⟨n.val * 16 + j.val, by omega⟩ ⟨2560 + (t.val * 128 + e.val), by have := lt4 t; omega⟩) := by
  refine Eq.trans ?_ (V_x m c ⟨t.val, lt4 t⟩ j n e)
  blk_ext [iblk, idx t]

/-- The embedding at a point. -/
theorem pe_at (c : Dev nD) (t : Fin cfg0.N) (j : Fin 32) (e : Fin 128) :
    (iblk m c 1 t : FVec Ideal S1x32x128 .f32) (ix3 0 j e) = pe m c (ix3 0 j e) := by
  blk_ext [iblk, V, idx t]

/-- The first weights at a point. -/
theorem w1_at (c : Dev nD) (t : Fin cfg0.N) (k : Fin 4096) (u : Fin 256) :
    (iblk m c 2 t : FVec Ideal S1x4096x256 .f32) (ix3 0 k u) = w1 m c (ix3 0 k u) := by
  blk_ext [iblk, V, idx t]

/-- The second weights at a point. -/
theorem w2_at (c : Dev nD) (t : Fin cfg0.N) (u : Fin 256) (d : Fin 128) :
    (iblk m c 3 t : FVec Ideal S1x256x128 .f32) (ix3 0 u d) = w2 m c (ix3 0 u d) := by
  blk_ext [iblk, V, idx t]

/-- The block a point writes. -/
theorem out_at (X : FVec Ideal S1x1x16x512x128 .bf16) (P : FVec Ideal S1x32x128 .f32) (W : FVec Ideal S1x4096x256 .f32) (Z : FVec Ideal S1x256x128 .f32)
    (n n' : Fin 512) (d : Fin 128) (hn : n'.val = (n.val + 1) % 512) :
    (out0_4 (F := Ideal) X P W Z : FVec Ideal S1x512x128 .bf16) (ix3 0 n d)
      = ∑ u : Fin 256, gelu (lo X P W n u + hi X P W n' u) * Z (ix3 0 u d) := by
  unfold_out out0_4
  frame_open
  frame_out
  refine (pay56_at _ _ _ _ _ _ _ n n' d hn).trans (Finset.sum_congr rfl fun u _ => ?_)
  refine congrArg₂ (fun a b => gelu a * b) (congrArg₂ (· + ·) ?_ ?_) ?_
  · unfold lo
    rw [sum_16]
    pointwise [k0_pay3, k0_pay2, k0_pay7, k0_pay5, k0_pay6, k0_pay14, k0_pay10, k0_pay9, k0_pay12, k0_pay13, k0_pay18, k0_pay16, k0_pay17,
      k0_pay24, k0_pay21, k0_pay20, k0_pay23, k0_pay27, k0_pay26, k0_pay34, k0_pay30, k0_pay29, k0_pay32, k0_pay36, k0_pay35, k0_pay40, k0_pay38,
      k0_pay39, k0_pay47, k0_pay43, k0_pay42, k0_pay45, k0_pay46, k0_pay51, k0_pay49, k0_pay50, k0_pay54, k0_pay53]
  · unfold hi
    rw [sum_16]
    pointwise [k0_pay4, k0_pay2, k0_pay8, k0_pay5, k0_pay15, k0_pay11, k0_pay9, k0_pay13, k0_pay19, k0_pay16, k0_pay17, k0_pay25, k0_pay22,
      k0_pay20, k0_pay23, k0_pay28, k0_pay26, k0_pay31, k0_pay29, k0_pay37, k0_pay33, k0_pay32, k0_pay35, k0_pay41, k0_pay38, k0_pay48, k0_pay44,
      k0_pay42, k0_pay46, k0_pay52, k0_pay49, k0_pay50, k0_pay55, k0_pay53]
  · pointwise []

/-- A hidden unit: a window of positions with its embedding against the first weights. -/
def hid (X : FVec Ideal S8192x5120 .bf16) (P : FVec Ideal S2x32x128 .f32) (W : FVec Ideal S2x4096x256 .f32) (h : Fin 4) (n n' : Fin 512) (u : Fin 256) : EReal :=
  (∑ j : Fin 16, ∑ e : Fin 128, (X (ix2 ⟨n.val * 16 + j.val, by omega⟩ ⟨2560 + (h.val * 128 + e.val), by omega⟩) + P (ix3 0 ⟨j.val, by omega⟩ e))
      * W (ix3 0 ⟨j.val * 128 + e.val, by omega⟩ u))
    + ∑ j : Fin 16, ∑ e : Fin 128, (X (ix2 ⟨n'.val * 16 + j.val, by omega⟩ ⟨2560 + (h.val * 128 + e.val), by omega⟩) + P (ix3 0 ⟨16 + j.val, by omega⟩ e))
      * W (ix3 0 ⟨(16 + j.val) * 128 + e.val, by omega⟩ u)

/-- The block of a point from the arguments. -/
theorem blk_at (c : Dev nD) (t : Fin cfg0.N) (n n' : Fin 512) (d : Fin 128) (hn : n'.val = (n.val + 1) % 512) :
    (out0_4 (F := Ideal) (iblk m c 0 t) (iblk m c 1 t) (iblk m c 2 t) (iblk m c 3 t) : FVec Ideal S1x512x128 .bf16) (ix3 0 n d)
      = ∑ u : Fin 256, gelu (hid (pc m c) (pe m c) (w1 m c) ⟨t.val, lt4 t⟩ n n' u) * w2 m c (ix3 0 u d) := by
  refine (out_at _ _ _ _ n n' d hn).trans (Finset.sum_congr rfl fun u _ => ?_)
  unfold lo hi hid
  simp only [x_at, pe_at, w1_at, w2_at]

/-- The reference's positions, the first sixteen once more at the end. -/
theorem ref_x (X : FVec Ideal S8192x5120 .bf16) (p : Fin 8208) (q : Fin 8192) (h : Fin 4) (e : Fin 128) (hq : q.val = p.val % 8192) :
    (val_main_v13 (F := Ideal) X : FVec Ideal Cert.Reference13Ideal.S1x8208x4x128 .f32) (ix4 0 p h e) = X (ix2 q ⟨2560 + (h.val * 128 + e.val), by omega⟩) := by
  by_cases g : p.val < 8192
  · obtain rfl : q = ⟨p.val, g⟩ := Fin.ext (hq.trans (Nat.mod_eq_of_lt g))
    pointwise [g, val_main_v13, val_main_v12, val_main_v11, val_main_v10, val_main_v9]
  · have hp := p.isLt
    obtain rfl : q = ⟨p.val - 8192, Nat.lt_of_le_of_lt (Nat.sub_le_sub_right (Nat.le_of_lt hp) _) (by decide)⟩ :=
      Fin.ext (hq.trans (by show p.val % 8192 = p.val - 8192; omega))
    pointwise [g, val_main_v13, val_main_v12, val_main_v11, val_main_v10, val_main_v9]

/-- The position a window names. -/
theorem ref_idx (n : Fin 512) (l : Fin 32) :
    ((val_main_v25 (F := Ideal) : IVec Cert.Reference13Ideal.S512x32x1 32) (ix3 n l 0)).toInt.toNat = n.val * 16 + l.val := by
  have h : (val_main_v8 (F := Ideal) : IVec Cert.Reference13Ideal.S512x32 32) (ix2 n l) = BitVec.ofNat 32 (n.val * 16 + l.val) := by
    pointwise [val_main_v8, val_main_v7, val_main_v6, val_main_v5, val_main_v4, val_main_v3, val_main_v2, val_main_v1, val_main_v0, val_main_c]
    show BitVec.ofNat 32 n.val * 16#32 + BitVec.ofNat 32 l.val = BitVec.ofNat 32 (n.val * 16 + l.val)
    apply BitVec.eq_of_toNat_eq
    simp only [BitVec.toNat_add, BitVec.toNat_mul, BitVec.toNat_ofNat]
    omega
  have hv : (val_main_v25 (F := Ideal) : IVec Cert.Reference13Ideal.S512x32x1 32) (ix3 n l 0)
      = (val_main_v8 (F := Ideal) : IVec Cert.Reference13Ideal.S512x32 32) (ix2 n l) := by
    pointwise [val_main_v25, val_main_v24, val_main_v23, val_main_v22, val_main_v21, val_main_v20, val_main_c_0, val_main_c_1]
    rw [h, show IntOp.cmpi .slt (BitVec.ofNat 32 (n.val * 16 + l.val)) 0#32 = 0#1 from ?_]
    · rfl
    · have hn := n.isLt
      have hl := l.isLt
      have hs : ¬((BitVec.ofNat 32 (n.val * 16 + l.val)).slt 0#32 = true) := by
        rw [BitVec.slt_iff_toInt_lt, BitVec.toInt_eq_toNat_of_lt (by simp only [BitVec.toNat_ofNat]; omega)]
        simp only [BitVec.toNat_ofNat, BitVec.toInt_zero]
        omega
      show BitVec.ofBool ((BitVec.ofNat 32 (n.val * 16 + l.val)).slt 0#32) = 0#1
      rw [Bool.eq_false_of_not_eq_true hs]
      rfl
  rw [hv, h]
  have hn := n.isLt
  have hl := l.isLt
  rw [BitVec.toInt_eq_toNat_of_lt (by simp only [BitVec.toNat_ofNat]; omega)]
  simp only [BitVec.toNat_ofNat, Int.toNat_natCast]
  omega

/-- The reference's windows with their embedding. -/
theorem ref_win (X : FVec Ideal S8192x5120 .bf16) (P : FVec Ideal S2x32x128 .f32) (n : Fin 512) (l : Fin 32) (h : Fin 4) (e : Fin 128)
    (q : Fin 8192) (hq : q.val = (n.val * 16 + l.val) % 8192) :
    (val_main_v30 (F := Ideal) X P : FVec Ideal Cert.Reference13Ideal.S1x512x32x4x128 .f32) (ix5 0 n l h e)
      = X (ix2 q ⟨2560 + (h.val * 128 + e.val), by omega⟩) + P (ix3 0 l e) := by
  have hg : (val_main_v26 (F := Ideal) X : FVec Ideal Cert.Reference13Ideal.S1x512x32x4x128 .f32) (ix5 0 n l h e) = X (ix2 q ⟨2560 + (h.val * 128 + e.val), by omega⟩) :=
    (gather_win _ _ _ n l h e ⟨n.val * 16 + l.val, by omega⟩ (ref_idx n l)).trans (ref_x X _ q h e hq)
  have hp : (val_main_v29 (F := Ideal) P : FVec Ideal Cert.Reference13Ideal.S1x512x32x4x128 .f32) (ix5 0 n l h e) = P (ix3 0 l e) := by
    pointwise [val_main_v29, val_main_v28, val_main_v27, val_main_v15, val_main_v14]
  exact congrArg₂ (· + ·) hg hp

/-- The reference's hidden units. -/
theorem ref_hid (X : FVec Ideal S8192x5120 .bf16) (P : FVec Ideal S2x32x128 .f32) (W : FVec Ideal S2x4096x256 .f32) (h : Fin 4) (n n' : Fin 512) (u : Fin 256)
    (hn : n'.val = (n.val + 1) % 512) :
    (val_main_v33 (F := Ideal) X P W : FVec Ideal Cert.Reference13Ideal.S1x512x4x256 .f32) (ix4 0 n h u) = hid X P W h n n' u := by
  have hs : (val_main_v33 (F := Ideal) X P W : FVec Ideal Cert.Reference13Ideal.S1x512x4x256 .f32) (ix4 0 n h u)
      = ∑ k : Fin 4096, (val_main_v30 (F := Ideal) X P : FVec Ideal Cert.Reference13Ideal.S1x512x32x4x128 .f32) (ix5 0 n ⟨k.val / 128, by omega⟩ h ⟨k.val % 128, by omega⟩) * W (ix3 0 k u) := by
    pointwise [val_main_v33, val_main_v32, val_main_v31, val_main_v17, val_main_v16]
  rw [hs, sum_4096]
  unfold hid
  refine congrArg₂ (· + ·) (Finset.sum_congr rfl fun j _ => Finset.sum_congr rfl fun e _ => ?_) (Finset.sum_congr rfl fun j _ => Finset.sum_congr rfl fun e _ => ?_)
  · refine congrArg₂ (· * ·) ((congrArg _ ?_).trans (ref_win X P n ⟨j.val, by omega⟩ h e ⟨n.val * 16 + j.val, by omega⟩ ?_)) rfl
    · exact congrArg₂ (fun a b => ix5 0 n a h b) (Fin.ext (by show (j.val * 128 + e.val) / 128 = j.val; omega))
        (Fin.ext (by show (j.val * 128 + e.val) % 128 = e.val; omega))
    · show n.val * 16 + j.val = (n.val * 16 + j.val) % 8192
      omega
  · refine congrArg₂ (· * ·) ((congrArg _ ?_).trans (ref_win X P n ⟨16 + j.val, by omega⟩ h e ⟨n'.val * 16 + j.val, by omega⟩ ?_)) rfl
    · exact congrArg₂ (fun a b => ix5 0 n a h b) (Fin.ext (by show ((16 + j.val) * 128 + e.val) / 128 = 16 + j.val; omega))
        (Fin.ext (by show ((16 + j.val) * 128 + e.val) % 128 = e.val; omega))
    · show n'.val * 16 + j.val = (n.val * 16 + (16 + j.val)) % 8192
      omega

/-- The reference's result. -/
theorem ref_at (X : FVec Ideal S8192x5120 .bf16) (P : FVec Ideal S2x32x128 .f32) (W : FVec Ideal S2x4096x256 .f32) (Z : FVec Ideal S2x256x128 .f32)
    (h : Fin 4) (n n' : Fin 512) (d : Fin 128) (hn : n'.val = (n.val + 1) % 512) :
    (val_main_v50 (F := Ideal) X P W Z : FVec Ideal S4x512x128 .bf16) (ix3 h n d)
      = ∑ u : Fin 256, gelu (hid X P W h n n' u) * Z (ix3 0 u d) := by
  simp only [← ref_hid X P W h n n' _ hn]
  pointwise [val_main_v50, val_main_v49, val_main_v48, val_main_v47, val_main_v46, val_main_v45, val_main_v44, val_main_v43, val_main_v42, val_main_v41,
    val_main_v40, val_main_v39, val_main_v38, val_main_v37, val_main_v36, val_main_v35, val_main_v34, val_main_v19, val_main_v18,
    val_main_cst, val_main_cst_2, val_main_cst_3, val_main_cst_4]
  exact Finset.sum_congr rfl fun u _ => Ideal.mul_congr (gelu_eq _) rfl

/-- The kernel's result array is the reference's result. -/
theorem arr_eq (c : Dev nD) :
    (dats m 0 c).arrAt 4 cfg0.N = val_main_v50 (F := Ideal) (pc m c) (pe m c) (w1 m c) (w2 m c) := by
  refine (dats m 0 c).arrAt_eq_of_covers 4 _ (by decide +kernel) fun t _ y => ?_
  have h4 := lt4 t
  blk_simp
  rw [after0_4]
  have b0 : (y 0).val < 1 := (y 0).isLt
  have b1 : (y 1).val < 512 := (y 1).isLt
  have b2 : (y 2).val < 128 := (y 2).isLt
  have hy : y = ix3 0 (y 1) (y 2) := by
    funext a
    match a with
    | ⟨0, _⟩ => exact Fin.ext (by show (y 0).val = 0; omega)
    | ⟨1, _⟩ => rfl
    | ⟨2, _⟩ => rfl
  refine ((congrArg _ hy).trans (blk_at m c t (y 1) ⟨((y 1).val + 1) % 512, by omega⟩ (y 2) rfl)).trans ?_
  refine (ref_at (pc m c) (pe m c) (w1 m c) (w2 m c) _ (y 1) ⟨((y 1).val + 1) % 512, by omega⟩ (y 2) rfl).symm.trans ?_
  refine congrArg (val_main_v50 (F := Ideal) (pc m c) (pe m c) (w1 m c) (w2 m c) : FVec Ideal S4x512x128 .bf16) ?_
  blk_ext [idx t]

end Cert.Kernel13Ideal.CompressV
-- ==== Proof.CmpPays.lean ====
/- The compressed branch of the sparse attention: a head's block as the kernel's body computes it. -/
module

public import proofs.«01_k».proof.Proof.Gen.Kernel14Ideal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.Kernel14Ideal.CmpAttn

open Cert.Kernel14Ideal Cert.Kernel14Ideal.Gen

theorem ninf : Ideal.ofBits FTy.f32 4286578688#32 = (⊥ : EReal) := by
  simp [Ideal.ofBits, Ideal.ieee]
theorem pinf : Ideal.ofBits FTy.f32 0x7F800000#32 = (⊤ : EReal) := by
  simp [Ideal.ofBits, Ideal.ieee]
theorem two : Ideal.ofBits FTy.f32 0x40000000#32 = ((2 : ℝ) : EReal) := by
  simp [Ideal.ofBits, Ideal.ieee, -EReal.coe_mul]; norm_num
theorem tiny : (0 : EReal) < Ideal.ofBits FTy.f32 228737632#32 := by
  simp [Ideal.ofBits, Ideal.ieee, -EReal.coe_mul]

/-- The chosen maximum of the kernel. -/
def kmax (M : EReal) : EReal := if (⊥ : EReal) < M then M else 0

/-- The weighted sum of the values, the weights being powers of two below the kernel's maximum. -/
def soft {n : ℕ} (N : EReal) (s v : Fin n → EReal) : EReal :=
  ∑ k, v k * Ideal.div (Ideal.exp2 (s k - N)) (max (∑ j, Ideal.exp2 (s j - N)) (Ideal.ofBits FTy.f32 228737632#32))

/-- The kernel's cell. -/
def kcell (B : FVec Ideal S512x512 .f32) (a : FVec Ideal S128x128 .bf16) (K : FVec Ideal S1x512x128 .bf16) (V : FVec Ideal S1x128x512 .bf16)
    (l d : Fin 128) (q : Fin 512) : EReal :=
  soft (kmax (Finset.fold max (⊥ : EReal) (fun n : Fin 512 => ∑ e : Fin 128, K (ix3 0 n e) * a (ix2 l e) + B (ix2 n q)) Finset.univ))
    (fun n : Fin 512 => ∑ e : Fin 128, K (ix3 0 n e) * a (ix2 l e) + B (ix2 n q)) (fun n => V (ix3 0 d n))

theorem half : Named.named (F := Ideal) κ "half_mask" (φ := .f32) 4039766730#32 = (⊥ : EReal) :=
  IdealRules.named_const.ideal_named_scalar _ _ _ _ rfl
theorem full : Named.named (F := Ideal) κ "mask" (φ := .f32) 4048155338#32 = (⊥ : EReal) :=
  IdealRules.named_const.ideal_named_scalar _ _ _ _ rfl

/-- The kernel's power of two. -/
theorem pow2 (x : Ideal .f32) : FloatOps.exp2 (F := Ideal) (φ := .f32) x = Ideal.exp2 x := rfl

section pays

variable (B : FVec Ideal S512x512 .f32) (a b c d : FVec Ideal S128x128 .bf16) (K : FVec Ideal S1x512x128 .bf16) (V : FVec Ideal S1x128x512 .bf16)
  (r l : Fin 128)

theorem pay10_at : k0_pay10 (F := Ideal) B a b c d K V (ix2 r l) = kcell B a K V l r ⟨l.val, by omega⟩ := by
  pointwise [k0_pay10, k0_pay9, k0_pay8]
  simp only [kcell, soft, kmax, half, ninf, pow2]
theorem pay11_at : k0_pay11 (F := Ideal) B a b c d K V (ix2 r l) = kcell B b K V l r ⟨128 + l.val, by omega⟩ := by
  have h1 : ¬128 + l.val < 128 := by omega
  have h2 : 128 + l.val - 128 < 128 := by omega
  have h4 : 128 + l.val - 128 = l.val := by omega
  pointwise [h1, h2, k0_pay11, k0_pay9, k0_pay8]
  simp only [kcell, soft, kmax, half, ninf, pow2, h4]
theorem pay13_at : k0_pay13 (F := Ideal) B a b c d K V (ix2 r l) = kcell B c K V l r ⟨256 + l.val, by omega⟩ := by
  have h1 : ¬256 + l.val < 128 := by omega
  have h2 : ¬256 + l.val - 128 < 128 := by omega
  have h3 : 256 + l.val - 128 - 128 < 128 := by omega
  have h4 : 256 + l.val - 128 - 128 = l.val := by omega
  pointwise [h1, h2, h3, k0_pay13, k0_pay9, k0_pay8]
  simp only [kcell, soft, kmax, half, ninf, pow2, h4]
theorem pay14_at : k0_pay14 (F := Ideal) (k0_pay9 B a b c d K V) (ix2 r l) = kcell B d K V l r ⟨384 + l.val, by omega⟩ := by
  have h1 : ¬384 + l.val < 128 := by omega
  have h2 : ¬384 + l.val - 128 < 128 := by omega
  have h3 : ¬384 + l.val - 128 - 128 < 128 := by omega
  have h4 : 384 + l.val - 128 - 128 - 128 = l.val := by omega
  pointwise [h1, h2, h3, k0_pay14, k0_pay9, k0_pay8]
  simp only [kcell, soft, kmax, half, ninf, pow2, h4]

theorem pay70_at : k0_pay70 (F := Ideal) B a b c d K V (ix2 r l) = kcell B a K V l r ⟨l.val, by omega⟩ := pay10_at B a b c d K V r l
theorem pay71_at : k0_pay71 (F := Ideal) B a b c d K V (ix2 r l) = kcell B b K V l r ⟨128 + l.val, by omega⟩ := pay11_at B a b c d K V r l
theorem pay73_at : k0_pay73 (F := Ideal) B a b c d K V (ix2 r l) = kcell B c K V l r ⟨256 + l.val, by omega⟩ := pay13_at B a b c d K V r l
theorem pay74_at : k0_pay74 (F := Ideal) (k0_pay69 B a b c d K V) (ix2 r l) = kcell B d K V l r ⟨384 + l.val, by omega⟩ :=
  pay14_at B a b c d K V r l
theorem pay132_at : k0_pay132 (F := Ideal) B a b c d K V (ix2 r l) = kcell B a K V l r ⟨l.val, by omega⟩ := pay10_at B a b c d K V r l
theorem pay133_at : k0_pay133 (F := Ideal) B a b c d K V (ix2 r l) = kcell B b K V l r ⟨128 + l.val, by omega⟩ := pay11_at B a b c d K V r l
theorem pay135_at : k0_pay135 (F := Ideal) B a b c d K V (ix2 r l) = kcell B c K V l r ⟨256 + l.val, by omega⟩ := pay13_at B a b c d K V r l
theorem pay136_at : k0_pay136 (F := Ideal) (k0_pay131 B a b c d K V) (ix2 r l) = kcell B d K V l r ⟨384 + l.val, by omega⟩ :=
  pay14_at B a b c d K V r l
theorem pay191_at : k0_pay191 (F := Ideal) B a b c d K V (ix2 r l) = kcell B a K V l r ⟨l.val, by omega⟩ := pay10_at B a b c d K V r l
theorem pay192_at : k0_pay192 (F := Ideal) B a b c d K V (ix2 r l) = kcell B b K V l r ⟨128 + l.val, by omega⟩ := pay11_at B a b c d K V r l
theorem pay194_at : k0_pay194 (F := Ideal) B a b c d K V (ix2 r l) = kcell B c K V l r ⟨256 + l.val, by omega⟩ := pay13_at B a b c d K V r l
theorem pay195_at : k0_pay195 (F := Ideal) (k0_pay190 B a b c d K V) (ix2 r l) = kcell B d K V l r ⟨384 + l.val, by omega⟩ :=
  pay14_at B a b c d K V r l

end pays

end Cert.Kernel14Ideal.CmpAttn

end

end
-- ==== Proof.CmpSoft.lean ====
/- The compressed branch of the sparse attention: the two ways of taking the weights agree. -/
module

public import proofs.«01_k».proof.Proof.CmpPays

@[expose] public section

noncomputable section

open Idealize.ShloMosaic

namespace Cert.Kernel14Ideal.CmpAttn

open Cert.Kernel14Ideal

/-- The chosen maximum of the reference. -/
def rmax (M : EReal) : EReal := if max M (-M) < (⊤ : EReal) then M else 0

/-- A power of two is never negative. -/
theorem exp2_nonneg (x : EReal) : 0 ≤ Ideal.exp2 x := by
  induction x using EReal.rec with
  | bot => simp
  | top => simp
  | coe r => rw [Ideal.exp2_coe]; exact EReal.coe_nonneg.mpr (Real.rpow_nonneg (by norm_num) r)

/-- Two to a power, as the host writes it. -/
theorem pow_two_eq (x : EReal) : Ideal.pow ((2 : ℝ) : EReal) x = Ideal.exp2 x := by
  induction x using EReal.rec with
  | bot => rw [Ideal.pow_coe_bot, Ideal.exp2_bot, if_neg (by norm_num), if_pos (by norm_num)]
  | top => rw [Ideal.pow_coe_top, Ideal.exp2_top, if_neg (by norm_num), if_pos (by norm_num)]
  | coe r => rfl

/-- The divisor is never zero. -/
theorem den_ne (x : EReal) : max x (Ideal.ofBits FTy.f32 228737632#32) ≠ 0 :=
  (lt_of_lt_of_le tiny (le_max_right _ _)).ne'

/-- Nothing divided by the divisor is nothing. -/
theorem div_zero_den (x : EReal) : Ideal.div 0 (max x (Ideal.ofBits FTy.f32 228737632#32)) = 0 := by
  unfold Ideal.div
  rw [if_neg (den_ne x), zero_mul]

/-- The largest of finitely many is their least upper bound. -/
theorem fold_sup {n : ℕ} (s : Fin n → EReal) : Finset.fold max (⊥ : EReal) s Finset.univ = Finset.univ.sup s := rfl

/-- A key that is masked everywhere changes nothing. -/
theorem soft_last {n : ℕ} (N : EReal) (s v : Fin (n + 1) → EReal) (h : s (Fin.last n) = ⊥) :
    soft N s v = soft N (fun k => s k.castSucc) (fun k => v k.castSucc) := by
  unfold soft
  rw [Fin.sum_univ_castSucc]
  simp only [Fin.sum_univ_castSucc (f := fun j => Ideal.exp2 (s j - N)), h, EReal.bot_sub, Ideal.exp2_bot, add_zero, div_zero_den, mul_zero]

/-- … nor the largest score. -/
theorem sup_last {n : ℕ} (s : Fin (n + 1) → EReal) (h : s (Fin.last n) = ⊥) :
    Finset.univ.sup s = Finset.univ.sup (fun k : Fin n => s k.castSucc) := by
  refine le_antisymm (Finset.sup_le fun k _ => ?_) (Finset.sup_le fun k _ => Finset.le_sup (f := s) (Finset.mem_univ _))
  refine Fin.lastCases ?_ (fun j => ?_) k
  · rw [h]; exact bot_le
  · exact Finset.le_sup (f := fun k : Fin n => s k.castSucc) (Finset.mem_univ j)

/-- The two choices of the number subtracted give the same weighted sum. -/
theorem soft_max {n : ℕ} (s v : Fin n → EReal) :
    soft (kmax (Finset.univ.sup s)) s v = soft (rmax (Finset.univ.sup s)) s v := by
  by_cases ht : Finset.univ.sup s = ⊤
  · have hk : kmax (Finset.univ.sup s) = ⊤ := by rw [ht]; exact if_pos bot_lt_top
    have hr : rmax (Finset.univ.sup s) = 0 := by
      rw [ht]; exact if_neg (by rw [not_lt]; exact le_max_left _ _)
    rw [hk, hr]
    have hb : ∀ x : EReal, x - ⊤ = ⊥ := fun x => by rw [sub_eq_add_neg, EReal.neg_top, EReal.add_bot]
    have hl : soft ⊤ s v = 0 := by
      unfold soft
      simp only [hb, Ideal.exp2_bot, div_zero_den, mul_zero, Finset.sum_const_zero]
    rw [hl]
    obtain ⟨k, hk'⟩ : ∃ k, s k = ⊤ := by
      by_contra hn
      have hlt : Finset.univ.sup s < ⊤ := (Finset.sup_lt_iff bot_lt_top).mpr fun k _ => lt_top_iff_ne_top.mpr fun e => hn ⟨k, e⟩
      exact absurd ht hlt.ne
    have hs : ∑ j, Ideal.exp2 (s j - 0) = ⊤ := by
      refine top_le_iff.mp ?_
      have := Finset.single_le_sum (f := fun j => Ideal.exp2 (s j - 0)) (fun j _ => exp2_nonneg _) (Finset.mem_univ k)
      simpa only [hk', sub_zero, Ideal.exp2_top] using this
    unfold soft
    rw [hs, max_eq_left le_top]
    refine (Finset.sum_eq_zero fun j _ => ?_).symm
    unfold Ideal.div
    rw [if_neg EReal.top_ne_zero, EReal.inv_top, mul_zero, mul_zero]
  · have : kmax (Finset.univ.sup s) = rmax (Finset.univ.sup s) := by
      generalize Finset.univ.sup s = M at ht ⊢
      induction M using EReal.rec with
      | bot => unfold kmax rmax; rw [if_neg (lt_irrefl _), if_neg (by simp)]
      | top => exact absurd rfl ht
      | coe r =>
        unfold kmax rmax
        rw [if_pos (EReal.bot_lt_coe r), if_pos (max_lt (EReal.coe_lt_top r) (by rw [← EReal.coe_neg]; exact EReal.coe_lt_top _))]
    rw [this]

/-- The kernel's weighted sum over one key more is the reference's. -/
theorem soft_eq {n : ℕ} (s v : Fin (n + 1) → EReal) (h : s (Fin.last n) = ⊥) :
    soft (kmax (Finset.fold max (⊥ : EReal) s Finset.univ)) s v
      = soft (rmax (Finset.fold max (⊥ : EReal) (fun k : Fin n => s k.castSucc) Finset.univ)) (fun k => s k.castSucc) (fun k => v k.castSucc) := by
  rw [fold_sup, fold_sup, ← soft_max, soft_last _ s v h, sup_last s h]

/-- A block of keys is seen from a position once it has ended. -/
def seen (n T : ℕ) : Prop := n * 16 + 31 ≤ T

instance (n T : ℕ) : Decidable (seen n T) := Nat.decLe _ _

/-- A choice by a comparison. -/
theorem pick (p : Prop) [Decidable p] (a b : EReal) : Scalar.select (if p then 1#1 else 0#1) a b = if p then a else b := by
  by_cases h : p
  · rw [if_pos h, if_pos h]; rfl
  · rw [if_neg h, if_neg h]; rfl

/-- The score of a block of keys from a position, for a head. -/
def score (X : FVec Ideal S8192x5120 .bf16) (C : FVec Ideal S4x512x128 .bf16) (h : Fin 16) (T : Fin 8192) (n : Fin 512) : EReal :=
  if seen n.val T.val then ∑ e : Fin 128, C (ix3 ⟨h.val / 4, by omega⟩ n e) * X (ix2 T ⟨h.val * 128 + e.val, by omega⟩) else ⊥

/-- The kernel's cell of the result. -/
def cell (X : FVec Ideal S8192x5120 .bf16) (C W : FVec Ideal S4x512x128 .bf16) (h : Fin 16) (T : Fin 8192) (d : Fin 128) : EReal :=
  soft (kmax (Finset.fold max (⊥ : EReal) (score X C h T) Finset.univ)) (score X C h T) (fun n => W (ix3 ⟨h.val / 4, by omega⟩ n d))

end Cert.Kernel14Ideal.CmpAttn

end

end
-- ==== Proof.CmpRef.lean ====
/- The compressed branch of the sparse attention: the reference's result at an index. -/
module

public import proofs.«01_k».proof.Proof.Gen.Reference14Ideal.Run
public import proofs.«01_k».proof.Proof.Gen.Reference14Ideal.Read
public import proofs.«01_k».proof.Proof.CmpSoft
public import Idealize.ShloMosaic.Lib.Pipeline.ValueKit

@[expose] public section

set_option maxRecDepth 16384

noncomputable section

open Idealize.ShloMosaic Idealize.ShloMosaic.TcCoe Idealize.SL.Sem

namespace Cert.Kernel14Ideal.CmpAttn

open Cert.Kernel14Ideal Cert.Reference14Ideal.Read

/-- The reference's comparison. -/
theorem ref_bit (T : Fin 8192) (n : Fin 511) :
    (val_main_v25 (F := Ideal) : IVec Cert.Reference14Ideal.S8192x511 1) (ix2 T n) = if seen n.val T.val then 1#1 else 0#1 := by
  pointwise [val_main_v25, val_main_v24, val_main_v23, val_main_v22, val_main_v21, val_main_v7, val_main_v6, val_main_v5, val_main_v4,
    val_main_v3, val_main_v2, val_main_v1, val_main_v0, val_main_c, val_main_c_0, val_main_c_1]
  have e1 : (BitVec.ofNat 32 n.val * 16#32 + 32#32 - 1#32) = BitVec.ofNat 32 (n.val * 16 + 31) := by
    apply BitVec.eq_of_toNat_eq
    simp only [BitVec.toNat_add, BitVec.toNat_sub, BitVec.toNat_mul, BitVec.toNat_ofNat]
    omega
  show BitVec.ofBool ((BitVec.ofNat 32 n.val * 16#32 + 32#32 - 1#32).sle (BitVec.ofNat 32 T.val)) = _
  rw [e1]
  have hi : (BitVec.ofNat 32 (n.val * 16 + 31)).sle (BitVec.ofNat 32 T.val) = decide (seen n.val T.val) := by
    rw [Bool.eq_iff_iff, BitVec.sle_iff_toInt_le, BitVec.toInt_eq_toNat_of_lt (by simp only [BitVec.toNat_ofNat]; omega),
      BitVec.toInt_eq_toNat_of_lt (by simp only [BitVec.toNat_ofNat]; omega), decide_eq_true_iff]
    simp only [BitVec.toNat_ofNat, seen]
    omega
  rw [hi]
  by_cases h : seen n.val T.val
  · rw [decide_eq_true h, if_pos h]; rfl
  · rw [decide_eq_false h, if_neg h]; rfl

variable (X : FVec Ideal S8192x5120 .bf16) (C W : FVec Ideal S4x512x128 .bf16) (g j : Fin 4) (T : Fin 8192) (n : Fin 511) (d : Fin 128)

/-- The reference's masked score as an extended real. -/
abbrev rs (n : Fin 511) : EReal := (val_main_v26 (F := Ideal) X C : FVec Ideal Cert.Reference14Ideal.S1x4x4x8192x511 .f32) (ix5 0 g j T n)

/-- The reference's masked scores. -/
theorem ref_score : rs X C g j T n = score X C ⟨g.val * 4 + j.val, by omega⟩ T n.castSucc := by
  have hd : (val_main_v20 (F := Ideal) X C : FVec Ideal Cert.Reference14Ideal.S1x4x4x8192x511 .f32) (ix5 0 g j T n)
      = ∑ e : Fin 128, C (ix3 g ⟨n.val, by omega⟩ e) * X (ix2 T ⟨(g.val * 4 + j.val) * 128 + e.val, by omega⟩) := by
    pointwise [val_main_v20, val_main_v19, val_main_v14, val_main_v13, val_main_v12, val_main_v11, val_main_v10, val_main_v9, val_main_v8]
    refine Finset.sum_congr rfl fun e _ => congrArg (fun p : Fin 5120 => C (ix3 g ⟨n.val, by omega⟩ e) * X (ix2 T p)) (Fin.ext ?_)
    show g.val * 512 + j.val * 128 + e.val = (g.val * 4 + j.val) * 128 + e.val
    omega
  unfold rs
  pointwise [val_main_v26, val_main_call0_v1, val_main_call0_v2, val_main_call0_v0, val_main_cst]
  rw [ref_bit, hd]
  refine (pick _ _ _).trans ?_
  unfold score
  refine if_congr Iff.rfl ?_ ninf
  refine Finset.sum_congr rfl fun e _ => congrArg (fun p : Fin 4 => C (ix3 p ⟨n.val, by omega⟩ e) * X (ix2 T ⟨(g.val * 4 + j.val) * 128 + e.val, by omega⟩)) (Fin.ext ?_)
  show g.val = (g.val * 4 + j.val) / 4
  omega

/-- The largest of the reference's scores. -/
theorem ref_sup : ((val_main_v27 (F := Ideal) X C : FVec Ideal Cert.Reference14Ideal.S1x4x4x8192 .f32) (ix4 0 g j T) : EReal)
    = Finset.fold max (⊥ : EReal) (rs X C g j T) Finset.univ := by
  unfold val_main_v27 rs
  generalize val_main_v26 (F := Ideal) X C = y
  refine (Host.reduce_eq_fold_single (max : EReal → EReal → EReal) y (val_main_cst_2 (F := Ideal))
    Cert.Reference14Ideal.Gen.reducesTo_S1x4x4x8192x511_S1x4x4x8192_d4 (by decide) Cert.Reference14Ideal.Gen.h_S_ (ix4 0 g j T)).trans ?_
  refine congrArg₂ (fun (b : EReal) (f : Fin 511 → EReal) => Finset.fold max b f Finset.univ) ninf (funext fun k => ?_)
  exact congrArg y (funext fun a => Fin.ext (by match a with | ⟨0, _⟩ => rfl | ⟨1, _⟩ => rfl | ⟨2, _⟩ => rfl | ⟨3, _⟩ => rfl | ⟨4, _⟩ => rfl))

/-- The number the reference subtracts. -/
theorem ref_max : ((val_main_v32 (F := Ideal) X C : FVec Ideal Cert.Reference14Ideal.S1x4x4x8192x1 .f32) (ix5 0 g j T 0) : EReal)
    = rmax (Finset.fold max (⊥ : EReal) (rs X C g j T) Finset.univ) := by
  rw [← ref_sup]
  rw [val_main_v32_apply, val_main_v31_apply, val_main_v30_apply, val_main_v29_apply, val_main_v28_apply, val_main_cst_3_apply,
    val_main_call1_v1_apply, val_main_call1_v0_apply, val_main_cst_4_apply, show idx_main_v28 (ix5 0 g j T 0) = ix4 0 g j T from
      funext fun a => match a with | ⟨0, _⟩ => rfl | ⟨1, _⟩ => rfl | ⟨2, _⟩ => rfl | ⟨3, _⟩ => rfl]
  generalize (val_main_v27 (F := Ideal) X C : FVec Ideal Cert.Reference14Ideal.S1x4x4x8192 .f32) (ix4 0 g j T) = M
  have hz : Ideal.ofBits FTy.f32 0#32 = (0 : EReal) := by simp [Ideal.ofBits, Ideal.ieee]
  rw [Ideal.hostAbsf_def, Ideal.ofBits_def, Ideal.ofBits_def, pinf, hz]
  pointwise []
  rfl

/-- The reference's powers of two. -/
theorem ref_pow : ((val_main_v36 (F := Ideal) X C : FVec Ideal Cert.Reference14Ideal.S1x4x4x8192x511 .f32) (ix5 0 g j T n) : EReal)
    = Ideal.exp2 (rs X C g j T n - (val_main_v32 (F := Ideal) X C : FVec Ideal Cert.Reference14Ideal.S1x4x4x8192x1 .f32) (ix5 0 g j T 0)) := by
  rw [← pow_two_eq, ← two]
  pointwise [val_main_v36, val_main_v35, val_main_v34, val_main_v33, val_main_cst_5]

/-- The reference's divisor. -/
theorem ref_den : ((val_main_v40 (F := Ideal) X C : FVec Ideal Cert.Reference14Ideal.S1x4x4x8192x1 .f32) (ix5 0 g j T 0) : EReal)
    = max (∑ n : Fin 511, (val_main_v36 (F := Ideal) X C : FVec Ideal Cert.Reference14Ideal.S1x4x4x8192x511 .f32) (ix5 0 g j T n))
        (Ideal.ofBits FTy.f32 228737632#32) := by
  pointwise [val_main_v40, val_main_v39, val_main_v38, val_main_v37, val_main_cst_6, val_main_cst_7]

/-- The reference's weights. -/
theorem ref_quot : ((val_main_v42 (F := Ideal) X C : FVec Ideal Cert.Reference14Ideal.S1x4x4x8192x511 .f32) (ix5 0 g j T n) : EReal)
    = Ideal.div ((val_main_v36 (F := Ideal) X C : FVec Ideal Cert.Reference14Ideal.S1x4x4x8192x511 .f32) (ix5 0 g j T n))
        ((val_main_v40 (F := Ideal) X C : FVec Ideal Cert.Reference14Ideal.S1x4x4x8192x1 .f32) (ix5 0 g j T 0)) := by
  pointwise [val_main_v42, val_main_v41]

/-- The reference's weighted values. -/
theorem ref_dot : ((val_main_v43 (F := Ideal) X C W : FVec Ideal Cert.Reference14Ideal.S1x4x128x4x8192 .f32) (ix5 0 g d j T) : EReal)
    = ∑ n : Fin 511, W (ix3 g ⟨n.val, by omega⟩ d)
        * (val_main_v42 (F := Ideal) X C : FVec Ideal Cert.Reference14Ideal.S1x4x4x8192x511 .f32) (ix5 0 g j T n) := by
  pointwise [val_main_v43, val_main_v18, val_main_v17, val_main_v16, val_main_v15]

/-- The reference's layout. -/
theorem ref_lay : (val_main_v46 (F := Ideal) X C W : FVec Ideal S2048x8192 .f32) (ix2 ⟨(g.val * 4 + j.val) * 128 + d.val, by omega⟩ T)
    = (val_main_v43 (F := Ideal) X C W : FVec Ideal Cert.Reference14Ideal.S1x4x128x4x8192 .f32) (ix5 0 g d j T) := by
  pointwise [val_main_v46, val_main_v45, val_main_v44]

/-- The reference's result, by head, feature and position. -/
theorem ref_at : (val_main_v46 (F := Ideal) X C W : FVec Ideal S2048x8192 .f32) (ix2 ⟨(g.val * 4 + j.val) * 128 + d.val, by omega⟩ T)
    = soft (rmax (Finset.fold max (⊥ : EReal) (rs X C g j T) Finset.univ)) (rs X C g j T) (fun n : Fin 511 => W (ix3 g ⟨n.val, by omega⟩ d)) := by
  rw [ref_lay, ref_dot]
  unfold soft
  simp only [ref_quot, ref_den, ref_pow, ref_max]

/-- The reference's result is the kernel's cell. -/
theorem ref_cell : (val_main_v46 (F := Ideal) X C W : FVec Ideal S2048x8192 .f32) (ix2 ⟨(g.val * 4 + j.val) * 128 + d.val, by omega⟩ T)
    = cell X C W ⟨g.val * 4 + j.val, by omega⟩ T d := by
  have hl : score X C ⟨g.val * 4 + j.val, by omega⟩ T (Fin.last 511) = ⊥ := by
    unfold score
    refine if_neg fun h => ?_
    have h' : 511 * 16 + 31 ≤ T.val := h
    omega
  rw [ref_at]
  unfold cell
  rw [soft_eq (n := 511) _ _ hl]
  have hr : rs X C g j T = fun n : Fin 511 => score X C ⟨g.val * 4 + j.val, by omega⟩ T n.castSucc := funext fun n => ref_score X C g j T n
  have hw : (fun n : Fin 511 => (W (ix3 g ⟨n.val, by omega⟩ d) : EReal))
      = fun n : Fin 511 => W (ix3 ⟨(g.val * 4 + j.val) / 4, by omega⟩ n.castSucc d) := by
    funext n
    refine congrArg (fun p : Fin 4 => W (ix3 p ⟨n.val, by omega⟩ d)) (Fin.ext ?_)
    show g.val = (g.val * 4 + j.val) / 4
    omega
  rw [hr, hw]

end Cert.Kernel14Ideal.CmpAttn

end

end
-- ==== Proof.CmpAttn.lean ====
/- The compressed branch of the sparse attention: what the kernel leaves is the reference's result. -/
module

public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.CmpPays
public import proofs.«01_k».proof.Proof.CmpSoft
public import proofs.«01_k».proof.Proof.CmpRef
public import Idealize.ShloMosaic.Lib.Pipeline.ValueKit
public import Idealize.ShloMosaic.Lib.Pipeline.ReadBack
public import Idealize.ShloMosaic.Lib.StableHlo.ReadAt

@[expose] public section

set_option maxRecDepth 16384

noncomputable section

open Idealize.ShloMosaic Idealize.ShloMosaic.TcCoe Idealize.SL.Sem

namespace Cert.Kernel14Ideal.CmpAttn

open Cert.Kernel14Ideal Cert.Kernel14Ideal.Gen Cert.Reference14Ideal.Read

variable (m : (ℓ : Loc nD τ sig) → Buf (Elt Ideal) ℓ)

theorem lt64 (t : Fin cfg0.N) : t.val < 64 := lt_of_lt_of_eq t.isLt N_0

/-- The projected rows as launched. -/
abbrev pc (c : Dev nD) : FVec Ideal S8192x5120 .bf16 := m ((c.tc : Thread nD τ).loc main_arg0)
/-- The compressed keys as launched. -/
abbrev ck (c : Dev nD) : FVec Ideal S4x512x128 .bf16 := m ((c.tc : Thread nD τ).loc main_arg1)
/-- The compressed values as launched. -/
abbrev cv (c : Dev nD) : FVec Ideal S4x512x128 .bf16 := m ((c.tc : Thread nD τ).loc main_arg2)

/-- The block indices of the windows at every point, and the point's number. -/
theorem idx : ∀ t : Fin cfg0.N, win0_0.index t = ![t.val, 0] ∧ win0_1.index t = ![0, 0, 0] ∧ win0_2.index t = ![0, 0, 0]
    ∧ win0_4.index t = ![0, t.val] :=
  (by decide +kernel : ∀ t : Fin grid0.N, _)

theorem coord : ∀ t : Fin cfg0.N, (grid0.coords t 0).val = t.val :=
  (by decide +kernel : ∀ t : Fin grid0.N, _)

/-- The queries' block at a point. -/
theorem q_at (c : Dev nD) (t : Fin cfg0.N) (r : Fin 128) (e : Fin 2048) :
    (X0_0 m c t : FVec Ideal S128x2048 .bf16) (ix2 r e)
      = pc m c (ix2 ⟨t.val * 128 + r.val, by have := lt64 t; omega⟩ ⟨e.val, by omega⟩) := by
  unfold X0_0 Pipeline.Window.fill
  rw [dif_pos (moved0_0 t _)]
  blk_ext [iblk, V, idx t]

/-- The keys at a point. -/
theorem k_at (c : Dev nD) (t : Fin cfg0.N) (g : Fin 4) (n : Fin 512) (e : Fin 128) :
    (iblk m c 1 t : FVec Ideal S4x512x128 .bf16) (ix3 g n e) = ck m c (ix3 g n e) := by
  blk_ext [iblk, V, idx t]

/-- The values as the host turns them. -/
theorem V_v (c : Dev nD) (g : Fin 4) (d : Fin 128) (n : Fin 512) :
    (V m c main_v27 : FVec Ideal S4x128x512 .bf16) (ix3 g d n) = cv m c (ix3 g n d) := by
  unfold V
  simp only [hostOps0, List.flatten_cons, List.flatten_nil, List.append_nil, List.cons_append, List.nil_append]
  after_reads_at

/-- The values at a point. -/
theorem v_at (c : Dev nD) (t : Fin cfg0.N) (g : Fin 4) (d : Fin 128) (n : Fin 512) :
    (iblk m c 2 t : FVec Ideal S4x128x512 .bf16) (ix3 g d n) = cv m c (ix3 g n d) := by
  refine Eq.trans ?_ (V_v m c g d n)
  blk_ext [iblk, idx t]

/-- The kernel's comparison. -/
theorem bit (t : Fin cfg0.N) (n : Fin 512) (l : Fin 128) :
    IntOp.cmpi CmpIPredicate.sle (IntOp.addi (IntOp.muli (BitVec.ofNat 32 n.val) 16#32) 31#32)
        (IntOp.addi (Scalar.muli (BitVec.ofNat 32 (grid0.coords t 0).val) 128#32) (BitVec.ofNat 32 l.val))
      = if seen n.val (t.val * 128 + l.val) then 1#1 else 0#1 := by
  have ht := lt64 t
  rw [coord t]
  have e1 : (BitVec.ofNat 32 n.val * 16#32 + 31#32) = BitVec.ofNat 32 (n.val * 16 + 31) := by
    apply BitVec.eq_of_toNat_eq
    simp only [BitVec.toNat_add, BitVec.toNat_mul, BitVec.toNat_ofNat]
    omega
  have e2 : (BitVec.ofNat 32 t.val * 128#32 + BitVec.ofNat 32 l.val) = BitVec.ofNat 32 (t.val * 128 + l.val) := by
    apply BitVec.eq_of_toNat_eq
    simp only [BitVec.toNat_add, BitVec.toNat_mul, BitVec.toNat_ofNat]
    omega
  show BitVec.ofBool ((BitVec.ofNat 32 n.val * 16#32 + 31#32).sle (BitVec.ofNat 32 t.val * 128#32 + BitVec.ofNat 32 l.val)) = _
  rw [e1, e2]
  have hi : (BitVec.ofNat 32 (n.val * 16 + 31)).sle (BitVec.ofNat 32 (t.val * 128 + l.val)) = decide (seen n.val (t.val * 128 + l.val)) := by
    rw [Bool.eq_iff_iff, BitVec.sle_iff_toInt_le, BitVec.toInt_eq_toNat_of_lt (by simp only [BitVec.toNat_ofNat]; omega),
      BitVec.toInt_eq_toNat_of_lt (by simp only [BitVec.toNat_ofNat]; omega), decide_eq_true_iff]
    simp only [BitVec.toNat_ofNat, seen]
    omega
  rw [hi]
  by_cases h : seen n.val (t.val * 128 + l.val)
  · rw [decide_eq_true h, if_pos h]; rfl
  · rw [decide_eq_false h, if_neg h]; rfl

/-- The kernel's mask, the same for the four heads of a group. -/
theorem bias0 (t : Fin cfg0.N) (n : Fin 512) (l : Fin 128) :
    k0_pay2 (F := Ideal) (grid0.coords t) (ix2 n ⟨l.val, by omega⟩) = if seen n.val (t.val * 128 + l.val) then (0 : EReal) else ⊥ := by
  pointwise [k0_pay2]
  rw [bit, full, pick]
theorem bias1 (t : Fin cfg0.N) (n : Fin 512) (l : Fin 128) :
    k0_pay2 (F := Ideal) (grid0.coords t) (ix2 n ⟨128 + l.val, by omega⟩) = if seen n.val (t.val * 128 + l.val) then (0 : EReal) else ⊥ := by
  have h1 : ¬128 + l.val < 128 := by omega
  have h2 : 128 + l.val - 128 < 128 := by omega
  have h4 : 128 + l.val - 128 = l.val := by omega
  pointwise [h1, h2, h4, k0_pay2]
  rw [bit, full, pick]
theorem bias2 (t : Fin cfg0.N) (n : Fin 512) (l : Fin 128) :
    k0_pay2 (F := Ideal) (grid0.coords t) (ix2 n ⟨256 + l.val, by omega⟩) = if seen n.val (t.val * 128 + l.val) then (0 : EReal) else ⊥ := by
  have h1 : ¬256 + l.val < 128 := by omega
  have h2 : ¬256 + l.val - 128 < 128 := by omega
  have h3 : 256 + l.val - 128 - 128 < 128 := by omega
  have h4 : 256 + l.val - 128 - 128 = l.val := by omega
  pointwise [h1, h2, h3, h4, k0_pay2]
  rw [bit, full, pick]
theorem bias3 (t : Fin cfg0.N) (n : Fin 512) (l : Fin 128) :
    k0_pay2 (F := Ideal) (grid0.coords t) (ix2 n ⟨384 + l.val, by omega⟩) = if seen n.val (t.val * 128 + l.val) then (0 : EReal) else ⊥ := by
  have h1 : ¬384 + l.val < 128 := by omega
  have h2 : ¬384 + l.val - 128 < 128 := by omega
  have h3 : ¬384 + l.val - 128 - 128 < 128 := by omega
  have h4 : 384 + l.val - 128 - 128 - 128 = l.val := by omega
  pointwise [h1, h2, h3, h4, k0_pay2]
  rw [bit, full, pick]

/-- A head's cell from the pieces of the blocks it reads. -/
theorem kcell_eq (c : Dev nD) (t : Fin cfg0.N) (h : Fin 16) (a : FVec Ideal S128x128 .bf16) (K : FVec Ideal S1x512x128 .bf16)
    (V : FVec Ideal S1x128x512 .bf16) (l d : Fin 128) (q : Fin 512)
    (hq : ∀ n : Fin 512, k0_pay2 (F := Ideal) (grid0.coords t) (ix2 n q) = if seen n.val (t.val * 128 + l.val) then (0 : EReal) else ⊥)
    (ha : ∀ e : Fin 128, a (ix2 l e) = (X0_0 m c t : FVec Ideal S128x2048 .bf16) (ix2 l ⟨h.val * 128 + e.val, by omega⟩))
    (hK : ∀ (n : Fin 512) (e : Fin 128), K (ix3 0 n e) = (iblk m c 1 t : FVec Ideal S4x512x128 .bf16) (ix3 ⟨h.val / 4, by omega⟩ n e))
    (hV : ∀ n : Fin 512, V (ix3 0 d n) = (iblk m c 2 t : FVec Ideal S4x128x512 .bf16) (ix3 ⟨h.val / 4, by omega⟩ d n)) :
    kcell (k0_pay2 (F := Ideal) (grid0.coords t)) a K V l d q
      = cell (pc m c) (ck m c) (cv m c) h ⟨t.val * 128 + l.val, by have := lt64 t; omega⟩ d := by
  have hs : (fun n : Fin 512 => ∑ e : Fin 128, K (ix3 0 n e) * a (ix2 l e) + k0_pay2 (F := Ideal) (grid0.coords t) (ix2 n q))
      = score (pc m c) (ck m c) h ⟨t.val * 128 + l.val, by have := lt64 t; omega⟩ := by
    funext n
    simp only [hq, ha, hK, q_at, k_at]
    unfold score
    by_cases hn : seen n.val (t.val * 128 + l.val)
    · rw [if_pos hn, if_pos hn, add_zero]
    · rw [if_neg hn, if_neg hn, EReal.add_bot]
  have hv : (fun n : Fin 512 => (V (ix3 0 d n) : EReal)) = fun n => cv m c (ix3 ⟨h.val / 4, by omega⟩ n d) := by
    funext n
    rw [hV, v_at]
  unfold kcell cell
  rw [hs, hv]

theorem idx_eta (x : S128x128.Idx) : x = ix2 (x 0) (x 1) := by
  funext a
  match a with
  | ⟨0, _⟩ => rfl
  | ⟨1, _⟩ => rfl

/-- The block a point writes, at a head's position and feature. -/
theorem out_at (c : Dev nD) (t : Fin cfg0.N) (h : Fin 16) (d r : Fin 128) :
    ((outsAt0 m c t).1 : FVec Ideal S2048x128 .f32) (ix2 ⟨h.val * 128 + d.val, by omega⟩ r)
      = cell (pc m c) (ck m c) (cv m c) h ⟨t.val * 128 + r.val, by have := lt64 t; omega⟩ d := by
  unfold outsAt0
  dsimp only
  unfold out0_A_4
  frame_open
  frame_out
  canon_tiles x h
  case piece0 =>
    have g0 : h.val * 128 + d.val = 1920 + (x 0).val := h0.trans (by omega)
    obtain rfl : h = 15 := Fin.ext (by show h.val = 15; omega)
    obtain rfl : d = x 0 := Fin.ext (by have g1 : 15 * 128 + d.val = 1920 + (x 0).val := g0; omega)
    obtain rfl : r = x 1 := Fin.ext h1
    refine (congrArg _ (idx_eta x)).trans ((pay195_at _ _ _ _ _ _ _ _ _).trans (kcell_eq m c t 15 _ _ _ _ _ _ (fun n => bias3 t n (x 1)) ?_ ?_ ?_))
    · intro e; pointwise []
    · intro n e; pointwise []
    · intro n; pointwise []
  case piece1 =>
    have g0 : h.val * 128 + d.val = 1792 + (x 0).val := h0.trans (by omega)
    obtain rfl : h = 14 := Fin.ext (by show h.val = 14; omega)
    obtain rfl : d = x 0 := Fin.ext (by have g1 : 14 * 128 + d.val = 1792 + (x 0).val := g0; omega)
    obtain rfl : r = x 1 := Fin.ext h1
    refine (congrArg _ (idx_eta x)).trans ((pay194_at _ _ _ _ _ _ _ _ _).trans (kcell_eq m c t 14 _ _ _ _ _ _ (fun n => bias2 t n (x 1)) ?_ ?_ ?_))
    · intro e; pointwise []
    · intro n e; pointwise []
    · intro n; pointwise []
  case piece2 =>
    have g0 : h.val * 128 + d.val = 1664 + (x 0).val := h0.trans (by omega)
    obtain rfl : h = 13 := Fin.ext (by show h.val = 13; omega)
    obtain rfl : d = x 0 := Fin.ext (by have g1 : 13 * 128 + d.val = 1664 + (x 0).val := g0; omega)
    obtain rfl : r = x 1 := Fin.ext h1
    refine (congrArg _ (idx_eta x)).trans ((pay192_at _ _ _ _ _ _ _ _ _).trans (kcell_eq m c t 13 _ _ _ _ _ _ (fun n => bias1 t n (x 1)) ?_ ?_ ?_))
    · intro e; pointwise []
    · intro n e; pointwise []
    · intro n; pointwise []
  case piece3 =>
    have g0 : h.val * 128 + d.val = 1536 + (x 0).val := h0.trans (by omega)
    obtain rfl : h = 12 := Fin.ext (by show h.val = 12; omega)
    obtain rfl : d = x 0 := Fin.ext (by have g1 : 12 * 128 + d.val = 1536 + (x 0).val := g0; omega)
    obtain rfl : r = x 1 := Fin.ext h1
    refine (congrArg _ (idx_eta x)).trans ((pay191_at _ _ _ _ _ _ _ _ _).trans (kcell_eq m c t 12 _ _ _ _ _ _ (fun n => bias0 t n (x 1)) ?_ ?_ ?_))
    · intro e; pointwise []
    · intro n e; pointwise []
    · intro n; pointwise []
  case piece4 =>
    have g0 : h.val * 128 + d.val = 1408 + (x 0).val := h0.trans (by omega)
    obtain rfl : h = 11 := Fin.ext (by show h.val = 11; omega)
    obtain rfl : d = x 0 := Fin.ext (by have g1 : 11 * 128 + d.val = 1408 + (x 0).val := g0; omega)
    obtain rfl : r = x 1 := Fin.ext h1
    refine (congrArg _ (idx_eta x)).trans ((pay136_at _ _ _ _ _ _ _ _ _).trans (kcell_eq m c t 11 _ _ _ _ _ _ (fun n => bias3 t n (x 1)) ?_ ?_ ?_))
    · intro e; pointwise []
    · intro n e; pointwise []
    · intro n; pointwise []
  case piece5 =>
    have g0 : h.val * 128 + d.val = 1280 + (x 0).val := h0.trans (by omega)
    obtain rfl : h = 10 := Fin.ext (by show h.val = 10; omega)
    obtain rfl : d = x 0 := Fin.ext (by have g1 : 10 * 128 + d.val = 1280 + (x 0).val := g0; omega)
    obtain rfl : r = x 1 := Fin.ext h1
    refine (congrArg _ (idx_eta x)).trans ((pay135_at _ _ _ _ _ _ _ _ _).trans (kcell_eq m c t 10 _ _ _ _ _ _ (fun n => bias2 t n (x 1)) ?_ ?_ ?_))
    · intro e; pointwise []
    · intro n e; pointwise []
    · intro n; pointwise []
  case piece6 =>
    have g0 : h.val * 128 + d.val = 1152 + (x 0).val := h0.trans (by omega)
    obtain rfl : h = 9 := Fin.ext (by show h.val = 9; omega)
    obtain rfl : d = x 0 := Fin.ext (by have g1 : 9 * 128 + d.val = 1152 + (x 0).val := g0; omega)
    obtain rfl : r = x 1 := Fin.ext h1
    refine (congrArg _ (idx_eta x)).trans ((pay133_at _ _ _ _ _ _ _ _ _).trans (kcell_eq m c t 9 _ _ _ _ _ _ (fun n => bias1 t n (x 1)) ?_ ?_ ?_))
    · intro e; pointwise []
    · intro n e; pointwise []
    · intro n; pointwise []
  case piece7 =>
    have g0 : h.val * 128 + d.val = 1024 + (x 0).val := h0.trans (by omega)
    obtain rfl : h = 8 := Fin.ext (by show h.val = 8; omega)
    obtain rfl : d = x 0 := Fin.ext (by have g1 : 8 * 128 + d.val = 1024 + (x 0).val := g0; omega)
    obtain rfl : r = x 1 := Fin.ext h1
    refine (congrArg _ (idx_eta x)).trans ((pay132_at _ _ _ _ _ _ _ _ _).trans (kcell_eq m c t 8 _ _ _ _ _ _ (fun n => bias0 t n (x 1)) ?_ ?_ ?_))
    · intro e; pointwise []
    · intro n e; pointwise []
    · intro n; pointwise []
  case piece8 =>
    have g0 : h.val * 128 + d.val = 896 + (x 0).val := h0.trans (by omega)
    obtain rfl : h = 7 := Fin.ext (by show h.val = 7; omega)
    obtain rfl : d = x 0 := Fin.ext (by have g1 : 7 * 128 + d.val = 896 + (x 0).val := g0; omega)
    obtain rfl : r = x 1 := Fin.ext h1
    refine (congrArg _ (idx_eta x)).trans ((pay74_at _ _ _ _ _ _ _ _ _).trans (kcell_eq m c t 7 _ _ _ _ _ _ (fun n => bias3 t n (x 1)) ?_ ?_ ?_))
    · intro e; pointwise []
    · intro n e; pointwise []
    · intro n; pointwise []
  case piece9 =>
    have g0 : h.val * 128 + d.val = 768 + (x 0).val := h0.trans (by omega)
    obtain rfl : h = 6 := Fin.ext (by show h.val = 6; omega)
    obtain rfl : d = x 0 := Fin.ext (by have g1 : 6 * 128 + d.val = 768 + (x 0).val := g0; omega)
    obtain rfl : r = x 1 := Fin.ext h1
    refine (congrArg _ (idx_eta x)).trans ((pay73_at _ _ _ _ _ _ _ _ _).trans (kcell_eq m c t 6 _ _ _ _ _ _ (fun n => bias2 t n (x 1)) ?_ ?_ ?_))
    · intro e; pointwise []
    · intro n e; pointwise []
    · intro n; pointwise []
  case piece10 =>
    have g0 : h.val * 128 + d.val = 640 + (x 0).val := h0.trans (by omega)
    obtain rfl : h = 5 := Fin.ext (by show h.val = 5; omega)
    obtain rfl : d = x 0 := Fin.ext (by have g1 : 5 * 128 + d.val = 640 + (x 0).val := g0; omega)
    obtain rfl : r = x 1 := Fin.ext h1
    refine (congrArg _ (idx_eta x)).trans ((pay71_at _ _ _ _ _ _ _ _ _).trans (kcell_eq m c t 5 _ _ _ _ _ _ (fun n => bias1 t n (x 1)) ?_ ?_ ?_))
    · intro e; pointwise []
    · intro n e; pointwise []
    · intro n; pointwise []
  case piece11 =>
    have g0 : h.val * 128 + d.val = 512 + (x 0).val := h0.trans (by omega)
    obtain rfl : h = 4 := Fin.ext (by show h.val = 4; omega)
    obtain rfl : d = x 0 := Fin.ext (by have g1 : 4 * 128 + d.val = 512 + (x 0).val := g0; omega)
    obtain rfl : r = x 1 := Fin.ext h1
    refine (congrArg _ (idx_eta x)).trans ((pay70_at _ _ _ _ _ _ _ _ _).trans (kcell_eq m c t 4 _ _ _ _ _ _ (fun n => bias0 t n (x 1)) ?_ ?_ ?_))
    · intro e; pointwise []
    · intro n e; pointwise []
    · intro n; pointwise []
  case piece12 =>
    have g0 : h.val * 128 + d.val = 384 + (x 0).val := h0.trans (by omega)
    obtain rfl : h = 3 := Fin.ext (by show h.val = 3; omega)
    obtain rfl : d = x 0 := Fin.ext (by have g1 : 3 * 128 + d.val = 384 + (x 0).val := g0; omega)
    obtain rfl : r = x 1 := Fin.ext h1
    refine (congrArg _ (idx_eta x)).trans ((pay14_at _ _ _ _ _ _ _ _ _).trans (kcell_eq m c t 3 _ _ _ _ _ _ (fun n => bias3 t n (x 1)) ?_ ?_ ?_))
    · intro e; pointwise []
    · intro n e; pointwise []
    · intro n; pointwise []
  case piece13 =>
    have g0 : h.val * 128 + d.val = 256 + (x 0).val := h0.trans (by omega)
    obtain rfl : h = 2 := Fin.ext (by show h.val = 2; omega)
    obtain rfl : d = x 0 := Fin.ext (by have g1 : 2 * 128 + d.val = 256 + (x 0).val := g0; omega)
    obtain rfl : r = x 1 := Fin.ext h1
    refine (congrArg _ (idx_eta x)).trans ((pay13_at _ _ _ _ _ _ _ _ _).trans (kcell_eq m c t 2 _ _ _ _ _ _ (fun n => bias2 t n (x 1)) ?_ ?_ ?_))
    · intro e; pointwise []
    · intro n e; pointwise []
    · intro n; pointwise []
  case piece14 =>
    have g0 : h.val * 128 + d.val = 128 + (x 0).val := h0.trans (by omega)
    obtain rfl : h = 1 := Fin.ext (by show h.val = 1; omega)
    obtain rfl : d = x 0 := Fin.ext (by have g1 : 1 * 128 + d.val = 128 + (x 0).val := g0; omega)
    obtain rfl : r = x 1 := Fin.ext h1
    refine (congrArg _ (idx_eta x)).trans ((pay11_at _ _ _ _ _ _ _ _ _).trans (kcell_eq m c t 1 _ _ _ _ _ _ (fun n => bias1 t n (x 1)) ?_ ?_ ?_))
    · intro e; pointwise []
    · intro n e; pointwise []
    · intro n; pointwise []
  case piece15 =>
    have g0 : h.val * 128 + d.val = 0 + (x 0).val := h0.trans (by omega)
    obtain rfl : h = 0 := Fin.ext (by show h.val = 0; omega)
    obtain rfl : d = x 0 := Fin.ext (by have g1 : 0 * 128 + d.val = 0 + (x 0).val := g0; omega)
    obtain rfl : r = x 1 := Fin.ext h1
    refine (congrArg _ (idx_eta x)).trans ((pay10_at _ _ _ _ _ _ _ _ _).trans (kcell_eq m c t 0 _ _ _ _ _ _ (fun n => bias0 t n (x 1)) ?_ ?_ ?_))
    · intro e; pointwise []
    · intro n e; pointwise []
    · intro n; pointwise []

/-- The kernel's result array is the reference's result. -/
theorem arr_eq (c : Dev nD) :
    (dats m 0 c).arrAt 4 cfg0.N = val_main_v46 (F := Ideal) (pc m c) (ck m c) (cv m c) := by
  refine (dats m 0 c).arrAt_eq_of_covers 4 _ (by decide +kernel) fun t _ y => ?_
  have h4 := lt64 t
  blk_simp
  rw [after0_4]
  have b0 : (y 0).val < 2048 := (y 0).isLt
  have b1 : (y 1).val < 128 := (y 1).isLt
  have hy : y = ix2 ⟨(⟨(y 0).val / 128, by omega⟩ : Fin 16).val * 128 + (⟨(y 0).val % 128, by omega⟩ : Fin 128).val, by
      show (y 0).val / 128 * 128 + (y 0).val % 128 < 2048; omega⟩ (y 1) := by
    funext a
    match a with
    | ⟨0, _⟩ => exact Fin.ext (by show (y 0).val = (y 0).val / 128 * 128 + (y 0).val % 128; omega)
    | ⟨1, _⟩ => rfl
  refine ((congrArg _ hy).trans (out_at m c t ⟨(y 0).val / 128, by omega⟩ ⟨(y 0).val % 128, by omega⟩ (y 1))).trans ?_
  have hh : (⟨(y 0).val / 128, by omega⟩ : Fin 16)
      = ⟨(⟨(y 0).val / 512, by omega⟩ : Fin 4).val * 4 + (⟨(y 0).val / 128 % 4, by omega⟩ : Fin 4).val, by
          show (y 0).val / 512 * 4 + (y 0).val / 128 % 4 < 16; omega⟩ :=
    Fin.ext (by show (y 0).val / 128 = (y 0).val / 512 * 4 + (y 0).val / 128 % 4; omega)
  rw [hh]
  refine (ref_cell (pc m c) (ck m c) (cv m c) ⟨(y 0).val / 512, by omega⟩ ⟨(y 0).val / 128 % 4, by omega⟩ _ ⟨(y 0).val % 128, by omega⟩).symm.trans ?_
  refine congrArg (val_main_v46 (F := Ideal) (pc m c) (ck m c) (cv m c) : FVec Ideal S2048x8192 .f32) ?_
  blk_ext [idx t]

end Cert.Kernel14Ideal.CmpAttn

end

end
-- ==== Proof.lean ====
/- The proof of the claims: every program runs to the end, and each kernel's results are its reference's over the extended reals. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Step
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Value
public import proofs.«01_k».proof.Proof.Up
public import proofs.«01_k».proof.Proof.Up3
public import proofs.«01_k».proof.Proof.Down
public import proofs.«01_k».proof.Proof.ProjA
public import proofs.«01_k».proof.Proof.ProjB
public import proofs.«01_k».proof.Proof.Out
public import proofs.«01_k».proof.Proof.ProjC
public import proofs.«01_k».proof.Proof.Out9
public import proofs.«01_k».proof.Proof.PreNorm
public import proofs.«01_k».proof.Proof.Gates
public import proofs.«01_k».proof.Proof.CompressK
public import proofs.«01_k».proof.Proof.CompressV
public import proofs.«01_k».proof.Proof.CmpAttn
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference runs to the end and leaves its argument and the semaphores as they were. -/
theorem frame_ReferenceIdeal : Cert.quiescent_ReferenceIdeal (hReferenceIdeal := Cert.ReferenceIdeal.Gen.facts) := fun m g _ => by
  refine (θ_run (Cert.ReferenceIdeal.defs (F := Ideal)) _ _).mono (fun r h => ⟨fun c => (h c).2, ?_⟩)
    (Cert.ReferenceIdeal.Ret.run m g)
  exact sem_eq_zero_of_no_sems (by decide) r.2

/-- The kernel's result is the reference's. -/
theorem value : Cert.algebraic_KernelIdeal_ReferenceIdeal (hKernelIdeal := Cert.KernelIdeal.Gen.facts)
    (hReferenceIdeal := Cert.ReferenceIdeal.Gen.facts) := by
  pair_intro
  · run_from Cert.KernelIdeal.Value.run_blocks m g
  · run_from Cert.ReferenceIdeal.Ret.run m' g'
    exact (Cert.KernelIdeal.Ret.arr_eq m c).symm

/-- The second reference runs to the end and leaves its arguments and the semaphores as they were. -/
theorem frame_Reference2Ideal : Cert.quiescent_Reference2Ideal (hReference2Ideal := Cert.Reference2Ideal.Gen.facts) := fun m g _ => by
  refine (θ_run (Cert.Reference2Ideal.defs (F := Ideal)) _ _).mono (fun r h => ⟨fun c => (h c).2, ?_⟩)
    (Cert.Reference2Ideal.Value.run m g)
  exact sem_eq_zero_of_no_sems (by decide) r.2

/-- The second kernel's result is its reference's. -/
theorem value2 : Cert.algebraic_Kernel2Ideal_Reference2Ideal (hKernel2Ideal := Cert.Kernel2Ideal.Gen.facts)
    (hReference2Ideal := Cert.Reference2Ideal.Gen.facts) := by
  pair_intro
  · run_from Cert.Kernel2Ideal.Value.run_blocks m g
  · run_from Cert.Reference2Ideal.Value.run m' g'
    exact (Cert.Reference2Ideal.Read.val_main_v10_eq _ _ _).trans (Cert.Kernel2Ideal.Up.arr_eq m c).symm

/-- The third reference runs to the end and leaves its arguments and the semaphores as they were. -/
theorem frame_Reference3Ideal : Cert.quiescent_Reference3Ideal (hReference3Ideal := Cert.Reference3Ideal.Gen.facts) := fun m g _ => by
  refine (θ_run (Cert.Reference3Ideal.defs (F := Ideal)) _ _).mono (fun r h => ⟨fun c => (h c).2, ?_⟩)
    (Cert.Reference3Ideal.Value.run m g)
  exact sem_eq_zero_of_no_sems (by decide) r.2

/-- The third kernel's result is its reference's. -/
theorem value3 : Cert.algebraic_Kernel3Ideal_Reference3Ideal (hKernel3Ideal := Cert.Kernel3Ideal.Gen.facts)
    (hReference3Ideal := Cert.Reference3Ideal.Gen.facts) := by
  pair_intro
  · run_from Cert.Kernel3Ideal.Value.run_blocks m g
  · run_from Cert.Reference3Ideal.Value.run m' g'
    exact (Cert.Reference3Ideal.Read.val_main_v10_eq _ _ _).trans (Cert.Kernel3Ideal.Up.arr_eq m c).symm

/-- The fourth reference runs to the end and leaves its arguments and the semaphores as they were. -/
theorem frame_Reference4Ideal : Cert.quiescent_Reference4Ideal (hReference4Ideal := Cert.Reference4Ideal.Gen.facts) := fun m g _ => by
  refine (θ_run (Cert.Reference4Ideal.defs (F := Ideal)) _ _).mono (fun r h => ⟨fun c => (h c).2.2, ?_⟩)
    (Cert.Reference4Ideal.Value.run m g)
  exact sem_eq_zero_of_no_sems (by decide) r.2

/-- The fourth kernel's results are its reference's. -/
theorem value4 : Cert.algebraic_Kernel4Ideal_Reference4Ideal (hKernel4Ideal := Cert.Kernel4Ideal.Gen.facts)
    (hReference4Ideal := Cert.Reference4Ideal.Gen.facts) := by
  pair_intro
  · run_from Cert.Kernel4Ideal.Value.run_blocks m g
  · run_from Cert.Reference4Ideal.Value.run m' g'
    · exact (Cert.Reference4Ideal.Read.val_main_v24_eq _ _ _ _ _).trans (Cert.Kernel4Ideal.Down.x_eq m c).symm
    · refine (Cert.Reference4Ideal.Read.val_main_v40_eq _ _).trans ?_
      obtain ⟨a0, a1, a2, a3, a4⟩ := hagree c
      rw [a0, a1, a2, a3, a4]
      exact (Cert.Kernel4Ideal.Down.h_eq m c).symm

/-- The fifth reference runs to the end and leaves its arguments and the semaphores as they were. -/
theorem frame_Reference5Ideal : Cert.quiescent_Reference5Ideal (hReference5Ideal := Cert.Reference5Ideal.Gen.facts) := fun m g _ => by
  refine (θ_run (Cert.Reference5Ideal.defs (F := Ideal)) _ _).mono (fun r h => ⟨fun c => (h c).2, ?_⟩)
    (Cert.Reference5Ideal.Value.run m g)
  exact sem_eq_zero_of_no_sems (by decide) r.2

/-- The fifth kernel's result is its reference's. -/
theorem value5 : Cert.algebraic_Kernel5Ideal_Reference5Ideal (hKernel5Ideal := Cert.Kernel5Ideal.Gen.facts)
    (hReference5Ideal := Cert.Reference5Ideal.Gen.facts) := by
  pair_intro
  · run_from Cert.Kernel5Ideal.Value.run_blocks m g
  · run_from Cert.Reference5Ideal.Value.run m' g'
    refine (Cert.Reference5Ideal.Read.val_main_v69_eq _ _).trans ?_
    obtain ⟨a0, a1, a2⟩ := hagree c
    rw [a0, a1, a2]
    exact (Cert.Kernel5Ideal.Proj.arr_eq m c).symm

/-- The sixth reference runs to the end and leaves its arguments and the semaphores as they were. -/
theorem frame_Reference6Ideal : Cert.quiescent_Reference6Ideal (hReference6Ideal := Cert.Reference6Ideal.Gen.facts) := fun m g _ => by
  refine (θ_run (Cert.Reference6Ideal.defs (F := Ideal)) _ _).mono (fun r h => ⟨fun c => (h c).2, ?_⟩)
    (Cert.Reference6Ideal.Value.run m g)
  exact sem_eq_zero_of_no_sems (by decide) r.2

/-- The sixth kernel's result is its reference's. -/
theorem value6 : Cert.algebraic_Kernel6Ideal_Reference6Ideal (hKernel6Ideal := Cert.Kernel6Ideal.Gen.facts)
    (hReference6Ideal := Cert.Reference6Ideal.Gen.facts) := by
  pair_intro
  · run_from Cert.Kernel6Ideal.Value.run_blocks m g
  · run_from Cert.Reference6Ideal.Value.run m' g'
    refine (Cert.Reference6Ideal.Read.val_main_v74_eq _ _).trans ?_
    obtain ⟨a0, a1, a2⟩ := hagree c
    rw [a0, a1, a2]
    exact (Cert.Kernel6Ideal.Proj.arr_eq m c).symm

/-- The seventh reference runs to the end and leaves its arguments and the semaphores as they were. -/
theorem frame_Reference7Ideal : Cert.quiescent_Reference7Ideal (hReference7Ideal := Cert.Reference7Ideal.Gen.facts) := fun m g _ => by
  refine (θ_run (Cert.Reference7Ideal.defs (F := Ideal)) _ _).mono (fun r h => ⟨fun c => (h c).2.2, ?_⟩)
    (Cert.Reference7Ideal.Value.run m g)
  exact sem_eq_zero_of_no_sems (by decide) r.2

/-- The seventh kernel's results are its reference's. -/
theorem value7 : Cert.algebraic_Kernel7Ideal_Reference7Ideal (hKernel7Ideal := Cert.Kernel7Ideal.Gen.facts)
    (hReference7Ideal := Cert.Reference7Ideal.Gen.facts) := by
  pair_intro
  · run_from Cert.Kernel7Ideal.Value.run_blocks m g
  · run_from Cert.Reference7Ideal.Value.run m' g'
    · exact (Cert.Reference7Ideal.Read.val_main_v22_eq _ _ _ _ _).trans (Cert.Kernel7Ideal.Out.x_eq m c).symm
    · refine (Cert.Reference7Ideal.Read.val_main_v38_eq _ _).trans ?_
      obtain ⟨a0, a1, a2, a3, a4⟩ := hagree c
      rw [a0, a1, a2, a3, a4]
      exact (Cert.Kernel7Ideal.Out.h_eq m c).symm

/-- The eighth reference runs to the end and leaves its arguments and the semaphores as they were. -/
theorem frame_Reference8Ideal : Cert.quiescent_Reference8Ideal (hReference8Ideal := Cert.Reference8Ideal.Gen.facts) := fun m g _ => by
  refine (θ_run (Cert.Reference8Ideal.defs (F := Ideal)) _ _).mono (fun r h => ⟨fun c => (h c).2, ?_⟩)
    (Cert.Reference8Ideal.Value.run m g)
  exact sem_eq_zero_of_no_sems (by decide) r.2

/-- The eighth kernel's result is its reference's. -/
theorem value8 : Cert.algebraic_Kernel8Ideal_Reference8Ideal (hKernel8Ideal := Cert.Kernel8Ideal.Gen.facts)
    (hReference8Ideal := Cert.Reference8Ideal.Gen.facts) := by
  pair_intro
  · run_from Cert.Kernel8Ideal.Value.run_blocks m g
  · run_from Cert.Reference8Ideal.Value.run m' g'
    refine (Cert.Reference8Ideal.Read.val_main_v140_eq _ _).trans ?_
    obtain ⟨a0, a1, a2⟩ := hagree c
    rw [a0, a1, a2]
    exact (Cert.Kernel8Ideal.Proj.arr_eq m c).symm

/-- The ninth reference runs to the end and leaves its arguments and the semaphores as they were. -/
theorem frame_Reference9Ideal : Cert.quiescent_Reference9Ideal (hReference9Ideal := Cert.Reference9Ideal.Gen.facts) := fun m g _ => by
  refine (θ_run (Cert.Reference9Ideal.defs (F := Ideal)) _ _).mono (fun r h => ⟨fun c => (h c).2.2, ?_⟩)
    (Cert.Reference9Ideal.Value.run m g)
  exact sem_eq_zero_of_no_sems (by decide) r.2

/-- The ninth kernel's results are its reference's. -/
theorem value9 : Cert.algebraic_Kernel9Ideal_Reference9Ideal (hKernel9Ideal := Cert.Kernel9Ideal.Gen.facts)
    (hReference9Ideal := Cert.Reference9Ideal.Gen.facts) := by
  pair_intro
  · run_from Cert.Kernel9Ideal.Value.run_blocks m g
  · run_from Cert.Reference9Ideal.Value.run m' g'
    · exact (Cert.Reference9Ideal.Read.val_main_v21_eq _ _ _ _).trans (Cert.Kernel9Ideal.Out.x_eq m c).symm
    · refine (Cert.Reference9Ideal.Read.val_main_v37_eq _ _).trans ?_
      obtain ⟨a0, a1, a2, a3⟩ := hagree c
      rw [a0, a1, a2, a3]
      exact (Cert.Kernel9Ideal.Out.h_eq m c).symm

/-- The tenth reference runs to the end and leaves its arguments and the semaphores as they were. -/
theorem frame_Reference10Ideal : Cert.quiescent_Reference10Ideal (hReference10Ideal := Cert.Reference10Ideal.Gen.facts) := fun m g _ => by
  refine (θ_run (Cert.Reference10Ideal.defs (F := Ideal)) _ _).mono (fun r h => ⟨fun c => (h c).2, ?_⟩)
    (Cert.Reference10Ideal.Value.run m g)
  exact sem_eq_zero_of_no_sems (by decide) r.2

/-- The tenth kernel's result is its reference's. -/
theorem value10 : Cert.algebraic_Kernel10Ideal_Reference10Ideal (hKernel10Ideal := Cert.Kernel10Ideal.Gen.facts)
    (hReference10Ideal := Cert.Reference10Ideal.Gen.facts) := by
  pair_intro
  · run_from Cert.Kernel10Ideal.Value.run_blocks m g
  · run_from Cert.Reference10Ideal.Value.run m' g'
    exact (Cert.Reference10Ideal.Read.val_main_v15_eq _ _).trans (Cert.Kernel10Ideal.PreNorm.arr_eq m c).symm

/-- The eleventh reference runs to the end and leaves its arguments and the semaphores as they were. -/
theorem frame_Reference11Ideal : Cert.quiescent_Reference11Ideal (hReference11Ideal := Cert.Reference11Ideal.Gen.facts) := fun m g _ => by
  refine (θ_run (Cert.Reference11Ideal.defs (F := Ideal)) _ _).mono (fun r h => ⟨fun c => (h c).2, ?_⟩)
    (Cert.Reference11Ideal.Value.run m g)
  exact sem_eq_zero_of_no_sems (by decide) r.2

/-- The eleventh kernel's result is its reference's. -/
theorem value11 : Cert.algebraic_Kernel11Ideal_Reference11Ideal (hKernel11Ideal := Cert.Kernel11Ideal.Gen.facts)
    (hReference11Ideal := Cert.Reference11Ideal.Gen.facts) := by
  pair_intro
  · run_from Cert.Kernel11Ideal.Value.run_blocks m g
  · run_from Cert.Reference11Ideal.Value.run m' g'
    exact (Cert.Reference11Ideal.Read.val_main_v6_eq _ _).trans (Cert.Kernel11Ideal.Gates.arr_eq m c).symm

/-- The twelfth reference runs to the end and leaves its arguments and the semaphores as they were. -/
theorem frame_Reference12Ideal : Cert.quiescent_Reference12Ideal (hReference12Ideal := Cert.Reference12Ideal.Gen.facts) := fun m g _ => by
  refine (θ_run (Cert.Reference12Ideal.defs (F := Ideal)) _ _).mono (fun r h => ⟨fun c => (h c).2, ?_⟩)
    (Cert.Reference12Ideal.Value.run m g)
  exact sem_eq_zero_of_no_sems (by decide) r.2

/-- The twelfth kernel's result is its reference's. -/
theorem value12 : Cert.algebraic_Kernel12Ideal_Reference12Ideal (hKernel12Ideal := Cert.Kernel12Ideal.Gen.facts)
    (hReference12Ideal := Cert.Reference12Ideal.Gen.facts) := by
  pair_intro
  · run_from Cert.Kernel12Ideal.Value.run_blocks m g
  · refine (θ_run (Cert.Reference12Ideal.defs (F := Ideal)) _ _).mono (fun r h c => ?_)
      (Cert.Reference12Ideal.Value.run m' g')
    obtain ⟨a0, a1, a2, a3⟩ := hagree c
    refine ⟨(h c).1.trans ((Cert.Reference12Ideal.Read.val_main_v50_eq m' c).trans ?_), (h c).2⟩
    rw [a0, a1, a2, a3]
    exact (Cert.Kernel12Ideal.CompressK.arr_eq m c).symm

/-- The thirteenth reference runs to the end and leaves its arguments and the semaphores as they were. -/
theorem frame_Reference13Ideal : Cert.quiescent_Reference13Ideal (hReference13Ideal := Cert.Reference13Ideal.Gen.facts) := fun m g _ => by
  refine (θ_run (Cert.Reference13Ideal.defs (F := Ideal)) _ _).mono (fun r h => ⟨fun c => (h c).2, ?_⟩)
    (Cert.Reference13Ideal.Value.run m g)
  exact sem_eq_zero_of_no_sems (by decide) r.2

/-- The thirteenth kernel's result is its reference's. -/
theorem value13 : Cert.algebraic_Kernel13Ideal_Reference13Ideal (hKernel13Ideal := Cert.Kernel13Ideal.Gen.facts)
    (hReference13Ideal := Cert.Reference13Ideal.Gen.facts) := by
  pair_intro
  · run_from Cert.Kernel13Ideal.Value.run_blocks m g
  · refine (θ_run (Cert.Reference13Ideal.defs (F := Ideal)) _ _).mono (fun r h c => ?_)
      (Cert.Reference13Ideal.Value.run m' g')
    obtain ⟨a0, a1, a2, a3⟩ := hagree c
    refine ⟨(h c).1.trans ((Cert.Reference13Ideal.Read.val_main_v50_eq m' c).trans ?_), (h c).2⟩
    rw [a0, a1, a2, a3]
    exact (Cert.Kernel13Ideal.CompressV.arr_eq m c).symm

/-- The fourteenth reference runs to the end and leaves its arguments and the semaphores as they were. -/
theorem frame_Reference14Ideal : Cert.quiescent_Reference14Ideal (hReference14Ideal := Cert.Reference14Ideal.Gen.facts) := fun m g _ => by
  refine (θ_run (Cert.Reference14Ideal.defs (F := Ideal)) _ _).mono (fun r h => ⟨fun c => (h c).2, ?_⟩)
    (Cert.Reference14Ideal.Value.run m g)
  exact sem_eq_zero_of_no_sems (by decide) r.2

/-- The fourteenth kernel's attention is its reference's. -/
theorem value14 : Cert.algebraic_Kernel14Ideal_Reference14Ideal (hKernel14Ideal := Cert.Kernel14Ideal.Gen.facts)
    (hReference14Ideal := Cert.Reference14Ideal.Gen.facts) := by
  intro m g m' g' hpre hagree
  refine ⟨fun c => (Cert.Kernel14Ideal.Gen.dats m 0 c).arrAt 4 Cert.Kernel14Ideal.cfg0.N, ?_, ?_⟩
  · exact (θ_run (Cert.Kernel14Ideal.defs (F := Ideal)) _ _).mono (fun r h c => ⟨(h c).1, (h c).2.2⟩)
      (Cert.Kernel14Ideal.Value.run_blocks m g)
  · refine (θ_run (Cert.Reference14Ideal.defs (F := Ideal)) _ _).mono (fun r h c => ?_)
      (Cert.Reference14Ideal.Value.run m' g')
    obtain ⟨a0, a1, a2⟩ := hagree c
    refine ⟨(h c).1.trans ((Cert.Reference14Ideal.Read.val_main_v46_eq m' c).trans ?_), (h c).2⟩
    rw [a0, a1, a2]
    exact (Cert.Kernel14Ideal.CmpAttn.arr_eq m c).symm

/-- Both of the fourteenth kernel's masks are written as minus infinity in its idealization. -/
theorem masks14 : Cert.preserves_Kernel14_Kernel14Ideal :=
  ⟨IdealRules.named_const.statement Cert.Kernel14Ideal.κ "mask" .f32 0xF149F2CA#32 ⊥ rfl,
   IdealRules.named_const.statement Cert.Kernel14Ideal.κ "half_mask" .f32 0xF0C9F2CA#32 ⊥ rfl⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  fun m g _ => Cert.Kernel.Gen.frame m g, fun m g _ => Cert.KernelIdeal.Gen.frame m g, frame_ReferenceIdeal,
  fun m g _ => Cert.Kernel2.Gen.frame m g, fun m g _ => Cert.Kernel2Ideal.Gen.frame m g, frame_Reference2Ideal,
  fun m g _ => Cert.Kernel3.Gen.frame m g, fun m g _ => Cert.Kernel3Ideal.Gen.frame m g, frame_Reference3Ideal,
  fun m g _ => Cert.Kernel4.Gen.frame m g, fun m g _ => Cert.Kernel4Ideal.Gen.frame m g, frame_Reference4Ideal,
  fun m g _ => Cert.Kernel5.Gen.frame m g, fun m g _ => Cert.Kernel5Ideal.Gen.frame m g, frame_Reference5Ideal,
  fun m g _ => Cert.Kernel6.Gen.frame m g, fun m g _ => Cert.Kernel6Ideal.Gen.frame m g, frame_Reference6Ideal,
  fun m g _ => Cert.Kernel7.Gen.frame m g, fun m g _ => Cert.Kernel7Ideal.Gen.frame m g, frame_Reference7Ideal,
  fun m g _ => Cert.Kernel8.Gen.frame m g, fun m g _ => Cert.Kernel8Ideal.Gen.frame m g, frame_Reference8Ideal,
  fun m g _ => Cert.Kernel9.Gen.frame m g, fun m g _ => Cert.Kernel9Ideal.Gen.frame m g, frame_Reference9Ideal,
  fun m g _ => Cert.Kernel10.Gen.frame m g, fun m g _ => Cert.Kernel10Ideal.Gen.frame m g, frame_Reference10Ideal,
  fun m g _ => Cert.Kernel11.Gen.frame m g, fun m g _ => Cert.Kernel11Ideal.Gen.frame m g, frame_Reference11Ideal,
  fun m g _ => Cert.Kernel12.Gen.frame m g, fun m g _ => Cert.Kernel12Ideal.Gen.frame m g, frame_Reference12Ideal,
  fun m g _ => Cert.Kernel13.Gen.frame m g, fun m g _ => Cert.Kernel13Ideal.Gen.frame m g, frame_Reference13Ideal,
  fun m g _ => Cert.Kernel14.Gen.frame m g, fun m g _ => Cert.Kernel14Ideal.Gen.frame m g, frame_Reference14Ideal,
  trivial, value, trivial, value2, trivial, value3, trivial, value4, trivial, value5, trivial, value6, trivial, value7, trivial, value8, trivial, value9, trivial, value10, trivial, value11, trivial, value12, trivial, value13,
  masks14, value14⟩

end Cert.Proof

end
